-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v7)) (v3 : (c : Dev Cert.KernelIdeal.nD) → Buf (Elt Ideal) ((c.tc : Thread Cert.KernelIdeal.nD Cert.KernelIdeal.τ).loc Cert.KernelIdeal.main_v2)) (v4 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_v2) = v3 c
          ∧ r.2.mem ((c.tc : Thread Cert.KernelIdeal.nD Cert.KernelIdeal.τ).loc Cert.KernelIdeal.main_v9) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37_0) = v0 c
          ∧ r.2.mem ((c.tc : Thread Cert.ReferenceIdeal.nD Cert.ReferenceIdeal.τ).loc Cert.ReferenceIdeal.main_v37_1) = v1 c
          ∧ r.2.mem ((c.tc : Thread Cert.ReferenceIdeal.nD Cert.ReferenceIdeal.τ).loc Cert.ReferenceIdeal.main_v14) = v2 c
          ∧ r.2.mem ((c.tc : Thread Cert.ReferenceIdeal.nD Cert.ReferenceIdeal.τ).loc Cert.ReferenceIdeal.main_v37_2) = v3 c
          ∧ r.2.mem ((c.tc : Thread Cert.ReferenceIdeal.nD Cert.ReferenceIdeal.τ).loc Cert.ReferenceIdeal.main_v30) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x3072x4096 : Shape := ⟨3, ![8, 3072, 4096]⟩
abbrev S14336x4096 : Shape := ⟨2, ![14336, 4096]⟩
abbrev S24576x4096 : Shape := ⟨2, ![24576, 4096]⟩
abbrev S4x8x128 : Shape := ⟨3, ![4, 8, 128]⟩
abbrev S1024x4096 : Shape := ⟨2, ![1024, 4096]⟩
abbrev S512x4096 : Shape := ⟨2, ![512, 4096]⟩
abbrev S8x4096 : Shape := ⟨2, ![8, 4096]⟩
abbrev S128x8x4096 : Shape := ⟨3, ![128, 8, 4096]⟩
abbrev S64x8x4096 : Shape := ⟨3, ![64, 8, 4096]⟩
abbrev S1x8x4096 : Shape := ⟨3, ![1, 8, 4096]⟩
abbrev S1 : Shape := ⟨1, ![1]⟩
abbrev S1x1x1 : Shape := ⟨3, ![1, 1, 1]⟩
abbrev S8x128 : Shape := ⟨2, ![8, 128]⟩
abbrev S1x8x128 : Shape := ⟨3, ![1, 8, 128]⟩
abbrev S1x1 : Shape := ⟨2, ![1, 1]⟩
abbrev S3072x8x14336 : Shape := ⟨3, ![3072, 8, 14336]⟩
abbrev S128x8x1024 : Shape := ⟨3, ![128, 8, 1024]⟩
abbrev S1024x1024 : Shape := ⟨2, ![1024, 1024]⟩
abbrev S8x3072x14336 : Shape := ⟨3, ![8, 3072, 14336]⟩
abbrev S_ : Shape := ⟨0, ![]⟩

abbrev nBuf : Space → Nat
  | .hbm => 13
  | .vmem => 21
  | .smem => 0
  | _ => 0

abbrev bufTy : (tb : Table) → Fin (tcTables nBuf tb) → BufTy
  | .hbm, ⟨0, _⟩ => ⟨S8x3072x4096, .bf16⟩
  | .hbm, ⟨1, _⟩ => ⟨S14336x4096, .f32⟩
  | .hbm, ⟨2, _⟩ => ⟨S24576x4096, .bf16⟩
  | .hbm, ⟨3, _⟩ => ⟨S4x8x128, .f32⟩
  | .hbm, ⟨4, _⟩ => ⟨S14336x4096, .fp8e4m3⟩
  | .hbm, ⟨5, _⟩ => ⟨S3072x8x14336, .bf16⟩
  | .hbm, ⟨6, _⟩ => ⟨S24576x4096, .fp8e5m2⟩
  | .hbm, ⟨7, _⟩ => ⟨S8x3072x14336, .bf16⟩
  | .hbm, ⟨8, _⟩ => ⟨S8x3072x4096, .fp8e5m2⟩
  | .hbm, ⟨9, _⟩ => ⟨S1x1x1, .f32⟩
  | .hbm, ⟨10, _⟩ => ⟨S_, .f32⟩
  | .hbm, ⟨11, _⟩ => ⟨S1x1x1, .f32⟩
  | .hbm, ⟨12, _⟩ => ⟨S_, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .f32⟩
  | .local _ .vmem, ⟨3, _⟩ => ⟨S512x4096, .f32⟩
  | .local _ .vmem, ⟨4, _⟩ => ⟨S4x8x128, .f32⟩
  | .local _ .vmem, ⟨5, _⟩ => ⟨S8x4096, .bf16⟩
  | .local _ .vmem, ⟨6, _⟩ => ⟨S8x4096, .f32⟩
  | .local _ .vmem, ⟨7, _⟩ => ⟨S4x8x128, .f32⟩
  | .local _ .vmem, ⟨8, _⟩ => ⟨S512x4096, .f32⟩
  | .local _ .vmem, ⟨9, _⟩ => ⟨S512x4096, .f32⟩
  | .local _ .vmem, ⟨10, _⟩ => ⟨S512x4096, .fp8e4m3⟩
  | .local _ .vmem, ⟨11, _⟩ => ⟨S512x4096, .fp8e4m3⟩
  | .local _ .vmem, ⟨12, _⟩ => ⟨S4x8x128, .f32⟩
  | .local _ .vmem, ⟨13, _⟩ => ⟨S1024x4096, .bf16⟩
  | .local _ .vmem, ⟨14, _⟩ => ⟨S1024x4096, .bf16⟩
  | .local _ .vmem, ⟨15, _⟩ => ⟨S1024x4096, .fp8e4m3⟩
  | .local _ .vmem, ⟨16, _⟩ => ⟨S1024x4096, .fp8e4m3⟩
  | .local _ .vmem, ⟨17, _⟩ => ⟨S128x8x1024, .bf16⟩
  | .local _ .vmem, ⟨18, _⟩ => ⟨S128x8x1024, .bf16⟩
  | .local _ .vmem, ⟨19, _⟩ => ⟨S1024x4096, .fp8e5m2⟩
  | .local _ .vmem, ⟨20, _⟩ => ⟨S1024x4096, .fp8e5m2⟩
  | _, _ => ⟨S8x3072x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch1 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg3_1 : Ref sig .tc := ⟨.vmem, 18, rfl⟩
abbrev cc2_stg4_0 : Ref sig .tc := ⟨.vmem, 19, rfl⟩
abbrev cc2_stg4_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem1_1 : DmaSem sig := 12
abbrev cc2_sem2_0 : DmaSem sig := 13
abbrev cc2_sem2_1 : DmaSem sig := 14
abbrev cc2_sem3_0 : DmaSem sig := 15
abbrev cc2_sem3_1 : DmaSem sig := 16
abbrev cc2_sem4_0 : DmaSem sig := 17
abbrev cc2_sem4_1 : DmaSem sig := 18

abbrev nD : Nat := 1
abbrev τ : Topo := Topo.v7x

variable {F : FTy → Type} [FloatOps F]

abbrev grid0 : Pipeline.Grid := ⟨1, ![52], ![false]⟩

def k0_cond4 (i : grid0.Coords) : BitVec 1 :=
  let arg0 : BitVec 32 := BitVec.ofNat 32 (i 0).val
  let c51_i32 : BitVec 32 := 51#32
  let v9 : BitVec 1 := Scalar.cmpi .eq arg0 c51_i32
  let v10 : BitVec 32 := Scalar.extui v9
  let c0_i32_4 : BitVec 32 := 0#32
  let v11 : BitVec 1 := Scalar.cmpi .ne v10 c0_i32_4
  v11

def cc0_transform_0 (i : grid0.Coords) : Fin 2 → Nat :=
  let arg0 : BitVec 32 := BitVec.ofNat 32 (i 0).val
  let c23_i32 : BitVec 32 := 23#32
  let v0 : BitVec 32 := Scalar.minsi arg0 c23_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c24_i32 : BitVec 32 := 24#32
  let v0 : BitVec 32 := Scalar.subi arg0 c24_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![28], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S4x8x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S512x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x4096 .fp8e4m3 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![24, 14], ![false, false]⟩

def k2_cond1 (i : grid2.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 1 → Memref sig .tc .vmem S4x8x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false]

abbrev stage2_1 : Fin 2 → Memref sig .tc .vmem S1024x4096 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1024x4096 .fp8e4m3 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S128x8x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1024x4096 .fp8e5m2 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]
-- ==== ReferenceIdeal.lean ====
abbrev S8x3072x4096 : Shape := ⟨3, ![8, 3072, 4096]⟩
abbrev S14336x4096 : Shape := ⟨2, ![14336, 4096]⟩
abbrev S_ : Shape := ⟨0, ![]⟩
abbrev S1x1 : Shape := ⟨2, ![1, 1]⟩
abbrev S8x3072x14336 : Shape := ⟨3, ![8, 3072, 14336]⟩
abbrev S1x1x1 : Shape := ⟨3, ![1, 1, 1]⟩

abbrev nBuf : Space → Nat
  | .hbm => 70
  | .vmem => 8
  | .smem => 0
  | _ => 0

abbrev bufTy : (tb : Table) → Fin (tcTables nBuf tb) → BufTy
  | .hbm, ⟨0, _⟩ => ⟨S8x3072x4096, .bf16⟩
  | .hbm, ⟨1, _⟩ => ⟨S14336x4096, .f32⟩
  | .hbm, ⟨2, _⟩ => ⟨S8x3072x4096, .f32⟩
  | .hbm, ⟨3, _⟩ => ⟨S8x3072x4096, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .i1⟩
  | .hbm, ⟨23, _⟩ => ⟨S_, .f32⟩
  | .hbm, ⟨24, _⟩ => ⟨S_, .i1⟩
  | .hbm, ⟨25, _⟩ => ⟨S_, .i1⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S14336x4096, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .i1⟩
  | .hbm, ⟨53, _⟩ => ⟨S_, .f32⟩
  | .hbm, ⟨54, _⟩ => ⟨S_, .i1⟩
  | .hbm, ⟨55, _⟩ => ⟨S_, .i1⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S1x1, .f32⟩
  | .hbm, ⟨64, _⟩ => ⟨S1x1, .f32⟩
  | .hbm, ⟨65, _⟩ => ⟨S_, .f32⟩
  | .hbm, ⟨66, _⟩ => ⟨S1x1, .f32⟩
  | .hbm, ⟨67, _⟩ => ⟨S8x3072x14336, .bf16⟩
  | .hbm, ⟨68, _⟩ => ⟨S8x3072x4096, .fp8e5m2⟩
  | .hbm, ⟨69, _⟩ => ⟨S14336x4096, .fp8e4m3⟩
  | .local _ .vmem, ⟨0, _⟩ => ⟨S8x3072x4096, .bf16⟩
  | .local _ .vmem, ⟨1, _⟩ => ⟨S14336x4096, .f32⟩
  | .local _ .vmem, ⟨2, _⟩ => ⟨S1x1, .f32⟩
  | .local _ .vmem, ⟨3, _⟩ => ⟨S1x1, .f32⟩
  | .local _ .vmem, ⟨4, _⟩ => ⟨S1x1, .f32⟩
  | .local _ .vmem, ⟨5, _⟩ => ⟨S8x3072x14336, .bf16⟩
  | .local _ .vmem, ⟨6, _⟩ => ⟨S8x3072x4096, .fp8e5m2⟩
  | .local _ .vmem, ⟨7, _⟩ => ⟨S14336x4096, .fp8e4m3⟩
  | _, _ => ⟨S8x3072x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_cst_3 : Ref sig .tc := ⟨.hbm, 15, rfl⟩
abbrev main_cst_4 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v9 : Ref sig .tc := ⟨.hbm, 20, rfl⟩
abbrev main_cst_5 : Ref sig .tc := ⟨.hbm, 21, rfl⟩
abbrev main_v10 : Ref sig .tc := ⟨.hbm, 22, rfl⟩
abbrev main_cst_6 : Ref sig .tc := ⟨.hbm, 23, rfl⟩
abbrev main_v11 : Ref sig .tc := ⟨.hbm, 24, rfl⟩
abbrev main_v12 : Ref sig .tc := ⟨.hbm, 25, rfl⟩
abbrev main_cst_7 : Ref sig .tc := ⟨.hbm, 26, rfl⟩
abbrev main_v13 : Ref sig .tc := ⟨.hbm, 27, rfl⟩
abbrev main_cst_8 : Ref sig .tc := ⟨.hbm, 28, rfl⟩
abbrev main_v14 : Ref sig .tc := ⟨.hbm, 29, rfl⟩
abbrev main_v15 : Ref sig .tc := ⟨.hbm, 30, rfl⟩
abbrev main_cst_9 : Ref sig .tc := ⟨.hbm, 31, rfl⟩
abbrev main_v16 : Ref sig .tc := ⟨.hbm, 32, rfl⟩
abbrev main_v17 : Ref sig .tc := ⟨.hbm, 33, rfl⟩
abbrev main_cst_10 : Ref sig .tc := ⟨.hbm, 34, rfl⟩
abbrev main_v18 : Ref sig .tc := ⟨.hbm, 35, rfl⟩
abbrev main_cst_11 : Ref sig .tc := ⟨.hbm, 36, rfl⟩
abbrev main_v19 : Ref sig .tc := ⟨.hbm, 37, rfl⟩
abbrev main_v20 : Ref sig .tc := ⟨.hbm, 38, rfl⟩
abbrev main_cst_12 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_13 : Ref sig .tc := ⟨.hbm, 43, rfl⟩
abbrev main_v24 : Ref sig .tc := ⟨.hbm, 44, rfl⟩
abbrev main_cst_14 : Ref sig .tc := ⟨.hbm, 45, rfl⟩
abbrev main_cst_15 : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_v25 : Ref sig .tc := ⟨.hbm, 50, rfl⟩
abbrev main_cst_16 : Ref sig .tc := ⟨.hbm, 51, rfl⟩
abbrev main_v26 : Ref sig .tc := ⟨.hbm, 52, rfl⟩
abbrev main_cst_17 : Ref sig .tc := ⟨.hbm, 53, rfl⟩
abbrev main_v27 : Ref sig .tc := ⟨.hbm, 54, rfl⟩
abbrev main_v28 : Ref sig .tc := ⟨.hbm, 55, rfl⟩
abbrev main_cst_18 : Ref sig .tc := ⟨.hbm, 56, rfl⟩
abbrev main_v29 : Ref sig .tc := ⟨.hbm, 57, rfl⟩
abbrev main_cst_19 : Ref sig .tc := ⟨.hbm, 58, rfl⟩
abbrev main_v30 : Ref sig .tc := ⟨.hbm, 59, rfl⟩
abbrev main_v31 : Ref sig .tc := ⟨.hbm, 60, rfl⟩
abbrev main_cst_20 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37_0 : Ref sig .tc := ⟨.hbm, 67, rfl⟩
abbrev main_v37_1 : Ref sig .tc := ⟨.hbm, 68, rfl⟩
abbrev main_v37_2 : Ref sig .tc := ⟨.hbm, 69, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8x3072x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S14336x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x3072x14336 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x3072x4096 .fp8e5m2 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S14336x4096 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Kernel.K0Run.lean ====
/- Custom call 0 of `Kernel`: the kernel's run, the proof data and the body obligation, for any index type, level type,
   algebra, variants, entry contents and owed tally.
   -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.FrameSuffix
public import Idealize.ShloMosaic.Lib.Ring
public import Idealize.ShloMosaic.Lib.Pipeline.TableIdle
public import Idealize.ShloMosaic.Lib.Tactic
public import Idealize.ShloMosaic.Lib.WordCmp
public import Idealize.ShloMosaic.Lib.Exec
public import Idealize.ShloMosaic.Lib.Pipeline.Kit

@[expose] public section

noncomputable section

namespace Cert.Kernel.Own.K0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

variable (𝒱₀ : Variants) (V : (c : Dev nD) → (b : Ref sig .tc) → Buf (Elt F) ((c : Thread nD τ).loc b)) (D : Dev nD → CellTallies nD τ sig Ix)

/-- The region's invariant on core `c`: the library's `(ΦK (F := F) (Ix := Ix) (U := U) (Lvl := Lvl) c)` at any index and level type. -/
def ΦK (c : Dev nD) : sProp 𝕄 :=
  iprop(Pipeline.scopedRest (Ix := Ix) (Name := ℕ) (U := U) (Lvl := Lvl) (Val := Elt F) spec0 c ∗ ∃ r, prngReg c r)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): the library's
    `Dat.before_in_eq_fetched` (unfetched, the index has not moved), the window uncut and never idle. -/
theorem before0_0_of {c : Dev nD} (dat : Dat τ (Elt F) Ix ℕ U Lvl cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): the library's
    `Dat.before_in_eq_fetched` (unfetched, the index has not moved), the window uncut and never idle. -/
theorem before0_1_of {c : Dev nD} (dat : Dat τ (Elt F) Ix ℕ U Lvl cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 52 = 0 :=
  (fun t => by
    have ht : t.val < 52 := Nat.lt_of_lt_of_eq t.isLt N_0
    have e0 : (grid0.coords t 0).val = t.val / 1 % 52 := Pipeline.Grid.coords_val t 0 (by decide) rfl
    simp only [cond0_0, e0]
    word_cmp
   : ∀ t : Fin grid0.N, cond0_0 (grid0.coords t) ↔ t.val % 52 = 0)

/-- The condition of the body's `scf.if` 1 (`k0_h2`), from the grid coordinates (the skeleton's scalar
    chain substituted). -/
abbrev cond0_1 (i : grid0.Coords) : Prop := (Scalar.cmpi .ne (Scalar.extui (Scalar.cmpi .slt (BitVec.ofNat 32 (i 0).val) 24#32)) 0#32) = 1#1
/-- It holds at the points before point 24 — decided over the grid. -/
theorem hcond0_1 : ∀ t : Fin cfg0.N, cond0_1 (grid0.coords t) ↔ t.val < 24 :=
  (by decide +kernel : ∀ t : Fin grid0.N, cond0_1 (grid0.coords t) ↔ t.val < 24)

/-- The condition of the body's `scf.if` 2 (`k0_h3`), from the grid coordinates (the skeleton's scalar
    chain substituted). -/
abbrev cond0_2 (i : grid0.Coords) : Prop := (Scalar.cmpi .ne (Scalar.extui (Scalar.cmpi .sge (BitVec.ofNat 32 (i 0).val) 24#32)) 0#32) = 1#1
/-- It holds at the points from point 24 on — decided over the grid. -/
theorem hcond0_2 : ∀ t : Fin cfg0.N, cond0_2 (grid0.coords t) ↔ 24 ≤ t.val :=
  (by decide +kernel : ∀ t : Fin grid0.N, cond0_2 (grid0.coords t) ↔ 24 ≤ t.val)

/-- The condition of the body's `scf.if` 3 (`k0_h4`), from the grid coordinates (the skeleton's scalar
    chain substituted). -/
abbrev cond0_3 (i : grid0.Coords) : Prop := k0_cond4 i = 1#1
/-- It holds at the last point only — by arithmetic of the point. -/
theorem hcond0_3 : ∀ t : Fin cfg0.N, cond0_3 (grid0.coords t) ↔ t.val % 52 = 51 :=
  (fun t => by
    have ht : t.val < 52 := Nat.lt_of_lt_of_eq t.isLt N_0
    have e0 : (grid0.coords t 0).val = t.val / 1 % 52 := Pipeline.Grid.coords_val t 0 (by decide) rfl
    simp only [cond0_3, k0_cond4, e0]
    word_cmp
   : ∀ t : Fin grid0.N, cond0_3 (grid0.coords t) ↔ t.val % 52 = 51)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-! A case with many branch conditions on the grid states them as ONE proposition, its `Decidable` instance assembled
one condition at a time: the facts below about that case's points are decided under it and restated with one premise
per condition, so that the instance `decide` searches for does not grow with their number. -/

/-- Case A's branch conditions on the grid, as one proposition. -/
abbrev conds0_A (i : grid0.Coords) : Prop := cond0_0 i ∧ cond0_1 i ∧ ¬cond0_2 i ∧ ¬cond0_3 i
instance conds0_A.dec (i : grid0.Coords) : Decidable (conds0_A i) :=
  @instDecidableAnd _ _ inferInstance (@instDecidableAnd _ _ inferInstance (@instDecidableAnd _ _ inferInstance inferInstance))
/-- Case B's branch conditions on the grid, as one proposition. -/
abbrev conds0_B (i : grid0.Coords) : Prop := ¬cond0_0 i ∧ cond0_1 i ∧ ¬cond0_2 i ∧ ¬cond0_3 i
instance conds0_B.dec (i : grid0.Coords) : Decidable (conds0_B i) :=
  @instDecidableAnd _ _ inferInstance (@instDecidableAnd _ _ inferInstance (@instDecidableAnd _ _ inferInstance inferInstance))
/-- Case C's branch conditions on the grid, as one proposition. -/
abbrev conds0_C (i : grid0.Coords) : Prop := ¬cond0_0 i ∧ ¬cond0_1 i ∧ cond0_2 i ∧ ¬cond0_3 i
instance conds0_C.dec (i : grid0.Coords) : Decidable (conds0_C i) :=
  @instDecidableAnd _ _ inferInstance (@instDecidableAnd _ _ inferInstance (@instDecidableAnd _ _ inferInstance inferInstance))
/-- Case D's branch conditions on the grid, as one proposition. -/
abbrev conds0_D (i : grid0.Coords) : Prop := ¬cond0_0 i ∧ ¬cond0_1 i ∧ cond0_2 i ∧ cond0_3 i
instance conds0_D.dec (i : grid0.Coords) : Decidable (conds0_D i) :=
  @instDecidableAnd _ _ inferInstance (@instDecidableAnd _ _ inferInstance (@instDecidableAnd _ _ inferInstance inferInstance))
/-- At the points of case A the printed configuration (`Cfg.idle`) calls output 2 idle: the case stores nothing into it. -/
theorem idleAt0_2_A : ∀ t : Fin cfg0.N, cond0_0 (grid0.coords t) → cond0_1 (grid0.coords t) → ¬cond0_2 (grid0.coords t) → ¬cond0_3 (grid0.coords t) → cfg0.idle 2 (grid0.coords t) = true :=
  fun t h0 h1 h2 h3 => (by decide +kernel : ∀ t : Fin cfg0.N, conds0_A (grid0.coords t) → cfg0.idle 2 (grid0.coords t) = true) t ⟨h0, h1, h2, h3⟩
/-- At the points of case A the pipeline does not write output 2's block back. -/
theorem noFlush0_2_A : ∀ t : Fin cfg0.N, cond0_0 (grid0.coords t) → cond0_1 (grid0.coords t) → ¬cond0_2 (grid0.coords t) → ¬cond0_3 (grid0.coords t) → (cfg0.win 2).flush t = false :=
  fun t h0 h1 h2 h3 => (by decide +kernel : ∀ t : Fin cfg0.N, conds0_A (grid0.coords t) → (cfg0.win 2).flush t = false) t ⟨h0, h1, h2, h3⟩
/-- At the points of case B the printed configuration (`Cfg.idle`) calls output 2 idle: the case stores nothing into it. -/
theorem idleAt0_2_B : ∀ t : Fin cfg0.N, ¬cond0_0 (grid0.coords t) → cond0_1 (grid0.coords t) → ¬cond0_2 (grid0.coords t) → ¬cond0_3 (grid0.coords t) → cfg0.idle 2 (grid0.coords t) = true :=
  fun t h0 h1 h2 h3 => (by decide +kernel : ∀ t : Fin cfg0.N, conds0_B (grid0.coords t) → cfg0.idle 2 (grid0.coords t) = true) t ⟨h0, h1, h2, h3⟩
/-- At the points of case B the pipeline does not write output 2's block back. -/
theorem noFlush0_2_B : ∀ t : Fin cfg0.N, ¬cond0_0 (grid0.coords t) → cond0_1 (grid0.coords t) → ¬cond0_2 (grid0.coords t) → ¬cond0_3 (grid0.coords t) → (cfg0.win 2).flush t = false :=
  fun t h0 h1 h2 h3 => (by decide +kernel : ∀ t : Fin cfg0.N, conds0_B (grid0.coords t) → (cfg0.win 2).flush t = false) t ⟨h0, h1, h2, h3⟩
/-- At the points of case C the printed configuration (`Cfg.idle`) calls output 2 idle: the case stores nothing into it. -/
theorem idleAt0_2_C : ∀ t : Fin cfg0.N, ¬cond0_0 (grid0.coords t) → ¬cond0_1 (grid0.coords t) → cond0_2 (grid0.coords t) → ¬cond0_3 (grid0.coords t) → cfg0.idle 2 (grid0.coords t) = true :=
  fun t h0 h1 h2 h3 => (by decide +kernel : ∀ t : Fin cfg0.N, conds0_C (grid0.coords t) → cfg0.idle 2 (grid0.coords t) = true) t ⟨h0, h1, h2, h3⟩
/-- At the points of case C the pipeline does not write output 2's block back. -/
theorem noFlush0_2_C : ∀ t : Fin cfg0.N, ¬cond0_0 (grid0.coords t) → ¬cond0_1 (grid0.coords t) → cond0_2 (grid0.coords t) → ¬cond0_3 (grid0.coords t) → (cfg0.win 2).flush t = false :=
  fun t h0 h1 h2 h3 => (by decide +kernel : ∀ t : Fin cfg0.N, conds0_C (grid0.coords t) → (cfg0.win 2).flush t = false) t ⟨h0, h1, h2, h3⟩
/-- At the points of case D the printed configuration (`Cfg.idle`) calls output 2 live: the case stores into it. -/
theorem liveAt0_2_D : ∀ t : Fin cfg0.N, ¬cond0_0 (grid0.coords t) → ¬cond0_1 (grid0.coords t) → cond0_2 (grid0.coords t) → cond0_3 (grid0.coords t) → cfg0.idle 2 (grid0.coords t) = false :=
  fun t h0 h1 h2 h3 => (by decide +kernel : ∀ t : Fin cfg0.N, conds0_D (grid0.coords t) → cfg0.idle 2 (grid0.coords t) = false) t ⟨h0, h1, h2, h3⟩

/-! ## The kernel body on any staging memrefs: a subtype the run finds -/

/-- One staging buffer of output window 2, through which its contents are stated (`View.read_writes_of_cover`: the
    choice does not matter). -/
abbrev VO0_2 : View sig .tc .vmem S4x8x128 .f32 := (Memref.whole cc0_stg2_0 : Memref sig .tc .vmem S4x8x128 .f32).view
/-- Each window's current staging memref at point `t`, spelled as the pipeline passes it (`bodyAt0`), and its wholeness. -/
abbrev ms0_0 (t : Fin cfg0.N) : Memref sig .tc .vmem S1024x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x8x128 .f32 := win0_2.stage (cfg0.slots t 2)
abbrev hs0_2 (t : Fin cfg0.N) : (ms0_2 t).IsWhole := hstage0_2 ((cfg0.slots t 2).cast nbuf0_2)
/-- The scratch operands: whole scoped buffers of the kernel's own, passed beside the windows. -/
abbrev scM0_0 : Memref sig .tc .vmem S8x4096 .bf16 := Memref.whole cc0_scratch0
abbrev scM0_1 : Memref sig .tc .vmem S8x4096 .f32 := Memref.whole cc0_scratch1
/-- The scratch `arg4` the kernel carries between points, as a view: what it holds is stated through it. -/
abbrev VS0_0 : View sig .tc .vmem S8x4096 .bf16 := scM0_0.view
/-- The scratch `arg5` the kernel carries between points, as a view: what it holds is stated through it. -/
abbrev VS0_1 : View sig .tc .vmem S8x4096 .f32 := scM0_1.view

/-- The frame kit's invariant with the scratch operands as memrefs owned at some contents (`Gen.scopedRest0_eq`,
    the library's `owns_whole`): what the body obligation hands the run and takes back. -/
theorem PhiA0_eq (c : Dev nD) :
    (ΦK (F := F) (Ix := Ix) (U := U) (Lvl := Lvl) c : sProp 𝕄)
      = iprop(iprop((∃ d, owns (c : Thread nD τ) scM0_0 fullShare d) ∗ (∃ d, owns (c : Thread nD τ) scM0_1 fullShare d) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f)) ∗ (∃ r, prngReg c r)) := by
  unfold ΦK; rw [scopedRest0_eq]; simp only [scM0_0, scM0_1, owns_whole]; try rfl

-- (the run's proof term is large: the definition's epilogue — `abstractNestedProofs` — walks it past the default budget)
set_option maxHeartbeats 1000000 in
/-- What the body's stores leave in each output's staging memref, as pieces (last first) IN CASE A (`scf.if` 0 taken, `scf.if` 1 taken, `scf.if` 2 not taken, `scf.if` 3 not taken: points 0), WITH the
    proof that on whole staging memrefs — the inputs' at their contents, the outputs it leaves idle (2: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs — each `scf.if` decided by the case's hypotheses `hc·`; the pieces are
    the witness that run finds (assigned when `iexact` hands the buffer to the continuation). -/
noncomputable def kernelRun0_A (c : Dev nD) (i : grid0.Coords) (arg1 : Memref sig .tc .vmem S1024x4096 .bf16) (harg1 : arg1.IsWhole) (arg2 : Memref sig .tc .vmem S512x4096 .f32) (harg2 : arg2.IsWhole) (arg3 : Memref sig .tc .vmem S4x8x128 .f32) (harg3 : arg3.IsWhole) (arg4 : Memref sig .tc .vmem S8x4096 .bf16) (harg4 : arg4.IsWhole) (arg5 : Memref sig .tc .vmem S8x4096 .f32) (harg5 : arg5.IsWhole) (hc0 : cond0_0 i) (hc1 : cond0_1 i) (hc2 : ¬cond0_2 i) (hc3 : ¬cond0_3 i)
    (x0 : Vec F S1024x4096 .bf16) (x1 : Vec F S512x4096 .f32) :
    Σ' (L2 : List (View.Piece (Elt F) S4x8x128 .f32)), Σ' (LS0 : List (View.Piece (Elt F) S8x4096 .bf16)), { LS1 : List (View.Piece (Elt F) S8x4096 .f32) //
      ∀ (xi2 : Vec F S4x8x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) 𝒱₀ c none) E (cc0_absmax_scales i arg1 harg1 arg2 harg2 arg3 harg3 arg4 harg4 arg5 harg5) K } := by
  refine ⟨[], ?_, ?_, fun xi2 E K => ?run⟩
  case run =>
    simp only [cc0_absmax_scales_eq_skeleton]; unfold cc0_absmax_scales_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

/-- Case A stores nothing into output 2 (the window is idle at its points and not written back there):
    no pieces — a placeholder (junk read back) that nothing consults, since at these points the window is neither
    written back nor read at the next point (the library's "Idle points"). -/
def out0_A_2 (c : Dev nD) (i : grid0.Coords) (arg1 : Memref sig .tc .vmem S1024x4096 .bf16) (harg1 : arg1.IsWhole) (arg2 : Memref sig .tc .vmem S512x4096 .f32) (harg2 : arg2.IsWhole) (arg3 : Memref sig .tc .vmem S4x8x128 .f32) (harg3 : arg3.IsWhole) (arg4 : Memref sig .tc .vmem S8x4096 .bf16) (harg4 : arg4.IsWhole) (arg5 : Memref sig .tc .vmem S8x4096 .f32) (harg5 : arg5.IsWhole) (hc0 : cond0_0 i) (hc1 : cond0_1 i) (hc2 : ¬cond0_2 i) (hc3 : ¬cond0_3 i)
    (x0 : Vec F S1024x4096 .bf16) (x1 : Vec F S512x4096 .f32) : Vec F S4x8x128 .f32 :=
  VO0_2.read (Elt F) (VO0_2.writes (Elt F) VO0_2.junk (kernelRun0_A (Ix := Ix) (U := U) (Lvl := Lvl) 𝒱₀ c i arg1 harg1 arg2 harg2 arg3 harg3 arg4 harg4 arg5 harg5 hc0 hc1 hc2 hc3 x0 x1).1)

/-- Case A's pieces for scratch `arg4`, which the kernel carries between points, cover it: 2 pieces of `S8x4096` tiling it (the library's `Piece.tiledL`). -/
theorem scover0_A_0 (c : Dev nD) (i : grid0.Coords) (arg1 : Memref sig .tc .vmem S1024x4096 .bf16) (harg1 : arg1.IsWhole) (arg2 : Memref sig .tc .vmem S512x4096 .f32) (harg2 : arg2.IsWhole) (arg3 : Memref sig .tc .vmem S4x8x128 .f32) (harg3 : arg3.IsWhole) (arg4 : Memref sig .tc .vmem S8x4096 .bf16) (harg4 : arg4.IsWhole) (arg5 : Memref sig .tc .vmem S8x4096 .f32) (harg5 : arg5.IsWhole) (hc0 : cond0_0 i) (hc1 : cond0_1 i) (hc2 : ¬cond0_2 i) (hc3 : ¬cond0_3 i)
    (x0 : Vec F S1024x4096 .bf16) (x1 : Vec F S512x4096 .f32) (y : S8x4096.Idx) :
    ∃ pc ∈ (kernelRun0_A (Ix := Ix) (U := U) (Lvl := Lvl) 𝒱₀ c i arg1 harg1 arg2 harg2 arg3 harg3 arg4 harg4 arg5 harg5 hc0 hc1 hc2 hc3 x0 x1).2.1, y ∈ pc.1.set :=
  View.cover_of_tiledL (kernelRun0_A (Ix := Ix) (U := U) (Lvl := Lvl) 𝒱₀ c i arg1 harg1 arg2 harg2 arg3 harg3 arg4 harg4 arg5 harg5 hc0 hc1 hc2 hc3 x0 x1).2.1 S8x4096.size (by sl_kernel_rfl) y

/-- What case A leaves in scratch `arg4`: its pieces read back over junk. -/
def sout0_A_0 (c : Dev nD) (i : grid0.Coords) (arg1 : Memref sig .tc .vmem S1024x4096 .bf16) (harg1 : arg1.IsWhole) (arg2 : Memref sig .tc .vmem S512x4096 .f32) (harg2 : arg2.IsWhole) (arg3 : Memref sig .tc .vmem S4x8x128 .f32) (harg3 : arg3.IsWhole) (arg4 : Memref sig .tc .vmem S8x4096 .bf16) (harg4 : arg4.IsWhole) (arg5 : Memref sig .tc .vmem S8x4096 .f32) (harg5 : arg5.IsWhole) (hc0 : cond0_0 i) (hc1 : cond0_1 i) (hc2 : ¬cond0_2 i) (hc3 : ¬cond0_3 i)
    (x0 : Vec F S1024x4096 .bf16) (x1 : Vec F S512x4096 .f32) : Vec F S8x4096 .bf16 :=
  VS0_0.read (Elt F) (VS0_0.writes (Elt F) VS0_0.junk (kernelRun0_A (Ix := Ix) (U := U) (Lvl := Lvl) 𝒱₀ c i arg1 harg1 arg2 harg2 arg3 harg3 arg4 harg4 arg5 harg5 hc0 hc1 hc2 hc3 x0 x1).2.1)

/-- Case A's pieces for scratch `arg5`, which the kernel carries between points, cover it: 1 piece of `S8x4096` tiling it (the library's `Piece.tiledL`). -/
theorem scover0_A_1 (c : Dev nD) (i : grid0.Coords) (arg1 : Memref sig .tc .vmem S1024x4096 .bf16) (harg1 : arg1.IsWhole) (arg2 : Memref sig .tc .vmem S512x4096 .f32) (harg2 : arg2.IsWhole) (arg3 : Memref sig .tc .vmem S4x8x128 .f32) (harg3 : arg3.IsWhole) (arg4 : Memref sig .tc .vmem S8x4096 .bf16) (harg4 : arg4.IsWhole) (arg5 : Memref sig .tc .vmem S8x4096 .f32) (harg5 : arg5.IsWhole) (hc0 : cond0_0 i) (hc1 : cond0_1 i) (hc2 : ¬cond0_2 i) (hc3 : ¬cond0_3 i)
    (x0 : Vec F S1024x4096 .bf16) (x1 : Vec F S512x4096 .f32) (y : S8x4096.Idx) :
    ∃ pc ∈ (kernelRun0_A (Ix := Ix) (U := U) (Lvl := Lvl) 𝒱₀ c i arg1 harg1 arg2 harg2 arg3 harg3 arg4 harg4 arg5 harg5 hc0 hc1 hc2 hc3 x0 x1).2.2.1, y ∈ pc.1.set :=
  View.cover_of_tiledL (kernelRun0_A (Ix := Ix) (U := U) (Lvl := Lvl) 𝒱₀ c i arg1 harg1 arg2 harg2 arg3 harg3 arg4 harg4 arg5 harg5 hc0 hc1 hc2 hc3 x0 x1).2.2.1 S8x4096.size (by sl_kernel_rfl) y

/-- What case A leaves in scratch `arg5`: its pieces read back over junk. -/
def sout0_A_1 (c : Dev nD) (i : grid0.Coords) (arg1 : Memref sig .tc .vmem S1024x4096 .bf16) (harg1 : arg1.IsWhole) (arg2 : Memref sig .tc .vmem S512x4096 .f32) (harg2 : arg2.IsWhole) (arg3 : Memref sig .tc .vmem S4x8x128 .f32) (harg3 : arg3.IsWhole) (arg4 : Memref sig .tc .vmem S8x4096 .bf16) (harg4 : arg4.IsWhole) (arg5 : Memref sig .tc .vmem S8x4096 .f32) (harg5 : arg5.IsWhole) (hc0 : cond0_0 i) (hc1 : cond0_1 i) (hc2 : ¬cond0_2 i) (hc3 : ¬cond0_3 i)
    (x0 : Vec F S1024x4096 .bf16) (x1 : Vec F S512x4096 .f32) : Vec F S8x4096 .f32 :=
  VS0_1.read (Elt F) (VS0_1.writes (Elt F) VS0_1.junk (kernelRun0_A (Ix := Ix) (U := U) (Lvl := Lvl) 𝒱₀ c i arg1 harg1 arg2 harg2 arg3 harg3 arg4 harg4 arg5 harg5 hc0 hc1 hc2 hc3 x0 x1).2.2.1)

-- (the run's proof term is large: the definition's epilogue — `abstractNestedProofs` — walks it past the default budget)
set_option maxHeartbeats 1000000 in
/-- What the body's stores leave in each output's staging memref, as pieces (last first) IN CASE B (`scf.if` 0 not taken, `scf.if` 1 taken, `scf.if` 2 not taken, `scf.if` 3 not taken: points 1, 2, … 23: 23 of 52), WITH the
    proof that on whole staging memrefs — the inputs' at their contents, the outputs it leaves idle (2: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs — each `scf.if` decided by the case's hypotheses `hc·`; the pieces are
    the witness that run finds (assigned when `iexact` hands the buffer to the continuation). -/
noncomputable def kernelRun0_B (c : Dev nD) (i : grid0.Coords) (arg1 : Memref sig .tc .vmem S1024x4096 .bf16) (harg1 : arg1.IsWhole) (arg2 : Memref sig .tc .vmem S512x4096 .f32) (harg2 : arg2.IsWhole) (arg3 : Memref sig .tc .vmem S4x8x128 .f32) (harg3 : arg3.IsWhole) (arg4 : Memref sig .tc .vmem S8x4096 .bf16) (harg4 : arg4.IsWhole) (arg5 : Memref sig .tc .vmem S8x4096 .f32) (harg5 : arg5.IsWhole) (hc0 : ¬cond0_0 i) (hc1 : cond0_1 i) (hc2 : ¬cond0_2 i) (hc3 : ¬cond0_3 i)
    (x0 : Vec F S1024x4096 .bf16) (x1 : Vec F S512x4096 .f32) (xs0 : Vec F S8x4096 .bf16) (xs1 : Vec F S8x4096 .f32) :
    Σ' (L2 : List (View.Piece (Elt F) S4x8x128 .f32)), Σ' (LS0 : List (View.Piece (Elt F) S8x4096 .bf16)), { LS1 : List (View.Piece (Elt F) S8x4096 .f32) //
      ∀ (xi2 : Vec F S4x8x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0 ∗ owns (c : Thread nD τ) arg5 fullShare xs1
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0) ∗ owns (c : Thread nD τ) arg5 fullShare xs1) -∗ K ⟨⟩))
          ⊢ wp frame (wpE (defs₀ (F := F)) 𝒱₀ c none) E (cc0_absmax_scales i arg1 harg1 arg2 harg2 arg3 harg3 arg4 harg4 arg5 harg5) K } := by
  refine ⟨[], ?_, [], fun xi2 E K => ?run⟩
  case run =>
    simp only [cc0_absmax_scales_eq_skeleton]; unfold cc0_absmax_scales_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hfs0; obtain rfl := harg5.eq_unread hfs1
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; isplitr; · ipureintro; exact harg5.read_unread _
    iexact HS1

/-- Case B stores nothing into output 2 (the window is idle at its points and not written back there):
    no pieces — a placeholder (junk read back) that nothing consults, since at these points the window is neither
    written back nor read at the next point (the library's "Idle points"). -/
def out0_B_2 (c : Dev nD) (i : grid0.Coords) (arg1 : Memref sig .tc .vmem S1024x4096 .bf16) (harg1 : arg1.IsWhole) (arg2 : Memref sig .tc .vmem S512x4096 .f32) (harg2 : arg2.IsWhole) (arg3 : Memref sig .tc .vmem S4x8x128 .f32) (harg3 : arg3.IsWhole) (arg4 : Memref sig .tc .vmem S8x4096 .bf16) (harg4 : arg4.IsWhole) (arg5 : Memref sig .tc .vmem S8x4096 .f32) (harg5 : arg5.IsWhole) (hc0 : ¬cond0_0 i) (hc1 : cond0_1 i) (hc2 : ¬cond0_2 i) (hc3 : ¬cond0_3 i)
    (x0 : Vec F S1024x4096 .bf16) (x1 : Vec F S512x4096 .f32) (xs0 : Vec F S8x4096 .bf16) (xs1 : Vec F S8x4096 .f32) : Vec F S4x8x128 .f32 :=
  VO0_2.read (Elt F) (VO0_2.writes (Elt F) VO0_2.junk (kernelRun0_B (Ix := Ix) (U := U) (Lvl := Lvl) 𝒱₀ c i arg1 harg1 arg2 harg2 arg3 harg3 arg4 harg4 arg5 harg5 hc0 hc1 hc2 hc3 x0 x1 xs0 xs1).1)

/-- Case B's pieces for scratch `arg4`, which the kernel carries between points, cover it: 1 piece of `S8x4096` tiling it (the library's `Piece.tiledL`). -/
theorem scover0_B_0 (c : Dev nD) (i : grid0.Coords) (arg1 : Memref sig .tc .vmem S1024x4096 .bf16) (harg1 : arg1.IsWhole) (arg2 : Memref sig .tc .vmem S512x4096 .f32) (harg2 : arg2.IsWhole) (arg3 : Memref sig .tc .vmem S4x8x128 .f32) (harg3 : arg3.IsWhole) (arg4 : Memref sig .tc .vmem S8x4096 .bf16) (harg4 : arg4.IsWhole) (arg5 : Memref sig .tc .vmem S8x4096 .f32) (harg5 : arg5.IsWhole) (hc0 : ¬cond0_0 i) (hc1 : cond0_1 i) (hc2 : ¬cond0_2 i) (hc3 : ¬cond0_3 i)
    (x0 : Vec F S1024x4096 .bf16) (x1 : Vec F S512x4096 .f32) (xs0 : Vec F S8x4096 .bf16) (xs1 : Vec F S8x4096 .f32) (y : S8x4096.Idx) :
    ∃ pc ∈ (kernelRun0_B (Ix := Ix) (U := U) (Lvl := Lvl) 𝒱₀ c i arg1 harg1 arg2 harg2 arg3 harg3 arg4 harg4 arg5 harg5 hc0 hc1 hc2 hc3 x0 x1 xs0 xs1).2.1, y ∈ pc.1.set :=
  View.cover_of_tiledL (kernelRun0_B (Ix := Ix) (U := U) (Lvl := Lvl) 𝒱₀ c i arg1 harg1 arg2 harg2 arg3 harg3 arg4 harg4 arg5 harg5 hc0 hc1 hc2 hc3 x0 x1 xs0 xs1).2.1 S8x4096.size (by sl_kernel_rfl) y

/-- What case B leaves in scratch `arg4`: its pieces read back over junk. -/
def sout0_B_0 (c : Dev nD) (i : grid0.Coords) (arg1 : Memref sig .tc .vmem S1024x4096 .bf16) (harg1 : arg1.IsWhole) (arg2 : Memref sig .tc .vmem S512x4096 .f32) (harg2 : arg2.IsWhole) (arg3 : Memref sig .tc .vmem S4x8x128 .f32) (harg3 : arg3.IsWhole) (arg4 : Memref sig .tc .vmem S8x4096 .bf16) (harg4 : arg4.IsWhole) (arg5 : Memref sig .tc .vmem S8x4096 .f32) (harg5 : arg5.IsWhole) (hc0 : ¬cond0_0 i) (hc1 : cond0_1 i) (hc2 : ¬cond0_2 i) (hc3 : ¬cond0_3 i)
    (x0 : Vec F S1024x4096 .bf16) (x1 : Vec F S512x4096 .f32) (xs0 : Vec F S8x4096 .bf16) (xs1 : Vec F S8x4096 .f32) : Vec F S8x4096 .bf16 :=
  VS0_0.read (Elt F) (VS0_0.writes (Elt F) VS0_0.junk (kernelRun0_B (Ix := Ix) (U := U) (Lvl := Lvl) 𝒱₀ c i arg1 harg1 arg2 harg2 arg3 harg3 arg4 harg4 arg5 harg5 hc0 hc1 hc2 hc3 x0 x1 xs0 xs1).2.1)

/-- Case B stores nothing into scratch `arg5`: it holds what the point before left. -/
def sout0_B_1 (c : Dev nD) (i : grid0.Coords) (arg1 : Memref sig .tc .vmem S1024x4096 .bf16) (harg1 : arg1.IsWhole) (arg2 : Memref sig .tc .vmem S512x4096 .f32) (harg2 : arg2.IsWhole) (arg3 : Memref sig .tc .vmem S4x8x128 .f32) (harg3 : arg3.IsWhole) (arg4 : Memref sig .tc .vmem S8x4096 .bf16) (harg4 : arg4.IsWhole) (arg5 : Memref sig .tc .vmem S8x4096 .f32) (harg5 : arg5.IsWhole) (hc0 : ¬cond0_0 i) (hc1 : cond0_1 i) (hc2 : ¬cond0_2 i) (hc3 : ¬cond0_3 i)
    (x0 : Vec F S1024x4096 .bf16) (x1 : Vec F S512x4096 .f32) (xs0 : Vec F S8x4096 .bf16) (xs1 : Vec F S8x4096 .f32) : Vec F S8x4096 .f32 := xs1

-- (the run's proof term is large: the definition's epilogue — `abstractNestedProofs` — walks it past the default budget)
set_option maxHeartbeats 1000000 in
/-- What the body's stores leave in each output's staging memref, as pieces (last first) IN CASE C (`scf.if` 0 not taken, `scf.if` 1 not taken, `scf.if` 2 taken, `scf.if` 3 not taken: points 24, 25, … 50: 27 of 52), WITH the
    proof that on whole staging memrefs — the inputs' at their contents, the outputs it leaves idle (2: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs — each `scf.if` decided by the case's hypotheses `hc·`; the pieces are
    the witness that run finds (assigned when `iexact` hands the buffer to the continuation). -/
noncomputable def kernelRun0_C (c : Dev nD) (i : grid0.Coords) (arg1 : Memref sig .tc .vmem S1024x4096 .bf16) (harg1 : arg1.IsWhole) (arg2 : Memref sig .tc .vmem S512x4096 .f32) (harg2 : arg2.IsWhole) (arg3 : Memref sig .tc .vmem S4x8x128 .f32) (harg3 : arg3.IsWhole) (arg4 : Memref sig .tc .vmem S8x4096 .bf16) (harg4 : arg4.IsWhole) (arg5 : Memref sig .tc .vmem S8x4096 .f32) (harg5 : arg5.IsWhole) (hc0 : ¬cond0_0 i) (hc1 : ¬cond0_1 i) (hc2 : cond0_2 i) (hc3 : ¬cond0_3 i)
    (x0 : Vec F S1024x4096 .bf16) (x1 : Vec F S512x4096 .f32) (xs0 : Vec F S8x4096 .bf16) (xs1 : Vec F S8x4096 .f32) :
    Σ' (L2 : List (View.Piece (Elt F) S4x8x128 .f32)), Σ' (LS0 : List (View.Piece (Elt F) S8x4096 .bf16)), { LS1 : List (View.Piece (Elt F) S8x4096 .f32) //
      ∀ (xi2 : Vec F S4x8x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0 ∗ owns (c : Thread nD τ) arg5 fullShare xs1
            ∗ (iprop(owns (c : Thread nD τ) arg1 fullShare x0 ∗ owns (c : Thread nD τ) arg2 fullShare x1 ∗ owns (c : Thread nD τ) arg3 fullShare xi2 ∗ owns (c : Thread nD τ) arg4 fullShare xs0 ∗ (∃ f, arg5.view.loc (c : Thread nD τ) ↦[arg5.view.set]{fullShare} arg5.view.writes (Elt F) f LS1)) -∗ K ⟨⟩))
          ⊢ wp frame (wpE (defs₀ (F := F)) 𝒱₀ c none) E (cc0_absmax_scales i arg1 harg1 arg2 harg2 arg3 harg3 arg4 harg4 arg5 harg5) K } := by
  refine ⟨[], [], ?_, fun xi2 E K => ?run⟩
  case run =>
    simp only [cc0_absmax_scales_eq_skeleton]; unfold cc0_absmax_scales_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hfs0; obtain rfl := harg5.eq_unread hfs1
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]
    · iexists _; isplitr; · ipureintro; exact harg4.read_unread _
      iexact HS0
    iexists _; iexact HS1

/-- Case C stores nothing into output 2 (the window is idle at its points and not written back there):
    no pieces — a placeholder (junk read back) that nothing consults, since at these points the window is neither
    written back nor read at the next point (the library's "Idle points"). -/
def out0_C_2 (c : Dev nD) (i : grid0.Coords) (arg1 : Memref sig .tc .vmem S1024x4096 .bf16) (harg1 : arg1.IsWhole) (arg2 : Memref sig .tc .vmem S512x4096 .f32) (harg2 : arg2.IsWhole) (arg3 : Memref sig .tc .vmem S4x8x128 .f32) (harg3 : arg3.IsWhole) (arg4 : Memref sig .tc .vmem S8x4096 .bf16) (harg4 : arg4.IsWhole) (arg5 : Memref sig .tc .vmem S8x4096 .f32) (harg5 : arg5.IsWhole) (hc0 : ¬cond0_0 i) (hc1 : ¬cond0_1 i) (hc2 : cond0_2 i) (hc3 : ¬cond0_3 i)
    (x0 : Vec F S1024x4096 .bf16) (x1 : Vec F S512x4096 .f32) (xs0 : Vec F S8x4096 .bf16) (xs1 : Vec F S8x4096 .f32) : Vec F S4x8x128 .f32 :=
  VO0_2.read (Elt F) (VO0_2.writes (Elt F) VO0_2.junk (kernelRun0_C (Ix := Ix) (U := U) (Lvl := Lvl) 𝒱₀ c i arg1 harg1 arg2 harg2 arg3 harg3 arg4 harg4 arg5 harg5 hc0 hc1 hc2 hc3 x0 x1 xs0 xs1).1)

/-- Case C stores nothing into scratch `arg4`: it holds what the point before left. -/
def sout0_C_0 (c : Dev nD) (i : grid0.Coords) (arg1 : Memref sig .tc .vmem S1024x4096 .bf16) (harg1 : arg1.IsWhole) (arg2 : Memref sig .tc .vmem S512x4096 .f32) (harg2 : arg2.IsWhole) (arg3 : Memref sig .tc .vmem S4x8x128 .f32) (harg3 : arg3.IsWhole) (arg4 : Memref sig .tc .vmem S8x4096 .bf16) (harg4 : arg4.IsWhole) (arg5 : Memref sig .tc .vmem S8x4096 .f32) (harg5 : arg5.IsWhole) (hc0 : ¬cond0_0 i) (hc1 : ¬cond0_1 i) (hc2 : cond0_2 i) (hc3 : ¬cond0_3 i)
    (x0 : Vec F S1024x4096 .bf16) (x1 : Vec F S512x4096 .f32) (xs0 : Vec F S8x4096 .bf16) (xs1 : Vec F S8x4096 .f32) : Vec F S8x4096 .bf16 := xs0

/-- Case C's pieces for scratch `arg5`, which the kernel carries between points, cover it: 1 piece of `S8x4096` tiling it (the library's `Piece.tiledL`). -/
theorem scover0_C_1 (c : Dev nD) (i : grid0.Coords) (arg1 : Memref sig .tc .vmem S1024x4096 .bf16) (harg1 : arg1.IsWhole) (arg2 : Memref sig .tc .vmem S512x4096 .f32) (harg2 : arg2.IsWhole) (arg3 : Memref sig .tc .vmem S4x8x128 .f32) (harg3 : arg3.IsWhole) (arg4 : Memref sig .tc .vmem S8x4096 .bf16) (harg4 : arg4.IsWhole) (arg5 : Memref sig .tc .vmem S8x4096 .f32) (harg5 : arg5.IsWhole) (hc0 : ¬cond0_0 i) (hc1 : ¬cond0_1 i) (hc2 : cond0_2 i) (hc3 : ¬cond0_3 i)
    (x0 : Vec F S1024x4096 .bf16) (x1 : Vec F S512x4096 .f32) (xs0 : Vec F S8x4096 .bf16) (xs1 : Vec F S8x4096 .f32) (y : S8x4096.Idx) :
    ∃ pc ∈ (kernelRun0_C (Ix := Ix) (U := U) (Lvl := Lvl) 𝒱₀ c i arg1 harg1 arg2 harg2 arg3 harg3 arg4 harg4 arg5 harg5 hc0 hc1 hc2 hc3 x0 x1 xs0 xs1).2.2.1, y ∈ pc.1.set :=
  View.cover_of_tiledL (kernelRun0_C (Ix := Ix) (U := U) (Lvl := Lvl) 𝒱₀ c i arg1 harg1 arg2 harg2 arg3 harg3 arg4 harg4 arg5 harg5 hc0 hc1 hc2 hc3 x0 x1 xs0 xs1).2.2.1 S8x4096.size (by sl_kernel_rfl) y

/-- What case C leaves in scratch `arg5`: its pieces read back over junk. -/
def sout0_C_1 (c : Dev nD) (i : grid0.Coords) (arg1 : Memref sig .tc .vmem S1024x4096 .bf16) (harg1 : arg1.IsWhole) (arg2 : Memref sig .tc .vmem S512x4096 .f32) (harg2 : arg2.IsWhole) (arg3 : Memref sig .tc .vmem S4x8x128 .f32) (harg3 : arg3.IsWhole) (arg4 : Memref sig .tc .vmem S8x4096 .bf16) (harg4 : arg4.IsWhole) (arg5 : Memref sig .tc .vmem S8x4096 .f32) (harg5 : arg5.IsWhole) (hc0 : ¬cond0_0 i) (hc1 : ¬cond0_1 i) (hc2 : cond0_2 i) (hc3 : ¬cond0_3 i)
    (x0 : Vec F S1024x4096 .bf16) (x1 : Vec F S512x4096 .f32) (xs0 : Vec F S8x4096 .bf16) (xs1 : Vec F S8x4096 .f32) : Vec F S8x4096 .f32 :=
  VS0_1.read (Elt F) (VS0_1.writes (Elt F) VS0_1.junk (kernelRun0_C (Ix := Ix) (U := U) (Lvl := Lvl) 𝒱₀ c i arg1 harg1 arg2 harg2 arg3 harg3 arg4 harg4 arg5 harg5 hc0 hc1 hc2 hc3 x0 x1 xs0 xs1).2.2.1)

-- (the run's proof term is large: the definition's epilogue — `abstractNestedProofs` — walks it past the default budget)
set_option maxHeartbeats 1000000 in
/-- What the body's stores leave in each output's staging memref, as pieces (last first) IN CASE D (`scf.if` 0 not taken, `scf.if` 1 not taken, `scf.if` 2 taken, `scf.if` 3 taken: points 51), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs — each `scf.if` decided by the case's hypotheses `hc·`; the pieces are
    the witness that run finds (assigned when `iexact` hands the buffer to the continuation). -/
noncomputable def kernelRun0_D (c : Dev nD) (i : grid0.Coords) (arg1 : Memref sig .tc .vmem S1024x4096 .bf16) (harg1 : arg1.IsWhole) (arg2 : Memref sig .tc .vmem S512x4096 .f32) (harg2 : arg2.IsWhole) (arg3 : Memref sig .tc .vmem S4x8x128 .f32) (harg3 : arg3.IsWhole) (arg4 : Memref sig .tc .vmem S8x4096 .bf16) (harg4 : arg4.IsWhole) (arg5 : Memref sig .tc .vmem S8x4096 .f32) (harg5 : arg5.IsWhole) (hc0 : ¬cond0_0 i) (hc1 : ¬cond0_1 i) (hc2 : cond0_2 i) (hc3 : cond0_3 i)
    (x0 : Vec F S1024x4096 .bf16) (x1 : Vec F S512x4096 .f32) (xs0 : Vec F S8x4096 .bf16) (xs1 : Vec F S8x4096 .f32) :
    Σ' (L2 : List (View.Piece (Elt F) S4x8x128 .f32)), Σ' (LS0 : List (View.Piece (Elt F) S8x4096 .bf16)), { LS1 : List (View.Piece (Elt F) S8x4096 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0 ∗ owns (c : Thread nD τ) arg5 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ owns (c : Thread nD τ) arg4 fullShare xs0 ∗ (∃ f, arg5.view.loc (c : Thread nD τ) ↦[arg5.view.set]{fullShare} arg5.view.writes (Elt F) f LS1)) -∗ K ⟨⟩))
          ⊢ wp frame (wpE (defs₀ (F := F)) 𝒱₀ c none) E (cc0_absmax_scales i arg1 harg1 arg2 harg2 arg3 harg3 arg4 harg4 arg5 harg5) K } := by
  refine ⟨?_, [], ?_, fun E K => ?run⟩
  case run =>
    simp only [cc0_absmax_scales_eq_skeleton]; unfold cc0_absmax_scales_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg1.eq_unread hf0; obtain rfl := harg2.eq_unread hf1; obtain rfl := harg4.eq_unread hfs0; obtain rfl := harg5.eq_unread hfs1
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [HS0]
    · iexists _; isplitr; · ipureintro; exact harg4.read_unread _
      iexact HS0
    iexists _; iexact HS1

/-- Case D's pieces for output 2 tile its block (4 stores of `S1x8x128`, checked by the kernel's evaluation: the library's `Piece.tiledL`, linear in the pieces, through a loop's `@[irreducible]` trip theorem too), so they cover it. -/
theorem cover0_D_2 (c : Dev nD) (i : grid0.Coords) (arg1 : Memref sig .tc .vmem S1024x4096 .bf16) (harg1 : arg1.IsWhole) (arg2 : Memref sig .tc .vmem S512x4096 .f32) (harg2 : arg2.IsWhole) (arg3 : Memref sig .tc .vmem S4x8x128 .f32) (harg3 : arg3.IsWhole) (arg4 : Memref sig .tc .vmem S8x4096 .bf16) (harg4 : arg4.IsWhole) (arg5 : Memref sig .tc .vmem S8x4096 .f32) (harg5 : arg5.IsWhole) (hc0 : ¬cond0_0 i) (hc1 : ¬cond0_1 i) (hc2 : cond0_2 i) (hc3 : cond0_3 i)
    (x0 : Vec F S1024x4096 .bf16) (x1 : Vec F S512x4096 .f32) (xs0 : Vec F S8x4096 .bf16) (xs1 : Vec F S8x4096 .f32) (y : S4x8x128.Idx) :
    ∃ pc ∈ (kernelRun0_D (Ix := Ix) (U := U) (Lvl := Lvl) 𝒱₀ c i arg1 harg1 arg2 harg2 arg3 harg3 arg4 harg4 arg5 harg5 hc0 hc1 hc2 hc3 x0 x1 xs0 xs1).1, y ∈ pc.1.set :=
  View.cover_of_tiledL (kernelRun0_D (Ix := Ix) (U := U) (Lvl := Lvl) 𝒱₀ c i arg1 harg1 arg2 harg2 arg3 harg3 arg4 harg4 arg5 harg5 hc0 hc1 hc2 hc3 x0 x1 xs0 xs1).1 S1x8x128.size (by sl_kernel_rfl) y

/-- What case D leaves in output 2's staging buffer: its pieces read back over junk. -/
def out0_D_2 (c : Dev nD) (i : grid0.Coords) (arg1 : Memref sig .tc .vmem S1024x4096 .bf16) (harg1 : arg1.IsWhole) (arg2 : Memref sig .tc .vmem S512x4096 .f32) (harg2 : arg2.IsWhole) (arg3 : Memref sig .tc .vmem S4x8x128 .f32) (harg3 : arg3.IsWhole) (arg4 : Memref sig .tc .vmem S8x4096 .bf16) (harg4 : arg4.IsWhole) (arg5 : Memref sig .tc .vmem S8x4096 .f32) (harg5 : arg5.IsWhole) (hc0 : ¬cond0_0 i) (hc1 : ¬cond0_1 i) (hc2 : cond0_2 i) (hc3 : cond0_3 i)
    (x0 : Vec F S1024x4096 .bf16) (x1 : Vec F S512x4096 .f32) (xs0 : Vec F S8x4096 .bf16) (xs1 : Vec F S8x4096 .f32) : Vec F S4x8x128 .f32 :=
  VO0_2.read (Elt F) (VO0_2.writes (Elt F) VO0_2.junk (kernelRun0_D (Ix := Ix) (U := U) (Lvl := Lvl) 𝒱₀ c i arg1 harg1 arg2 harg2 arg3 harg3 arg4 harg4 arg5 harg5 hc0 hc1 hc2 hc3 x0 x1 xs0 xs1).1)

/-- Case D stores nothing into scratch `arg4`: it holds what the point before left. -/
def sout0_D_0 (c : Dev nD) (i : grid0.Coords) (arg1 : Memref sig .tc .vmem S1024x4096 .bf16) (harg1 : arg1.IsWhole) (arg2 : Memref sig .tc .vmem S512x4096 .f32) (harg2 : arg2.IsWhole) (arg3 : Memref sig .tc .vmem S4x8x128 .f32) (harg3 : arg3.IsWhole) (arg4 : Memref sig .tc .vmem S8x4096 .bf16) (harg4 : arg4.IsWhole) (arg5 : Memref sig .tc .vmem S8x4096 .f32) (harg5 : arg5.IsWhole) (hc0 : ¬cond0_0 i) (hc1 : ¬cond0_1 i) (hc2 : cond0_2 i) (hc3 : cond0_3 i)
    (x0 : Vec F S1024x4096 .bf16) (x1 : Vec F S512x4096 .f32) (xs0 : Vec F S8x4096 .bf16) (xs1 : Vec F S8x4096 .f32) : Vec F S8x4096 .bf16 := xs0

/-- Case D's pieces for scratch `arg5`, which the kernel carries between points, cover it: 1 piece of `S8x4096` tiling it (the library's `Piece.tiledL`). -/
theorem scover0_D_1 (c : Dev nD) (i : grid0.Coords) (arg1 : Memref sig .tc .vmem S1024x4096 .bf16) (harg1 : arg1.IsWhole) (arg2 : Memref sig .tc .vmem S512x4096 .f32) (harg2 : arg2.IsWhole) (arg3 : Memref sig .tc .vmem S4x8x128 .f32) (harg3 : arg3.IsWhole) (arg4 : Memref sig .tc .vmem S8x4096 .bf16) (harg4 : arg4.IsWhole) (arg5 : Memref sig .tc .vmem S8x4096 .f32) (harg5 : arg5.IsWhole) (hc0 : ¬cond0_0 i) (hc1 : ¬cond0_1 i) (hc2 : cond0_2 i) (hc3 : cond0_3 i)
    (x0 : Vec F S1024x4096 .bf16) (x1 : Vec F S512x4096 .f32) (xs0 : Vec F S8x4096 .bf16) (xs1 : Vec F S8x4096 .f32) (y : S8x4096.Idx) :
    ∃ pc ∈ (kernelRun0_D (Ix := Ix) (U := U) (Lvl := Lvl) 𝒱₀ c i arg1 harg1 arg2 harg2 arg3 harg3 arg4 harg4 arg5 harg5 hc0 hc1 hc2 hc3 x0 x1 xs0 xs1).2.2.1, y ∈ pc.1.set :=
  View.cover_of_tiledL (kernelRun0_D (Ix := Ix) (U := U) (Lvl := Lvl) 𝒱₀ c i arg1 harg1 arg2 harg2 arg3 harg3 arg4 harg4 arg5 harg5 hc0 hc1 hc2 hc3 x0 x1 xs0 xs1).2.2.1 S8x4096.size (by sl_kernel_rfl) y

/-- What case D leaves in scratch `arg5`: its pieces read back over junk. -/
def sout0_D_1 (c : Dev nD) (i : grid0.Coords) (arg1 : Memref sig .tc .vmem S1024x4096 .bf16) (harg1 : arg1.IsWhole) (arg2 : Memref sig .tc .vmem S512x4096 .f32) (harg2 : arg2.IsWhole) (arg3 : Memref sig .tc .vmem S4x8x128 .f32) (harg3 : arg3.IsWhole) (arg4 : Memref sig .tc .vmem S8x4096 .bf16) (harg4 : arg4.IsWhole) (arg5 : Memref sig .tc .vmem S8x4096 .f32) (harg5 : arg5.IsWhole) (hc0 : ¬cond0_0 i) (hc1 : ¬cond0_1 i) (hc2 : cond0_2 i) (hc3 : cond0_3 i)
    (x0 : Vec F S1024x4096 .bf16) (x1 : Vec F S512x4096 .f32) (xs0 : Vec F S8x4096 .bf16) (xs1 : Vec F S8x4096 .f32) : Vec F S8x4096 .f32 :=
  VS0_1.read (Elt F) (VS0_1.writes (Elt F) VS0_1.junk (kernelRun0_D (Ix := Ix) (U := U) (Lvl := Lvl) 𝒱₀ c i arg1 harg1 arg2 harg2 arg3 harg3 arg4 harg4 arg5 harg5 hc0 hc1 hc2 hc3 x0 x1 xs0 xs1).2.2.1)

end Cert.Kernel.Own.K0

end
-- ==== Proof.Kernel.K0.lean ====
/- Custom call 0 of `Kernel`: the kernel's run, the proof data and the body obligation, for any index type, level type,
   algebra, variants, entry contents and owed tally.
   -/
module

public import proofs.«01_k».proof.Proof.Gen.Kernel.Launch
public import proofs.«01_k».proof.Proof.Kernel.K0Run
public import proofs.«01_k».proof.Proof.Gen.Kernel.Skeleton
public import proofs.«01_k».proof.Proof.Gen.Kernel.Points
public import Idealize.ShloMosaic.Lib.Pipeline.FrameBody
public import Idealize.ShloMosaic.Lib.Pipeline.FrameSuffix
public import Idealize.ShloMosaic.Lib.Ring
public import Idealize.ShloMosaic.Lib.Pipeline.TableIdle
public import Idealize.ShloMosaic.Lib.Tactic
public import Idealize.ShloMosaic.Lib.WordCmp
public import Idealize.ShloMosaic.Lib.Exec
public import Idealize.ShloMosaic.Lib.Pipeline.Kit

@[expose] public section

noncomputable section

namespace Cert.Kernel.Own.K0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

variable (𝒱₀ : Variants) (V : (c : Dev nD) → (b : Ref sig .tc) → Buf (Elt F) ((c : Thread nD τ).loc b)) (D : Dev nD → CellTallies nD τ sig Ix)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S4x8x128 .f32 × Vec F S8x4096 .bf16 × Vec F S8x4096 .f32
  | 0, hn => (out0_A_2 (Ix := Ix) (U := U) (Lvl := Lvl) 𝒱₀ c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (fun h => (fun h => by (try dsimp only at h); omega) ((hcond0_3 ⟨0, hn⟩).mp h)) (iblk V c 0 ⟨0, hn⟩) (iblk V c 1 ⟨0, hn⟩), sout0_A_0 (Ix := Ix) (U := U) (Lvl := Lvl) 𝒱₀ c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (fun h => (fun h => by (try dsimp only at h); omega) ((hcond0_3 ⟨0, hn⟩).mp h)) (iblk V c 0 ⟨0, hn⟩) (iblk V c 1 ⟨0, hn⟩), sout0_A_1 (Ix := Ix) (U := U) (Lvl := Lvl) 𝒱₀ c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (fun h => (fun h => by (try dsimp only at h); omega) ((hcond0_3 ⟨0, hn⟩).mp h)) (iblk V c 0 ⟨0, hn⟩) (iblk V c 1 ⟨0, hn⟩))
  | n + 1, hn =>
    if h0 : (n + 1) % 52 = 0 then
      if h1 : (n + 1) < 24 then
        if h2 : 24 ≤ (n + 1) then
          False.elim (by have hN : n + 1 < 52 := lt_of_lt_of_eq hn (show cfg0.N = 52 from N_0); omega)
        else
          if h3 : (n + 1) % 52 = 51 then
            False.elim (by have hN : n + 1 < 52 := lt_of_lt_of_eq hn (show cfg0.N = 52 from N_0); omega)
          else
            (out0_A_2 (Ix := Ix) (U := U) (Lvl := Lvl) 𝒱₀ c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (iblk V c 0 ⟨n + 1, hn⟩) (iblk V c 1 ⟨n + 1, hn⟩), sout0_A_0 (Ix := Ix) (U := U) (Lvl := Lvl) 𝒱₀ c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (iblk V c 0 ⟨n + 1, hn⟩) (iblk V c 1 ⟨n + 1, hn⟩), sout0_A_1 (Ix := Ix) (U := U) (Lvl := Lvl) 𝒱₀ c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (iblk V c 0 ⟨n + 1, hn⟩) (iblk V c 1 ⟨n + 1, hn⟩))
      else
        False.elim (by have hN : n + 1 < 52 := lt_of_lt_of_eq hn (show cfg0.N = 52 from N_0); omega)
    else
      if h1 : (n + 1) < 24 then
        if h2 : 24 ≤ (n + 1) then
          False.elim (by have hN : n + 1 < 52 := lt_of_lt_of_eq hn (show cfg0.N = 52 from N_0); omega)
        else
          if h3 : (n + 1) % 52 = 51 then
            False.elim (by have hN : n + 1 < 52 := lt_of_lt_of_eq hn (show cfg0.N = 52 from N_0); omega)
          else
            (out0_B_2 (Ix := Ix) (U := U) (Lvl := Lvl) 𝒱₀ c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (iblk V c 0 ⟨n + 1, hn⟩) (iblk V c 1 ⟨n + 1, hn⟩) (outsAt0 c n (Nat.lt_of_succ_lt hn)).2.1 (outsAt0 c n (Nat.lt_of_succ_lt hn)).2.2, sout0_B_0 (Ix := Ix) (U := U) (Lvl := Lvl) 𝒱₀ c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (iblk V c 0 ⟨n + 1, hn⟩) (iblk V c 1 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (iblk V c 0 ⟨n + 1, hn⟩) (iblk V c 1 ⟨n + 1, hn⟩) (outsAt0 c n (Nat.lt_of_succ_lt hn)).2.1 (outsAt0 c n (Nat.lt_of_succ_lt hn)).2.2)
      else
        if h2 : 24 ≤ (n + 1) then
          if h3 : (n + 1) % 52 = 51 then
            (out0_D_2 (Ix := Ix) (U := U) (Lvl := Lvl) 𝒱₀ c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) ((hcond0_3 ⟨n + 1, hn⟩).mpr h3) (iblk V c 0 ⟨n + 1, hn⟩) (iblk V c 1 ⟨n + 1, hn⟩) (outsAt0 c n (Nat.lt_of_succ_lt hn)).2.1 (outsAt0 c n (Nat.lt_of_succ_lt hn)).2.2, sout0_D_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) ((hcond0_3 ⟨n + 1, hn⟩).mpr h3) (iblk V c 0 ⟨n + 1, hn⟩) (iblk V c 1 ⟨n + 1, hn⟩) (outsAt0 c n (Nat.lt_of_succ_lt hn)).2.1 (outsAt0 c n (Nat.lt_of_succ_lt hn)).2.2, sout0_D_1 (Ix := Ix) (U := U) (Lvl := Lvl) 𝒱₀ c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) ((hcond0_3 ⟨n + 1, hn⟩).mpr h3) (iblk V c 0 ⟨n + 1, hn⟩) (iblk V c 1 ⟨n + 1, hn⟩) (outsAt0 c n (Nat.lt_of_succ_lt hn)).2.1 (outsAt0 c n (Nat.lt_of_succ_lt hn)).2.2)
          else
            (out0_C_2 (Ix := Ix) (U := U) (Lvl := Lvl) 𝒱₀ c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk V c 0 ⟨n + 1, hn⟩) (iblk V c 1 ⟨n + 1, hn⟩) (outsAt0 c n (Nat.lt_of_succ_lt hn)).2.1 (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk V c 0 ⟨n + 1, hn⟩) (iblk V c 1 ⟨n + 1, hn⟩) (outsAt0 c n (Nat.lt_of_succ_lt hn)).2.1 (outsAt0 c n (Nat.lt_of_succ_lt hn)).2.2, sout0_C_1 (Ix := Ix) (U := U) (Lvl := Lvl) 𝒱₀ c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk V c 0 ⟨n + 1, hn⟩) (iblk V c 1 ⟨n + 1, hn⟩) (outsAt0 c n (Nat.lt_of_succ_lt hn)).2.1 (outsAt0 c n (Nat.lt_of_succ_lt hn)).2.2)
        else
          False.elim (by have hN : n + 1 < 52 := lt_of_lt_of_eq hn (show cfg0.N = 52 from N_0); omega)

/-- `outsAt0` at a point of case A: that case's contents. -/
theorem outsAt0_A (c : Dev nD) (t : Fin cfg0.N) (h0 : t.val % 52 = 0) (h1 : t.val < 24) (h2 : ¬24 ≤ t.val) (h3 : ¬t.val % 52 = 51) :
    outsAt0 (Ix := Ix) (U := U) (Lvl := Lvl) 𝒱₀ V c t.val t.isLt = (out0_A_2 (Ix := Ix) (U := U) (Lvl := Lvl) 𝒱₀ c (grid0.coords t) (ms0_0 t) (hs0_0 t) (ms0_1 t) (hs0_1 t) (ms0_2 t) (hs0_2 t) scM0_0 (Memref.isWhole_whole _) scM0_1 (Memref.isWhole_whole _) ((hcond0_0 t).mpr h0) ((hcond0_1 t).mpr h1) (fun h => h2 ((hcond0_2 t).mp h)) (fun h => h3 ((hcond0_3 t).mp h)) (iblk V c 0 t) (iblk V c 1 t), sout0_A_0 (Ix := Ix) (U := U) (Lvl := Lvl) 𝒱₀ c (grid0.coords t) (ms0_0 t) (hs0_0 t) (ms0_1 t) (hs0_1 t) (ms0_2 t) (hs0_2 t) scM0_0 (Memref.isWhole_whole _) scM0_1 (Memref.isWhole_whole _) ((hcond0_0 t).mpr h0) ((hcond0_1 t).mpr h1) (fun h => h2 ((hcond0_2 t).mp h)) (fun h => h3 ((hcond0_3 t).mp h)) (iblk V c 0 t) (iblk V c 1 t), sout0_A_1 (Ix := Ix) (U := U) (Lvl := Lvl) 𝒱₀ c (grid0.coords t) (ms0_0 t) (hs0_0 t) (ms0_1 t) (hs0_1 t) (ms0_2 t) (hs0_2 t) scM0_0 (Memref.isWhole_whole _) scM0_1 (Memref.isWhole_whole _) ((hcond0_0 t).mpr h0) ((hcond0_1 t).mpr h1) (fun h => h2 ((hcond0_2 t).mp h)) (fun h => h3 ((hcond0_3 t).mp h)) (iblk V c 0 t) (iblk V c 1 t)) := by
  obtain ⟨n, hn⟩ := t
  cases n with
  | zero => exact rfl
  | succ n => exact (dif_pos h0).trans ((dif_pos h1).trans ((dif_neg h2).trans ((dif_neg h3).trans rfl)))

/-- `outsAt0` at a point of case B: that case's contents, over what the point before left. -/
theorem outsAt0_B (c : Dev nD) (t : Fin cfg0.N) (h0 : ¬t.val % 52 = 0) (h1 : t.val < 24) (h2 : ¬24 ≤ t.val) (h3 : ¬t.val % 52 = 51) :
    outsAt0 (Ix := Ix) (U := U) (Lvl := Lvl) 𝒱₀ V c t.val t.isLt = (out0_B_2 (Ix := Ix) (U := U) (Lvl := Lvl) 𝒱₀ c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (fun h => h2 ((hcond0_2 t).mp h)) (fun h => h3 ((hcond0_3 t).mp h)) (iblk V c 0 t) (iblk V c 1 t) (outsAt0 (Ix := Ix) (U := U) (Lvl := Lvl) 𝒱₀ V c (t.val - 1) (Nat.lt_of_le_of_lt (Nat.sub_le _ _) t.isLt)).2.1 (outsAt0 (Ix := Ix) (U := U) (Lvl := Lvl) 𝒱₀ V c (t.val - 1) (Nat.lt_of_le_of_lt (Nat.sub_le _ _) t.isLt)).2.2, sout0_B_0 (Ix := Ix) (U := U) (Lvl := Lvl) 𝒱₀ c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (fun h => h2 ((hcond0_2 t).mp h)) (fun h => h3 ((hcond0_3 t).mp h)) (iblk V c 0 t) (iblk V c 1 t) (outsAt0 (Ix := Ix) (U := U) (Lvl := Lvl) 𝒱₀ V c (t.val - 1) (Nat.lt_of_le_of_lt (Nat.sub_le _ _) t.isLt)).2.1 (outsAt0 (Ix := Ix) (U := U) (Lvl := Lvl) 𝒱₀ V c (t.val - 1) (Nat.lt_of_le_of_lt (Nat.sub_le _ _) t.isLt)).2.2, sout0_B_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (fun h => h2 ((hcond0_2 t).mp h)) (fun h => h3 ((hcond0_3 t).mp h)) (iblk V c 0 t) (iblk V c 1 t) (outsAt0 (Ix := Ix) (U := U) (Lvl := Lvl) 𝒱₀ V c (t.val - 1) (Nat.lt_of_le_of_lt (Nat.sub_le _ _) t.isLt)).2.1 (outsAt0 (Ix := Ix) (U := U) (Lvl := Lvl) 𝒱₀ V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans ((dif_neg h2).trans ((dif_neg h3).trans rfl)))

/-- `outsAt0` at a point of case C: that case's contents, over what the point before left. -/
theorem outsAt0_C (c : Dev nD) (t : Fin cfg0.N) (h0 : ¬t.val % 52 = 0) (h1 : ¬t.val < 24) (h2 : 24 ≤ t.val) (h3 : ¬t.val % 52 = 51) :
    outsAt0 (Ix := Ix) (U := U) (Lvl := Lvl) 𝒱₀ V c t.val t.isLt = (out0_C_2 (Ix := Ix) (U := U) (Lvl := Lvl) 𝒱₀ c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk V c 0 t) (iblk V c 1 t) (outsAt0 (Ix := Ix) (U := U) (Lvl := Lvl) 𝒱₀ V c (t.val - 1) (Nat.lt_of_le_of_lt (Nat.sub_le _ _) t.isLt)).2.1 (outsAt0 (Ix := Ix) (U := U) (Lvl := Lvl) 𝒱₀ V c (t.val - 1) (Nat.lt_of_le_of_lt (Nat.sub_le _ _) t.isLt)).2.2, sout0_C_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk V c 0 t) (iblk V c 1 t) (outsAt0 (Ix := Ix) (U := U) (Lvl := Lvl) 𝒱₀ V c (t.val - 1) (Nat.lt_of_le_of_lt (Nat.sub_le _ _) t.isLt)).2.1 (outsAt0 (Ix := Ix) (U := U) (Lvl := Lvl) 𝒱₀ V c (t.val - 1) (Nat.lt_of_le_of_lt (Nat.sub_le _ _) t.isLt)).2.2, sout0_C_1 (Ix := Ix) (U := U) (Lvl := Lvl) 𝒱₀ c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk V c 0 t) (iblk V c 1 t) (outsAt0 (Ix := Ix) (U := U) (Lvl := Lvl) 𝒱₀ V c (t.val - 1) (Nat.lt_of_le_of_lt (Nat.sub_le _ _) t.isLt)).2.1 (outsAt0 (Ix := Ix) (U := U) (Lvl := Lvl) 𝒱₀ V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans ((dif_pos h2).trans ((dif_neg h3).trans rfl)))

/-- `outsAt0` at a point of case D: that case's contents, over what the point before left. -/
theorem outsAt0_D (c : Dev nD) (t : Fin cfg0.N) (h0 : ¬t.val % 52 = 0) (h1 : ¬t.val < 24) (h2 : 24 ≤ t.val) (h3 : t.val % 52 = 51) :
    outsAt0 (Ix := Ix) (U := U) (Lvl := Lvl) 𝒱₀ V c t.val t.isLt = (out0_D_2 (Ix := Ix) (U := U) (Lvl := Lvl) 𝒱₀ c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk V c 0 t) (iblk V c 1 t) (outsAt0 (Ix := Ix) (U := U) (Lvl := Lvl) 𝒱₀ V c (t.val - 1) (Nat.lt_of_le_of_lt (Nat.sub_le _ _) t.isLt)).2.1 (outsAt0 (Ix := Ix) (U := U) (Lvl := Lvl) 𝒱₀ V c (t.val - 1) (Nat.lt_of_le_of_lt (Nat.sub_le _ _) t.isLt)).2.2, sout0_D_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk V c 0 t) (iblk V c 1 t) (outsAt0 (Ix := Ix) (U := U) (Lvl := Lvl) 𝒱₀ V c (t.val - 1) (Nat.lt_of_le_of_lt (Nat.sub_le _ _) t.isLt)).2.1 (outsAt0 (Ix := Ix) (U := U) (Lvl := Lvl) 𝒱₀ V c (t.val - 1) (Nat.lt_of_le_of_lt (Nat.sub_le _ _) t.isLt)).2.2, sout0_D_1 (Ix := Ix) (U := U) (Lvl := Lvl) 𝒱₀ c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk V c 0 t) (iblk V c 1 t) (outsAt0 (Ix := Ix) (U := U) (Lvl := Lvl) 𝒱₀ V c (t.val - 1) (Nat.lt_of_le_of_lt (Nat.sub_le _ _) t.isLt)).2.1 (outsAt0 (Ix := Ix) (U := U) (Lvl := Lvl) 𝒱₀ V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans ((dif_pos h2).trans ((dif_pos h3).trans rfl)))

/-- The region invariant before position `n` with a scratch the kernel CARRIES between points: before the first point the
    class's (the library's `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => (ΦK (F := F) (Ix := Ix) (U := U) (Lvl := Lvl) c)
  | n + 1, hn => iprop(iprop(owns (c : Thread nD τ) scM0_0 fullShare ((outsAt0 (Ix := Ix) (U := U) (Lvl := Lvl) 𝒱₀ V c n hn).2.1) ∗ owns (c : Thread nD τ) scM0_1 fullShare ((outsAt0 (Ix := Ix) (U := U) (Lvl := Lvl) 𝒱₀ V c n hn).2.2) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f)) ∗ (∃ r, prngReg c r))

theorem PhiS_zero (c : Dev nD) (n : ℕ) (h : n ≤ cfg0.N) (hz : n = 0) : PhiS (Ix := Ix) (U := U) (Lvl := Lvl) 𝒱₀ V c n h = (ΦK (F := F) (Ix := Ix) (U := U) (Lvl := Lvl) c) := by
  subst hz; rfl

/-- After point `n` (before point `n + 1`): the carried scratch at that point's contents. -/
theorem PhiS_succ (c : Dev nD) (n : ℕ) (hn : n < cfg0.N) :
    PhiS (Ix := Ix) (U := U) (Lvl := Lvl) 𝒱₀ V c (n + 1) hn = iprop(iprop(owns (c : Thread nD τ) scM0_0 fullShare ((outsAt0 (Ix := Ix) (U := U) (Lvl := Lvl) 𝒱₀ V c n hn).2.1) ∗ owns (c : Thread nD τ) scM0_1 fullShare ((outsAt0 (Ix := Ix) (U := U) (Lvl := Lvl) 𝒱₀ V c n hn).2.2) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f)) ∗ (∃ r, prngReg c r)) := rfl

/-- Before a point that is not the first: the carried scratch at what the point before left. -/
theorem PhiS_pos (c : Dev nD) (n : ℕ) (h : n ≤ cfg0.N) (hz : n ≠ 0) :
    PhiS (Ix := Ix) (U := U) (Lvl := Lvl) 𝒱₀ V c n h = iprop(iprop(owns (c : Thread nD τ) scM0_0 fullShare ((outsAt0 (Ix := Ix) (U := U) (Lvl := Lvl) 𝒱₀ V c (n - 1) (by omega)).2.1) ∗ owns (c : Thread nD τ) scM0_1 fullShare ((outsAt0 (Ix := Ix) (U := U) (Lvl := Lvl) 𝒱₀ V c (n - 1) (by omega)).2.2) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f)) ∗ (∃ r, prngReg c r)) := by
  cases n with
  | zero => exact absurd rfl hz
  | succ n => rfl

/-! ## The pipeline's proof data -/

/-- The proof data of pipeline 0 on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dat (c : Dev nD) : Dat τ (Elt F) Ix ℕ U Lvl cfg0 c where
  A w := V c (Pipeline.arrRef spec0 w)
  after w t := match w with
    | ⟨0, _⟩ => iblk V c 0 t
    | ⟨1, _⟩ => iblk V c 1 t
    | ⟨2, _⟩ => (outsAt0 (Ix := Ix) (U := U) (Lvl := Lvl) 𝒱₀ V c t.val t.isLt).1
  Φ t := PhiS (Ix := Ix) (U := U) (Lvl := Lvl) 𝒱₀ V c t.val (Nat.le_of_lt_succ t.isLt)
  q _ := fullShare
  owed _ := D c

variable (ι : Ix)

/-- The proof data's arrays are the region-entry contents `V`: the proof data's definition projected (`dsimp`). -/
theorem A_eq (c : Dev nD) (w : Fin cfg0.W) : (dat (Ix := Ix) (U := U) (Lvl := Lvl) 𝒱₀ V D c).A w = V c (Pipeline.arrRef spec0 w) := by
  dsimp only [dat]

/-- The invariant at a point's start (the proof data at `t.castSucc`), restated at `t.val`. -/
theorem PhiS_castSucc (c : Dev nD) (t : Fin cfg0.N) :
    (dat (Ix := Ix) (U := U) (Lvl := Lvl) 𝒱₀ V D c).Φ t.castSucc = PhiS (Ix := Ix) (U := U) (Lvl := Lvl) 𝒱₀ V c t.val (Nat.le_of_lt t.isLt) := by
  dsimp only [dat]; exact Pipeline.Dat.Φ_castSucc (PhiS (Ix := Ix) (U := U) (Lvl := Lvl) 𝒱₀ V c) t

/-- What the body leaves, window by window (the proof data's `match` reduced by `dsimp`). -/
theorem after0_0 (c : Dev nD) (t : Fin cfg0.N) : (dat (Ix := Ix) (U := U) (Lvl := Lvl) 𝒱₀ V D c).after 0 t = iblk V c 0 t := by dsimp only [dat]
theorem after0_1 (c : Dev nD) (t : Fin cfg0.N) : (dat (Ix := Ix) (U := U) (Lvl := Lvl) 𝒱₀ V D c).after 1 t = iblk V c 1 t := by dsimp only [dat]
theorem after0_2 (c : Dev nD) (t : Fin cfg0.N) : (dat (Ix := Ix) (U := U) (Lvl := Lvl) 𝒱₀ V D c).after 2 t = (outsAt0 (Ix := Ix) (U := U) (Lvl := Lvl) 𝒱₀ V c t.val t.isLt).1 := by dsimp only [dat]

/-- Each input's current staging buffer holds its block at every point, fetched there or not (`beforeK_W_of`). -/
theorem before0_0 (c : Dev nD) (t : Fin cfg0.N) (d) : (dat (Ix := Ix) (U := U) (Lvl := Lvl) 𝒱₀ V D c).before 0 t d = iblk V c 0 t :=
  before0_0_of V (dat (Ix := Ix) (U := U) (Lvl := Lvl) 𝒱₀ V D c) (A_eq 𝒱₀ V D c 0) (after0_0 𝒱₀ V D c) t d
theorem before0_1 (c : Dev nD) (t : Fin cfg0.N) (d) : (dat (Ix := Ix) (U := U) (Lvl := Lvl) 𝒱₀ V D c).before 1 t d = iblk V c 1 t :=
  before0_1_of V (dat (Ix := Ix) (U := U) (Lvl := Lvl) 𝒱₀ V D c) (A_eq 𝒱₀ V D c 1) (after0_1 𝒱₀ V D c) t d

/-! ## The body obligation, at a generic point -/

/-- What the body is called with at point `t` (the library's `BodyObligation`'s precondition, the windows one by one), -/
def bodyPre (c : Dev nD) (t : Fin cfg0.N) : sProp 𝕄 :=
  iprop((dat (Ix := Ix) (U := U) (Lvl := Lvl) 𝒱₀ V D c).Φ t.castSucc ∗ (dat (Ix := Ix) (U := U) (Lvl := Lvl) 𝒱₀ V D c).owesAt ι t.castSucc
    ∗ (∃ d, owns (c : Thread nD τ) (ms0_0 t) fullShare ((dat (Ix := Ix) (U := U) (Lvl := Lvl) 𝒱₀ V D c).before 0 t d))
    ∗ (∃ d, owns (c : Thread nD τ) (ms0_1 t) fullShare ((dat (Ix := Ix) (U := U) (Lvl := Lvl) 𝒱₀ V D c).before 1 t d))
    ∗ (∃ d, owns (c : Thread nD τ) (ms0_2 t) fullShare ((dat (Ix := Ix) (U := U) (Lvl := Lvl) 𝒱₀ V D c).before 2 t d)))

/-- and what it returns. -/
def bodyPost (c : Dev nD) (t : Fin cfg0.N) : sProp 𝕄 :=
  iprop((dat (Ix := Ix) (U := U) (Lvl := Lvl) 𝒱₀ V D c).Φ t.succ ∗ (dat (Ix := Ix) (U := U) (Lvl := Lvl) 𝒱₀ V D c).owesAt ι t.succ
    ∗ (dat (Ix := Ix) (U := U) (Lvl := Lvl) 𝒱₀ V D c).leavesExact 0 t
    ∗ (dat (Ix := Ix) (U := U) (Lvl := Lvl) 𝒱₀ V D c).leavesExact 1 t
    ∗ (dat (Ix := Ix) (U := U) (Lvl := Lvl) 𝒱₀ V D c).leavesExact 2 t)

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes `D c` throughout. -/
theorem sound_body (c : Dev nD) (t : Fin cfg0.N) :
    bodyPre (U := U) (Lvl := Lvl) 𝒱₀ V D ι c t ⊢ wp frame (wpE (defs₀ (F := F)) 𝒱₀ c none) Set.univ (bodyAt0 t) (fun _ => bodyPost (U := U) (Lvl := Lvl) 𝒱₀ V D ι c t) := by
  unfold bodyPre bodyPost bodyAt0
  simp only [before0_0, before0_1]
  rw [show (dat (Ix := Ix) (U := U) (Lvl := Lvl) 𝒱₀ V D c).owesAt ι t.succ = (dat (Ix := Ix) (U := U) (Lvl := Lvl) 𝒱₀ V D c).owesAt ι t.castSucc from rfl]
  rw [show (dat (Ix := Ix) (U := U) (Lvl := Lvl) 𝒱₀ V D c).Φ t.succ = PhiS (Ix := Ix) (U := U) (Lvl := Lvl) 𝒱₀ V c (t.val + 1) t.isLt from rfl, PhiS_succ (Ix := Ix) (U := U) (Lvl := Lvl) 𝒱₀ V c t.val t.isLt]
  have hN : t.val < 52 := lt_of_lt_of_eq t.isLt (show cfg0.N = 52 from N_0)
  by_cases h0 : t.val % 52 = 0
  · by_cases h1 : t.val < 24
    · by_cases h2 : 24 ≤ t.val
      · exfalso; omega
      · by_cases h3 : t.val % 52 = 51
        · exfalso; omega
        · rw [show (dat (Ix := Ix) (U := U) (Lvl := Lvl) 𝒱₀ V D c).leavesExact 0 t = owns (c : Thread nD τ) (ms0_0 t) fullShare ((dat (Ix := Ix) (U := U) (Lvl := Lvl) 𝒱₀ V D c).after 0 t) from by
      unfold Dat.leavesExact; rw [liveAt0_0 t], after0_0]
          rw [show (dat (Ix := Ix) (U := U) (Lvl := Lvl) 𝒱₀ V D c).leavesExact 1 t = owns (c : Thread nD τ) (ms0_1 t) fullShare ((dat (Ix := Ix) (U := U) (Lvl := Lvl) 𝒱₀ V D c).after 1 t) from by
      unfold Dat.leavesExact; rw [liveAt0_1 t], after0_1]
          rw [Dat.leavesExact_idle (dat (Ix := Ix) (U := U) (Lvl := Lvl) 𝒱₀ V D c) 2 t (idleAt0_2_A t ((hcond0_0 t).mpr h0) ((hcond0_1 t).mpr h1) (fun h => h2 ((hcond0_2 t).mp h)) (fun h => h3 ((hcond0_3 t).mp h))) (noFlush0_2_A t ((hcond0_0 t).mpr h0) ((hcond0_1 t).mpr h1) (fun h => h2 ((hcond0_2 t).mp h)) (fun h => h3 ((hcond0_3 t).mp h)))]
          by_cases hz : t.val = 0
          · rw [PhiS_castSucc 𝒱₀ V D c t, PhiS_zero (Ix := Ix) (U := U) (Lvl := Lvl) 𝒱₀ V c _ _ hz, PhiA0_eq]
            rw [outsAt0_A (Ix := Ix) (U := U) (Lvl := Lvl) 𝒱₀ V c t h0 h1 h2 h3]
            unfold sout0_A_0 sout0_A_1; (try dsimp only)
            iintro ⟨⟨⟨HS0, HS1, HR2, HR3, HR4, HR5, HR6, HR7, HR8, HR9, HR10, HR11, HR12, HR13, HR14, HR15⟩, Hg⟩, Ho, ⟨%d0, H0⟩, ⟨%d1, H1⟩, ⟨%d2, H2⟩⟩
            iapply ((kernelRun0_A (Ix := Ix) (U := U) (Lvl := Lvl) 𝒱₀ c (grid0.coords t) _ _ _ _ _ _ _ _ _ _ ((hcond0_0 t).mpr h0) ((hcond0_1 t).mpr h1) (fun h => h2 ((hcond0_2 t).mp h)) (fun h => h3 ((hcond0_3 t).mp h)) (iblk V c 0 t) (iblk V c 1 t)).2.2.2 _ Set.univ _)
            isplitl [H0]; · iexact H0
            isplitl [H1]; · iexact H1
            isplitl [H2]; · iexact H2
            isplitl [HS0]; · iexact HS0
            isplitl [HS1]; · iexact HS1
            iintro ⟨H0, H1, H2, ⟨%es0, HS0⟩, ⟨%es1, HS1⟩⟩
            isplitl [HS0 HS1 HR2 HR3 HR4 HR5 HR6 HR7 HR8 HR9 HR10 HR11 HR12 HR13 HR14 HR15 Hg]
            · isplitl [HS0 HS1 HR2 HR3 HR4 HR5 HR6 HR7 HR8 HR9 HR10 HR11 HR12 HR13 HR14 HR15]
              · isplitl [HS0]
                · unfold owns; iexists _; isplitr
                  swap; · iexact HS0
                  ipureintro; exact View.read_writes_of_cover _ _ _ _ _ (scover0_A_0 (Ix := Ix) (U := U) (Lvl := Lvl) 𝒱₀ c _ _ _ _ _ _ _ _ _ _ _ _ _ _ _ _ _)
                isplitl [HS1]
                · unfold owns; iexists _; isplitr
                  swap; · iexact HS1
                  ipureintro; exact View.read_writes_of_cover _ _ _ _ _ (scover0_A_1 (Ix := Ix) (U := U) (Lvl := Lvl) 𝒱₀ c _ _ _ _ _ _ _ _ _ _ _ _ _ _ _ _ _)
                isplitl [HR2]
                · iexact HR2
                isplitl [HR3]
                · iexact HR3
                isplitl [HR4]
                · iexact HR4
                isplitl [HR5]
                · iexact HR5
                isplitl [HR6]
                · iexact HR6
                isplitl [HR7]
                · iexact HR7
                isplitl [HR8]
                · iexact HR8
                isplitl [HR9]
                · iexact HR9
                isplitl [HR10]
                · iexact HR10
                isplitl [HR11]
                · iexact HR11
                isplitl [HR12]
                · iexact HR12
                isplitl [HR13]
                · iexact HR13
                isplitl [HR14]
                · iexact HR14
                iexact HR15
              iexact Hg
            isplitl [Ho]; · iexact Ho
            isplitl [H0]; · iexact H0
            isplitl [H1]; · iexact H1
            iexists _; iexact H2
          · exfalso; have hN : t.val < 52 := lt_of_lt_of_eq t.isLt (show cfg0.N = 52 from N_0); omega
    · exfalso; omega
  · by_cases h1 : t.val < 24
    · by_cases h2 : 24 ≤ t.val
      · exfalso; omega
      · by_cases h3 : t.val % 52 = 51
        · exfalso; omega
        · rw [show (dat (Ix := Ix) (U := U) (Lvl := Lvl) 𝒱₀ V D c).leavesExact 0 t = owns (c : Thread nD τ) (ms0_0 t) fullShare ((dat (Ix := Ix) (U := U) (Lvl := Lvl) 𝒱₀ V D c).after 0 t) from by
      unfold Dat.leavesExact; rw [liveAt0_0 t], after0_0]
          rw [show (dat (Ix := Ix) (U := U) (Lvl := Lvl) 𝒱₀ V D c).leavesExact 1 t = owns (c : Thread nD τ) (ms0_1 t) fullShare ((dat (Ix := Ix) (U := U) (Lvl := Lvl) 𝒱₀ V D c).after 1 t) from by
      unfold Dat.leavesExact; rw [liveAt0_1 t], after0_1]
          rw [Dat.leavesExact_idle (dat (Ix := Ix) (U := U) (Lvl := Lvl) 𝒱₀ V D c) 2 t (idleAt0_2_B t (fun h => h0 ((hcond0_0 t).mp h)) ((hcond0_1 t).mpr h1) (fun h => h2 ((hcond0_2 t).mp h)) (fun h => h3 ((hcond0_3 t).mp h))) (noFlush0_2_B t (fun h => h0 ((hcond0_0 t).mp h)) ((hcond0_1 t).mpr h1) (fun h => h2 ((hcond0_2 t).mp h)) (fun h => h3 ((hcond0_3 t).mp h)))]
          by_cases hz : t.val = 0
          · exfalso; have hN : t.val < 52 := lt_of_lt_of_eq t.isLt (show cfg0.N = 52 from N_0); omega
          · rw [PhiS_castSucc 𝒱₀ V D c t, PhiS_pos (Ix := Ix) (U := U) (Lvl := Lvl) 𝒱₀ V c _ _ hz]
            rw [outsAt0_B (Ix := Ix) (U := U) (Lvl := Lvl) 𝒱₀ V c t h0 h1 h2 h3]
            unfold sout0_B_0 sout0_B_1; (try dsimp only)
            iintro ⟨⟨⟨HS0, HS1, HR2, HR3, HR4, HR5, HR6, HR7, HR8, HR9, HR10, HR11, HR12, HR13, HR14, HR15⟩, Hg⟩, Ho, ⟨%d0, H0⟩, ⟨%d1, H1⟩, ⟨%d2, H2⟩⟩
            iapply ((kernelRun0_B (Ix := Ix) (U := U) (Lvl := Lvl) 𝒱₀ c (grid0.coords t) _ _ _ _ _ _ _ _ _ _ (fun h => h0 ((hcond0_0 t).mp h)) ((hcond0_1 t).mpr h1) (fun h => h2 ((hcond0_2 t).mp h)) (fun h => h3 ((hcond0_3 t).mp h)) (iblk V c 0 t) (iblk V c 1 t) _ _).2.2.2 _ Set.univ _)
            isplitl [H0]; · iexact H0
            isplitl [H1]; · iexact H1
            isplitl [H2]; · iexact H2
            isplitl [HS0]; · iexact HS0
            isplitl [HS1]; · iexact HS1
            iintro ⟨H0, H1, H2, ⟨%es0, HS0⟩, HS1⟩
            isplitl [HS0 HS1 HR2 HR3 HR4 HR5 HR6 HR7 HR8 HR9 HR10 HR11 HR12 HR13 HR14 HR15 Hg]
            · isplitl [HS0 HS1 HR2 HR3 HR4 HR5 HR6 HR7 HR8 HR9 HR10 HR11 HR12 HR13 HR14 HR15]
              · isplitl [HS0]
                · unfold owns; iexists _; isplitr
                  swap; · iexact HS0
                  ipureintro; exact View.read_writes_of_cover _ _ _ _ _ (scover0_B_0 (Ix := Ix) (U := U) (Lvl := Lvl) 𝒱₀ c _ _ _ _ _ _ _ _ _ _ _ _ _ _ _ _ _ _ _)
                isplitl [HS1]
                · iexact HS1
                isplitl [HR2]
                · iexact HR2
                isplitl [HR3]
                · iexact HR3
                isplitl [HR4]
                · iexact HR4
                isplitl [HR5]
                · iexact HR5
                isplitl [HR6]
                · iexact HR6
                isplitl [HR7]
                · iexact HR7
                isplitl [HR8]
                · iexact HR8
                isplitl [HR9]
                · iexact HR9
                isplitl [HR10]
                · iexact HR10
                isplitl [HR11]
                · iexact HR11
                isplitl [HR12]
                · iexact HR12
                isplitl [HR13]
                · iexact HR13
                isplitl [HR14]
                · iexact HR14
                iexact HR15
              iexact Hg
            isplitl [Ho]; · iexact Ho
            isplitl [H0]; · iexact H0
            isplitl [H1]; · iexact H1
            iexists _; iexact H2
    · by_cases h2 : 24 ≤ t.val
      · by_cases h3 : t.val % 52 = 51
        · rw [show (dat (Ix := Ix) (U := U) (Lvl := Lvl) 𝒱₀ V D c).leavesExact 0 t = owns (c : Thread nD τ) (ms0_0 t) fullShare ((dat (Ix := Ix) (U := U) (Lvl := Lvl) 𝒱₀ V D c).after 0 t) from by
      unfold Dat.leavesExact; rw [liveAt0_0 t], after0_0]
          rw [show (dat (Ix := Ix) (U := U) (Lvl := Lvl) 𝒱₀ V D c).leavesExact 1 t = owns (c : Thread nD τ) (ms0_1 t) fullShare ((dat (Ix := Ix) (U := U) (Lvl := Lvl) 𝒱₀ V D c).after 1 t) from by
      unfold Dat.leavesExact; rw [liveAt0_1 t], after0_1]
          rw [show (dat (Ix := Ix) (U := U) (Lvl := Lvl) 𝒱₀ V D c).leavesExact 2 t = owns (c : Thread nD τ) (ms0_2 t) fullShare ((dat (Ix := Ix) (U := U) (Lvl := Lvl) 𝒱₀ V D c).after 2 t) from by
      unfold Dat.leavesExact; rw [liveAt0_2_D t (fun h => h0 ((hcond0_0 t).mp h)) (fun h => h1 ((hcond0_1 t).mp h)) ((hcond0_2 t).mpr h2) ((hcond0_3 t).mpr h3)], after0_2]
          by_cases hz : t.val = 0
          · exfalso; have hN : t.val < 52 := lt_of_lt_of_eq t.isLt (show cfg0.N = 52 from N_0); omega
          · rw [PhiS_castSucc 𝒱₀ V D c t, PhiS_pos (Ix := Ix) (U := U) (Lvl := Lvl) 𝒱₀ V c _ _ hz]
            rw [outsAt0_D (Ix := Ix) (U := U) (Lvl := Lvl) 𝒱₀ V c t h0 h1 h2 h3]
            unfold out0_D_2 sout0_D_0 sout0_D_1; (try dsimp only)
            iintro ⟨⟨⟨HS0, HS1, HR2, HR3, HR4, HR5, HR6, HR7, HR8, HR9, HR10, HR11, HR12, HR13, HR14, HR15⟩, Hg⟩, Ho, ⟨%d0, H0⟩, ⟨%d1, H1⟩, ⟨%d2, H2⟩⟩
            iapply ((kernelRun0_D (Ix := Ix) (U := U) (Lvl := Lvl) 𝒱₀ c (grid0.coords t) _ _ _ _ _ _ _ _ _ _ (fun h => h0 ((hcond0_0 t).mp h)) (fun h => h1 ((hcond0_1 t).mp h)) ((hcond0_2 t).mpr h2) ((hcond0_3 t).mpr h3) (iblk V c 0 t) (iblk V c 1 t) _ _).2.2.2 Set.univ _)
            isplitl [H0]; · iexact H0
            isplitl [H1]; · iexact H1
            isplitl [H2]; · iexists _; iexact H2
            isplitl [HS0]; · iexact HS0
            isplitl [HS1]; · iexact HS1
            iintro ⟨H0, H1, ⟨%e2, H2⟩, HS0, ⟨%es1, HS1⟩⟩
            isplitl [HS0 HS1 HR2 HR3 HR4 HR5 HR6 HR7 HR8 HR9 HR10 HR11 HR12 HR13 HR14 HR15 Hg]
            · isplitl [HS0 HS1 HR2 HR3 HR4 HR5 HR6 HR7 HR8 HR9 HR10 HR11 HR12 HR13 HR14 HR15]
              · isplitl [HS0]
                · iexact HS0
                isplitl [HS1]
                · unfold owns; iexists _; isplitr
                  swap; · iexact HS1
                  ipureintro; exact View.read_writes_of_cover _ _ _ _ _ (scover0_D_1 (Ix := Ix) (U := U) (Lvl := Lvl) 𝒱₀ c _ _ _ _ _ _ _ _ _ _ _ _ _ _ _ _ _ _ _)
                isplitl [HR2]
                · iexact HR2
                isplitl [HR3]
                · iexact HR3
                isplitl [HR4]
                · iexact HR4
                isplitl [HR5]
                · iexact HR5
                isplitl [HR6]
                · iexact HR6
                isplitl [HR7]
                · iexact HR7
                isplitl [HR8]
                · iexact HR8
                isplitl [HR9]
                · iexact HR9
                isplitl [HR10]
                · iexact HR10
                isplitl [HR11]
                · iexact HR11
                isplitl [HR12]
                · iexact HR12
                isplitl [HR13]
                · iexact HR13
                isplitl [HR14]
                · iexact HR14
                iexact HR15
              iexact Hg
            isplitl [Ho]; · iexact Ho
            isplitl [H0]; · iexact H0
            isplitl [H1]; · iexact H1
            unfold owns; iexists _; isplitr
            swap; · iexact H2
            ipureintro; exact View.read_writes_of_cover _ _ _ _ _ (cover0_D_2 (Ix := Ix) (U := U) (Lvl := Lvl) 𝒱₀ c _ _ _ _ _ _ _ _ _ _ _ _ _ _ _ _ _ _ _)
        · rw [show (dat (Ix := Ix) (U := U) (Lvl := Lvl) 𝒱₀ V D c).leavesExact 0 t = owns (c : Thread nD τ) (ms0_0 t) fullShare ((dat (Ix := Ix) (U := U) (Lvl := Lvl) 𝒱₀ V D c).after 0 t) from by
      unfold Dat.leavesExact; rw [liveAt0_0 t], after0_0]
          rw [show (dat (Ix := Ix) (U := U) (Lvl := Lvl) 𝒱₀ V D c).leavesExact 1 t = owns (c : Thread nD τ) (ms0_1 t) fullShare ((dat (Ix := Ix) (U := U) (Lvl := Lvl) 𝒱₀ V D c).after 1 t) from by
      unfold Dat.leavesExact; rw [liveAt0_1 t], after0_1]
          rw [Dat.leavesExact_idle (dat (Ix := Ix) (U := U) (Lvl := Lvl) 𝒱₀ V D c) 2 t (idleAt0_2_C t (fun h => h0 ((hcond0_0 t).mp h)) (fun h => h1 ((hcond0_1 t).mp h)) ((hcond0_2 t).mpr h2) (fun h => h3 ((hcond0_3 t).mp h))) (noFlush0_2_C t (fun h => h0 ((hcond0_0 t).mp h)) (fun h => h1 ((hcond0_1 t).mp h)) ((hcond0_2 t).mpr h2) (fun h => h3 ((hcond0_3 t).mp h)))]
          by_cases hz : t.val = 0
          · exfalso; have hN : t.val < 52 := lt_of_lt_of_eq t.isLt (show cfg0.N = 52 from N_0); omega
          · rw [PhiS_castSucc 𝒱₀ V D c t, PhiS_pos (Ix := Ix) (U := U) (Lvl := Lvl) 𝒱₀ V c _ _ hz]
            rw [outsAt0_C (Ix := Ix) (U := U) (Lvl := Lvl) 𝒱₀ V c t h0 h1 h2 h3]
            unfold sout0_C_0 sout0_C_1; (try dsimp only)
            iintro ⟨⟨⟨HS0, HS1, HR2, HR3, HR4, HR5, HR6, HR7, HR8, HR9, HR10, HR11, HR12, HR13, HR14, HR15⟩, Hg⟩, Ho, ⟨%d0, H0⟩, ⟨%d1, H1⟩, ⟨%d2, H2⟩⟩
            iapply ((kernelRun0_C (Ix := Ix) (U := U) (Lvl := Lvl) 𝒱₀ c (grid0.coords t) _ _ _ _ _ _ _ _ _ _ (fun h => h0 ((hcond0_0 t).mp h)) (fun h => h1 ((hcond0_1 t).mp h)) ((hcond0_2 t).mpr h2) (fun h => h3 ((hcond0_3 t).mp h)) (iblk V c 0 t) (iblk V c 1 t) _ _).2.2.2 _ Set.univ _)
            isplitl [H0]; · iexact H0
            isplitl [H1]; · iexact H1
            isplitl [H2]; · iexact H2
            isplitl [HS0]; · iexact HS0
            isplitl [HS1]; · iexact HS1
            iintro ⟨H0, H1, H2, HS0, ⟨%es1, HS1⟩⟩
            isplitl [HS0 HS1 HR2 HR3 HR4 HR5 HR6 HR7 HR8 HR9 HR10 HR11 HR12 HR13 HR14 HR15 Hg]
            · isplitl [HS0 HS1 HR2 HR3 HR4 HR5 HR6 HR7 HR8 HR9 HR10 HR11 HR12 HR13 HR14 HR15]
              · isplitl [HS0]
                · iexact HS0
                isplitl [HS1]
                · unfold owns; iexists _; isplitr
                  swap; · iexact HS1
                  ipureintro; exact View.read_writes_of_cover _ _ _ _ _ (scover0_C_1 (Ix := Ix) (U := U) (Lvl := Lvl) 𝒱₀ c _ _ _ _ _ _ _ _ _ _ _ _ _ _ _ _ _ _ _)
                isplitl [HR2]
                · iexact HR2
                isplitl [HR3]
                · iexact HR3
                isplitl [HR4]
                · iexact HR4
                isplitl [HR5]
                · iexact HR5
                isplitl [HR6]
                · iexact HR6
                isplitl [HR7]
                · iexact HR7
                isplitl [HR8]
                · iexact HR8
                isplitl [HR9]
                · iexact HR9
                isplitl [HR10]
                · iexact HR10
                isplitl [HR11]
                · iexact HR11
                isplitl [HR12]
                · iexact HR12
                isplitl [HR13]
                · iexact HR13
                isplitl [HR14]
                · iexact HR14
                iexact HR15
              iexact Hg
            isplitl [Ho]; · iexact Ho
            isplitl [H0]; · iexact H0
            isplitl [H1]; · iexact H1
            iexists _; iexact H2
      · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (the library's `triple_restated`). -/
theorem body_obligation (c : Dev nD) : BodyObligation (dat (Ix := Ix) (U := U) (Lvl := Lvl) 𝒱₀ V D c) (defs₀ (F := F)) 𝒱₀ ι Set.univ := fun t => by
  rw [bigSep_W0, bigSep_W0, defs₀_row]
  exact triple_restated (sound_body (U := U) (Lvl := Lvl) 𝒱₀ V D ι c t) rfl .rfl fun _ => .rfl

/-- What the launch hands the region (`ΦA`) is the invariant before the first point. -/
theorem hin (c : Dev nD) : (ΦK (F := F) (Ix := Ix) (U := U) (Lvl := Lvl) c) ⊢ (dat (Ix := Ix) (U := U) (Lvl := Lvl) 𝒱₀ V D c).Φ 0 := by
  rw [show (dat (Ix := Ix) (U := U) (Lvl := Lvl) 𝒱₀ V D c).Φ 0 = PhiS (Ix := Ix) (U := U) (Lvl := Lvl) 𝒱₀ V c 0 (Nat.zero_le _) from rfl, PhiS_zero (Ix := Ix) (U := U) (Lvl := Lvl) 𝒱₀ V c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dat (Ix := Ix) (U := U) (Lvl := Lvl) 𝒱₀ V D c).Φ t ⊢ (ΦK (F := F) (Ix := Ix) (U := U) (Lvl := Lvl) c) := by
  rw [show (dat (Ix := Ix) (U := U) (Lvl := Lvl) 𝒱₀ V D c).Φ t = PhiS (Ix := Ix) (U := U) (Lvl := Lvl) 𝒱₀ V c t.val (Nat.le_of_lt_succ t.isLt) from rfl, PhiS_pos (Ix := Ix) (U := U) (Lvl := Lvl) 𝒱₀ V c _ _ ht, PhiA0_eq]
  iintro ⟨⟨HS0, HS1, HR2, HR3, HR4, HR5, HR6, HR7, HR8, HR9, HR10, HR11, HR12, HR13, HR14, HR15⟩, Hg⟩
  isplitl [HS0 HS1 HR2 HR3 HR4 HR5 HR6 HR7 HR8 HR9 HR10 HR11 HR12 HR13 HR14 HR15]
  · isplitl [HS0]
    · iexists _; iexact HS0
    isplitl [HS1]
    · iexists _; iexact HS1
    isplitl [HR2]
    · iexact HR2
    isplitl [HR3]
    · iexact HR3
    isplitl [HR4]
    · iexact HR4
    isplitl [HR5]
    · iexact HR5
    isplitl [HR6]
    · iexact HR6
    isplitl [HR7]
    · iexact HR7
    isplitl [HR8]
    · iexact HR8
    isplitl [HR9]
    · iexact HR9
    isplitl [HR10]
    · iexact HR10
    isplitl [HR11]
    · iexact HR11
    isplitl [HR12]
    · iexact HR12
    isplitl [HR13]
    · iexact HR13
    isplitl [HR14]
    · iexact HR14
    iexact HR15
  iexact Hg

/-- The same after the last point. -/
theorem hout (c : Dev nD) : (dat (Ix := Ix) (U := U) (Lvl := Lvl) 𝒱₀ V D c).Φ (Fin.last cfg0.N) ⊢ (ΦK (F := F) (Ix := Ix) (U := U) (Lvl := Lvl) c) :=
  Phi_out 𝒱₀ V D c _ (by rw [Fin.val_last]; have : cfg0.N = 52 := N_0; omega)

end Cert.Kernel.Own.K0

end
-- ==== Proof.Kernel.K1.lean ====
/- Custom call 1 of `Kernel`: the kernel's run, the proof data and the body obligation, for any index type, level type,
   algebra, variants, entry contents and owed tally.
   -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.FrameSuffix
public import Idealize.ShloMosaic.Lib.Ring
public import Idealize.ShloMosaic.Lib.Pipeline.TableIdle
public import Idealize.ShloMosaic.Lib.Tactic
public import Idealize.ShloMosaic.Lib.WordCmp
public import Idealize.ShloMosaic.Lib.Exec
public import Idealize.ShloMosaic.Lib.Pipeline.Kit

@[expose] public section

noncomputable section

namespace Cert.Kernel.Own.K1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

variable (𝒱₀ : Variants) (V : (c : Dev nD) → (b : Ref sig .tc) → Buf (Elt F) ((c : Thread nD τ).loc b)) (D : Dev nD → CellTallies nD τ sig Ix)

/-- The region's invariant on core `c`: the library's `Pipeline.ΦA spec1 c` at any index and level type. -/
def ΦK (c : Dev nD) : sProp 𝕄 :=
  iprop(Pipeline.scopedRest (Ix := Ix) (Name := ℕ) (U := U) (Lvl := Lvl) (Val := Elt F) spec1 c ∗ ∃ r, prngReg c r)

/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): the library's
    `Dat.before_in_eq_fetched` (unfetched, the index has not moved), the window uncut and never idle. -/
theorem before1_0_of {c : Dev nD} (dat : Dat τ (Elt F) Ix ℕ U Lvl cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): the library's
    `Dat.before_in_eq_fetched` (unfetched, the index has not moved), the window uncut and never idle. -/
theorem before1_1_of {c : Dev nD} (dat : Dat τ (Elt F) Ix ℕ U Lvl cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The kernel body on any staging memrefs: a subtype the run finds -/

/-- One staging buffer of output window 2, through which its contents are stated (`View.read_writes_of_cover`: the
    choice does not matter). -/
abbrev VO1_2 : View sig .tc .vmem S512x4096 .fp8e4m3 := (Memref.whole cc1_stg2_0 : Memref sig .tc .vmem S512x4096 .fp8e4m3).view
/-- Each window's current staging memref at point `t`, spelled as the pipeline passes it (`bodyAt1`), and its wholeness. -/
abbrev ms1_0 (t : Fin cfg1.N) : Memref sig .tc .vmem S4x8x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x4096 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x4096 .fp8e4m3 := win1_2.stage (cfg1.slots t 2)
abbrev hs1_2 (t : Fin cfg1.N) : (ms1_2 t).IsWhole := hstage1_2 ((cfg1.slots t 2).cast nbuf1_2)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs; the pieces are
    the witness that run finds (assigned when `iexact` hands the buffer to the continuation). -/
noncomputable def kernelRun1_A (c : Dev nD) (i : grid1.Coords) (arg1 : Memref sig .tc .vmem S4x8x128 .f32) (harg1 : arg1.IsWhole) (arg2 : Memref sig .tc .vmem S512x4096 .f32) (harg2 : arg2.IsWhole) (arg3 : Memref sig .tc .vmem S512x4096 .fp8e4m3) (harg3 : arg3.IsWhole)
    (x0 : Vec F S4x8x128 .f32) (x1 : Vec F S512x4096 .f32) :
    { L2 : List (View.Piece (Elt F) S512x4096 .fp8e4m3) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) 𝒱₀ c none) E (cc1_quantise_w i arg1 harg1 arg2 harg2 arg3 harg3) K } := by
  refine ⟨?_, fun E K => ?run⟩
  case run =>
    simp only [cc1_quantise_w_eq_skeleton]; unfold cc1_quantise_w_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    iexists _; iexact H2

/-- The run's pieces for output 2 tile its block (1 store of `S512x4096`, checked by the kernel's evaluation: the library's `Piece.tiledL`, linear in the pieces, through a loop's `@[irreducible]` trip theorem too), so they cover it. -/
theorem cover1_A_2 (c : Dev nD) (i : grid1.Coords) (arg1 : Memref sig .tc .vmem S4x8x128 .f32) (harg1 : arg1.IsWhole) (arg2 : Memref sig .tc .vmem S512x4096 .f32) (harg2 : arg2.IsWhole) (arg3 : Memref sig .tc .vmem S512x4096 .fp8e4m3) (harg3 : arg3.IsWhole)
    (x0 : Vec F S4x8x128 .f32) (x1 : Vec F S512x4096 .f32) (y : S512x4096.Idx) :
    ∃ pc ∈ (kernelRun1_A (Ix := Ix) (U := U) (Lvl := Lvl) 𝒱₀ c i arg1 harg1 arg2 harg2 arg3 harg3 x0 x1).1, y ∈ pc.1.set :=
  View.cover_of_tiledL (kernelRun1_A (Ix := Ix) (U := U) (Lvl := Lvl) 𝒱₀ c i arg1 harg1 arg2 harg2 arg3 harg3 x0 x1).1 S512x4096.size (by sl_kernel_rfl) y

/-- What the run leaves in output 2's staging buffer: its pieces read back over junk. -/
def out1_A_2 (c : Dev nD) (i : grid1.Coords) (arg1 : Memref sig .tc .vmem S4x8x128 .f32) (harg1 : arg1.IsWhole) (arg2 : Memref sig .tc .vmem S512x4096 .f32) (harg2 : arg2.IsWhole) (arg3 : Memref sig .tc .vmem S512x4096 .fp8e4m3) (harg3 : arg3.IsWhole)
    (x0 : Vec F S4x8x128 .f32) (x1 : Vec F S512x4096 .f32) : Vec F S512x4096 .fp8e4m3 :=
  VO1_2.read (Elt F) (VO1_2.writes (Elt F) VO1_2.junk (kernelRun1_A (Ix := Ix) (U := U) (Lvl := Lvl) 𝒱₀ c i arg1 harg1 arg2 harg2 arg3 harg3 x0 x1).1)

/-! ## What the outputs hold after each point -/

/-- What the outputs' staging buffers hold after the body at point `t`: the run's contents at
    the point's memrefs and input blocks. -/
def outsAt1 (c : Dev nD) (t : Fin cfg1.N) : Vec F S512x4096 .fp8e4m3 :=
  out1_A_2 (Ix := Ix) (U := U) (Lvl := Lvl) 𝒱₀ c (grid1.coords t) (ms1_0 t) (hs1_0 t) (ms1_1 t) (hs1_1 t) (ms1_2 t) (hs1_2 t) (iblk V c 0 t) (iblk V c 1 t)

/-! ## The pipeline's proof data -/

/-- The proof data of pipeline 1 on core `c`: the arrays as the region finds them (`V`); after the body at
    point `t` each input's buffer at its block and the outputs' at `outsAt1`; the invariant the class's
    (the library's `ΦA`: the scoped rest and the generator register); the core owing `D c` throughout; full shares. -/
def dat (c : Dev nD) : Dat τ (Elt F) Ix ℕ U Lvl cfg1 c where
  A w := V c (Pipeline.arrRef spec1 w)
  after w t := match w with
    | ⟨0, _⟩ => iblk V c 0 t
    | ⟨1, _⟩ => iblk V c 1 t
    | ⟨2, _⟩ => (outsAt1 (Ix := Ix) (U := U) (Lvl := Lvl) 𝒱₀ V c t)
  Φ _ := ΦK (F := F) (Ix := Ix) (U := U) (Lvl := Lvl) c
  q _ := fullShare
  owed _ := D c

variable (ι : Ix)

/-- The proof data's arrays are the region-entry contents `V`: the proof data's definition projected (`dsimp`). -/
theorem A_eq (c : Dev nD) (w : Fin cfg1.W) : (dat (Ix := Ix) (U := U) (Lvl := Lvl) 𝒱₀ V D c).A w = V c (Pipeline.arrRef spec1 w) := by
  dsimp only [dat]

/-- What the body leaves, window by window (the proof data's `match` reduced by `dsimp`). -/
theorem after1_0 (c : Dev nD) (t : Fin cfg1.N) : (dat (Ix := Ix) (U := U) (Lvl := Lvl) 𝒱₀ V D c).after 0 t = iblk V c 0 t := by dsimp only [dat]
theorem after1_1 (c : Dev nD) (t : Fin cfg1.N) : (dat (Ix := Ix) (U := U) (Lvl := Lvl) 𝒱₀ V D c).after 1 t = iblk V c 1 t := by dsimp only [dat]
theorem after1_2 (c : Dev nD) (t : Fin cfg1.N) : (dat (Ix := Ix) (U := U) (Lvl := Lvl) 𝒱₀ V D c).after 2 t = (outsAt1 (Ix := Ix) (U := U) (Lvl := Lvl) 𝒱₀ V c t) := by dsimp only [dat]

/-- Each input's current staging buffer holds its block at every point, fetched there or not (`beforeK_W_of`). -/
theorem before1_0 (c : Dev nD) (t : Fin cfg1.N) (d) : (dat (Ix := Ix) (U := U) (Lvl := Lvl) 𝒱₀ V D c).before 0 t d = iblk V c 0 t :=
  before1_0_of V (dat (Ix := Ix) (U := U) (Lvl := Lvl) 𝒱₀ V D c) (A_eq 𝒱₀ V D c 0) (after1_0 𝒱₀ V D c) t d
theorem before1_1 (c : Dev nD) (t : Fin cfg1.N) (d) : (dat (Ix := Ix) (U := U) (Lvl := Lvl) 𝒱₀ V D c).before 1 t d = iblk V c 1 t :=
  before1_1_of V (dat (Ix := Ix) (U := U) (Lvl := Lvl) 𝒱₀ V D c) (A_eq 𝒱₀ V D c 1) (after1_1 𝒱₀ V D c) t d

/-! ## The body obligation, at a generic point -/

/-- What the body is called with at point `t` (the library's `BodyObligation`'s precondition, the windows one by one), -/
def bodyPre (c : Dev nD) (t : Fin cfg1.N) : sProp 𝕄 :=
  iprop((dat (Ix := Ix) (U := U) (Lvl := Lvl) 𝒱₀ V D c).Φ t.castSucc ∗ (dat (Ix := Ix) (U := U) (Lvl := Lvl) 𝒱₀ V D c).owesAt ι t.castSucc
    ∗ (∃ d, owns (c : Thread nD τ) (ms1_0 t) fullShare ((dat (Ix := Ix) (U := U) (Lvl := Lvl) 𝒱₀ V D c).before 0 t d))
    ∗ (∃ d, owns (c : Thread nD τ) (ms1_1 t) fullShare ((dat (Ix := Ix) (U := U) (Lvl := Lvl) 𝒱₀ V D c).before 1 t d))
    ∗ (∃ d, owns (c : Thread nD τ) (ms1_2 t) fullShare ((dat (Ix := Ix) (U := U) (Lvl := Lvl) 𝒱₀ V D c).before 2 t d)))

/-- and what it returns. -/
def bodyPost (c : Dev nD) (t : Fin cfg1.N) : sProp 𝕄 :=
  iprop((dat (Ix := Ix) (U := U) (Lvl := Lvl) 𝒱₀ V D c).Φ t.succ ∗ (dat (Ix := Ix) (U := U) (Lvl := Lvl) 𝒱₀ V D c).owesAt ι t.succ
    ∗ owns (c : Thread nD τ) (ms1_0 t) fullShare ((dat (Ix := Ix) (U := U) (Lvl := Lvl) 𝒱₀ V D c).after 0 t)
    ∗ owns (c : Thread nD τ) (ms1_1 t) fullShare ((dat (Ix := Ix) (U := U) (Lvl := Lvl) 𝒱₀ V D c).after 1 t)
    ∗ owns (c : Thread nD τ) (ms1_2 t) fullShare ((dat (Ix := Ix) (U := U) (Lvl := Lvl) 𝒱₀ V D c).after 2 t))

/-- The body at any point: the inputs' memrefs hold their blocks (`before1_W`); so the
    run applies; the invariant passes through unread; the core owes `D c` throughout. -/
theorem sound_body (c : Dev nD) (t : Fin cfg1.N) :
    bodyPre (U := U) (Lvl := Lvl) 𝒱₀ V D ι c t ⊢ wp frame (wpE (defs₀ (F := F)) 𝒱₀ c none) Set.univ (bodyAt1 t) (fun _ => bodyPost (U := U) (Lvl := Lvl) 𝒱₀ V D ι c t) := by
  unfold bodyPre bodyPost bodyAt1
  simp only [before1_0, before1_1]
  rw [show (dat (Ix := Ix) (U := U) (Lvl := Lvl) 𝒱₀ V D c).Φ t.succ = (dat (Ix := Ix) (U := U) (Lvl := Lvl) 𝒱₀ V D c).Φ t.castSucc from rfl,
    show (dat (Ix := Ix) (U := U) (Lvl := Lvl) 𝒱₀ V D c).owesAt ι t.succ = (dat (Ix := Ix) (U := U) (Lvl := Lvl) 𝒱₀ V D c).owesAt ι t.castSucc from rfl,
    after1_0, after1_1, after1_2]
  unfold outsAt1
  unfold out1_A_2
  iintro ⟨HΦ, Ho, ⟨%d0, H0⟩, ⟨%d1, H1⟩, ⟨%d2, H2⟩⟩
  iapply ((kernelRun1_A (Ix := Ix) (U := U) (Lvl := Lvl) 𝒱₀ c (grid1.coords t) _ _ _ _ _ _ (iblk V c 0 t) (iblk V c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (cover1_A_2 (Ix := Ix) (U := U) (Lvl := Lvl) 𝒱₀ c _ _ _ _ _ _ _ _ _)

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The library's body obligation, at every point: the body's triple restated (the library's `triple_restated`). -/
theorem body_obligation (c : Dev nD) : BodyObligation (dat (Ix := Ix) (U := U) (Lvl := Lvl) 𝒱₀ V D c) (defs₀ (F := F)) 𝒱₀ ι Set.univ := fun t => by
  rw [bigSep_W1, bigSep_W1, defs₀_row]
  exact triple_restated (sound_body (U := U) (Lvl := Lvl) 𝒱₀ V D ι c t) rfl .rfl fun _ => .rfl

end Cert.Kernel.Own.K1

end
-- ==== Proof.Kernel.K2Run.lean ====
/- Custom call 2 of `Kernel`: the kernel's run, the proof data and the body obligation, for any index type, level type,
   algebra, variants, entry contents and owed tally.
   -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.FrameSuffix
public import Idealize.ShloMosaic.Lib.Ring
public import Idealize.ShloMosaic.Lib.Pipeline.TableIdle
public import Idealize.ShloMosaic.Lib.Tactic
public import Idealize.ShloMosaic.Lib.WordCmp
public import Idealize.ShloMosaic.Lib.Exec
public import Idealize.ShloMosaic.Lib.Pipeline.Kit

@[expose] public section

noncomputable section

namespace Cert.Kernel.Own.K2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

variable (𝒱₀ : Variants) (V : (c : Dev nD) → (b : Ref sig .tc) → Buf (Elt F) ((c : Thread nD τ).loc b)) (D : Dev nD → CellTallies nD τ sig Ix)

/-- The region's invariant on core `c`: the library's `Pipeline.ΦA spec2 c` at any index and level type. -/
def ΦK (c : Dev nD) : sProp 𝕄 :=
  iprop(Pipeline.scopedRest (Ix := Ix) (Name := ℕ) (U := U) (Lvl := Lvl) (Val := Elt F) spec2 c ∗ ∃ r, prngReg c r)

/-! ## The windows' blocks -/

/-- Window `w`'s block at point `t`, read off its array as the region finds it (`V`). -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): the library's
    `Dat.before_in_eq_fetched` (unfetched, the index has not moved), the window uncut and never idle. -/
theorem before2_0_of {c : Dev nD} (dat : Dat τ (Elt F) Ix ℕ U Lvl cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): the library's
    `Dat.before_in_eq_fetched` (unfetched, the index has not moved), the window uncut and never idle. -/
theorem before2_1_of {c : Dev nD} (dat : Dat τ (Elt F) Ix ℕ U Lvl cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): the library's
    `Dat.before_in_eq_fetched` (unfetched, the index has not moved), the window uncut and never idle. -/
theorem before2_2_of {c : Dev nD} (dat : Dat τ (Elt F) Ix ℕ U Lvl cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k2_h1`), from the grid coordinates (the skeleton's scalar
    chain substituted). -/
abbrev cond2_0 (i : grid2.Coords) : Prop := k2_cond1 i = 1#1
/-- It holds at the points ≡ 0 (mod 14) — by arithmetic of the point. -/
theorem hcond2_0 : ∀ t : Fin cfg2.N, cond2_0 (grid2.coords t) ↔ t.val % 14 = 0 :=
  (fun t => by
    have ht : t.val < 336 := Nat.lt_of_lt_of_eq t.isLt N_2
    have e0 : (grid2.coords t 0).val = t.val / 14 % 24 := Pipeline.Grid.coords_val t 0 (by decide) rfl
    have e1 : (grid2.coords t 1).val = t.val / 1 % 14 := Pipeline.Grid.coords_val t 1 (by decide) rfl
    simp only [cond2_0, k2_cond1, e0, e1]
    word_cmp
   : ∀ t : Fin grid2.N, cond2_0 (grid2.coords t) ↔ t.val % 14 = 0)

/-! ## Where the windows are idle (the printed configuration's table `Cfg.idle`) -/

/-- Window 0 is never idle (an input). -/
theorem liveAt2_0 : ∀ t : Fin cfg2.N, cfg2.idle 0 (grid2.coords t) = false := fun _ => rfl
/-- Window 1 is never idle (an input). -/
theorem liveAt2_1 : ∀ t : Fin cfg2.N, cfg2.idle 1 (grid2.coords t) = false := fun _ => rfl
/-- Window 2 is never idle (an input). -/
theorem liveAt2_2 : ∀ t : Fin cfg2.N, cfg2.idle 2 (grid2.coords t) = false := fun _ => rfl
/-- Window 3 is never idle (an output stored at every point, under no condition). -/
theorem liveAt2_3 : ∀ t : Fin cfg2.N, cfg2.idle 3 (grid2.coords t) = false := fun _ => rfl
/-- Whether output 4's buffer is FRESH at each position `1 ‥ N` — holds nothing the body stored since the region's entry or the
    last write-back (written back at the point before, or idle there and fresh before it) —, as a bitmask the classifier
    computed, bit `n` for position `n + 1`; position 0 is fresh. `freshTab2_4_step` checks it against the configuration's own
    step point by point and the library's `Cfg.fresh_tab` makes it `Cfg.fresh` (`fresh2_4_eq`). -/
def freshTab2_4 : ℕ → Bool
  | 0 => true
  | n + 1 => (0x800200080020008002000800200080020008002000800200080020008002000800200080020008002000 : ℕ).testBit n
theorem freshTab2_4_step : ∀ t : Fin cfg2.N,
    freshTab2_4 (t.val + 1) = ((cfg2.win 4).flush t || (cfg2.idle 4 (cfg2.grid.coords t) && freshTab2_4 t.val)) := by decide +kernel
theorem fresh2_4_eq (t : Fin cfg2.N) : cfg2.fresh 4 t.val = freshTab2_4 t.val :=
  Pipeline.Cfg.fresh_tab cfg2 4 freshTab2_4 rfl freshTab2_4_step t.val (Nat.le_of_lt t.isLt)
/-- At the points of case A the printed configuration (`Cfg.idle`) calls output 4 live: the case stores into it. -/
theorem liveAt2_4_A : ∀ t : Fin cfg2.N, cond2_0 (grid2.coords t) → cfg2.idle 4 (grid2.coords t) = false := by decide +kernel
/-- At the points of case B the printed configuration (`Cfg.idle`) calls output 4 idle: the case stores nothing into it. -/
theorem idleAt2_4_B : ∀ t : Fin cfg2.N, ¬cond2_0 (grid2.coords t) → cfg2.idle 4 (grid2.coords t) = true := by decide +kernel
/-- At the points of case B, which keeps output 4's prior contents (reads it before covering, or covers it in part), the
    window's buffer is not FRESH: something was stored into it since the region's entry or its last write-back, idle points
    between or not (the library's `Cfg.fresh`, by the table `freshTab2_4`). -/
theorem notFresh2_4_B : ∀ t : Fin cfg2.N, ¬cond2_0 (grid2.coords t) → cfg2.fresh 4 t.val = false := by
  intro t; rw [fresh2_4_eq t]; revert t; decide +kernel

/-! ## The kernel body on any staging memrefs: a subtype the run finds -/

/-- One staging buffer of output window 3, through which its contents are stated (`View.read_writes_of_cover`: the
    choice does not matter). -/
abbrev VO2_3 : View sig .tc .vmem S128x8x1024 .bf16 := (Memref.whole cc2_stg3_0 : Memref sig .tc .vmem S128x8x1024 .bf16).view
/-- One staging buffer of output window 4, through which its contents are stated (`View.read_writes_of_cover`: the
    choice does not matter). -/
abbrev VO2_4 : View sig .tc .vmem S1024x4096 .fp8e5m2 := (Memref.whole cc2_stg4_0 : Memref sig .tc .vmem S1024x4096 .fp8e5m2).view
/-- Each window's current staging memref at point `t`, spelled as the pipeline passes it (`bodyAt2`), and its wholeness. -/
abbrev ms2_0 (t : Fin cfg2.N) : Memref sig .tc .vmem S4x8x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x4096 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x4096 .fp8e4m3 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S128x8x1024 .bf16 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x4096 .fp8e5m2 := win2_4.stage (cfg2.slots t 4)
abbrev hs2_4 (t : Fin cfg2.N) : (ms2_4 t).IsWhole := hstage2_4 ((cfg2.slots t 4).cast nbuf2_4)

-- (the run's proof term is large: the definition's epilogue — `abstractNestedProofs` — walks it past the default budget)
set_option maxHeartbeats 1000000 in
/-- What the body's stores leave in each output's staging memref, as pieces (last first) IN CASE A (`scf.if` 0 taken: points 0, 14, … 322: 24 of 336), WITH the
    proof that on whole staging memrefs — the inputs' at their contents, the other outputs' at
    anything, the body runs to the continuation holding the inputs' as they were,
    each output's buffer with its pieces written: the printed functions are their skeletons
    (`Gen.*_eq_skeleton`), which `sl_exec` runs — each `scf.if` decided by the case's hypotheses `hc·`; the pieces are
    the witness that run finds (assigned when `iexact` hands the buffer to the continuation). -/
noncomputable def kernelRun2_A (c : Dev nD) (i : grid2.Coords) (arg2 : Memref sig .tc .vmem S4x8x128 .f32) (harg2 : arg2.IsWhole) (arg3 : Memref sig .tc .vmem S1024x4096 .bf16) (harg3 : arg3.IsWhole) (arg4 : Memref sig .tc .vmem S1024x4096 .fp8e4m3) (harg4 : arg4.IsWhole) (arg5 : Memref sig .tc .vmem S128x8x1024 .bf16) (harg5 : arg5.IsWhole) (arg6 : Memref sig .tc .vmem S1024x4096 .fp8e5m2) (harg6 : arg6.IsWhole) (hc0 : cond2_0 i)
    (x0 : Vec F S4x8x128 .f32) (x1 : Vec F S1024x4096 .bf16) (x2 : Vec F S1024x4096 .fp8e4m3) :
    Σ' (L3 : List (View.Piece (Elt F) S128x8x1024 .bf16)), { L4 : List (View.Piece (Elt F) S1024x4096 .fp8e5m2) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4)) -∗ K ⟨⟩))
          ⊢ wp frame (wpE (defs₀ (F := F)) 𝒱₀ c none) E (cc2_dgrad i arg2 harg2 arg3 harg3 arg4 harg4 arg5 harg5 arg6 harg6) K } := by
  refine ⟨?_, ?_, fun E K => ?run⟩
  case run =>
    simp only [cc2_dgrad_eq_skeleton]; unfold cc2_dgrad_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

/-- Case A's pieces for output 3 tile its block (1 store of `S128x8x1024`, checked by the kernel's evaluation: the library's `Piece.tiledL`, linear in the pieces, through a loop's `@[irreducible]` trip theorem too), so they cover it. -/
theorem cover2_A_3 (c : Dev nD) (i : grid2.Coords) (arg2 : Memref sig .tc .vmem S4x8x128 .f32) (harg2 : arg2.IsWhole) (arg3 : Memref sig .tc .vmem S1024x4096 .bf16) (harg3 : arg3.IsWhole) (arg4 : Memref sig .tc .vmem S1024x4096 .fp8e4m3) (harg4 : arg4.IsWhole) (arg5 : Memref sig .tc .vmem S128x8x1024 .bf16) (harg5 : arg5.IsWhole) (arg6 : Memref sig .tc .vmem S1024x4096 .fp8e5m2) (harg6 : arg6.IsWhole) (hc0 : cond2_0 i)
    (x0 : Vec F S4x8x128 .f32) (x1 : Vec F S1024x4096 .bf16) (x2 : Vec F S1024x4096 .fp8e4m3) (y : S128x8x1024.Idx) :
    ∃ pc ∈ (kernelRun2_A (Ix := Ix) (U := U) (Lvl := Lvl) 𝒱₀ c i arg2 harg2 arg3 harg3 arg4 harg4 arg5 harg5 arg6 harg6 hc0 x0 x1 x2).1, y ∈ pc.1.set :=
  View.cover_of_tiledL (kernelRun2_A (Ix := Ix) (U := U) (Lvl := Lvl) 𝒱₀ c i arg2 harg2 arg3 harg3 arg4 harg4 arg5 harg5 arg6 harg6 hc0 x0 x1 x2).1 S128x8x1024.size (by sl_kernel_rfl) y

/-- What case A leaves in output 3's staging buffer: its pieces read back over junk. -/
def out2_A_3 (c : Dev nD) (i : grid2.Coords) (arg2 : Memref sig .tc .vmem S4x8x128 .f32) (harg2 : arg2.IsWhole) (arg3 : Memref sig .tc .vmem S1024x4096 .bf16) (harg3 : arg3.IsWhole) (arg4 : Memref sig .tc .vmem S1024x4096 .fp8e4m3) (harg4 : arg4.IsWhole) (arg5 : Memref sig .tc .vmem S128x8x1024 .bf16) (harg5 : arg5.IsWhole) (arg6 : Memref sig .tc .vmem S1024x4096 .fp8e5m2) (harg6 : arg6.IsWhole) (hc0 : cond2_0 i)
    (x0 : Vec F S4x8x128 .f32) (x1 : Vec F S1024x4096 .bf16) (x2 : Vec F S1024x4096 .fp8e4m3) : Vec F S128x8x1024 .bf16 :=
  VO2_3.read (Elt F) (VO2_3.writes (Elt F) VO2_3.junk (kernelRun2_A (Ix := Ix) (U := U) (Lvl := Lvl) 𝒱₀ c i arg2 harg2 arg3 harg3 arg4 harg4 arg5 harg5 arg6 harg6 hc0 x0 x1 x2).1)

/-- Case A's pieces for output 4 tile its block (1 store of `S1024x4096`, checked by the kernel's evaluation: the library's `Piece.tiledL`, linear in the pieces, through a loop's `@[irreducible]` trip theorem too), so they cover it. -/
theorem cover2_A_4 (c : Dev nD) (i : grid2.Coords) (arg2 : Memref sig .tc .vmem S4x8x128 .f32) (harg2 : arg2.IsWhole) (arg3 : Memref sig .tc .vmem S1024x4096 .bf16) (harg3 : arg3.IsWhole) (arg4 : Memref sig .tc .vmem S1024x4096 .fp8e4m3) (harg4 : arg4.IsWhole) (arg5 : Memref sig .tc .vmem S128x8x1024 .bf16) (harg5 : arg5.IsWhole) (arg6 : Memref sig .tc .vmem S1024x4096 .fp8e5m2) (harg6 : arg6.IsWhole) (hc0 : cond2_0 i)
    (x0 : Vec F S4x8x128 .f32) (x1 : Vec F S1024x4096 .bf16) (x2 : Vec F S1024x4096 .fp8e4m3) (y : S1024x4096.Idx) :
    ∃ pc ∈ (kernelRun2_A (Ix := Ix) (U := U) (Lvl := Lvl) 𝒱₀ c i arg2 harg2 arg3 harg3 arg4 harg4 arg5 harg5 arg6 harg6 hc0 x0 x1 x2).2.1, y ∈ pc.1.set :=
  View.cover_of_tiledL (kernelRun2_A (Ix := Ix) (U := U) (Lvl := Lvl) 𝒱₀ c i arg2 harg2 arg3 harg3 arg4 harg4 arg5 harg5 arg6 harg6 hc0 x0 x1 x2).2.1 S1024x4096.size (by sl_kernel_rfl) y

/-- What case A leaves in output 4's staging buffer: its pieces read back over junk. -/
def out2_A_4 (c : Dev nD) (i : grid2.Coords) (arg2 : Memref sig .tc .vmem S4x8x128 .f32) (harg2 : arg2.IsWhole) (arg3 : Memref sig .tc .vmem S1024x4096 .bf16) (harg3 : arg3.IsWhole) (arg4 : Memref sig .tc .vmem S1024x4096 .fp8e4m3) (harg4 : arg4.IsWhole) (arg5 : Memref sig .tc .vmem S128x8x1024 .bf16) (harg5 : arg5.IsWhole) (arg6 : Memref sig .tc .vmem S1024x4096 .fp8e5m2) (harg6 : arg6.IsWhole) (hc0 : cond2_0 i)
    (x0 : Vec F S4x8x128 .f32) (x1 : Vec F S1024x4096 .bf16) (x2 : Vec F S1024x4096 .fp8e4m3) : Vec F S1024x4096 .fp8e5m2 :=
  VO2_4.read (Elt F) (VO2_4.writes (Elt F) VO2_4.junk (kernelRun2_A (Ix := Ix) (U := U) (Lvl := Lvl) 𝒱₀ c i arg2 harg2 arg3 harg3 arg4 harg4 arg5 harg5 arg6 harg6 hc0 x0 x1 x2).2.1)

-- (the run's proof term is large: the definition's epilogue — `abstractNestedProofs` — walks it past the default budget)
set_option maxHeartbeats 1000000 in
/-- What the body's stores leave in each output's staging memref, as pieces (last first) IN CASE B (`scf.if` 0 not taken: points 1, 2, … 335: 312 of 336), WITH the
    proof that on whole staging memrefs — the inputs' at their contents, the outputs it reads before covering (4) at their running contents `xo·`, the other outputs' at
    anything, the body runs to the continuation holding the inputs' as they were,
    each output's buffer with its pieces written: the printed functions are their skeletons
    (`Gen.*_eq_skeleton`), which `sl_exec` runs — each `scf.if` decided by the case's hypotheses `hc·`; the pieces are
    the witness that run finds (assigned when `iexact` hands the buffer to the continuation). -/
noncomputable def kernelRun2_B (c : Dev nD) (i : grid2.Coords) (arg2 : Memref sig .tc .vmem S4x8x128 .f32) (harg2 : arg2.IsWhole) (arg3 : Memref sig .tc .vmem S1024x4096 .bf16) (harg3 : arg3.IsWhole) (arg4 : Memref sig .tc .vmem S1024x4096 .fp8e4m3) (harg4 : arg4.IsWhole) (arg5 : Memref sig .tc .vmem S128x8x1024 .bf16) (harg5 : arg5.IsWhole) (arg6 : Memref sig .tc .vmem S1024x4096 .fp8e5m2) (harg6 : arg6.IsWhole) (hc0 : ¬cond2_0 i)
    (x0 : Vec F S4x8x128 .f32) (x1 : Vec F S1024x4096 .bf16) (x2 : Vec F S1024x4096 .fp8e4m3) (xo4 : Vec F S1024x4096 .fp8e5m2) :
    Σ' (L3 : List (View.Piece (Elt F) S128x8x1024 .bf16)), { L4 : List (View.Piece (Elt F) S1024x4096 .fp8e5m2) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xo4
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ owns (c : Thread nD τ) arg6 fullShare xo4) -∗ K ⟨⟩))
          ⊢ wp frame (wpE (defs₀ (F := F)) 𝒱₀ c none) E (cc2_dgrad i arg2 harg2 arg3 harg3 arg4 harg4 arg5 harg5 arg6 harg6) K } := by
  refine ⟨?_, [], fun E K => ?run⟩
  case run =>
    simp only [cc2_dgrad_eq_skeleton]; unfold cc2_dgrad_skel
    unfold owns
    iintro ⟨⟨%f0, %hf0, H0⟩, ⟨%f1, %hf1, H1⟩, ⟨%f2, %hf2, H2⟩, ⟨%d3, %f3, -, H3⟩, ⟨%f4, %hf4, H4⟩, Hk⟩
    obtain rfl := harg2.eq_unread hf0; obtain rfl := harg3.eq_unread hf1; obtain rfl := harg4.eq_unread hf2; obtain rfl := harg6.eq_unread hf4
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; isplitr; · ipureintro; exact harg6.read_unread _
    iexact H4

/-- Case B's pieces for output 3 tile its block (1 store of `S128x8x1024`, checked by the kernel's evaluation: the library's `Piece.tiledL`, linear in the pieces, through a loop's `@[irreducible]` trip theorem too), so they cover it. -/
theorem cover2_B_3 (c : Dev nD) (i : grid2.Coords) (arg2 : Memref sig .tc .vmem S4x8x128 .f32) (harg2 : arg2.IsWhole) (arg3 : Memref sig .tc .vmem S1024x4096 .bf16) (harg3 : arg3.IsWhole) (arg4 : Memref sig .tc .vmem S1024x4096 .fp8e4m3) (harg4 : arg4.IsWhole) (arg5 : Memref sig .tc .vmem S128x8x1024 .bf16) (harg5 : arg5.IsWhole) (arg6 : Memref sig .tc .vmem S1024x4096 .fp8e5m2) (harg6 : arg6.IsWhole) (hc0 : ¬cond2_0 i)
    (x0 : Vec F S4x8x128 .f32) (x1 : Vec F S1024x4096 .bf16) (x2 : Vec F S1024x4096 .fp8e4m3) (xo4 : Vec F S1024x4096 .fp8e5m2) (y : S128x8x1024.Idx) :
    ∃ pc ∈ (kernelRun2_B (Ix := Ix) (U := U) (Lvl := Lvl) 𝒱₀ c i arg2 harg2 arg3 harg3 arg4 harg4 arg5 harg5 arg6 harg6 hc0 x0 x1 x2 xo4).1, y ∈ pc.1.set :=
  View.cover_of_tiledL (kernelRun2_B (Ix := Ix) (U := U) (Lvl := Lvl) 𝒱₀ c i arg2 harg2 arg3 harg3 arg4 harg4 arg5 harg5 arg6 harg6 hc0 x0 x1 x2 xo4).1 S128x8x1024.size (by sl_kernel_rfl) y

/-- What case B leaves in output 3's staging buffer: its pieces read back over junk. -/
def out2_B_3 (c : Dev nD) (i : grid2.Coords) (arg2 : Memref sig .tc .vmem S4x8x128 .f32) (harg2 : arg2.IsWhole) (arg3 : Memref sig .tc .vmem S1024x4096 .bf16) (harg3 : arg3.IsWhole) (arg4 : Memref sig .tc .vmem S1024x4096 .fp8e4m3) (harg4 : arg4.IsWhole) (arg5 : Memref sig .tc .vmem S128x8x1024 .bf16) (harg5 : arg5.IsWhole) (arg6 : Memref sig .tc .vmem S1024x4096 .fp8e5m2) (harg6 : arg6.IsWhole) (hc0 : ¬cond2_0 i)
    (x0 : Vec F S4x8x128 .f32) (x1 : Vec F S1024x4096 .bf16) (x2 : Vec F S1024x4096 .fp8e4m3) (xo4 : Vec F S1024x4096 .fp8e5m2) : Vec F S128x8x1024 .bf16 :=
  VO2_3.read (Elt F) (VO2_3.writes (Elt F) VO2_3.junk (kernelRun2_B (Ix := Ix) (U := U) (Lvl := Lvl) 𝒱₀ c i arg2 harg2 arg3 harg3 arg4 harg4 arg5 harg5 arg6 harg6 hc0 x0 x1 x2 xo4).1)

/-- Case B stores nothing into output 4, a live window: its staging buffer holds what the point before left. -/
def out2_B_4 (c : Dev nD) (i : grid2.Coords) (arg2 : Memref sig .tc .vmem S4x8x128 .f32) (harg2 : arg2.IsWhole) (arg3 : Memref sig .tc .vmem S1024x4096 .bf16) (harg3 : arg3.IsWhole) (arg4 : Memref sig .tc .vmem S1024x4096 .fp8e4m3) (harg4 : arg4.IsWhole) (arg5 : Memref sig .tc .vmem S128x8x1024 .bf16) (harg5 : arg5.IsWhole) (arg6 : Memref sig .tc .vmem S1024x4096 .fp8e5m2) (harg6 : arg6.IsWhole) (hc0 : ¬cond2_0 i)
    (x0 : Vec F S4x8x128 .f32) (x1 : Vec F S1024x4096 .bf16) (x2 : Vec F S1024x4096 .fp8e4m3) (xo4 : Vec F S1024x4096 .fp8e5m2) : Vec F S1024x4096 .fp8e5m2 := xo4

end Cert.Kernel.Own.K2

end
-- ==== Proof.Kernel.K2.lean ====
/- Custom call 2 of `Kernel`: the kernel's run, the proof data and the body obligation, for any index type, level type,
   algebra, variants, entry contents and owed tally.
   -/
module

public import proofs.«01_k».proof.Proof.Gen.Kernel.Launch
public import proofs.«01_k».proof.Proof.Kernel.K2Run
public import proofs.«01_k».proof.Proof.Gen.Kernel.Skeleton
public import proofs.«01_k».proof.Proof.Gen.Kernel.Points
public import Idealize.ShloMosaic.Lib.Pipeline.FrameBody
public import Idealize.ShloMosaic.Lib.Pipeline.FrameSuffix
public import Idealize.ShloMosaic.Lib.Ring
public import Idealize.ShloMosaic.Lib.Pipeline.TableIdle
public import Idealize.ShloMosaic.Lib.Tactic
public import Idealize.ShloMosaic.Lib.WordCmp
public import Idealize.ShloMosaic.Lib.Exec
public import Idealize.ShloMosaic.Lib.Pipeline.Kit

@[expose] public section

noncomputable section

namespace Cert.Kernel.Own.K2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

variable (𝒱₀ : Variants) (V : (c : Dev nD) → (b : Ref sig .tc) → Buf (Elt F) ((c : Thread nD τ).loc b)) (D : Dev nD → CellTallies nD τ sig Ix)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before2_W_κ`); an output it leaves idle whose contents another case keeps stays
    what this leaves at `n - 1`, carried. An assignment of the conditions no point meets is no case (`False.elim`). -/
def outsAt2 (c : Dev nD) : (n : ℕ) → n < cfg2.N → Vec F S128x8x1024 .bf16 × Vec F S1024x4096 .fp8e5m2
  | 0, hn => (out2_A_3 (Ix := Ix) (U := U) (Lvl := Lvl) 𝒱₀ c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) ((hcond2_0 ⟨0, hn⟩).mpr (Nat.zero_mod _)) (iblk V c 0 ⟨0, hn⟩) (iblk V c 1 ⟨0, hn⟩) (iblk V c 2 ⟨0, hn⟩), out2_A_4 (Ix := Ix) (U := U) (Lvl := Lvl) 𝒱₀ c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) ((hcond2_0 ⟨0, hn⟩).mpr (Nat.zero_mod _)) (iblk V c 0 ⟨0, hn⟩) (iblk V c 1 ⟨0, hn⟩) (iblk V c 2 ⟨0, hn⟩))
  | n + 1, hn =>
    if h0 : (n + 1) % 14 = 0 then
      (out2_A_3 (Ix := Ix) (U := U) (Lvl := Lvl) 𝒱₀ c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) ((hcond2_0 ⟨n + 1, hn⟩).mpr h0) (iblk V c 0 ⟨n + 1, hn⟩) (iblk V c 1 ⟨n + 1, hn⟩) (iblk V c 2 ⟨n + 1, hn⟩), out2_A_4 (Ix := Ix) (U := U) (Lvl := Lvl) 𝒱₀ c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) ((hcond2_0 ⟨n + 1, hn⟩).mpr h0) (iblk V c 0 ⟨n + 1, hn⟩) (iblk V c 1 ⟨n + 1, hn⟩) (iblk V c 2 ⟨n + 1, hn⟩))
    else
      (out2_B_3 (Ix := Ix) (U := U) (Lvl := Lvl) 𝒱₀ c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (fun h => h0 ((hcond2_0 ⟨n + 1, hn⟩).mp h)) (iblk V c 0 ⟨n + 1, hn⟩) (iblk V c 1 ⟨n + 1, hn⟩) (iblk V c 2 ⟨n + 1, hn⟩) (outsAt2 c n (Nat.lt_of_succ_lt hn)).2, out2_B_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (fun h => h0 ((hcond2_0 ⟨n + 1, hn⟩).mp h)) (iblk V c 0 ⟨n + 1, hn⟩) (iblk V c 1 ⟨n + 1, hn⟩) (iblk V c 2 ⟨n + 1, hn⟩) (outsAt2 c n (Nat.lt_of_succ_lt hn)).2)

/-- `outsAt2` at a point of case A: that case's contents. -/
theorem outsAt2_A (c : Dev nD) (t : Fin cfg2.N) (h0 : t.val % 14 = 0) :
    outsAt2 (Ix := Ix) (U := U) (Lvl := Lvl) 𝒱₀ V c t.val t.isLt = (out2_A_3 (Ix := Ix) (U := U) (Lvl := Lvl) 𝒱₀ c (grid2.coords t) (ms2_0 t) (hs2_0 t) (ms2_1 t) (hs2_1 t) (ms2_2 t) (hs2_2 t) (ms2_3 t) (hs2_3 t) (ms2_4 t) (hs2_4 t) ((hcond2_0 t).mpr h0) (iblk V c 0 t) (iblk V c 1 t) (iblk V c 2 t), out2_A_4 (Ix := Ix) (U := U) (Lvl := Lvl) 𝒱₀ c (grid2.coords t) (ms2_0 t) (hs2_0 t) (ms2_1 t) (hs2_1 t) (ms2_2 t) (hs2_2 t) (ms2_3 t) (hs2_3 t) (ms2_4 t) (hs2_4 t) ((hcond2_0 t).mpr h0) (iblk V c 0 t) (iblk V c 1 t) (iblk V c 2 t)) := by
  obtain ⟨n, hn⟩ := t
  cases n with
  | zero => exact rfl
  | succ n => exact (dif_pos h0).trans rfl

/-- `outsAt2` at a point of case B: that case's contents, over what the point before left. -/
theorem outsAt2_B (c : Dev nD) (t : Fin cfg2.N) (h0 : ¬t.val % 14 = 0) :
    outsAt2 (Ix := Ix) (U := U) (Lvl := Lvl) 𝒱₀ V c t.val t.isLt = (out2_B_3 (Ix := Ix) (U := U) (Lvl := Lvl) 𝒱₀ c (grid2.coords t) (ms2_0 t) (hs2_0 t) (ms2_1 t) (hs2_1 t) (ms2_2 t) (hs2_2 t) (ms2_3 t) (hs2_3 t) (ms2_4 t) (hs2_4 t) (fun h => h0 ((hcond2_0 t).mp h)) (iblk V c 0 t) (iblk V c 1 t) (iblk V c 2 t) (outsAt2 (Ix := Ix) (U := U) (Lvl := Lvl) 𝒱₀ V c (t.val - 1) (Nat.lt_of_le_of_lt (Nat.sub_le _ _) t.isLt)).2, out2_B_4 c (grid2.coords t) (ms2_0 t) (hs2_0 t) (ms2_1 t) (hs2_1 t) (ms2_2 t) (hs2_2 t) (ms2_3 t) (hs2_3 t) (ms2_4 t) (hs2_4 t) (fun h => h0 ((hcond2_0 t).mp h)) (iblk V c 0 t) (iblk V c 1 t) (iblk V c 2 t) (outsAt2 (Ix := Ix) (U := U) (Lvl := Lvl) 𝒱₀ V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 2 on core `c`: the arrays as the region finds them (`V`); after the body at
    point `t` each input's buffer at its block and the outputs' at `outsAt2`; the invariant the class's
    (the library's `ΦA`: the scoped rest and the generator register); the core owing `D c` throughout; full shares. -/
def dat (c : Dev nD) : Dat τ (Elt F) Ix ℕ U Lvl cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => (outsAt2 (Ix := Ix) (U := U) (Lvl := Lvl) 𝒱₀ V c t.val t.isLt).1
    | ⟨4, _⟩ => (outsAt2 (Ix := Ix) (U := U) (Lvl := Lvl) 𝒱₀ V c t.val t.isLt).2
  Φ _ := ΦK (F := F) (Ix := Ix) (U := U) (Lvl := Lvl) c
  q _ := fullShare
  owed _ := D c

variable (ι : Ix)

/-- The proof data's arrays are the region-entry contents `V`: the proof data's definition projected (`dsimp`). -/
theorem A_eq (c : Dev nD) (w : Fin cfg2.W) : (dat (Ix := Ix) (U := U) (Lvl := Lvl) 𝒱₀ V D c).A w = V c (Pipeline.arrRef spec2 w) := by
  dsimp only [dat]

/-- What the body leaves, window by window (the proof data's `match` reduced by `dsimp`). -/
theorem after2_0 (c : Dev nD) (t : Fin cfg2.N) : (dat (Ix := Ix) (U := U) (Lvl := Lvl) 𝒱₀ V D c).after 0 t = iblk V c 0 t := by dsimp only [dat]
theorem after2_1 (c : Dev nD) (t : Fin cfg2.N) : (dat (Ix := Ix) (U := U) (Lvl := Lvl) 𝒱₀ V D c).after 1 t = iblk V c 1 t := by dsimp only [dat]
theorem after2_2 (c : Dev nD) (t : Fin cfg2.N) : (dat (Ix := Ix) (U := U) (Lvl := Lvl) 𝒱₀ V D c).after 2 t = iblk V c 2 t := by dsimp only [dat]
theorem after2_3 (c : Dev nD) (t : Fin cfg2.N) : (dat (Ix := Ix) (U := U) (Lvl := Lvl) 𝒱₀ V D c).after 3 t = (outsAt2 (Ix := Ix) (U := U) (Lvl := Lvl) 𝒱₀ V c t.val t.isLt).1 := by dsimp only [dat]
theorem after2_4 (c : Dev nD) (t : Fin cfg2.N) : (dat (Ix := Ix) (U := U) (Lvl := Lvl) 𝒱₀ V D c).after 4 t = (outsAt2 (Ix := Ix) (U := U) (Lvl := Lvl) 𝒱₀ V c t.val t.isLt).2 := by dsimp only [dat]

/-- Each input's current staging buffer holds its block at every point, fetched there or not (`beforeK_W_of`). -/
theorem before2_0 (c : Dev nD) (t : Fin cfg2.N) (d) : (dat (Ix := Ix) (U := U) (Lvl := Lvl) 𝒱₀ V D c).before 0 t d = iblk V c 0 t :=
  before2_0_of V (dat (Ix := Ix) (U := U) (Lvl := Lvl) 𝒱₀ V D c) (A_eq 𝒱₀ V D c 0) (after2_0 𝒱₀ V D c) t d
theorem before2_1 (c : Dev nD) (t : Fin cfg2.N) (d) : (dat (Ix := Ix) (U := U) (Lvl := Lvl) 𝒱₀ V D c).before 1 t d = iblk V c 1 t :=
  before2_1_of V (dat (Ix := Ix) (U := U) (Lvl := Lvl) 𝒱₀ V D c) (A_eq 𝒱₀ V D c 1) (after2_1 𝒱₀ V D c) t d
theorem before2_2 (c : Dev nD) (t : Fin cfg2.N) (d) : (dat (Ix := Ix) (U := U) (Lvl := Lvl) 𝒱₀ V D c).before 2 t d = iblk V c 2 t :=
  before2_2_of V (dat (Ix := Ix) (U := U) (Lvl := Lvl) 𝒱₀ V D c) (A_eq 𝒱₀ V D c 2) (after2_2 𝒱₀ V D c) t d

/-- Output 4's contents CARRY through the points that leave it idle: at such a point, its buffer not fresh, the proof data's
    `after` is the point before's (the case there stores nothing into the window and its term says so; a case that stores
    into it is not idle there by `liveAt2_4_κ`) — the hypothesis of the library's `Dat.before_out_traj`. -/
theorem hcarry2_4 (c : Dev nD) : ∀ (t : Fin cfg2.N) (_ : t.val ≠ 0), cfg2.idle 4 (grid2.coords t) = true → cfg2.fresh 4 t.val = false →
    (dat (Ix := Ix) (U := U) (Lvl := Lvl) 𝒱₀ V D c).after 4 t = (dat (Ix := Ix) (U := U) (Lvl := Lvl) 𝒱₀ V D c).after 4 ⟨t.val - 1, by omega⟩ := by
  intro t _ hi _
  have hN : t.val < 336 := lt_of_lt_of_eq t.isLt (show cfg2.N = 336 from N_2)
  rw [after2_4, after2_4]
  by_cases h0 : t.val % 14 = 0
  · rw [liveAt2_4_A t ((hcond2_0 t).mpr h0)] at hi
    exact absurd hi Bool.false_ne_true
  · rw [outsAt2_B (Ix := Ix) (U := U) (Lvl := Lvl) 𝒱₀ V c t h0]; rfl
/-- At a point of case B output 4's current staging buffer holds what the point before left: the buffer is not fresh
    there (`notFresh2_4_B`: stored into since the region's entry or the last write-back, carried through the points that
    leave it idle by `hcarry2_4`; the library's `Dat.before_out_traj`). -/
theorem before2_4_B (c : Dev nD) (t : Fin cfg2.N) (h0 : ¬t.val % 14 = 0) (d) :
    (dat (Ix := Ix) (U := U) (Lvl := Lvl) 𝒱₀ V D c).before 4 t d = (outsAt2 (Ix := Ix) (U := U) (Lvl := Lvl) 𝒱₀ V c (t.val - 1) (Nat.lt_of_le_of_lt (Nat.sub_le _ _) t.isLt)).2 := by
  rw [Dat.before_out_traj _ 4 rfl (fun _ _ => rfl) (hcarry2_4 𝒱₀ V D c) t.val t rfl d,
    if_neg (by rw [notFresh2_4_B t (fun h => h0 ((hcond2_0 t).mp h))]; exact Bool.false_ne_true)]
  dsimp only [dat]

/-- At a point of case B what output 4's buffer was found holding is what the obligation asks of it: the buffer as found where the
    block is not written back, and the proof data's contents, which case B leaves as the point before had them, where it is. -/
theorem leaves4_B (c : Dev nD) (t : Fin cfg2.N) (h0 : ¬t.val % 14 = 0) :
    owns (c : Thread nD τ) (ms2_4 t) fullShare (outsAt2 (Ix := Ix) (U := U) (Lvl := Lvl) 𝒱₀ V c (t.val - 1) (Nat.lt_of_le_of_lt (Nat.sub_le _ _) t.isLt)).2
      ⊢ ((dat (Ix := Ix) (U := U) (Lvl := Lvl) 𝒱₀ V D c).leavesExact 4 t : sProp 𝕄) := by
  unfold Dat.leavesExact
  rw [idleAt2_4_B t (fun h => h0 ((hcond2_0 t).mp h))]
  cases hf : (cfg2.win 4).flush t
  · simp only [before2_4_B 𝒱₀ V D c t h0]
    iintro H; iexists (outsAt2 (Ix := Ix) (U := U) (Lvl := Lvl) 𝒱₀ V c (t.val - 1) (Nat.lt_of_le_of_lt (Nat.sub_le _ _) t.isLt)).2; iexact H
  · simp only [after2_4]
    rw [outsAt2_B (Ix := Ix) (U := U) (Lvl := Lvl) 𝒱₀ V c t h0]
    exact .rfl

/-! ## The body obligation, at a generic point -/

/-- What the body is called with at point `t` (the library's `BodyObligation`'s precondition, the windows one by one), -/
def bodyPre (c : Dev nD) (t : Fin cfg2.N) : sProp 𝕄 :=
  iprop((dat (Ix := Ix) (U := U) (Lvl := Lvl) 𝒱₀ V D c).Φ t.castSucc ∗ (dat (Ix := Ix) (U := U) (Lvl := Lvl) 𝒱₀ V D c).owesAt ι t.castSucc
    ∗ (∃ d, owns (c : Thread nD τ) (ms2_0 t) fullShare ((dat (Ix := Ix) (U := U) (Lvl := Lvl) 𝒱₀ V D c).before 0 t d))
    ∗ (∃ d, owns (c : Thread nD τ) (ms2_1 t) fullShare ((dat (Ix := Ix) (U := U) (Lvl := Lvl) 𝒱₀ V D c).before 1 t d))
    ∗ (∃ d, owns (c : Thread nD τ) (ms2_2 t) fullShare ((dat (Ix := Ix) (U := U) (Lvl := Lvl) 𝒱₀ V D c).before 2 t d))
    ∗ (∃ d, owns (c : Thread nD τ) (ms2_3 t) fullShare ((dat (Ix := Ix) (U := U) (Lvl := Lvl) 𝒱₀ V D c).before 3 t d))
    ∗ (∃ d, owns (c : Thread nD τ) (ms2_4 t) fullShare ((dat (Ix := Ix) (U := U) (Lvl := Lvl) 𝒱₀ V D c).before 4 t d)))

/-- and what it returns. -/
def bodyPost (c : Dev nD) (t : Fin cfg2.N) : sProp 𝕄 :=
  iprop((dat (Ix := Ix) (U := U) (Lvl := Lvl) 𝒱₀ V D c).Φ t.succ ∗ (dat (Ix := Ix) (U := U) (Lvl := Lvl) 𝒱₀ V D c).owesAt ι t.succ
    ∗ (dat (Ix := Ix) (U := U) (Lvl := Lvl) 𝒱₀ V D c).leavesExact 0 t
    ∗ (dat (Ix := Ix) (U := U) (Lvl := Lvl) 𝒱₀ V D c).leavesExact 1 t
    ∗ (dat (Ix := Ix) (U := U) (Lvl := Lvl) 𝒱₀ V D c).leavesExact 2 t
    ∗ (dat (Ix := Ix) (U := U) (Lvl := Lvl) 𝒱₀ V D c).leavesExact 3 t
    ∗ (dat (Ix := Ix) (U := U) (Lvl := Lvl) 𝒱₀ V D c).leavesExact 4 t)

set_option maxHeartbeats 800000 in
/-- The body at any point: the inputs' memrefs hold their blocks (`before2_W`); the closed forms say which case the point is in (`by_cases`), an output the case reads before covering holds what the point before left (`before2_W_κ`); so the
    run applies; the invariant passes through unread; the core owes `D c` throughout. -/
theorem sound_body (c : Dev nD) (t : Fin cfg2.N) :
    bodyPre (U := U) (Lvl := Lvl) 𝒱₀ V D ι c t ⊢ wp frame (wpE (defs₀ (F := F)) 𝒱₀ c none) Set.univ (bodyAt2 t) (fun _ => bodyPost (U := U) (Lvl := Lvl) 𝒱₀ V D ι c t) := by
  unfold bodyPre bodyPost bodyAt2
  simp only [before2_0, before2_1, before2_2]
  rw [show (dat (Ix := Ix) (U := U) (Lvl := Lvl) 𝒱₀ V D c).Φ t.succ = (dat (Ix := Ix) (U := U) (Lvl := Lvl) 𝒱₀ V D c).Φ t.castSucc from rfl,
    show (dat (Ix := Ix) (U := U) (Lvl := Lvl) 𝒱₀ V D c).owesAt ι t.succ = (dat (Ix := Ix) (U := U) (Lvl := Lvl) 𝒱₀ V D c).owesAt ι t.castSucc from rfl]
  have hN : t.val < 336 := lt_of_lt_of_eq t.isLt (show cfg2.N = 336 from N_2)
  by_cases h0 : t.val % 14 = 0
  · rw [show (dat (Ix := Ix) (U := U) (Lvl := Lvl) 𝒱₀ V D c).leavesExact 0 t = owns (c : Thread nD τ) (ms2_0 t) fullShare ((dat (Ix := Ix) (U := U) (Lvl := Lvl) 𝒱₀ V D c).after 0 t) from by
      unfold Dat.leavesExact; rw [liveAt2_0 t], after2_0]
    rw [show (dat (Ix := Ix) (U := U) (Lvl := Lvl) 𝒱₀ V D c).leavesExact 1 t = owns (c : Thread nD τ) (ms2_1 t) fullShare ((dat (Ix := Ix) (U := U) (Lvl := Lvl) 𝒱₀ V D c).after 1 t) from by
      unfold Dat.leavesExact; rw [liveAt2_1 t], after2_1]
    rw [show (dat (Ix := Ix) (U := U) (Lvl := Lvl) 𝒱₀ V D c).leavesExact 2 t = owns (c : Thread nD τ) (ms2_2 t) fullShare ((dat (Ix := Ix) (U := U) (Lvl := Lvl) 𝒱₀ V D c).after 2 t) from by
      unfold Dat.leavesExact; rw [liveAt2_2 t], after2_2]
    rw [show (dat (Ix := Ix) (U := U) (Lvl := Lvl) 𝒱₀ V D c).leavesExact 3 t = owns (c : Thread nD τ) (ms2_3 t) fullShare ((dat (Ix := Ix) (U := U) (Lvl := Lvl) 𝒱₀ V D c).after 3 t) from by
      unfold Dat.leavesExact; rw [liveAt2_3 t], after2_3]
    rw [show (dat (Ix := Ix) (U := U) (Lvl := Lvl) 𝒱₀ V D c).leavesExact 4 t = owns (c : Thread nD τ) (ms2_4 t) fullShare ((dat (Ix := Ix) (U := U) (Lvl := Lvl) 𝒱₀ V D c).after 4 t) from by
      unfold Dat.leavesExact; rw [liveAt2_4_A t ((hcond2_0 t).mpr h0)], after2_4]
    rw [outsAt2_A (Ix := Ix) (U := U) (Lvl := Lvl) 𝒱₀ V c t h0]
    unfold out2_A_3 out2_A_4; (try dsimp only)
    iintro ⟨HΦ, Ho, ⟨%d0, H0⟩, ⟨%d1, H1⟩, ⟨%d2, H2⟩, ⟨%d3, H3⟩, ⟨%d4, H4⟩⟩
    iapply ((kernelRun2_A (Ix := Ix) (U := U) (Lvl := Lvl) 𝒱₀ c (grid2.coords t) _ _ _ _ _ _ _ _ _ _ ((hcond2_0 t).mpr h0) (iblk V c 0 t) (iblk V c 1 t) (iblk V c 2 t)).2.2 Set.univ _)
    isplitl [H0]; · iexact H0
    isplitl [H1]; · iexact H1
    isplitl [H2]; · iexact H2
    isplitl [H3]; · iexists _; iexact H3
    isplitl [H4]; · iexists _; iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover2_A_3 (Ix := Ix) (U := U) (Lvl := Lvl) 𝒱₀ c _ _ _ _ _ _ _ _ _ _ _ _ _ _ _)
    unfold owns; iexists _; isplitr
    swap; · iexact H4
    ipureintro; exact View.read_writes_of_cover _ _ _ _ _ (cover2_A_4 (Ix := Ix) (U := U) (Lvl := Lvl) 𝒱₀ c _ _ _ _ _ _ _ _ _ _ _ _ _ _ _)
  · rw [show (dat (Ix := Ix) (U := U) (Lvl := Lvl) 𝒱₀ V D c).leavesExact 0 t = owns (c : Thread nD τ) (ms2_0 t) fullShare ((dat (Ix := Ix) (U := U) (Lvl := Lvl) 𝒱₀ V D c).after 0 t) from by
      unfold Dat.leavesExact; rw [liveAt2_0 t], after2_0]
    rw [show (dat (Ix := Ix) (U := U) (Lvl := Lvl) 𝒱₀ V D c).leavesExact 1 t = owns (c : Thread nD τ) (ms2_1 t) fullShare ((dat (Ix := Ix) (U := U) (Lvl := Lvl) 𝒱₀ V D c).after 1 t) from by
      unfold Dat.leavesExact; rw [liveAt2_1 t], after2_1]
    rw [show (dat (Ix := Ix) (U := U) (Lvl := Lvl) 𝒱₀ V D c).leavesExact 2 t = owns (c : Thread nD τ) (ms2_2 t) fullShare ((dat (Ix := Ix) (U := U) (Lvl := Lvl) 𝒱₀ V D c).after 2 t) from by
      unfold Dat.leavesExact; rw [liveAt2_2 t], after2_2]
    rw [show (dat (Ix := Ix) (U := U) (Lvl := Lvl) 𝒱₀ V D c).leavesExact 3 t = owns (c : Thread nD τ) (ms2_3 t) fullShare ((dat (Ix := Ix) (U := U) (Lvl := Lvl) 𝒱₀ V D c).after 3 t) from by
      unfold Dat.leavesExact; rw [liveAt2_3 t], after2_3]
    rw [outsAt2_B (Ix := Ix) (U := U) (Lvl := Lvl) 𝒱₀ V c t h0]
    simp only [before2_4_B 𝒱₀ V D c t h0]
    unfold out2_B_3; (try dsimp only)
    iintro ⟨HΦ, Ho, ⟨%d0, H0⟩, ⟨%d1, H1⟩, ⟨%d2, H2⟩, ⟨%d3, H3⟩, ⟨%d4, H4⟩⟩
    iapply ((kernelRun2_B (Ix := Ix) (U := U) (Lvl := Lvl) 𝒱₀ c (grid2.coords t) _ _ _ _ _ _ _ _ _ _ (fun h => h0 ((hcond2_0 t).mp h)) (iblk V c 0 t) (iblk V c 1 t) (iblk V c 2 t) _).2.2 Set.univ _)
    isplitl [H0]; · iexact H0
    isplitl [H1]; · iexact H1
    isplitl [H2]; · iexact H2
    isplitl [H3]; · iexists _; iexact H3
    isplitl [H4]; · iexact H4
    iintro ⟨H0, H1, H2, ⟨%e3, H3⟩, H4⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover2_B_3 (Ix := Ix) (U := U) (Lvl := Lvl) 𝒱₀ c _ _ _ _ _ _ _ _ _ _ _ _ _ _ _ _)
    iapply (leaves4_B 𝒱₀ V D c t h0); iexact H4

/-- The body table's row at point `t`'s slots is the body as `bodyAt2` spells it. -/
theorem defs₀_row (t : Fin cfg2.N) :
    defs₀ (F := F) .tc cfg2.body (cfg2.bodyArgs t (cfg2.slots t)) = bodyAt2 t := by
  unfold defs₀; rw [Defs.onTc_tc]

/-- The library's body obligation, at every point: the body's triple restated (the library's `triple_restated`). -/
theorem body_obligation (c : Dev nD) : BodyObligation (dat (Ix := Ix) (U := U) (Lvl := Lvl) 𝒱₀ V D c) (defs₀ (F := F)) 𝒱₀ ι Set.univ := fun t => by
  rw [bigSep_W2, bigSep_W2, defs₀_row]
  exact triple_restated (sound_body (U := U) (Lvl := Lvl) 𝒱₀ V D ι c t) rfl .rfl fun _ => .rfl

end Cert.Kernel.Own.K2

end
-- ==== Proof.Kernel.RegionsD.lean ====
/- `frame_condD`: what `Gen.frame_cond` of `proofs.«01_k».proof.Proof.Gen.Kernel` concludes, from its hypotheses less the records of 3 kernel regions
   (custom calls 0, 1, 2). Each record is built here from the kernel's run, stated for any entry contents and tally
   (`K0`, `K1`, `K2`), over its own arrays (the library's `RegionSeg.ofHeld`), entered from the frame's valuation before the
   region and left at the one after.
   In a record's place the theorem takes the tally that the core owes while the region runs, with its level cut (`DK`, `bK`, `hcutK`);
   that the rest states around the region are the core's random-number register (`prngReg`), that `owes` and a remainder (`ErK`, `hEinK`,
   `hEoutK`); and that the frame's unknown for each output array is what the kernel's proof data leave there (`houtK_w`). K is the region's
   number and w the output window's.
   -/
module

public import proofs.«01_k».proof.Proof.Gen.Kernel.Regions
public import proofs.«01_k».proof.Proof.Kernel.K0
public import proofs.«01_k».proof.Proof.Kernel.K1
public import proofs.«01_k».proof.Proof.Kernel.K2
public import Idealize.ShloMosaic.Lib.Pipeline.RegionArrays

@[expose] public section

noncomputable section

namespace Cert.Kernel.Own

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

/-! ## The supplied regions' arrays and entry contents -/

/-- Each window's array of region 0 (custom call 0), as a device buffer, is in the region's array set. -/
theorem arr0_mem (w : Fin cfg0.W) : (Proc.devRef .tc (Pipeline.arrRef spec0 w) : DevRef τ sig) ∈ Pipeline.arrRefs (τ := τ) spec0 :=
  Finset.mem_map_of_mem _ (Finset.mem_image_of_mem _ (Finset.mem_univ w))
/-- They are among the held buffers: unscoped. -/
theorem arr0_S : Pipeline.arrRefs (τ := τ) spec0 ⊆ Pipeline.ucRefs τ sig :=
  Pipeline.arrRefs_sub_ucRefs spec0 (by decide)
/-- Region 0's entry contents: the valuation before item 1, at the TensorCore's references. -/
abbrev Ve0 (m : (ℓ : Loc nD τ sig) → Buf (Elt F) ℓ) (c : Dev nD) (b : Ref sig .tc) : Buf (Elt F) ((c : Thread nD τ).loc b) := V1 m c (Proc.devRef .tc b)

theorem V2_at_main_v1 (m : (ℓ : Loc nD τ sig) → Buf (Elt F) ℓ) (outs : Outs (F := F)) (c : Dev nD) : V2 m outs c (Proc.devRef .tc main_v1) = outs 2 main_v1 c := by
  simp only [V2, Function.update_self]

/-- Across region 0 every held buffer but its arrays keeps its contents: the frame has it change its output arrays alone. -/
theorem rest0_eq (m : (ℓ : Loc nD τ sig) → Buf (Elt F) ℓ) (outs : Outs (F := F)) (c : Dev nD) : ∀ b ∈ (Pipeline.ucRefs τ sig) \ Pipeline.arrRefs (τ := τ) spec0, V2 m outs c b = V1 m c b := fun b hb => by
  have hn : b ∉ Pipeline.arrRefs (τ := τ) spec0 := (Finset.mem_sdiff.mp hb).2
  have h_main_v1 : b ≠ Proc.devRef .tc main_v1 := by rintro rfl; exact hn (by first | exact arr0_mem 2 | decide)
  simp only [V2, Function.update_of_ne h_main_v1]

/-- Each window's array of region 1 (custom call 1), as a device buffer, is in the region's array set. -/
theorem arr1_mem (w : Fin cfg1.W) : (Proc.devRef .tc (Pipeline.arrRef spec1 w) : DevRef τ sig) ∈ Pipeline.arrRefs (τ := τ) spec1 :=
  Finset.mem_map_of_mem _ (Finset.mem_image_of_mem _ (Finset.mem_univ w))
/-- They are among the held buffers: unscoped. -/
theorem arr1_S : Pipeline.arrRefs (τ := τ) spec1 ⊆ Pipeline.ucRefs τ sig :=
  Pipeline.arrRefs_sub_ucRefs spec1 (by decide)
/-- Region 1's entry contents: the valuation before item 2, at the TensorCore's references. -/
abbrev Ve1 (m : (ℓ : Loc nD τ sig) → Buf (Elt F) ℓ) (outs : Outs (F := F)) (c : Dev nD) (b : Ref sig .tc) : Buf (Elt F) ((c : Thread nD τ).loc b) := V2 m outs c (Proc.devRef .tc b)

theorem V3_at_main_v2 (m : (ℓ : Loc nD τ sig) → Buf (Elt F) ℓ) (outs : Outs (F := F)) (c : Dev nD) : V3 m outs c (Proc.devRef .tc main_v2) = outs 3 main_v2 c := by
  simp only [V3, Function.update_self]

/-- Across region 1 every held buffer but its arrays keeps its contents: the frame has it change its output arrays alone. -/
theorem rest1_eq (m : (ℓ : Loc nD τ sig) → Buf (Elt F) ℓ) (outs : Outs (F := F)) (c : Dev nD) : ∀ b ∈ (Pipeline.ucRefs τ sig) \ Pipeline.arrRefs (τ := τ) spec1, V3 m outs c b = V2 m outs c b := fun b hb => by
  have hn : b ∉ Pipeline.arrRefs (τ := τ) spec1 := (Finset.mem_sdiff.mp hb).2
  have h_main_v2 : b ≠ Proc.devRef .tc main_v2 := by rintro rfl; exact hn (by first | exact arr1_mem 2 | decide)
  simp only [V3, Function.update_of_ne h_main_v2]

/-- Each window's array of region 2 (custom call 2), as a device buffer, is in the region's array set. -/
theorem arr2_mem (w : Fin cfg2.W) : (Proc.devRef .tc (Pipeline.arrRef spec2 w) : DevRef τ sig) ∈ Pipeline.arrRefs (τ := τ) spec2 :=
  Finset.mem_map_of_mem _ (Finset.mem_image_of_mem _ (Finset.mem_univ w))
/-- They are among the held buffers: unscoped. -/
theorem arr2_S : Pipeline.arrRefs (τ := τ) spec2 ⊆ Pipeline.ucRefs τ sig :=
  Pipeline.arrRefs_sub_ucRefs spec2 (by decide)
/-- Region 2's entry contents: the valuation before item 3, at the TensorCore's references. -/
abbrev Ve2 (m : (ℓ : Loc nD τ sig) → Buf (Elt F) ℓ) (outs : Outs (F := F)) (c : Dev nD) (b : Ref sig .tc) : Buf (Elt F) ((c : Thread nD τ).loc b) := V3 m outs c (Proc.devRef .tc b)

theorem V4_at_main_v3_0 (m : (ℓ : Loc nD τ sig) → Buf (Elt F) ℓ) (outs : Outs (F := F)) (c : Dev nD) : V4 m outs c (Proc.devRef .tc main_v3_0) = outs 4 main_v3_0 c := by
  simp only [V4, Function.update_of_ne (StableHlo.devRef_ne_of_ne (by decide : (main_v3_0 : Ref sig .tc) ≠ main_v3_1)), Function.update_self]

theorem V4_at_main_v3_1 (m : (ℓ : Loc nD τ sig) → Buf (Elt F) ℓ) (outs : Outs (F := F)) (c : Dev nD) : V4 m outs c (Proc.devRef .tc main_v3_1) = outs 4 main_v3_1 c := by
  simp only [V4, Function.update_self]

/-- Across region 2 every held buffer but its arrays keeps its contents: the frame has it change its output arrays alone. -/
theorem rest2_eq (m : (ℓ : Loc nD τ sig) → Buf (Elt F) ℓ) (outs : Outs (F := F)) (c : Dev nD) : ∀ b ∈ (Pipeline.ucRefs τ sig) \ Pipeline.arrRefs (τ := τ) spec2, V4 m outs c b = V3 m outs c b := fun b hb => by
  have hn : b ∉ Pipeline.arrRefs (τ := τ) spec2 := (Finset.mem_sdiff.mp hb).2
  have h_main_v3_0 : b ≠ Proc.devRef .tc main_v3_0 := by rintro rfl; exact hn (by first | exact arr2_mem 3 | decide)
  have h_main_v3_1 : b ≠ Proc.devRef .tc main_v3_1 := by rintro rfl; exact hn (by first | exact arr2_mem 4 | decide)
  simp only [V4, Function.update_of_ne h_main_v3_0, Function.update_of_ne h_main_v3_1]

section

variable {Ix : Type} [DecidableEq Ix] {U : Type} [URA U] {Lvl : Type} [Preorder Lvl]

/-- The proof-data family: a supplied pipeline's entry is the kernel's generated `dat`, entered from `VeK` while the core owes `DK`. -/
def pdatsD (m : (ℓ : Loc nD τ sig) → Buf (Elt F) ℓ) (outs : Outs (F := F)) (𝒱₀ : Variants) (D0 : Dev nD → CellTallies nD τ sig Ix) (D1 : Dev nD → CellTallies nD τ sig Ix) (D2 : Dev nD → CellTallies nD τ sig Ix) :
    (p : Fin 3) → (c : Dev nD) → Dat τ (Elt F) Ix ℕ U Lvl (cfgs p) c
  | ⟨0, _⟩ => fun c => K0.dat 𝒱₀ (Ve0 m) D0 c
  | ⟨1, _⟩ => fun c => K1.dat 𝒱₀ (Ve1 m outs) D1 c
  | ⟨2, _⟩ => fun c => K2.dat 𝒱₀ (Ve2 m outs) D2 c
  | ⟨_ + 3, h⟩ => absurd h (Nat.not_lt.2 (Nat.le_add_left _ _))

/-! ## The supplied regions' records and entailments -/

-- a library definition stated over `pin pcs a p` unifies with the pinned configuration only when unification may unfold plain
-- definitions in a metavariable's type
set_option backward.isDefEq.respectTransparency.types false in
/-- Region 0 (custom call 0, item 1) from the kernel's run: its arrays held at `V1` in and at `V2` out. Every other held
    buffer, at `V1`, and `Er c` ride; the random-number register goes in and comes out; the core owes `D0 c`. -/
def R0D (m : (ℓ : Loc nD τ sig) → Buf (Elt F) ℓ) (outs : Outs (F := F)) (𝒱₀ : Variants) (L : GSem nD τ sig → Finset Ix) (lv : GSem nD τ sig → Ix → Lvl) (ι : Ix) (D0 : Dev nD → CellTallies nD τ sig Ix) (D1 : Dev nD → CellTallies nD τ sig Ix) (D2 : Dev nD → CellTallies nD τ sig Ix)
    (b : Dev nD → Lvl) (hcut : Pipeline.LevelCut (pcfgs (F := F)) adm ι L lv 0 D0 b) (Er : Dev nD → sProp (MT nD τ sig Ix (Elt F) ℕ U Lvl))
    (hout0_2 : ∀ c : Dev nD, outs 2 main_v1 c = ((pdatsD (U := U) (Lvl := Lvl) m outs 𝒱₀ D0 D1 D2) 0 c).arrAt 2 cfg0.N) :
    RegionSeg (pcfgs (F := F)) adm (pdatsD (U := U) (Lvl := Lvl) m outs 𝒱₀ D0 D1 D2) ι defs₀ 𝒱₀ L lv 0 :=
  Pipeline.RegionSeg.ofHeld (pcfgs (F := F)) adm (pdatsD (U := U) (Lvl := Lvl) m outs 𝒱₀ D0 D1 D2) ι defs₀ 𝒱₀ L lv 0 D0
    (fun c => iprop(∃ r, prngReg c r)) (fun c => iprop(∃ r, prngReg c r))
    launch0.toP rfl
    (fun c => (K0.body_obligation (U := U) (Lvl := Lvl) 𝒱₀ (Ve0 m) D0 ι c).loose) (fun _ _ => rfl) (fun _ => rfl)
    (fun c => ((pdatsD (U := U) (Lvl := Lvl) m outs 𝒱₀ D0 D1 D2) 0 c).share_full fun _ => rfl) (fun c => K0.hin (U := U) (Lvl := Lvl) 𝒱₀ (Ve0 m) D0 c) (fun c => K0.hout (U := U) (Lvl := Lvl) 𝒱₀ (Ve0 m) D0 c) b hcut
    (fun c => iprop(StableHlo.held (c : Thread nD τ) ((Pipeline.ucRefs τ sig) \ Pipeline.arrRefs (τ := τ) spec0) (V1 m c) ∗ Er c))
    (V1 m) (V2 m outs) (fun _ _ => rfl)
    (fun c => fun | 0 => (((pdatsD (U := U) (Lvl := Lvl) m outs 𝒱₀ D0 D1 D2) 0 c).arrAt_in 0 rfl _).trans ((K0.A_eq (U := U) (Lvl := Lvl) 𝒱₀ (Ve0 m) D0 c 0).trans (V2_of m outs c (Pipeline.arrRef spec0 0) (by decide)).symm) | 1 => (((pdatsD (U := U) (Lvl := Lvl) m outs 𝒱₀ D0 D1 D2) 0 c).arrAt_in 1 rfl _).trans ((K0.A_eq (U := U) (Lvl := Lvl) 𝒱₀ (Ve0 m) D0 c 1).trans (V2_of m outs c (Pipeline.arrRef spec0 1) (by decide)).symm) | 2 => (hout0_2 c).symm.trans (V2_at_main_v1 m outs c).symm | ⟨_ + 3, h⟩ => absurd h (Nat.not_lt.2 (Nat.le_add_left _ _)))

/-- Region 0's entry entailment: the held buffers at `V1` split at its arrays, and the rest state `E 0` sorted (`hEin`). -/
theorem hpre0D (m : (ℓ : Loc nD τ sig) → Buf (Elt F) ℓ) (outs : Outs (F := F)) (𝒱₀ : Variants) (L : GSem nD τ sig → Finset Ix) (lv : GSem nD τ sig → Ix → Lvl) (ι : Ix) (D0 : Dev nD → CellTallies nD τ sig Ix) (D1 : Dev nD → CellTallies nD τ sig Ix) (D2 : Dev nD → CellTallies nD τ sig Ix)
    (b : Dev nD → Lvl) (hcut : Pipeline.LevelCut (pcfgs (F := F)) adm ι L lv 0 D0 b)
    (E : Fin 4 → Dev nD → sProp (MT nD τ sig Ix (Elt F) ℕ U Lvl)) (Er : Dev nD → sProp (MT nD τ sig Ix (Elt F) ℕ U Lvl))
    (hEin : ∀ c : Dev nD, E 0 c ⊢ iprop((∃ r, prngReg c r) ∗ (∃ W, owes (c : Thread nD τ) (D0 c) W) ∗ Er c))
    (hout0_2 : ∀ c : Dev nD, outs 2 main_v1 c = ((pdatsD (U := U) (Lvl := Lvl) m outs 𝒱₀ D0 D1 D2) 0 c).arrAt 2 cfg0.N) (c : Dev nD) :
    iprop(StableHlo.held (c : Thread nD τ) (Pipeline.ucRefs τ sig) (V1 m c) ∗ E 0 c) ⊢ (R0D m outs 𝒱₀ L lv ι D0 D1 D2 b hcut Er hout0_2).pre c := by
  show _ ⊢ iprop(StableHlo.held (c : Thread nD τ) (Pipeline.arrRefs (τ := τ) spec0) (V1 m c) ∗ (∃ r, prngReg c r)
    ∗ (StableHlo.held (c : Thread nD τ) ((Pipeline.ucRefs τ sig) \ Pipeline.arrRefs (τ := τ) spec0) (V1 m c) ∗ Er c) ∗ ∃ W, owes (c : Thread nD τ) (D0 c) W)
  rw [StableHlo.held_sub_split (c : Thread nD τ) arr0_S (V1 m c)]
  iintro ⟨⟨Ha, Hr⟩, HE⟩
  ihave HE' := (hEin c) $$ HE
  icases HE' with ⟨Hp, HO, Hx⟩
  isplitl [Ha]; · iexact Ha
  isplitl [Hp]; · iexact Hp
  isplitl [Hr Hx]; · isplitl [Hr] <;> iassumption
  iexact HO

/-- Region 0's exit entailment: its arrays at `V2` rejoined with the other held buffers, unchanged (`rest0_eq`), and the rest state
    `E 1` made (`hEout`). -/
theorem hpost0D (m : (ℓ : Loc nD τ sig) → Buf (Elt F) ℓ) (outs : Outs (F := F)) (𝒱₀ : Variants) (L : GSem nD τ sig → Finset Ix) (lv : GSem nD τ sig → Ix → Lvl) (ι : Ix) (D0 : Dev nD → CellTallies nD τ sig Ix) (D1 : Dev nD → CellTallies nD τ sig Ix) (D2 : Dev nD → CellTallies nD τ sig Ix)
    (b : Dev nD → Lvl) (hcut : Pipeline.LevelCut (pcfgs (F := F)) adm ι L lv 0 D0 b)
    (E : Fin 4 → Dev nD → sProp (MT nD τ sig Ix (Elt F) ℕ U Lvl)) (Er : Dev nD → sProp (MT nD τ sig Ix (Elt F) ℕ U Lvl))
    (hEout : ∀ c : Dev nD, iprop((∃ r, prngReg c r) ∗ (∃ W, owes (c : Thread nD τ) (D0 c) W) ∗ Er c) ⊢ E 1 c)
    (hout0_2 : ∀ c : Dev nD, outs 2 main_v1 c = ((pdatsD (U := U) (Lvl := Lvl) m outs 𝒱₀ D0 D1 D2) 0 c).arrAt 2 cfg0.N) (c : Dev nD) :
    (R0D m outs 𝒱₀ L lv ι D0 D1 D2 b hcut Er hout0_2).post c ⊢ iprop(StableHlo.held (c : Thread nD τ) (Pipeline.ucRefs τ sig) (V2 m outs c) ∗ E 1 c) := by
  show iprop(StableHlo.held (c : Thread nD τ) (Pipeline.arrRefs (τ := τ) spec0) (V2 m outs c) ∗ (∃ r, prngReg c r)
    ∗ (StableHlo.held (c : Thread nD τ) ((Pipeline.ucRefs τ sig) \ Pipeline.arrRefs (τ := τ) spec0) (V1 m c) ∗ Er c) ∗ ∃ W, owes (c : Thread nD τ) (D0 c) W) ⊢ _
  rw [StableHlo.held_sub_split (c : Thread nD τ) arr0_S (V2 m outs c),
    StableHlo.held_congr (c : Thread nD τ) (S := (Pipeline.ucRefs τ sig) \ Pipeline.arrRefs (τ := τ) spec0) (rest0_eq m outs c)]
  iintro ⟨Ha, Hp, ⟨Hr, Hx⟩, HO⟩
  isplitl [Ha Hr]; · isplitl [Ha] <;> iassumption
  iapply (hEout c)
  isplitl [Hp]; · iexact Hp
  isplitl [HO]; · iexact HO
  iexact Hx

-- a library definition stated over `pin pcs a p` unifies with the pinned configuration only when unification may unfold plain
-- definitions in a metavariable's type
set_option backward.isDefEq.respectTransparency.types false in
/-- Region 1 (custom call 1, item 2) from the kernel's run: its arrays held at `V2` in and at `V3` out. Every other held
    buffer, at `V2`, and `Er c` ride; the random-number register goes in and comes out; the core owes `D1 c`. -/
def R1D (m : (ℓ : Loc nD τ sig) → Buf (Elt F) ℓ) (outs : Outs (F := F)) (𝒱₀ : Variants) (L : GSem nD τ sig → Finset Ix) (lv : GSem nD τ sig → Ix → Lvl) (ι : Ix) (D0 : Dev nD → CellTallies nD τ sig Ix) (D1 : Dev nD → CellTallies nD τ sig Ix) (D2 : Dev nD → CellTallies nD τ sig Ix)
    (b : Dev nD → Lvl) (hcut : Pipeline.LevelCut (pcfgs (F := F)) adm ι L lv 1 D1 b) (Er : Dev nD → sProp (MT nD τ sig Ix (Elt F) ℕ U Lvl))
    (hout1_2 : ∀ c : Dev nD, outs 3 main_v2 c = ((pdatsD (U := U) (Lvl := Lvl) m outs 𝒱₀ D0 D1 D2) 1 c).arrAt 2 cfg1.N) :
    RegionSeg (pcfgs (F := F)) adm (pdatsD (U := U) (Lvl := Lvl) m outs 𝒱₀ D0 D1 D2) ι defs₀ 𝒱₀ L lv 1 :=
  Pipeline.RegionSeg.ofHeld (pcfgs (F := F)) adm (pdatsD (U := U) (Lvl := Lvl) m outs 𝒱₀ D0 D1 D2) ι defs₀ 𝒱₀ L lv 1 D1
    (fun c => iprop(∃ r, prngReg c r)) (fun c => iprop(∃ r, prngReg c r))
    launch1.toP rfl
    (fun c => (K1.body_obligation (U := U) (Lvl := Lvl) 𝒱₀ (Ve1 m outs) D1 ι c).loose) (fun _ _ => rfl) (fun _ => rfl)
    (fun c => ((pdatsD (U := U) (Lvl := Lvl) m outs 𝒱₀ D0 D1 D2) 1 c).share_full fun _ => rfl) (fun _ => .rfl) (fun _ => .rfl) b hcut
    (fun c => iprop(StableHlo.held (c : Thread nD τ) ((Pipeline.ucRefs τ sig) \ Pipeline.arrRefs (τ := τ) spec1) (V2 m outs c) ∗ Er c))
    (V2 m outs) (V3 m outs) (fun _ _ => rfl)
    (fun c => fun | 0 => (((pdatsD (U := U) (Lvl := Lvl) m outs 𝒱₀ D0 D1 D2) 1 c).arrAt_in 0 rfl _).trans ((K1.A_eq (U := U) (Lvl := Lvl) 𝒱₀ (Ve1 m outs) D1 c 0).trans (V3_of m outs c (Pipeline.arrRef spec1 0) (by decide)).symm) | 1 => (((pdatsD (U := U) (Lvl := Lvl) m outs 𝒱₀ D0 D1 D2) 1 c).arrAt_in 1 rfl _).trans ((K1.A_eq (U := U) (Lvl := Lvl) 𝒱₀ (Ve1 m outs) D1 c 1).trans (V3_of m outs c (Pipeline.arrRef spec1 1) (by decide)).symm) | 2 => (hout1_2 c).symm.trans (V3_at_main_v2 m outs c).symm | ⟨_ + 3, h⟩ => absurd h (Nat.not_lt.2 (Nat.le_add_left _ _)))

/-- Region 1's entry entailment: the held buffers at `V2` split at its arrays, and the rest state `E 1` sorted (`hEin`). -/
theorem hpre1D (m : (ℓ : Loc nD τ sig) → Buf (Elt F) ℓ) (outs : Outs (F := F)) (𝒱₀ : Variants) (L : GSem nD τ sig → Finset Ix) (lv : GSem nD τ sig → Ix → Lvl) (ι : Ix) (D0 : Dev nD → CellTallies nD τ sig Ix) (D1 : Dev nD → CellTallies nD τ sig Ix) (D2 : Dev nD → CellTallies nD τ sig Ix)
    (b : Dev nD → Lvl) (hcut : Pipeline.LevelCut (pcfgs (F := F)) adm ι L lv 1 D1 b)
    (E : Fin 4 → Dev nD → sProp (MT nD τ sig Ix (Elt F) ℕ U Lvl)) (Er : Dev nD → sProp (MT nD τ sig Ix (Elt F) ℕ U Lvl))
    (hEin : ∀ c : Dev nD, E 1 c ⊢ iprop((∃ r, prngReg c r) ∗ (∃ W, owes (c : Thread nD τ) (D1 c) W) ∗ Er c))
    (hout1_2 : ∀ c : Dev nD, outs 3 main_v2 c = ((pdatsD (U := U) (Lvl := Lvl) m outs 𝒱₀ D0 D1 D2) 1 c).arrAt 2 cfg1.N) (c : Dev nD) :
    iprop(StableHlo.held (c : Thread nD τ) (Pipeline.ucRefs τ sig) (V2 m outs c) ∗ E 1 c) ⊢ (R1D m outs 𝒱₀ L lv ι D0 D1 D2 b hcut Er hout1_2).pre c := by
  show _ ⊢ iprop(StableHlo.held (c : Thread nD τ) (Pipeline.arrRefs (τ := τ) spec1) (V2 m outs c) ∗ (∃ r, prngReg c r)
    ∗ (StableHlo.held (c : Thread nD τ) ((Pipeline.ucRefs τ sig) \ Pipeline.arrRefs (τ := τ) spec1) (V2 m outs c) ∗ Er c) ∗ ∃ W, owes (c : Thread nD τ) (D1 c) W)
  rw [StableHlo.held_sub_split (c : Thread nD τ) arr1_S (V2 m outs c)]
  iintro ⟨⟨Ha, Hr⟩, HE⟩
  ihave HE' := (hEin c) $$ HE
  icases HE' with ⟨Hp, HO, Hx⟩
  isplitl [Ha]; · iexact Ha
  isplitl [Hp]; · iexact Hp
  isplitl [Hr Hx]; · isplitl [Hr] <;> iassumption
  iexact HO

/-- Region 1's exit entailment: its arrays at `V3` rejoined with the other held buffers, unchanged (`rest1_eq`), and the rest state
    `E 2` made (`hEout`). -/
theorem hpost1D (m : (ℓ : Loc nD τ sig) → Buf (Elt F) ℓ) (outs : Outs (F := F)) (𝒱₀ : Variants) (L : GSem nD τ sig → Finset Ix) (lv : GSem nD τ sig → Ix → Lvl) (ι : Ix) (D0 : Dev nD → CellTallies nD τ sig Ix) (D1 : Dev nD → CellTallies nD τ sig Ix) (D2 : Dev nD → CellTallies nD τ sig Ix)
    (b : Dev nD → Lvl) (hcut : Pipeline.LevelCut (pcfgs (F := F)) adm ι L lv 1 D1 b)
    (E : Fin 4 → Dev nD → sProp (MT nD τ sig Ix (Elt F) ℕ U Lvl)) (Er : Dev nD → sProp (MT nD τ sig Ix (Elt F) ℕ U Lvl))
    (hEout : ∀ c : Dev nD, iprop((∃ r, prngReg c r) ∗ (∃ W, owes (c : Thread nD τ) (D1 c) W) ∗ Er c) ⊢ E 2 c)
    (hout1_2 : ∀ c : Dev nD, outs 3 main_v2 c = ((pdatsD (U := U) (Lvl := Lvl) m outs 𝒱₀ D0 D1 D2) 1 c).arrAt 2 cfg1.N) (c : Dev nD) :
    (R1D m outs 𝒱₀ L lv ι D0 D1 D2 b hcut Er hout1_2).post c ⊢ iprop(StableHlo.held (c : Thread nD τ) (Pipeline.ucRefs τ sig) (V3 m outs c) ∗ E 2 c) := by
  show iprop(StableHlo.held (c : Thread nD τ) (Pipeline.arrRefs (τ := τ) spec1) (V3 m outs c) ∗ (∃ r, prngReg c r)
    ∗ (StableHlo.held (c : Thread nD τ) ((Pipeline.ucRefs τ sig) \ Pipeline.arrRefs (τ := τ) spec1) (V2 m outs c) ∗ Er c) ∗ ∃ W, owes (c : Thread nD τ) (D1 c) W) ⊢ _
  rw [StableHlo.held_sub_split (c : Thread nD τ) arr1_S (V3 m outs c),
    StableHlo.held_congr (c : Thread nD τ) (S := (Pipeline.ucRefs τ sig) \ Pipeline.arrRefs (τ := τ) spec1) (rest1_eq m outs c)]
  iintro ⟨Ha, Hp, ⟨Hr, Hx⟩, HO⟩
  isplitl [Ha Hr]; · isplitl [Ha] <;> iassumption
  iapply (hEout c)
  isplitl [Hp]; · iexact Hp
  isplitl [HO]; · iexact HO
  iexact Hx

-- a library definition stated over `pin pcs a p` unifies with the pinned configuration only when unification may unfold plain
-- definitions in a metavariable's type
set_option backward.isDefEq.respectTransparency.types false in
/-- Region 2 (custom call 2, item 3) from the kernel's run: its arrays held at `V3` in and at `V4` out. Every other held
    buffer, at `V3`, and `Er c` ride; the random-number register goes in and comes out; the core owes `D2 c`. -/
def R2D (m : (ℓ : Loc nD τ sig) → Buf (Elt F) ℓ) (outs : Outs (F := F)) (𝒱₀ : Variants) (L : GSem nD τ sig → Finset Ix) (lv : GSem nD τ sig → Ix → Lvl) (ι : Ix) (D0 : Dev nD → CellTallies nD τ sig Ix) (D1 : Dev nD → CellTallies nD τ sig Ix) (D2 : Dev nD → CellTallies nD τ sig Ix)
    (b : Dev nD → Lvl) (hcut : Pipeline.LevelCut (pcfgs (F := F)) adm ι L lv 2 D2 b) (Er : Dev nD → sProp (MT nD τ sig Ix (Elt F) ℕ U Lvl))
    (hout2_3 : ∀ c : Dev nD, outs 4 main_v3_0 c = ((pdatsD (U := U) (Lvl := Lvl) m outs 𝒱₀ D0 D1 D2) 2 c).arrAt 3 cfg2.N) (hout2_4 : ∀ c : Dev nD, outs 4 main_v3_1 c = ((pdatsD (U := U) (Lvl := Lvl) m outs 𝒱₀ D0 D1 D2) 2 c).arrAt 4 cfg2.N) :
    RegionSeg (pcfgs (F := F)) adm (pdatsD (U := U) (Lvl := Lvl) m outs 𝒱₀ D0 D1 D2) ι defs₀ 𝒱₀ L lv 2 :=
  Pipeline.RegionSeg.ofHeld (pcfgs (F := F)) adm (pdatsD (U := U) (Lvl := Lvl) m outs 𝒱₀ D0 D1 D2) ι defs₀ 𝒱₀ L lv 2 D2
    (fun c => iprop(∃ r, prngReg c r)) (fun c => iprop(∃ r, prngReg c r))
    launch2.toP rfl
    (fun c => (K2.body_obligation (U := U) (Lvl := Lvl) 𝒱₀ (Ve2 m outs) D2 ι c).loose) (fun _ _ => rfl) (fun _ => rfl)
    (fun c => ((pdatsD (U := U) (Lvl := Lvl) m outs 𝒱₀ D0 D1 D2) 2 c).share_full fun _ => rfl) (fun _ => .rfl) (fun _ => .rfl) b hcut
    (fun c => iprop(StableHlo.held (c : Thread nD τ) ((Pipeline.ucRefs τ sig) \ Pipeline.arrRefs (τ := τ) spec2) (V3 m outs c) ∗ Er c))
    (V3 m outs) (V4 m outs) (fun _ _ => rfl)
    (fun c => fun | 0 => (((pdatsD (U := U) (Lvl := Lvl) m outs 𝒱₀ D0 D1 D2) 2 c).arrAt_in 0 rfl _).trans ((K2.A_eq (U := U) (Lvl := Lvl) 𝒱₀ (Ve2 m outs) D2 c 0).trans (V4_of m outs c (Pipeline.arrRef spec2 0) (by decide)).symm) | 1 => (((pdatsD (U := U) (Lvl := Lvl) m outs 𝒱₀ D0 D1 D2) 2 c).arrAt_in 1 rfl _).trans ((K2.A_eq (U := U) (Lvl := Lvl) 𝒱₀ (Ve2 m outs) D2 c 1).trans (V4_of m outs c (Pipeline.arrRef spec2 1) (by decide)).symm) | 2 => (((pdatsD (U := U) (Lvl := Lvl) m outs 𝒱₀ D0 D1 D2) 2 c).arrAt_in 2 rfl _).trans ((K2.A_eq (U := U) (Lvl := Lvl) 𝒱₀ (Ve2 m outs) D2 c 2).trans (V4_of m outs c (Pipeline.arrRef spec2 2) (by decide)).symm) | 3 => (hout2_3 c).symm.trans (V4_at_main_v3_0 m outs c).symm | 4 => (hout2_4 c).symm.trans (V4_at_main_v3_1 m outs c).symm | ⟨_ + 5, h⟩ => absurd h (Nat.not_lt.2 (Nat.le_add_left _ _)))

/-- Region 2's entry entailment: the held buffers at `V3` split at its arrays, and the rest state `E 2` sorted (`hEin`). -/
theorem hpre2D (m : (ℓ : Loc nD τ sig) → Buf (Elt F) ℓ) (outs : Outs (F := F)) (𝒱₀ : Variants) (L : GSem nD τ sig → Finset Ix) (lv : GSem nD τ sig → Ix → Lvl) (ι : Ix) (D0 : Dev nD → CellTallies nD τ sig Ix) (D1 : Dev nD → CellTallies nD τ sig Ix) (D2 : Dev nD → CellTallies nD τ sig Ix)
    (b : Dev nD → Lvl) (hcut : Pipeline.LevelCut (pcfgs (F := F)) adm ι L lv 2 D2 b)
    (E : Fin 4 → Dev nD → sProp (MT nD τ sig Ix (Elt F) ℕ U Lvl)) (Er : Dev nD → sProp (MT nD τ sig Ix (Elt F) ℕ U Lvl))
    (hEin : ∀ c : Dev nD, E 2 c ⊢ iprop((∃ r, prngReg c r) ∗ (∃ W, owes (c : Thread nD τ) (D2 c) W) ∗ Er c))
    (hout2_3 : ∀ c : Dev nD, outs 4 main_v3_0 c = ((pdatsD (U := U) (Lvl := Lvl) m outs 𝒱₀ D0 D1 D2) 2 c).arrAt 3 cfg2.N) (hout2_4 : ∀ c : Dev nD, outs 4 main_v3_1 c = ((pdatsD (U := U) (Lvl := Lvl) m outs 𝒱₀ D0 D1 D2) 2 c).arrAt 4 cfg2.N) (c : Dev nD) :
    iprop(StableHlo.held (c : Thread nD τ) (Pipeline.ucRefs τ sig) (V3 m outs c) ∗ E 2 c) ⊢ (R2D m outs 𝒱₀ L lv ι D0 D1 D2 b hcut Er hout2_3 hout2_4).pre c := by
  show _ ⊢ iprop(StableHlo.held (c : Thread nD τ) (Pipeline.arrRefs (τ := τ) spec2) (V3 m outs c) ∗ (∃ r, prngReg c r)
    ∗ (StableHlo.held (c : Thread nD τ) ((Pipeline.ucRefs τ sig) \ Pipeline.arrRefs (τ := τ) spec2) (V3 m outs c) ∗ Er c) ∗ ∃ W, owes (c : Thread nD τ) (D2 c) W)
  rw [StableHlo.held_sub_split (c : Thread nD τ) arr2_S (V3 m outs c)]
  iintro ⟨⟨Ha, Hr⟩, HE⟩
  ihave HE' := (hEin c) $$ HE
  icases HE' with ⟨Hp, HO, Hx⟩
  isplitl [Ha]; · iexact Ha
  isplitl [Hp]; · iexact Hp
  isplitl [Hr Hx]; · isplitl [Hr] <;> iassumption
  iexact HO

/-- Region 2's exit entailment: its arrays at `V4` rejoined with the other held buffers, unchanged (`rest2_eq`), and the rest state
    `E 3` made (`hEout`). -/
theorem hpost2D (m : (ℓ : Loc nD τ sig) → Buf (Elt F) ℓ) (outs : Outs (F := F)) (𝒱₀ : Variants) (L : GSem nD τ sig → Finset Ix) (lv : GSem nD τ sig → Ix → Lvl) (ι : Ix) (D0 : Dev nD → CellTallies nD τ sig Ix) (D1 : Dev nD → CellTallies nD τ sig Ix) (D2 : Dev nD → CellTallies nD τ sig Ix)
    (b : Dev nD → Lvl) (hcut : Pipeline.LevelCut (pcfgs (F := F)) adm ι L lv 2 D2 b)
    (E : Fin 4 → Dev nD → sProp (MT nD τ sig Ix (Elt F) ℕ U Lvl)) (Er : Dev nD → sProp (MT nD τ sig Ix (Elt F) ℕ U Lvl))
    (hEout : ∀ c : Dev nD, iprop((∃ r, prngReg c r) ∗ (∃ W, owes (c : Thread nD τ) (D2 c) W) ∗ Er c) ⊢ E 3 c)
    (hout2_3 : ∀ c : Dev nD, outs 4 main_v3_0 c = ((pdatsD (U := U) (Lvl := Lvl) m outs 𝒱₀ D0 D1 D2) 2 c).arrAt 3 cfg2.N) (hout2_4 : ∀ c : Dev nD, outs 4 main_v3_1 c = ((pdatsD (U := U) (Lvl := Lvl) m outs 𝒱₀ D0 D1 D2) 2 c).arrAt 4 cfg2.N) (c : Dev nD) :
    (R2D m outs 𝒱₀ L lv ι D0 D1 D2 b hcut Er hout2_3 hout2_4).post c ⊢ iprop(StableHlo.held (c : Thread nD τ) (Pipeline.ucRefs τ sig) (V4 m outs c) ∗ E 3 c) := by
  show iprop(StableHlo.held (c : Thread nD τ) (Pipeline.arrRefs (τ := τ) spec2) (V4 m outs c) ∗ (∃ r, prngReg c r)
    ∗ (StableHlo.held (c : Thread nD τ) ((Pipeline.ucRefs τ sig) \ Pipeline.arrRefs (τ := τ) spec2) (V3 m outs c) ∗ Er c) ∗ ∃ W, owes (c : Thread nD τ) (D2 c) W) ⊢ _
  rw [StableHlo.held_sub_split (c : Thread nD τ) arr2_S (V4 m outs c),
    StableHlo.held_congr (c : Thread nD τ) (S := (Pipeline.ucRefs τ sig) \ Pipeline.arrRefs (τ := τ) spec2) (rest2_eq m outs c)]
  iintro ⟨Ha, Hp, ⟨Hr, Hx⟩, HO⟩
  isplitl [Ha Hr]; · isplitl [Ha] <;> iassumption
  iapply (hEout c)
  isplitl [Hp]; · iexact Hp
  isplitl [HO]; · iexact HO
  iexact Hx

end

/-! ## The frame, those records supplied -/

set_option backward.isDefEq.respectTransparency.types false in
/-- `Gen.frame_cond`'s conclusion from its hypotheses less the records of custom calls 0, 1, 2; the module's header says what stands in
    their place. -/
theorem frame_condD (m : (ℓ : Loc nD τ sig) → Buf (Elt F) ℓ) {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (D0 : Dev nD → CellTallies nD τ sig Ix) (D1 : Dev nD → CellTallies nD τ sig Ix) (D2 : Dev nD → CellTallies nD τ sig Ix)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    -- region 0 (custom call 0), its record supplied
    (b0 : Dev nD → Lvl) (hcut0 : Pipeline.LevelCut (pcfgs (F := F)) adm ι L lv 0 D0 b0) (Er0 : Dev nD → sProp (MT nD τ sig Ix (Elt F) ℕ U Lvl))
    (hEin0 : ∀ c : Dev nD, E 0 c ⊢ iprop((∃ r, prngReg c r) ∗ (∃ W, owes (c : Thread nD τ) (D0 c) W) ∗ Er0 c))
    (hEout0 : ∀ c : Dev nD, iprop((∃ r, prngReg c r) ∗ (∃ W, owes (c : Thread nD τ) (D0 c) W) ∗ Er0 c) ⊢ E 1 c)
    (hout0_2 : ∀ c : Dev nD, outs 2 main_v1 c = ((pdatsD (U := U) (Lvl := Lvl) m outs 𝒱₀ D0 D1 D2) 0 c).arrAt 2 cfg0.N)
    -- region 1 (custom call 1), its record supplied
    (b1 : Dev nD → Lvl) (hcut1 : Pipeline.LevelCut (pcfgs (F := F)) adm ι L lv 1 D1 b1) (Er1 : Dev nD → sProp (MT nD τ sig Ix (Elt F) ℕ U Lvl))
    (hEin1 : ∀ c : Dev nD, E 1 c ⊢ iprop((∃ r, prngReg c r) ∗ (∃ W, owes (c : Thread nD τ) (D1 c) W) ∗ Er1 c))
    (hEout1 : ∀ c : Dev nD, iprop((∃ r, prngReg c r) ∗ (∃ W, owes (c : Thread nD τ) (D1 c) W) ∗ Er1 c) ⊢ E 2 c)
    (hout1_2 : ∀ c : Dev nD, outs 3 main_v2 c = ((pdatsD (U := U) (Lvl := Lvl) m outs 𝒱₀ D0 D1 D2) 1 c).arrAt 2 cfg1.N)
    -- region 2 (custom call 2), its record supplied
    (b2 : Dev nD → Lvl) (hcut2 : Pipeline.LevelCut (pcfgs (F := F)) adm ι L lv 2 D2 b2) (Er2 : Dev nD → sProp (MT nD τ sig Ix (Elt F) ℕ U Lvl))
    (hEin2 : ∀ c : Dev nD, E 2 c ⊢ iprop((∃ r, prngReg c r) ∗ (∃ W, owes (c : Thread nD τ) (D2 c) W) ∗ Er2 c))
    (hEout2 : ∀ c : Dev nD, iprop((∃ r, prngReg c r) ∗ (∃ W, owes (c : Thread nD τ) (D2 c) W) ∗ Er2 c) ⊢ E 3 c)
    (hout2_3 : ∀ c : Dev nD, outs 4 main_v3_0 c = ((pdatsD (U := U) (Lvl := Lvl) m outs 𝒱₀ D0 D1 D2) 2 c).arrAt 3 cfg2.N) (hout2_4 : ∀ c : Dev nD, outs 4 main_v3_1 c = ((pdatsD (U := U) (Lvl := Lvl) m outs 𝒱₀ D0 D1 D2) 2 c).arrAt 4 cfg2.N) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  frame_cond m EP ι 𝒱₀ L lv hL ρ outs (pdatsD (U := U) (Lvl := Lvl) m outs 𝒱₀ D0 D1 D2) O₀ G u₀ hu₀ E hE0 hE3
    (R0D m outs 𝒱₀ L lv ι D0 D1 D2 b0 hcut0 Er0 hout0_2)
      (hpre0D m outs 𝒱₀ L lv ι D0 D1 D2 b0 hcut0 E Er0 hEin0 hout0_2)
      (hpost0D m outs 𝒱₀ L lv ι D0 D1 D2 b0 hcut0 E Er0 hEout0 hout0_2)
    (R1D m outs 𝒱₀ L lv ι D0 D1 D2 b1 hcut1 Er1 hout1_2)
      (hpre1D m outs 𝒱₀ L lv ι D0 D1 D2 b1 hcut1 E Er1 hEin1 hout1_2)
      (hpost1D m outs 𝒱₀ L lv ι D0 D1 D2 b1 hcut1 E Er1 hEout1 hout1_2)
    (R2D m outs 𝒱₀ L lv ι D0 D1 D2 b2 hcut2 Er2 hout2_3 hout2_4)
      (hpre2D m outs 𝒱₀ L lv ι D0 D1 D2 b2 hcut2 E Er2 hEin2 hout2_3 hout2_4)
      (hpost2D m outs 𝒱₀ L lv ι D0 D1 D2 b2 hcut2 E Er2 hEout2 hout2_3 hout2_4)

end Cert.Kernel.Own

end
-- ==== Proof.Kernel.Run.lean ====
/- The run of the whole program, for any float values: from any memory with zero counters, every execution ends with
   every unscoped buffer at the valuation `V5` of its operations and calls, each call's output arrays at what its
   proof data leave there, and with every semaphore counter at zero. -/
module

public import proofs.«01_k».proof.Proof.Kernel.RegionsD

@[expose] public section

noncomputable section

namespace Cert.Kernel.Own

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

/-! ## What the three calls leave in their arrays -/

abbrev UK : Type := URounds (GSem nD τ sig) Unit
local notation "𝕄" => MT nD τ sig Unit (Elt F) ℕ UK ℕ

/-- No core owes another anything. -/
abbrev DZ : Dev nD → CellTallies nD τ sig Unit := fun _ => 0
/-- Each core's own counters may be waited on; one level. -/
def LK : GSem nD τ sig → Finset Unit := fun g => if g.1.2 = .tc then {()} else ∅
def lvK : GSem nD τ sig → Unit → ℕ := fun _ _ => 0

variable (m : (ℓ : Loc nD τ sig) → Buf (Elt F) ℓ) (ρ : Dev nD → PrngReg)

/-- The scales' array after the first call. -/
def x1 (c : Dev nD) : Buf (Elt F) ((c : Thread nD τ).loc main_v1) :=
  (K0.dat (Ix := Unit) (U := UK) (Lvl := ℕ) Variants.none (Ve0 m) DZ c).arrAt 2 cfg0.N
def o1 : Outs (F := F) := fun _ r c =>
  Function.update (fun r : Ref sig .tc => m ((c : Thread nD τ).loc r)) main_v1 (x1 m c) r
/-- The codes of `w` after the second call. -/
def x2 (c : Dev nD) : Buf (Elt F) ((c : Thread nD τ).loc main_v2) :=
  (K1.dat (Ix := Unit) (U := UK) (Lvl := ℕ) Variants.none (Ve1 m (o1 m)) DZ c).arrAt 2 cfg1.N
def o2 : Outs (F := F) := fun k r c => Function.update (fun r : Ref sig .tc => o1 m k r c) main_v2 (x2 m c) r
/-- The products after the third call. -/
def x3 (c : Dev nD) : Buf (Elt F) ((c : Thread nD τ).loc main_v3_0) :=
  (K2.dat (Ix := Unit) (U := UK) (Lvl := ℕ) Variants.none (Ve2 m (o2 m)) DZ c).arrAt 3 cfg2.N
/-- The codes of `dy` after the third call. -/
def x4 (c : Dev nD) : Buf (Elt F) ((c : Thread nD τ).loc main_v3_1) :=
  (K2.dat (Ix := Unit) (U := UK) (Lvl := ℕ) Variants.none (Ve2 m (o2 m)) DZ c).arrAt 4 cfg2.N
def oK : Outs (F := F) := fun k r c =>
  Function.update (Function.update (fun r : Ref sig .tc => o2 m k r c) main_v3_0 (x3 m c)) main_v3_1 (x4 m c) r

theorem o1_v1 (k : ℕ) (c : Dev nD) : o1 m k main_v1 c = x1 m c := by
  unfold o1; exact Function.update_self ..
theorem o2_v1 (k : ℕ) (c : Dev nD) : o2 m k main_v1 c = x1 m c := by
  unfold o2; rw [Function.update_of_ne (by decide)]; exact o1_v1 m k c
theorem o2_v2 (k : ℕ) (c : Dev nD) : o2 m k main_v2 c = x2 m c := by
  unfold o2; exact Function.update_self ..
theorem oK_v1 (k : ℕ) (c : Dev nD) : oK m k main_v1 c = x1 m c := by
  unfold oK; rw [Function.update_of_ne (by decide), Function.update_of_ne (by decide)]; exact o2_v1 m k c
theorem oK_v2 (k : ℕ) (c : Dev nD) : oK m k main_v2 c = x2 m c := by
  unfold oK; rw [Function.update_of_ne (by decide), Function.update_of_ne (by decide)]; exact o2_v2 m k c
theorem oK_v3_0 (k : ℕ) (c : Dev nD) : oK m k main_v3_0 c = x3 m c := by
  unfold oK; rw [Function.update_of_ne (by decide)]; exact Function.update_self ..
theorem oK_v3_1 (k : ℕ) (c : Dev nD) : oK m k main_v3_1 c = x4 m c := by
  unfold oK; exact Function.update_self ..

theorem V2_oK (c : Dev nD) : V2 m (oK m) c = V2 m (o1 m) c := by
  show Function.update _ _ _ = Function.update _ _ _
  rw [oK_v1, o1_v1]
theorem V2_o2 (c : Dev nD) : V2 m (o2 m) c = V2 m (o1 m) c := by
  show Function.update _ _ _ = Function.update _ _ _
  rw [o2_v1, o1_v1]
theorem V3_oK (c : Dev nD) : V3 m (oK m) c = V3 m (o2 m) c := by
  show Function.update (V2 m (oK m) c) _ _ = Function.update (V2 m (o2 m) c) _ _
  rw [oK_v2, o2_v2, V2_oK, V2_o2]
theorem Ve1_oK : Ve1 m (oK m) = Ve1 m (o1 m) := funext fun c => funext fun b => congrFun (V2_oK m c) _
theorem Ve2_oK : Ve2 m (oK m) = Ve2 m (o2 m) := funext fun c => funext fun b => congrFun (V3_oK m c) _

/-! ## The run -/

/-- What rides beside the held buffers between the items: the random-number register, and nothing owed. -/
def EK (_ : Fin 4) (c : Dev nD) : sProp 𝕄 := iprop((∃ r, prngReg c r) ∗ (∃ W, owes (c : Thread nD τ) (0 : CellTallies nD τ sig Unit) W) ∗ emp)

theorem LK_of_not_tc (g : GSem nD τ sig) (h : g.1.2 ≠ .tc) : LK g = ∅ := if_neg h

theorem cutK (p : Fin 3) : Pipeline.LevelCut (pcfgs (F := F)) adm () LK lvK p DZ (fun _ => 0) where
  hι c w s := by
    show () ∈ (if (Proc.tc : Proc τ) = .tc then ({()} : Finset Unit) else ∅)
    rw [if_pos rfl]; exact Finset.mem_singleton_self _
  hιb _ _ _ := le_refl _
  hD _ _ _ h := absurd h (lt_irrefl _)

/-- The proof data of the three calls. -/
abbrev pdK : (p : Fin 3) → (c : Dev nD) → Dat τ (Elt F) Unit ℕ UK ℕ (cfgs p) c := pdatsD m (oK m) Variants.none DZ DZ DZ

theorem out0 (c : Dev nD) : oK m 2 main_v1 c = (pdK m 0 c).arrAt 2 cfg0.N := oK_v1 m 2 c
theorem out1 (c : Dev nD) : oK m 3 main_v2 c = (pdK m 1 c).arrAt 2 cfg1.N := by
  rw [oK_v2]
  show x2 m c = (K1.dat (Ix := Unit) (U := UK) (Lvl := ℕ) Variants.none (Ve1 m (oK m)) DZ c).arrAt 2 cfg1.N
  rw [Ve1_oK]; rfl
theorem out2_3 (c : Dev nD) : oK m 4 main_v3_0 c = (pdK m 2 c).arrAt 3 cfg2.N := by
  rw [oK_v3_0]
  show x3 m c = (K2.dat (Ix := Unit) (U := UK) (Lvl := ℕ) Variants.none (Ve2 m (oK m)) DZ c).arrAt 3 cfg2.N
  rw [Ve2_oK]; rfl
theorem out2_4 (c : Dev nD) : oK m 4 main_v3_1 c = (pdK m 2 c).arrAt 4 cfg2.N := by
  rw [oK_v3_1]
  show x4 m c = (K2.dat (Ix := Unit) (U := UK) (Lvl := ℕ) Variants.none (Ve2 m (oK m)) DZ c).arrAt 4 cfg2.N
  rw [Ve2_oK]; rfl

def R0 : RegionSeg (pcfgs (F := F)) adm (pdK m) () defs₀ Variants.none LK lvK 0 :=
  R0D m (oK m) Variants.none LK lvK () DZ DZ DZ (fun _ => 0) (cutK 0) (fun _ => iprop(emp)) (out0 m)
def R1 : RegionSeg (pcfgs (F := F)) adm (pdK m) () defs₀ Variants.none LK lvK 1 :=
  R1D m (oK m) Variants.none LK lvK () DZ DZ DZ (fun _ => 0) (cutK 1) (fun _ => iprop(emp)) (out1 m)
def R2 : RegionSeg (pcfgs (F := F)) adm (pdK m) () defs₀ Variants.none LK lvK 2 :=
  R2D m (oK m) Variants.none LK lvK () DZ DZ DZ (fun _ => 0) (cutK 2) (fun _ => iprop(emp)) (out2_3 m) (out2_4 m)

theorem hinitK : iprop((bigSep Finset.univ fun c : Dev nD => iprop(unscopedSems0 c ∗ owes (c : Thread nD τ) (DZ c) ∅ ∗ Pipeline.launchCred DZ c ∗ prngReg c (ρ c) ∗ emp)) ∗ levAts LK lvK)
      ⊢ (|={Set.univ}=> bigSep Finset.univ (EK (F := F) 0) : sProp 𝕄) := by
  refine Pipeline.initEach LK lvK fun c => ?_
  unfold EK
  iintro ⟨⟨-, HO, -, Hp, -⟩, -⟩
  imodintro
  isplitl [Hp]; · iexists _; iexact Hp
  isplitl [HO]; · iexists ∅; iexact HO
  iempintro

set_option backward.isDefEq.respectTransparency.types false in
/-- Every execution of the whole program ends, with every unscoped buffer at `V5` and every counter at zero. -/
theorem run : θ_run defs (onTc (τ := τ) (main (F := F))) ⟨m, fun _ => 0, ρ⟩ (fun r => (∀ c : Dev nD,
      ∀ b ∈ Pipeline.ucRefs τ sig, r.2.mem ((c : Thread nD τ).1, b) = V5 m (oK m) c b) ∧ r.2.sem = fun _ => 0) := by
  refine Pipeline.θ_run_regions_kit_dev_sems (pcfgs (F := F)) adm (pdK m) () cellOf_inj (emb₁ (A := UK)) defs₀ Variants.none LK lvK m ρ main
    (segs m (oK m) Variants.none LK lvK (EK (F := F)) () (pdK m) (R0 m) (R1 m) (R2 m))
    (fun c Q => by
      rewrite [main_chain c, Seg.run_eq_chain,
        show (segs m (oK m) Variants.none LK lvK (EK (F := F)) () (pdK m) (R0 m) (R1 m) (R2 m) c).map Seg.prog = [
          StableHlo.seq hostOps0,
          Prog.lift (.customCall (Pipeline.entry 0) ()),
          Prog.lift (.customCall (Pipeline.entry 1) ()),
          Prog.lift (.customCall (Pipeline.entry 2) ()),
          StableHlo.seq hostOps3 ] from rfl]
      dsimp (config := { failIfUnchanged := false }) only
      exact .rfl)
    (fun c => by simp only [segs, Seg.pipes_host, Seg.pipes_region, Seg.pipes_nil]; decide) DZ LK_of_not_tc
    (fun _ => iprop(emp)) (initOf (Pipeline.cells cfgs cellOf_inj) (Pipeline.launchToks cfgs cellOf_inj))
    (by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ EK (F := F) 0 c))
    (Tₙ := fun c => StableHlo.held (c : Thread nD τ) (Pipeline.ucRefs τ sig) (V5 m (oK m) c))
    (hch := fun c => ⟨.rfl,
      hpre0D m (oK m) Variants.none LK lvK () DZ DZ DZ (fun _ => 0) (cutK 0) (EK (F := F)) (fun _ => iprop(emp)) (fun _ => .rfl) (out0 m) c,
      (hpost0D m (oK m) Variants.none LK lvK () DZ DZ DZ (fun _ => 0) (cutK 0) (EK (F := F)) (fun _ => iprop(emp)) (fun _ => .rfl) (out0 m) c).trans
        (hpre1D m (oK m) Variants.none LK lvK () DZ DZ DZ (fun _ => 0) (cutK 1) (EK (F := F)) (fun _ => iprop(emp)) (fun _ => .rfl) (out1 m) c),
      (hpost1D m (oK m) Variants.none LK lvK () DZ DZ DZ (fun _ => 0) (cutK 1) (EK (F := F)) (fun _ => iprop(emp)) (fun _ => .rfl) (out1 m) c).trans
        (hpre2D m (oK m) Variants.none LK lvK () DZ DZ DZ (fun _ => 0) (cutK 2) (EK (F := F)) (fun _ => iprop(emp)) (fun _ => .rfl) (out2_3 m) (out2_4 m) c),
      hpost2D m (oK m) Variants.none LK lvK () DZ DZ DZ (fun _ => 0) (cutK 2) (EK (F := F)) (fun _ => iprop(emp)) (fun _ => .rfl) (out2_3 m) (out2_4 m) c,
      sep_mono .rfl (by unfold EK; iintro ⟨-, HO, -⟩; iexact HO)⟩)
    (hinit := ?_) (QY := fun c s => ∀ b ∈ Pipeline.ucRefs τ sig, s.mem ((c : Thread nD τ).1, b) = V5 m (oK m) c b)
    (hfin := fun c s' => ?_) (hQ := fun _ h hz => ⟨h, funext fun g => hz g (.inr (regions_no_unscoped g.2))⟩)
  · have hsplit : (bigSep Finset.univ fun c : Dev nD => iprop(unscopedBufs c (fun b => m ((c.tc : Thread nD τ).loc b)) ∗ unscopedSems0 c
          ∗ owes (c.tc : Thread nD τ) (DZ c) ∅ ∗ Pipeline.launchCred DZ c ∗ prngReg c (ρ c) ∗ emp))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (DZ c) ∅ ∗ Pipeline.launchCred DZ c ∗ prngReg c (ρ c) ∗ emp))
            : sProp 𝕄) := by
      rw [← bigSep_sep']
      exact bigSep_mono fun c _ => by rw [← Pipeline.unscopedBufs_held (Ix := Unit) (Name := ℕ) (U := UK) (Lvl := ℕ) c (V0 m c)]; exact BI.Entails.refl _
    iintro ⟨H, Hla⟩
    ihave H' := hsplit $$ H
    icases H' with ⟨Hh, Hr⟩
    imod (hinitK (F := F) ρ) $$ [Hr Hla] with HE
    · isplitl [Hr]; · iexact Hr
      iexact Hla
    imodintro
    rw [bigSep_sep']
    isplitl [Hh]; · iexact Hh
    iexact HE
  · unfold StableHlo.held
    iintro ⟨Hh, HSI⟩
    ihave Hr := (pointsTo_read_all (Pipeline.ucRefs τ sig) (fun b => ((c : Thread nD τ).1, b)) (V5 m (oK m) c) s') $$ [Hh HSI]
    · isplitl [Hh] <;> iassumption
    icases Hr with ⟨%h, HSI⟩
    imodintro
    isplitr
    · ipureintro
      exact h
    · iexact HSI

/-- The frame: the run ends with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c =>
    ⟨(h.1 c (Proc.devRef .tc main_arg0) (Finset.mem_filter.mpr ⟨StableHlo.devRef_mem_tcRefs main_arg0, by decide⟩)).trans (V5_main_arg0 m (oK m) c),
     (h.1 c (Proc.devRef .tc main_arg1) (Finset.mem_filter.mpr ⟨StableHlo.devRef_mem_tcRefs main_arg1, by decide⟩)).trans (V5_main_arg1 m (oK m) c)⟩, h.2⟩) (run m ρ)

end Cert.Kernel.Own

end
-- ==== Proof.KernelIdeal.K0Run.lean ====
/- Custom call 0 of `KernelIdeal`: the kernel's run, the proof data and the body obligation, for any index type, level type,
   algebra, variants, entry contents and owed tally.
   -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Pipeline.TableIdle
public import Idealize.ShloMosaic.Lib.Tactic
public import Idealize.ShloMosaic.Lib.WordCmp
public import Idealize.ShloMosaic.Lib.Exec
public import Idealize.ShloMosaic.Lib.Pipeline.Kit

@[expose] public section

noncomputable section

namespace Cert.KernelIdeal.Own.K0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

variable (𝒱₀ : Variants) (V : (c : Dev nD) → (b : Ref sig .tc) → Buf (Elt F) ((c : Thread nD τ).loc b)) (D : Dev nD → CellTallies nD τ sig Ix)

/-- The region's invariant on core `c`: the library's `(ΦK (F := F) (Ix := Ix) (U := U) (Lvl := Lvl) c)` at any index and level type. -/
def ΦK (c : Dev nD) : sProp 𝕄 :=
  iprop(Pipeline.scopedRest (Ix := Ix) (Name := ℕ) (U := U) (Lvl := Lvl) (Val := Elt F) spec0 c ∗ ∃ r, prngReg c r)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): the library's
    `Dat.before_in_eq_fetched` (unfetched, the index has not moved), the window uncut and never idle. -/
theorem before0_0_of {c : Dev nD} (dat : Dat τ (Elt F) Ix ℕ U Lvl cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): the library's
    `Dat.before_in_eq_fetched` (unfetched, the index has not moved), the window uncut and never idle. -/
theorem before0_1_of {c : Dev nD} (dat : Dat τ (Elt F) Ix ℕ U Lvl cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 52 = 0 :=
  (fun t => by
    have ht : t.val < 52 := Nat.lt_of_lt_of_eq t.isLt N_0
    have e0 : (grid0.coords t 0).val = t.val / 1 % 52 := Pipeline.Grid.coords_val t 0 (by decide) rfl
    simp only [cond0_0, e0]
    word_cmp
   : ∀ t : Fin grid0.N, cond0_0 (grid0.coords t) ↔ t.val % 52 = 0)

/-- The condition of the body's `scf.if` 1 (`k0_h2`), from the grid coordinates (the skeleton's scalar
    chain substituted). -/
abbrev cond0_1 (i : grid0.Coords) : Prop := (Scalar.cmpi .ne (Scalar.extui (Scalar.cmpi .slt (BitVec.ofNat 32 (i 0).val) 24#32)) 0#32) = 1#1
/-- It holds at the points before point 24 — decided over the grid. -/
theorem hcond0_1 : ∀ t : Fin cfg0.N, cond0_1 (grid0.coords t) ↔ t.val < 24 :=
  (by decide +kernel : ∀ t : Fin grid0.N, cond0_1 (grid0.coords t) ↔ t.val < 24)

/-- The condition of the body's `scf.if` 2 (`k0_h3`), from the grid coordinates (the skeleton's scalar
    chain substituted). -/
abbrev cond0_2 (i : grid0.Coords) : Prop := (Scalar.cmpi .ne (Scalar.extui (Scalar.cmpi .sge (BitVec.ofNat 32 (i 0).val) 24#32)) 0#32) = 1#1
/-- It holds at the points from point 24 on — decided over the grid. -/
theorem hcond0_2 : ∀ t : Fin cfg0.N, cond0_2 (grid0.coords t) ↔ 24 ≤ t.val :=
  (by decide +kernel : ∀ t : Fin grid0.N, cond0_2 (grid0.coords t) ↔ 24 ≤ t.val)

/-- The condition of the body's `scf.if` 3 (`k0_h4`), from the grid coordinates (the skeleton's scalar
    chain substituted). -/
abbrev cond0_3 (i : grid0.Coords) : Prop := k0_cond4 i = 1#1
/-- It holds at the last point only — by arithmetic of the point. -/
theorem hcond0_3 : ∀ t : Fin cfg0.N, cond0_3 (grid0.coords t) ↔ t.val % 52 = 51 :=
  (fun t => by
    have ht : t.val < 52 := Nat.lt_of_lt_of_eq t.isLt N_0
    have e0 : (grid0.coords t 0).val = t.val / 1 % 52 := Pipeline.Grid.coords_val t 0 (by decide) rfl
    simp only [cond0_3, k0_cond4, e0]
    word_cmp
   : ∀ t : Fin grid0.N, cond0_3 (grid0.coords t) ↔ t.val % 52 = 51)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-! A case with many branch conditions on the grid states them as ONE proposition, its `Decidable` instance assembled
one condition at a time: the facts below about that case's points are decided under it and restated with one premise
per condition, so that the instance `decide` searches for does not grow with their number. -/

/-- Case A's branch conditions on the grid, as one proposition. -/
abbrev conds0_A (i : grid0.Coords) : Prop := cond0_0 i ∧ cond0_1 i ∧ ¬cond0_2 i ∧ ¬cond0_3 i
instance conds0_A.dec (i : grid0.Coords) : Decidable (conds0_A i) :=
  @instDecidableAnd _ _ inferInstance (@instDecidableAnd _ _ inferInstance (@instDecidableAnd _ _ inferInstance inferInstance))
/-- Case B's branch conditions on the grid, as one proposition. -/
abbrev conds0_B (i : grid0.Coords) : Prop := ¬cond0_0 i ∧ cond0_1 i ∧ ¬cond0_2 i ∧ ¬cond0_3 i
instance conds0_B.dec (i : grid0.Coords) : Decidable (conds0_B i) :=
  @instDecidableAnd _ _ inferInstance (@instDecidableAnd _ _ inferInstance (@instDecidableAnd _ _ inferInstance inferInstance))
/-- Case C's branch conditions on the grid, as one proposition. -/
abbrev conds0_C (i : grid0.Coords) : Prop := ¬cond0_0 i ∧ ¬cond0_1 i ∧ cond0_2 i ∧ ¬cond0_3 i
instance conds0_C.dec (i : grid0.Coords) : Decidable (conds0_C i) :=
  @instDecidableAnd _ _ inferInstance (@instDecidableAnd _ _ inferInstance (@instDecidableAnd _ _ inferInstance inferInstance))
/-- Case D's branch conditions on the grid, as one proposition. -/
abbrev conds0_D (i : grid0.Coords) : Prop := ¬cond0_0 i ∧ ¬cond0_1 i ∧ cond0_2 i ∧ cond0_3 i
instance conds0_D.dec (i : grid0.Coords) : Decidable (conds0_D i) :=
  @instDecidableAnd _ _ inferInstance (@instDecidableAnd _ _ inferInstance (@instDecidableAnd _ _ inferInstance inferInstance))
/-- At the points of case A the printed configuration (`Cfg.idle`) calls output 2 idle: the case stores nothing into it. -/
theorem idleAt0_2_A : ∀ t : Fin cfg0.N, cond0_0 (grid0.coords t) → cond0_1 (grid0.coords t) → ¬cond0_2 (grid0.coords t) → ¬cond0_3 (grid0.coords t) → cfg0.idle 2 (grid0.coords t) = true :=
  fun t h0 h1 h2 h3 => (by decide +kernel : ∀ t : Fin cfg0.N, conds0_A (grid0.coords t) → cfg0.idle 2 (grid0.coords t) = true) t ⟨h0, h1, h2, h3⟩
/-- At the points of case A the pipeline does not write output 2's block back. -/
theorem noFlush0_2_A : ∀ t : Fin cfg0.N, cond0_0 (grid0.coords t) → cond0_1 (grid0.coords t) → ¬cond0_2 (grid0.coords t) → ¬cond0_3 (grid0.coords t) → (cfg0.win 2).flush t = false :=
  fun t h0 h1 h2 h3 => (by decide +kernel : ∀ t : Fin cfg0.N, conds0_A (grid0.coords t) → (cfg0.win 2).flush t = false) t ⟨h0, h1, h2, h3⟩
/-- At the points of case B the printed configuration (`Cfg.idle`) calls output 2 idle: the case stores nothing into it. -/
theorem idleAt0_2_B : ∀ t : Fin cfg0.N, ¬cond0_0 (grid0.coords t) → cond0_1 (grid0.coords t) → ¬cond0_2 (grid0.coords t) → ¬cond0_3 (grid0.coords t) → cfg0.idle 2 (grid0.coords t) = true :=
  fun t h0 h1 h2 h3 => (by decide +kernel : ∀ t : Fin cfg0.N, conds0_B (grid0.coords t) → cfg0.idle 2 (grid0.coords t) = true) t ⟨h0, h1, h2, h3⟩
/-- At the points of case B the pipeline does not write output 2's block back. -/
theorem noFlush0_2_B : ∀ t : Fin cfg0.N, ¬cond0_0 (grid0.coords t) → cond0_1 (grid0.coords t) → ¬cond0_2 (grid0.coords t) → ¬cond0_3 (grid0.coords t) → (cfg0.win 2).flush t = false :=
  fun t h0 h1 h2 h3 => (by decide +kernel : ∀ t : Fin cfg0.N, conds0_B (grid0.coords t) → (cfg0.win 2).flush t = false) t ⟨h0, h1, h2, h3⟩
/-- At the points of case C the printed configuration (`Cfg.idle`) calls output 2 idle: the case stores nothing into it. -/
theorem idleAt0_2_C : ∀ t : Fin cfg0.N, ¬cond0_0 (grid0.coords t) → ¬cond0_1 (grid0.coords t) → cond0_2 (grid0.coords t) → ¬cond0_3 (grid0.coords t) → cfg0.idle 2 (grid0.coords t) = true :=
  fun t h0 h1 h2 h3 => (by decide +kernel : ∀ t : Fin cfg0.N, conds0_C (grid0.coords t) → cfg0.idle 2 (grid0.coords t) = true) t ⟨h0, h1, h2, h3⟩
/-- At the points of case C the pipeline does not write output 2's block back. -/
theorem noFlush0_2_C : ∀ t : Fin cfg0.N, ¬cond0_0 (grid0.coords t) → ¬cond0_1 (grid0.coords t) → cond0_2 (grid0.coords t) → ¬cond0_3 (grid0.coords t) → (cfg0.win 2).flush t = false :=
  fun t h0 h1 h2 h3 => (by decide +kernel : ∀ t : Fin cfg0.N, conds0_C (grid0.coords t) → (cfg0.win 2).flush t = false) t ⟨h0, h1, h2, h3⟩
/-- At the points of case D the printed configuration (`Cfg.idle`) calls output 2 live: the case stores into it. -/
theorem liveAt0_2_D : ∀ t : Fin cfg0.N, ¬cond0_0 (grid0.coords t) → ¬cond0_1 (grid0.coords t) → cond0_2 (grid0.coords t) → cond0_3 (grid0.coords t) → cfg0.idle 2 (grid0.coords t) = false :=
  fun t h0 h1 h2 h3 => (by decide +kernel : ∀ t : Fin cfg0.N, conds0_D (grid0.coords t) → cfg0.idle 2 (grid0.coords t) = false) t ⟨h0, h1, h2, h3⟩

/-! ## The kernel body on any staging memrefs: a subtype the run finds -/

/-- One staging buffer of output window 2, through which its contents are stated (`View.read_writes_of_cover`: the
    choice does not matter). -/
abbrev VO0_2 : View sig .tc .vmem S4x8x128 .f32 := (Memref.whole cc0_stg2_0 : Memref sig .tc .vmem S4x8x128 .f32).view
/-- Each window's current staging memref at point `t`, spelled as the pipeline passes it (`bodyAt0`), and its wholeness. -/
abbrev ms0_0 (t : Fin cfg0.N) : Memref sig .tc .vmem S1024x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x8x128 .f32 := win0_2.stage (cfg0.slots t 2)
abbrev hs0_2 (t : Fin cfg0.N) : (ms0_2 t).IsWhole := hstage0_2 ((cfg0.slots t 2).cast nbuf0_2)
/-- The scratch operands: whole scoped buffers of the kernel's own, passed beside the windows. -/
abbrev scM0_0 : Memref sig .tc .vmem S8x4096 .bf16 := Memref.whole cc0_scratch0
abbrev scM0_1 : Memref sig .tc .vmem S8x4096 .f32 := Memref.whole cc0_scratch1
/-- The scratch `arg4` the kernel carries between points, as a view: what it holds is stated through it. -/
abbrev VS0_0 : View sig .tc .vmem S8x4096 .bf16 := scM0_0.view
/-- The scratch `arg5` the kernel carries between points, as a view: what it holds is stated through it. -/
abbrev VS0_1 : View sig .tc .vmem S8x4096 .f32 := scM0_1.view

/-- The frame kit's invariant with the scratch operands as memrefs owned at some contents (`Gen.scopedRest0_eq`,
    the library's `owns_whole`): what the body obligation hands the run and takes back. -/
theorem PhiA0_eq (c : Dev nD) :
    (ΦK (F := F) (Ix := Ix) (U := U) (Lvl := Lvl) c : sProp 𝕄)
      = iprop(iprop((∃ d, owns (c : Thread nD τ) scM0_0 fullShare d) ∗ (∃ d, owns (c : Thread nD τ) scM0_1 fullShare d) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f)) ∗ (∃ r, prngReg c r)) := by
  unfold ΦK; rw [scopedRest0_eq]; simp only [scM0_0, scM0_1, owns_whole]; try rfl

-- (the run's proof term is large: the definition's epilogue — `abstractNestedProofs` — walks it past the default budget)
set_option maxHeartbeats 1000000 in
/-- What the body's stores leave in each output's staging memref, as pieces (last first) IN CASE A (`scf.if` 0 taken, `scf.if` 1 taken, `scf.if` 2 not taken, `scf.if` 3 not taken: points 0), WITH the
    proof that on whole staging memrefs — the inputs' at their contents, the outputs it leaves idle (2: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs — each `scf.if` decided by the case's hypotheses `hc·`; the pieces are
    the witness that run finds (assigned when `iexact` hands the buffer to the continuation). -/
noncomputable def kernelRun0_A (c : Dev nD) (i : grid0.Coords) (arg1 : Memref sig .tc .vmem S1024x4096 .bf16) (harg1 : arg1.IsWhole) (arg2 : Memref sig .tc .vmem S512x4096 .f32) (harg2 : arg2.IsWhole) (arg3 : Memref sig .tc .vmem S4x8x128 .f32) (harg3 : arg3.IsWhole) (arg4 : Memref sig .tc .vmem S8x4096 .bf16) (harg4 : arg4.IsWhole) (arg5 : Memref sig .tc .vmem S8x4096 .f32) (harg5 : arg5.IsWhole) (hc0 : cond0_0 i) (hc1 : cond0_1 i) (hc2 : ¬cond0_2 i) (hc3 : ¬cond0_3 i)
    (x0 : Vec F S1024x4096 .bf16) (x1 : Vec F S512x4096 .f32) :
    Σ' (L2 : List (View.Piece (Elt F) S4x8x128 .f32)), Σ' (LS0 : List (View.Piece (Elt F) S8x4096 .bf16)), { LS1 : List (View.Piece (Elt F) S8x4096 .f32) //
      ∀ (xi2 : Vec F S4x8x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) 𝒱₀ c none) E (cc0_absmax_scales i arg1 harg1 arg2 harg2 arg3 harg3 arg4 harg4 arg5 harg5) K } := by
  refine ⟨[], ?_, ?_, fun xi2 E K => ?run⟩
  case run =>
    simp only [cc0_absmax_scales_eq_skeleton]; unfold cc0_absmax_scales_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

/-- Case A stores nothing into output 2 (the window is idle at its points and not written back there):
    no pieces — a placeholder (junk read back) that nothing consults, since at these points the window is neither
    written back nor read at the next point (the library's "Idle points"). -/
def out0_A_2 (c : Dev nD) (i : grid0.Coords) (arg1 : Memref sig .tc .vmem S1024x4096 .bf16) (harg1 : arg1.IsWhole) (arg2 : Memref sig .tc .vmem S512x4096 .f32) (harg2 : arg2.IsWhole) (arg3 : Memref sig .tc .vmem S4x8x128 .f32) (harg3 : arg3.IsWhole) (arg4 : Memref sig .tc .vmem S8x4096 .bf16) (harg4 : arg4.IsWhole) (arg5 : Memref sig .tc .vmem S8x4096 .f32) (harg5 : arg5.IsWhole) (hc0 : cond0_0 i) (hc1 : cond0_1 i) (hc2 : ¬cond0_2 i) (hc3 : ¬cond0_3 i)
    (x0 : Vec F S1024x4096 .bf16) (x1 : Vec F S512x4096 .f32) : Vec F S4x8x128 .f32 :=
  VO0_2.read (Elt F) (VO0_2.writes (Elt F) VO0_2.junk (kernelRun0_A (Ix := Ix) (U := U) (Lvl := Lvl) 𝒱₀ c i arg1 harg1 arg2 harg2 arg3 harg3 arg4 harg4 arg5 harg5 hc0 hc1 hc2 hc3 x0 x1).1)

/-- Case A's pieces for scratch `arg4`, which the kernel carries between points, cover it: 2 pieces of `S8x4096` tiling it (the library's `Piece.tiledL`). -/
theorem scover0_A_0 (c : Dev nD) (i : grid0.Coords) (arg1 : Memref sig .tc .vmem S1024x4096 .bf16) (harg1 : arg1.IsWhole) (arg2 : Memref sig .tc .vmem S512x4096 .f32) (harg2 : arg2.IsWhole) (arg3 : Memref sig .tc .vmem S4x8x128 .f32) (harg3 : arg3.IsWhole) (arg4 : Memref sig .tc .vmem S8x4096 .bf16) (harg4 : arg4.IsWhole) (arg5 : Memref sig .tc .vmem S8x4096 .f32) (harg5 : arg5.IsWhole) (hc0 : cond0_0 i) (hc1 : cond0_1 i) (hc2 : ¬cond0_2 i) (hc3 : ¬cond0_3 i)
    (x0 : Vec F S1024x4096 .bf16) (x1 : Vec F S512x4096 .f32) (y : S8x4096.Idx) :
    ∃ pc ∈ (kernelRun0_A (Ix := Ix) (U := U) (Lvl := Lvl) 𝒱₀ c i arg1 harg1 arg2 harg2 arg3 harg3 arg4 harg4 arg5 harg5 hc0 hc1 hc2 hc3 x0 x1).2.1, y ∈ pc.1.set :=
  View.cover_of_tiledL (kernelRun0_A (Ix := Ix) (U := U) (Lvl := Lvl) 𝒱₀ c i arg1 harg1 arg2 harg2 arg3 harg3 arg4 harg4 arg5 harg5 hc0 hc1 hc2 hc3 x0 x1).2.1 S8x4096.size (by sl_kernel_rfl) y

/-- What case A leaves in scratch `arg4`: its pieces read back over junk. -/
def sout0_A_0 (c : Dev nD) (i : grid0.Coords) (arg1 : Memref sig .tc .vmem S1024x4096 .bf16) (harg1 : arg1.IsWhole) (arg2 : Memref sig .tc .vmem S512x4096 .f32) (harg2 : arg2.IsWhole) (arg3 : Memref sig .tc .vmem S4x8x128 .f32) (harg3 : arg3.IsWhole) (arg4 : Memref sig .tc .vmem S8x4096 .bf16) (harg4 : arg4.IsWhole) (arg5 : Memref sig .tc .vmem S8x4096 .f32) (harg5 : arg5.IsWhole) (hc0 : cond0_0 i) (hc1 : cond0_1 i) (hc2 : ¬cond0_2 i) (hc3 : ¬cond0_3 i)
    (x0 : Vec F S1024x4096 .bf16) (x1 : Vec F S512x4096 .f32) : Vec F S8x4096 .bf16 :=
  VS0_0.read (Elt F) (VS0_0.writes (Elt F) VS0_0.junk (kernelRun0_A (Ix := Ix) (U := U) (Lvl := Lvl) 𝒱₀ c i arg1 harg1 arg2 harg2 arg3 harg3 arg4 harg4 arg5 harg5 hc0 hc1 hc2 hc3 x0 x1).2.1)

/-- Case A's pieces for scratch `arg5`, which the kernel carries between points, cover it: 1 piece of `S8x4096` tiling it (the library's `Piece.tiledL`). -/
theorem scover0_A_1 (c : Dev nD) (i : grid0.Coords) (arg1 : Memref sig .tc .vmem S1024x4096 .bf16) (harg1 : arg1.IsWhole) (arg2 : Memref sig .tc .vmem S512x4096 .f32) (harg2 : arg2.IsWhole) (arg3 : Memref sig .tc .vmem S4x8x128 .f32) (harg3 : arg3.IsWhole) (arg4 : Memref sig .tc .vmem S8x4096 .bf16) (harg4 : arg4.IsWhole) (arg5 : Memref sig .tc .vmem S8x4096 .f32) (harg5 : arg5.IsWhole) (hc0 : cond0_0 i) (hc1 : cond0_1 i) (hc2 : ¬cond0_2 i) (hc3 : ¬cond0_3 i)
    (x0 : Vec F S1024x4096 .bf16) (x1 : Vec F S512x4096 .f32) (y : S8x4096.Idx) :
    ∃ pc ∈ (kernelRun0_A (Ix := Ix) (U := U) (Lvl := Lvl) 𝒱₀ c i arg1 harg1 arg2 harg2 arg3 harg3 arg4 harg4 arg5 harg5 hc0 hc1 hc2 hc3 x0 x1).2.2.1, y ∈ pc.1.set :=
  View.cover_of_tiledL (kernelRun0_A (Ix := Ix) (U := U) (Lvl := Lvl) 𝒱₀ c i arg1 harg1 arg2 harg2 arg3 harg3 arg4 harg4 arg5 harg5 hc0 hc1 hc2 hc3 x0 x1).2.2.1 S8x4096.size (by sl_kernel_rfl) y

/-- What case A leaves in scratch `arg5`: its pieces read back over junk. -/
def sout0_A_1 (c : Dev nD) (i : grid0.Coords) (arg1 : Memref sig .tc .vmem S1024x4096 .bf16) (harg1 : arg1.IsWhole) (arg2 : Memref sig .tc .vmem S512x4096 .f32) (harg2 : arg2.IsWhole) (arg3 : Memref sig .tc .vmem S4x8x128 .f32) (harg3 : arg3.IsWhole) (arg4 : Memref sig .tc .vmem S8x4096 .bf16) (harg4 : arg4.IsWhole) (arg5 : Memref sig .tc .vmem S8x4096 .f32) (harg5 : arg5.IsWhole) (hc0 : cond0_0 i) (hc1 : cond0_1 i) (hc2 : ¬cond0_2 i) (hc3 : ¬cond0_3 i)
    (x0 : Vec F S1024x4096 .bf16) (x1 : Vec F S512x4096 .f32) : Vec F S8x4096 .f32 :=
  VS0_1.read (Elt F) (VS0_1.writes (Elt F) VS0_1.junk (kernelRun0_A (Ix := Ix) (U := U) (Lvl := Lvl) 𝒱₀ c i arg1 harg1 arg2 harg2 arg3 harg3 arg4 harg4 arg5 harg5 hc0 hc1 hc2 hc3 x0 x1).2.2.1)

-- (the run's proof term is large: the definition's epilogue — `abstractNestedProofs` — walks it past the default budget)
set_option maxHeartbeats 1000000 in
/-- What the body's stores leave in each output's staging memref, as pieces (last first) IN CASE B (`scf.if` 0 not taken, `scf.if` 1 taken, `scf.if` 2 not taken, `scf.if` 3 not taken: points 1, 2, … 23: 23 of 52), WITH the
    proof that on whole staging memrefs — the inputs' at their contents, the outputs it leaves idle (2: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs — each `scf.if` decided by the case's hypotheses `hc·`; the pieces are
    the witness that run finds (assigned when `iexact` hands the buffer to the continuation). -/
noncomputable def kernelRun0_B (c : Dev nD) (i : grid0.Coords) (arg1 : Memref sig .tc .vmem S1024x4096 .bf16) (harg1 : arg1.IsWhole) (arg2 : Memref sig .tc .vmem S512x4096 .f32) (harg2 : arg2.IsWhole) (arg3 : Memref sig .tc .vmem S4x8x128 .f32) (harg3 : arg3.IsWhole) (arg4 : Memref sig .tc .vmem S8x4096 .bf16) (harg4 : arg4.IsWhole) (arg5 : Memref sig .tc .vmem S8x4096 .f32) (harg5 : arg5.IsWhole) (hc0 : ¬cond0_0 i) (hc1 : cond0_1 i) (hc2 : ¬cond0_2 i) (hc3 : ¬cond0_3 i)
    (x0 : Vec F S1024x4096 .bf16) (x1 : Vec F S512x4096 .f32) (xs0 : Vec F S8x4096 .bf16) (xs1 : Vec F S8x4096 .f32) :
    Σ' (L2 : List (View.Piece (Elt F) S4x8x128 .f32)), Σ' (LS0 : List (View.Piece (Elt F) S8x4096 .bf16)), { LS1 : List (View.Piece (Elt F) S8x4096 .f32) //
      ∀ (xi2 : Vec F S4x8x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0 ∗ owns (c : Thread nD τ) arg5 fullShare xs1
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0) ∗ owns (c : Thread nD τ) arg5 fullShare xs1) -∗ K ⟨⟩))
          ⊢ wp frame (wpE (defs₀ (F := F)) 𝒱₀ c none) E (cc0_absmax_scales i arg1 harg1 arg2 harg2 arg3 harg3 arg4 harg4 arg5 harg5) K } := by
  refine ⟨[], ?_, [], fun xi2 E K => ?run⟩
  case run =>
    simp only [cc0_absmax_scales_eq_skeleton]; unfold cc0_absmax_scales_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hfs0; obtain rfl := harg5.eq_unread hfs1
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; isplitr; · ipureintro; exact harg5.read_unread _
    iexact HS1

/-- Case B stores nothing into output 2 (the window is idle at its points and not written back there):
    no pieces — a placeholder (junk read back) that nothing consults, since at these points the window is neither
    written back nor read at the next point (the library's "Idle points"). -/
def out0_B_2 (c : Dev nD) (i : grid0.Coords) (arg1 : Memref sig .tc .vmem S1024x4096 .bf16) (harg1 : arg1.IsWhole) (arg2 : Memref sig .tc .vmem S512x4096 .f32) (harg2 : arg2.IsWhole) (arg3 : Memref sig .tc .vmem S4x8x128 .f32) (harg3 : arg3.IsWhole) (arg4 : Memref sig .tc .vmem S8x4096 .bf16) (harg4 : arg4.IsWhole) (arg5 : Memref sig .tc .vmem S8x4096 .f32) (harg5 : arg5.IsWhole) (hc0 : ¬cond0_0 i) (hc1 : cond0_1 i) (hc2 : ¬cond0_2 i) (hc3 : ¬cond0_3 i)
    (x0 : Vec F S1024x4096 .bf16) (x1 : Vec F S512x4096 .f32) (xs0 : Vec F S8x4096 .bf16) (xs1 : Vec F S8x4096 .f32) : Vec F S4x8x128 .f32 :=
  VO0_2.read (Elt F) (VO0_2.writes (Elt F) VO0_2.junk (kernelRun0_B (Ix := Ix) (U := U) (Lvl := Lvl) 𝒱₀ c i arg1 harg1 arg2 harg2 arg3 harg3 arg4 harg4 arg5 harg5 hc0 hc1 hc2 hc3 x0 x1 xs0 xs1).1)

/-- Case B's pieces for scratch `arg4`, which the kernel carries between points, cover it: 1 piece of `S8x4096` tiling it (the library's `Piece.tiledL`). -/
theorem scover0_B_0 (c : Dev nD) (i : grid0.Coords) (arg1 : Memref sig .tc .vmem S1024x4096 .bf16) (harg1 : arg1.IsWhole) (arg2 : Memref sig .tc .vmem S512x4096 .f32) (harg2 : arg2.IsWhole) (arg3 : Memref sig .tc .vmem S4x8x128 .f32) (harg3 : arg3.IsWhole) (arg4 : Memref sig .tc .vmem S8x4096 .bf16) (harg4 : arg4.IsWhole) (arg5 : Memref sig .tc .vmem S8x4096 .f32) (harg5 : arg5.IsWhole) (hc0 : ¬cond0_0 i) (hc1 : cond0_1 i) (hc2 : ¬cond0_2 i) (hc3 : ¬cond0_3 i)
    (x0 : Vec F S1024x4096 .bf16) (x1 : Vec F S512x4096 .f32) (xs0 : Vec F S8x4096 .bf16) (xs1 : Vec F S8x4096 .f32) (y : S8x4096.Idx) :
    ∃ pc ∈ (kernelRun0_B (Ix := Ix) (U := U) (Lvl := Lvl) 𝒱₀ c i arg1 harg1 arg2 harg2 arg3 harg3 arg4 harg4 arg5 harg5 hc0 hc1 hc2 hc3 x0 x1 xs0 xs1).2.1, y ∈ pc.1.set :=
  View.cover_of_tiledL (kernelRun0_B (Ix := Ix) (U := U) (Lvl := Lvl) 𝒱₀ c i arg1 harg1 arg2 harg2 arg3 harg3 arg4 harg4 arg5 harg5 hc0 hc1 hc2 hc3 x0 x1 xs0 xs1).2.1 S8x4096.size (by sl_kernel_rfl) y

/-- What case B leaves in scratch `arg4`: its pieces read back over junk. -/
def sout0_B_0 (c : Dev nD) (i : grid0.Coords) (arg1 : Memref sig .tc .vmem S1024x4096 .bf16) (harg1 : arg1.IsWhole) (arg2 : Memref sig .tc .vmem S512x4096 .f32) (harg2 : arg2.IsWhole) (arg3 : Memref sig .tc .vmem S4x8x128 .f32) (harg3 : arg3.IsWhole) (arg4 : Memref sig .tc .vmem S8x4096 .bf16) (harg4 : arg4.IsWhole) (arg5 : Memref sig .tc .vmem S8x4096 .f32) (harg5 : arg5.IsWhole) (hc0 : ¬cond0_0 i) (hc1 : cond0_1 i) (hc2 : ¬cond0_2 i) (hc3 : ¬cond0_3 i)
    (x0 : Vec F S1024x4096 .bf16) (x1 : Vec F S512x4096 .f32) (xs0 : Vec F S8x4096 .bf16) (xs1 : Vec F S8x4096 .f32) : Vec F S8x4096 .bf16 :=
  VS0_0.read (Elt F) (VS0_0.writes (Elt F) VS0_0.junk (kernelRun0_B (Ix := Ix) (U := U) (Lvl := Lvl) 𝒱₀ c i arg1 harg1 arg2 harg2 arg3 harg3 arg4 harg4 arg5 harg5 hc0 hc1 hc2 hc3 x0 x1 xs0 xs1).2.1)

/-- Case B stores nothing into scratch `arg5`: it holds what the point before left. -/
def sout0_B_1 (c : Dev nD) (i : grid0.Coords) (arg1 : Memref sig .tc .vmem S1024x4096 .bf16) (harg1 : arg1.IsWhole) (arg2 : Memref sig .tc .vmem S512x4096 .f32) (harg2 : arg2.IsWhole) (arg3 : Memref sig .tc .vmem S4x8x128 .f32) (harg3 : arg3.IsWhole) (arg4 : Memref sig .tc .vmem S8x4096 .bf16) (harg4 : arg4.IsWhole) (arg5 : Memref sig .tc .vmem S8x4096 .f32) (harg5 : arg5.IsWhole) (hc0 : ¬cond0_0 i) (hc1 : cond0_1 i) (hc2 : ¬cond0_2 i) (hc3 : ¬cond0_3 i)
    (x0 : Vec F S1024x4096 .bf16) (x1 : Vec F S512x4096 .f32) (xs0 : Vec F S8x4096 .bf16) (xs1 : Vec F S8x4096 .f32) : Vec F S8x4096 .f32 := xs1

-- (the run's proof term is large: the definition's epilogue — `abstractNestedProofs` — walks it past the default budget)
set_option maxHeartbeats 1000000 in
/-- What the body's stores leave in each output's staging memref, as pieces (last first) IN CASE C (`scf.if` 0 not taken, `scf.if` 1 not taken, `scf.if` 2 taken, `scf.if` 3 not taken: points 24, 25, … 50: 27 of 52), WITH the
    proof that on whole staging memrefs — the inputs' at their contents, the outputs it leaves idle (2: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs — each `scf.if` decided by the case's hypotheses `hc·`; the pieces are
    the witness that run finds (assigned when `iexact` hands the buffer to the continuation). -/
noncomputable def kernelRun0_C (c : Dev nD) (i : grid0.Coords) (arg1 : Memref sig .tc .vmem S1024x4096 .bf16) (harg1 : arg1.IsWhole) (arg2 : Memref sig .tc .vmem S512x4096 .f32) (harg2 : arg2.IsWhole) (arg3 : Memref sig .tc .vmem S4x8x128 .f32) (harg3 : arg3.IsWhole) (arg4 : Memref sig .tc .vmem S8x4096 .bf16) (harg4 : arg4.IsWhole) (arg5 : Memref sig .tc .vmem S8x4096 .f32) (harg5 : arg5.IsWhole) (hc0 : ¬cond0_0 i) (hc1 : ¬cond0_1 i) (hc2 : cond0_2 i) (hc3 : ¬cond0_3 i)
    (x0 : Vec F S1024x4096 .bf16) (x1 : Vec F S512x4096 .f32) (xs0 : Vec F S8x4096 .bf16) (xs1 : Vec F S8x4096 .f32) :
    Σ' (L2 : List (View.Piece (Elt F) S4x8x128 .f32)), Σ' (LS0 : List (View.Piece (Elt F) S8x4096 .bf16)), { LS1 : List (View.Piece (Elt F) S8x4096 .f32) //
      ∀ (xi2 : Vec F S4x8x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0 ∗ owns (c : Thread nD τ) arg5 fullShare xs1
            ∗ (iprop(owns (c : Thread nD τ) arg1 fullShare x0 ∗ owns (c : Thread nD τ) arg2 fullShare x1 ∗ owns (c : Thread nD τ) arg3 fullShare xi2 ∗ owns (c : Thread nD τ) arg4 fullShare xs0 ∗ (∃ f, arg5.view.loc (c : Thread nD τ) ↦[arg5.view.set]{fullShare} arg5.view.writes (Elt F) f LS1)) -∗ K ⟨⟩))
          ⊢ wp frame (wpE (defs₀ (F := F)) 𝒱₀ c none) E (cc0_absmax_scales i arg1 harg1 arg2 harg2 arg3 harg3 arg4 harg4 arg5 harg5) K } := by
  refine ⟨[], [], ?_, fun xi2 E K => ?run⟩
  case run =>
    simp only [cc0_absmax_scales_eq_skeleton]; unfold cc0_absmax_scales_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hfs0; obtain rfl := harg5.eq_unread hfs1
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]
    · iexists _; isplitr; · ipureintro; exact harg4.read_unread _
      iexact HS0
    iexists _; iexact HS1

/-- Case C stores nothing into output 2 (the window is idle at its points and not written back there):
    no pieces — a placeholder (junk read back) that nothing consults, since at these points the window is neither
    written back nor read at the next point (the library's "Idle points"). -/
def out0_C_2 (c : Dev nD) (i : grid0.Coords) (arg1 : Memref sig .tc .vmem S1024x4096 .bf16) (harg1 : arg1.IsWhole) (arg2 : Memref sig .tc .vmem S512x4096 .f32) (harg2 : arg2.IsWhole) (arg3 : Memref sig .tc .vmem S4x8x128 .f32) (harg3 : arg3.IsWhole) (arg4 : Memref sig .tc .vmem S8x4096 .bf16) (harg4 : arg4.IsWhole) (arg5 : Memref sig .tc .vmem S8x4096 .f32) (harg5 : arg5.IsWhole) (hc0 : ¬cond0_0 i) (hc1 : ¬cond0_1 i) (hc2 : cond0_2 i) (hc3 : ¬cond0_3 i)
    (x0 : Vec F S1024x4096 .bf16) (x1 : Vec F S512x4096 .f32) (xs0 : Vec F S8x4096 .bf16) (xs1 : Vec F S8x4096 .f32) : Vec F S4x8x128 .f32 :=
  VO0_2.read (Elt F) (VO0_2.writes (Elt F) VO0_2.junk (kernelRun0_C (Ix := Ix) (U := U) (Lvl := Lvl) 𝒱₀ c i arg1 harg1 arg2 harg2 arg3 harg3 arg4 harg4 arg5 harg5 hc0 hc1 hc2 hc3 x0 x1 xs0 xs1).1)

/-- Case C stores nothing into scratch `arg4`: it holds what the point before left. -/
def sout0_C_0 (c : Dev nD) (i : grid0.Coords) (arg1 : Memref sig .tc .vmem S1024x4096 .bf16) (harg1 : arg1.IsWhole) (arg2 : Memref sig .tc .vmem S512x4096 .f32) (harg2 : arg2.IsWhole) (arg3 : Memref sig .tc .vmem S4x8x128 .f32) (harg3 : arg3.IsWhole) (arg4 : Memref sig .tc .vmem S8x4096 .bf16) (harg4 : arg4.IsWhole) (arg5 : Memref sig .tc .vmem S8x4096 .f32) (harg5 : arg5.IsWhole) (hc0 : ¬cond0_0 i) (hc1 : ¬cond0_1 i) (hc2 : cond0_2 i) (hc3 : ¬cond0_3 i)
    (x0 : Vec F S1024x4096 .bf16) (x1 : Vec F S512x4096 .f32) (xs0 : Vec F S8x4096 .bf16) (xs1 : Vec F S8x4096 .f32) : Vec F S8x4096 .bf16 := xs0

/-- Case C's pieces for scratch `arg5`, which the kernel carries between points, cover it: 1 piece of `S8x4096` tiling it (the library's `Piece.tiledL`). -/
theorem scover0_C_1 (c : Dev nD) (i : grid0.Coords) (arg1 : Memref sig .tc .vmem S1024x4096 .bf16) (harg1 : arg1.IsWhole) (arg2 : Memref sig .tc .vmem S512x4096 .f32) (harg2 : arg2.IsWhole) (arg3 : Memref sig .tc .vmem S4x8x128 .f32) (harg3 : arg3.IsWhole) (arg4 : Memref sig .tc .vmem S8x4096 .bf16) (harg4 : arg4.IsWhole) (arg5 : Memref sig .tc .vmem S8x4096 .f32) (harg5 : arg5.IsWhole) (hc0 : ¬cond0_0 i) (hc1 : ¬cond0_1 i) (hc2 : cond0_2 i) (hc3 : ¬cond0_3 i)
    (x0 : Vec F S1024x4096 .bf16) (x1 : Vec F S512x4096 .f32) (xs0 : Vec F S8x4096 .bf16) (xs1 : Vec F S8x4096 .f32) (y : S8x4096.Idx) :
    ∃ pc ∈ (kernelRun0_C (Ix := Ix) (U := U) (Lvl := Lvl) 𝒱₀ c i arg1 harg1 arg2 harg2 arg3 harg3 arg4 harg4 arg5 harg5 hc0 hc1 hc2 hc3 x0 x1 xs0 xs1).2.2.1, y ∈ pc.1.set :=
  View.cover_of_tiledL (kernelRun0_C (Ix := Ix) (U := U) (Lvl := Lvl) 𝒱₀ c i arg1 harg1 arg2 harg2 arg3 harg3 arg4 harg4 arg5 harg5 hc0 hc1 hc2 hc3 x0 x1 xs0 xs1).2.2.1 S8x4096.size (by sl_kernel_rfl) y

/-- What case C leaves in scratch `arg5`: its pieces read back over junk. -/
def sout0_C_1 (c : Dev nD) (i : grid0.Coords) (arg1 : Memref sig .tc .vmem S1024x4096 .bf16) (harg1 : arg1.IsWhole) (arg2 : Memref sig .tc .vmem S512x4096 .f32) (harg2 : arg2.IsWhole) (arg3 : Memref sig .tc .vmem S4x8x128 .f32) (harg3 : arg3.IsWhole) (arg4 : Memref sig .tc .vmem S8x4096 .bf16) (harg4 : arg4.IsWhole) (arg5 : Memref sig .tc .vmem S8x4096 .f32) (harg5 : arg5.IsWhole) (hc0 : ¬cond0_0 i) (hc1 : ¬cond0_1 i) (hc2 : cond0_2 i) (hc3 : ¬cond0_3 i)
    (x0 : Vec F S1024x4096 .bf16) (x1 : Vec F S512x4096 .f32) (xs0 : Vec F S8x4096 .bf16) (xs1 : Vec F S8x4096 .f32) : Vec F S8x4096 .f32 :=
  VS0_1.read (Elt F) (VS0_1.writes (Elt F) VS0_1.junk (kernelRun0_C (Ix := Ix) (U := U) (Lvl := Lvl) 𝒱₀ c i arg1 harg1 arg2 harg2 arg3 harg3 arg4 harg4 arg5 harg5 hc0 hc1 hc2 hc3 x0 x1 xs0 xs1).2.2.1)

-- (the run's proof term is large: the definition's epilogue — `abstractNestedProofs` — walks it past the default budget)
set_option maxHeartbeats 1000000 in
/-- What the body's stores leave in each output's staging memref, as pieces (last first) IN CASE D (`scf.if` 0 not taken, `scf.if` 1 not taken, `scf.if` 2 taken, `scf.if` 3 taken: points 51), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs — each `scf.if` decided by the case's hypotheses `hc·`; the pieces are
    the witness that run finds (assigned when `iexact` hands the buffer to the continuation). -/
noncomputable def kernelRun0_D (c : Dev nD) (i : grid0.Coords) (arg1 : Memref sig .tc .vmem S1024x4096 .bf16) (harg1 : arg1.IsWhole) (arg2 : Memref sig .tc .vmem S512x4096 .f32) (harg2 : arg2.IsWhole) (arg3 : Memref sig .tc .vmem S4x8x128 .f32) (harg3 : arg3.IsWhole) (arg4 : Memref sig .tc .vmem S8x4096 .bf16) (harg4 : arg4.IsWhole) (arg5 : Memref sig .tc .vmem S8x4096 .f32) (harg5 : arg5.IsWhole) (hc0 : ¬cond0_0 i) (hc1 : ¬cond0_1 i) (hc2 : cond0_2 i) (hc3 : cond0_3 i)
    (x0 : Vec F S1024x4096 .bf16) (x1 : Vec F S512x4096 .f32) (xs0 : Vec F S8x4096 .bf16) (xs1 : Vec F S8x4096 .f32) :
    Σ' (L2 : List (View.Piece (Elt F) S4x8x128 .f32)), Σ' (LS0 : List (View.Piece (Elt F) S8x4096 .bf16)), { LS1 : List (View.Piece (Elt F) S8x4096 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0 ∗ owns (c : Thread nD τ) arg5 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ owns (c : Thread nD τ) arg4 fullShare xs0 ∗ (∃ f, arg5.view.loc (c : Thread nD τ) ↦[arg5.view.set]{fullShare} arg5.view.writes (Elt F) f LS1)) -∗ K ⟨⟩))
          ⊢ wp frame (wpE (defs₀ (F := F)) 𝒱₀ c none) E (cc0_absmax_scales i arg1 harg1 arg2 harg2 arg3 harg3 arg4 harg4 arg5 harg5) K } := by
  refine ⟨?_, [], ?_, fun E K => ?run⟩
  case run =>
    simp only [cc0_absmax_scales_eq_skeleton]; unfold cc0_absmax_scales_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg1.eq_unread hf0; obtain rfl := harg2.eq_unread hf1; obtain rfl := harg4.eq_unread hfs0; obtain rfl := harg5.eq_unread hfs1
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [HS0]
    · iexists _; isplitr; · ipureintro; exact harg4.read_unread _
      iexact HS0
    iexists _; iexact HS1

/-- Case D's pieces for output 2 tile its block (4 stores of `S1x8x128`, checked by the kernel's evaluation: the library's `Piece.tiledL`, linear in the pieces, through a loop's `@[irreducible]` trip theorem too), so they cover it. -/
theorem cover0_D_2 (c : Dev nD) (i : grid0.Coords) (arg1 : Memref sig .tc .vmem S1024x4096 .bf16) (harg1 : arg1.IsWhole) (arg2 : Memref sig .tc .vmem S512x4096 .f32) (harg2 : arg2.IsWhole) (arg3 : Memref sig .tc .vmem S4x8x128 .f32) (harg3 : arg3.IsWhole) (arg4 : Memref sig .tc .vmem S8x4096 .bf16) (harg4 : arg4.IsWhole) (arg5 : Memref sig .tc .vmem S8x4096 .f32) (harg5 : arg5.IsWhole) (hc0 : ¬cond0_0 i) (hc1 : ¬cond0_1 i) (hc2 : cond0_2 i) (hc3 : cond0_3 i)
    (x0 : Vec F S1024x4096 .bf16) (x1 : Vec F S512x4096 .f32) (xs0 : Vec F S8x4096 .bf16) (xs1 : Vec F S8x4096 .f32) (y : S4x8x128.Idx) :
    ∃ pc ∈ (kernelRun0_D (Ix := Ix) (U := U) (Lvl := Lvl) 𝒱₀ c i arg1 harg1 arg2 harg2 arg3 harg3 arg4 harg4 arg5 harg5 hc0 hc1 hc2 hc3 x0 x1 xs0 xs1).1, y ∈ pc.1.set :=
  View.cover_of_tiledL (kernelRun0_D (Ix := Ix) (U := U) (Lvl := Lvl) 𝒱₀ c i arg1 harg1 arg2 harg2 arg3 harg3 arg4 harg4 arg5 harg5 hc0 hc1 hc2 hc3 x0 x1 xs0 xs1).1 S1x8x128.size (by sl_kernel_rfl) y

/-- What case D leaves in output 2's staging buffer: its pieces read back over junk. -/
def out0_D_2 (c : Dev nD) (i : grid0.Coords) (arg1 : Memref sig .tc .vmem S1024x4096 .bf16) (harg1 : arg1.IsWhole) (arg2 : Memref sig .tc .vmem S512x4096 .f32) (harg2 : arg2.IsWhole) (arg3 : Memref sig .tc .vmem S4x8x128 .f32) (harg3 : arg3.IsWhole) (arg4 : Memref sig .tc .vmem S8x4096 .bf16) (harg4 : arg4.IsWhole) (arg5 : Memref sig .tc .vmem S8x4096 .f32) (harg5 : arg5.IsWhole) (hc0 : ¬cond0_0 i) (hc1 : ¬cond0_1 i) (hc2 : cond0_2 i) (hc3 : cond0_3 i)
    (x0 : Vec F S1024x4096 .bf16) (x1 : Vec F S512x4096 .f32) (xs0 : Vec F S8x4096 .bf16) (xs1 : Vec F S8x4096 .f32) : Vec F S4x8x128 .f32 :=
  VO0_2.read (Elt F) (VO0_2.writes (Elt F) VO0_2.junk (kernelRun0_D (Ix := Ix) (U := U) (Lvl := Lvl) 𝒱₀ c i arg1 harg1 arg2 harg2 arg3 harg3 arg4 harg4 arg5 harg5 hc0 hc1 hc2 hc3 x0 x1 xs0 xs1).1)

/-- Case D stores nothing into scratch `arg4`: it holds what the point before left. -/
def sout0_D_0 (c : Dev nD) (i : grid0.Coords) (arg1 : Memref sig .tc .vmem S1024x4096 .bf16) (harg1 : arg1.IsWhole) (arg2 : Memref sig .tc .vmem S512x4096 .f32) (harg2 : arg2.IsWhole) (arg3 : Memref sig .tc .vmem S4x8x128 .f32) (harg3 : arg3.IsWhole) (arg4 : Memref sig .tc .vmem S8x4096 .bf16) (harg4 : arg4.IsWhole) (arg5 : Memref sig .tc .vmem S8x4096 .f32) (harg5 : arg5.IsWhole) (hc0 : ¬cond0_0 i) (hc1 : ¬cond0_1 i) (hc2 : cond0_2 i) (hc3 : cond0_3 i)
    (x0 : Vec F S1024x4096 .bf16) (x1 : Vec F S512x4096 .f32) (xs0 : Vec F S8x4096 .bf16) (xs1 : Vec F S8x4096 .f32) : Vec F S8x4096 .bf16 := xs0

/-- Case D's pieces for scratch `arg5`, which the kernel carries between points, cover it: 1 piece of `S8x4096` tiling it (the library's `Piece.tiledL`). -/
theorem scover0_D_1 (c : Dev nD) (i : grid0.Coords) (arg1 : Memref sig .tc .vmem S1024x4096 .bf16) (harg1 : arg1.IsWhole) (arg2 : Memref sig .tc .vmem S512x4096 .f32) (harg2 : arg2.IsWhole) (arg3 : Memref sig .tc .vmem S4x8x128 .f32) (harg3 : arg3.IsWhole) (arg4 : Memref sig .tc .vmem S8x4096 .bf16) (harg4 : arg4.IsWhole) (arg5 : Memref sig .tc .vmem S8x4096 .f32) (harg5 : arg5.IsWhole) (hc0 : ¬cond0_0 i) (hc1 : ¬cond0_1 i) (hc2 : cond0_2 i) (hc3 : cond0_3 i)
    (x0 : Vec F S1024x4096 .bf16) (x1 : Vec F S512x4096 .f32) (xs0 : Vec F S8x4096 .bf16) (xs1 : Vec F S8x4096 .f32) (y : S8x4096.Idx) :
    ∃ pc ∈ (kernelRun0_D (Ix := Ix) (U := U) (Lvl := Lvl) 𝒱₀ c i arg1 harg1 arg2 harg2 arg3 harg3 arg4 harg4 arg5 harg5 hc0 hc1 hc2 hc3 x0 x1 xs0 xs1).2.2.1, y ∈ pc.1.set :=
  View.cover_of_tiledL (kernelRun0_D (Ix := Ix) (U := U) (Lvl := Lvl) 𝒱₀ c i arg1 harg1 arg2 harg2 arg3 harg3 arg4 harg4 arg5 harg5 hc0 hc1 hc2 hc3 x0 x1 xs0 xs1).2.2.1 S8x4096.size (by sl_kernel_rfl) y

/-- What case D leaves in scratch `arg5`: its pieces read back over junk. -/
def sout0_D_1 (c : Dev nD) (i : grid0.Coords) (arg1 : Memref sig .tc .vmem S1024x4096 .bf16) (harg1 : arg1.IsWhole) (arg2 : Memref sig .tc .vmem S512x4096 .f32) (harg2 : arg2.IsWhole) (arg3 : Memref sig .tc .vmem S4x8x128 .f32) (harg3 : arg3.IsWhole) (arg4 : Memref sig .tc .vmem S8x4096 .bf16) (harg4 : arg4.IsWhole) (arg5 : Memref sig .tc .vmem S8x4096 .f32) (harg5 : arg5.IsWhole) (hc0 : ¬cond0_0 i) (hc1 : ¬cond0_1 i) (hc2 : cond0_2 i) (hc3 : cond0_3 i)
    (x0 : Vec F S1024x4096 .bf16) (x1 : Vec F S512x4096 .f32) (xs0 : Vec F S8x4096 .bf16) (xs1 : Vec F S8x4096 .f32) : Vec F S8x4096 .f32 :=
  VS0_1.read (Elt F) (VS0_1.writes (Elt F) VS0_1.junk (kernelRun0_D (Ix := Ix) (U := U) (Lvl := Lvl) 𝒱₀ c i arg1 harg1 arg2 harg2 arg3 harg3 arg4 harg4 arg5 harg5 hc0 hc1 hc2 hc3 x0 x1 xs0 xs1).2.2.1)

end Cert.KernelIdeal.Own.K0

end
-- ==== Proof.KernelIdeal.K0.lean ====
/- Custom call 0 of `KernelIdeal`: the kernel's run, the proof data and the body obligation, for any index type, level type,
   algebra, variants, entry contents and owed tally.
   -/
module

public import proofs.«01_k».proof.Proof.Gen.KernelIdeal.Launch
public import proofs.«01_k».proof.Proof.KernelIdeal.K0Run
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Pipeline.TableIdle
public import Idealize.ShloMosaic.Lib.Tactic
public import Idealize.ShloMosaic.Lib.WordCmp
public import Idealize.ShloMosaic.Lib.Exec
public import Idealize.ShloMosaic.Lib.Pipeline.Kit

@[expose] public section

noncomputable section

namespace Cert.KernelIdeal.Own.K0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

variable (𝒱₀ : Variants) (V : (c : Dev nD) → (b : Ref sig .tc) → Buf (Elt F) ((c : Thread nD τ).loc b)) (D : Dev nD → CellTallies nD τ sig Ix)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S4x8x128 .f32 × Vec F S8x4096 .bf16 × Vec F S8x4096 .f32
  | 0, hn => (out0_A_2 (Ix := Ix) (U := U) (Lvl := Lvl) 𝒱₀ c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (fun h => (fun h => by (try dsimp only at h); omega) ((hcond0_3 ⟨0, hn⟩).mp h)) (iblk V c 0 ⟨0, hn⟩) (iblk V c 1 ⟨0, hn⟩), sout0_A_0 (Ix := Ix) (U := U) (Lvl := Lvl) 𝒱₀ c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (fun h => (fun h => by (try dsimp only at h); omega) ((hcond0_3 ⟨0, hn⟩).mp h)) (iblk V c 0 ⟨0, hn⟩) (iblk V c 1 ⟨0, hn⟩), sout0_A_1 (Ix := Ix) (U := U) (Lvl := Lvl) 𝒱₀ c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (fun h => (fun h => by (try dsimp only at h); omega) ((hcond0_3 ⟨0, hn⟩).mp h)) (iblk V c 0 ⟨0, hn⟩) (iblk V c 1 ⟨0, hn⟩))
  | n + 1, hn =>
    if h0 : (n + 1) % 52 = 0 then
      if h1 : (n + 1) < 24 then
        if h2 : 24 ≤ (n + 1) then
          False.elim (by have hN : n + 1 < 52 := lt_of_lt_of_eq hn (show cfg0.N = 52 from N_0); omega)
        else
          if h3 : (n + 1) % 52 = 51 then
            False.elim (by have hN : n + 1 < 52 := lt_of_lt_of_eq hn (show cfg0.N = 52 from N_0); omega)
          else
            (out0_A_2 (Ix := Ix) (U := U) (Lvl := Lvl) 𝒱₀ c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (iblk V c 0 ⟨n + 1, hn⟩) (iblk V c 1 ⟨n + 1, hn⟩), sout0_A_0 (Ix := Ix) (U := U) (Lvl := Lvl) 𝒱₀ c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (iblk V c 0 ⟨n + 1, hn⟩) (iblk V c 1 ⟨n + 1, hn⟩), sout0_A_1 (Ix := Ix) (U := U) (Lvl := Lvl) 𝒱₀ c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (iblk V c 0 ⟨n + 1, hn⟩) (iblk V c 1 ⟨n + 1, hn⟩))
      else
        False.elim (by have hN : n + 1 < 52 := lt_of_lt_of_eq hn (show cfg0.N = 52 from N_0); omega)
    else
      if h1 : (n + 1) < 24 then
        if h2 : 24 ≤ (n + 1) then
          False.elim (by have hN : n + 1 < 52 := lt_of_lt_of_eq hn (show cfg0.N = 52 from N_0); omega)
        else
          if h3 : (n + 1) % 52 = 51 then
            False.elim (by have hN : n + 1 < 52 := lt_of_lt_of_eq hn (show cfg0.N = 52 from N_0); omega)
          else
            (out0_B_2 (Ix := Ix) (U := U) (Lvl := Lvl) 𝒱₀ c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (iblk V c 0 ⟨n + 1, hn⟩) (iblk V c 1 ⟨n + 1, hn⟩) (outsAt0 c n (Nat.lt_of_succ_lt hn)).2.1 (outsAt0 c n (Nat.lt_of_succ_lt hn)).2.2, sout0_B_0 (Ix := Ix) (U := U) (Lvl := Lvl) 𝒱₀ c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (iblk V c 0 ⟨n + 1, hn⟩) (iblk V c 1 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (iblk V c 0 ⟨n + 1, hn⟩) (iblk V c 1 ⟨n + 1, hn⟩) (outsAt0 c n (Nat.lt_of_succ_lt hn)).2.1 (outsAt0 c n (Nat.lt_of_succ_lt hn)).2.2)
      else
        if h2 : 24 ≤ (n + 1) then
          if h3 : (n + 1) % 52 = 51 then
            (out0_D_2 (Ix := Ix) (U := U) (Lvl := Lvl) 𝒱₀ c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) ((hcond0_3 ⟨n + 1, hn⟩).mpr h3) (iblk V c 0 ⟨n + 1, hn⟩) (iblk V c 1 ⟨n + 1, hn⟩) (outsAt0 c n (Nat.lt_of_succ_lt hn)).2.1 (outsAt0 c n (Nat.lt_of_succ_lt hn)).2.2, sout0_D_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) ((hcond0_3 ⟨n + 1, hn⟩).mpr h3) (iblk V c 0 ⟨n + 1, hn⟩) (iblk V c 1 ⟨n + 1, hn⟩) (outsAt0 c n (Nat.lt_of_succ_lt hn)).2.1 (outsAt0 c n (Nat.lt_of_succ_lt hn)).2.2, sout0_D_1 (Ix := Ix) (U := U) (Lvl := Lvl) 𝒱₀ c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) ((hcond0_3 ⟨n + 1, hn⟩).mpr h3) (iblk V c 0 ⟨n + 1, hn⟩) (iblk V c 1 ⟨n + 1, hn⟩) (outsAt0 c n (Nat.lt_of_succ_lt hn)).2.1 (outsAt0 c n (Nat.lt_of_succ_lt hn)).2.2)
          else
            (out0_C_2 (Ix := Ix) (U := U) (Lvl := Lvl) 𝒱₀ c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk V c 0 ⟨n + 1, hn⟩) (iblk V c 1 ⟨n + 1, hn⟩) (outsAt0 c n (Nat.lt_of_succ_lt hn)).2.1 (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk V c 0 ⟨n + 1, hn⟩) (iblk V c 1 ⟨n + 1, hn⟩) (outsAt0 c n (Nat.lt_of_succ_lt hn)).2.1 (outsAt0 c n (Nat.lt_of_succ_lt hn)).2.2, sout0_C_1 (Ix := Ix) (U := U) (Lvl := Lvl) 𝒱₀ c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk V c 0 ⟨n + 1, hn⟩) (iblk V c 1 ⟨n + 1, hn⟩) (outsAt0 c n (Nat.lt_of_succ_lt hn)).2.1 (outsAt0 c n (Nat.lt_of_succ_lt hn)).2.2)
        else
          False.elim (by have hN : n + 1 < 52 := lt_of_lt_of_eq hn (show cfg0.N = 52 from N_0); omega)

/-- `outsAt0` at a point of case A: that case's contents. -/
theorem outsAt0_A (c : Dev nD) (t : Fin cfg0.N) (h0 : t.val % 52 = 0) (h1 : t.val < 24) (h2 : ¬24 ≤ t.val) (h3 : ¬t.val % 52 = 51) :
    outsAt0 (Ix := Ix) (U := U) (Lvl := Lvl) 𝒱₀ V c t.val t.isLt = (out0_A_2 (Ix := Ix) (U := U) (Lvl := Lvl) 𝒱₀ c (grid0.coords t) (ms0_0 t) (hs0_0 t) (ms0_1 t) (hs0_1 t) (ms0_2 t) (hs0_2 t) scM0_0 (Memref.isWhole_whole _) scM0_1 (Memref.isWhole_whole _) ((hcond0_0 t).mpr h0) ((hcond0_1 t).mpr h1) (fun h => h2 ((hcond0_2 t).mp h)) (fun h => h3 ((hcond0_3 t).mp h)) (iblk V c 0 t) (iblk V c 1 t), sout0_A_0 (Ix := Ix) (U := U) (Lvl := Lvl) 𝒱₀ c (grid0.coords t) (ms0_0 t) (hs0_0 t) (ms0_1 t) (hs0_1 t) (ms0_2 t) (hs0_2 t) scM0_0 (Memref.isWhole_whole _) scM0_1 (Memref.isWhole_whole _) ((hcond0_0 t).mpr h0) ((hcond0_1 t).mpr h1) (fun h => h2 ((hcond0_2 t).mp h)) (fun h => h3 ((hcond0_3 t).mp h)) (iblk V c 0 t) (iblk V c 1 t), sout0_A_1 (Ix := Ix) (U := U) (Lvl := Lvl) 𝒱₀ c (grid0.coords t) (ms0_0 t) (hs0_0 t) (ms0_1 t) (hs0_1 t) (ms0_2 t) (hs0_2 t) scM0_0 (Memref.isWhole_whole _) scM0_1 (Memref.isWhole_whole _) ((hcond0_0 t).mpr h0) ((hcond0_1 t).mpr h1) (fun h => h2 ((hcond0_2 t).mp h)) (fun h => h3 ((hcond0_3 t).mp h)) (iblk V c 0 t) (iblk V c 1 t)) := by
  obtain ⟨n, hn⟩ := t
  cases n with
  | zero => exact rfl
  | succ n => exact (dif_pos h0).trans ((dif_pos h1).trans ((dif_neg h2).trans ((dif_neg h3).trans rfl)))

/-- `outsAt0` at a point of case B: that case's contents, over what the point before left. -/
theorem outsAt0_B (c : Dev nD) (t : Fin cfg0.N) (h0 : ¬t.val % 52 = 0) (h1 : t.val < 24) (h2 : ¬24 ≤ t.val) (h3 : ¬t.val % 52 = 51) :
    outsAt0 (Ix := Ix) (U := U) (Lvl := Lvl) 𝒱₀ V c t.val t.isLt = (out0_B_2 (Ix := Ix) (U := U) (Lvl := Lvl) 𝒱₀ c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (fun h => h2 ((hcond0_2 t).mp h)) (fun h => h3 ((hcond0_3 t).mp h)) (iblk V c 0 t) (iblk V c 1 t) (outsAt0 (Ix := Ix) (U := U) (Lvl := Lvl) 𝒱₀ V c (t.val - 1) (Nat.lt_of_le_of_lt (Nat.sub_le _ _) t.isLt)).2.1 (outsAt0 (Ix := Ix) (U := U) (Lvl := Lvl) 𝒱₀ V c (t.val - 1) (Nat.lt_of_le_of_lt (Nat.sub_le _ _) t.isLt)).2.2, sout0_B_0 (Ix := Ix) (U := U) (Lvl := Lvl) 𝒱₀ c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (fun h => h2 ((hcond0_2 t).mp h)) (fun h => h3 ((hcond0_3 t).mp h)) (iblk V c 0 t) (iblk V c 1 t) (outsAt0 (Ix := Ix) (U := U) (Lvl := Lvl) 𝒱₀ V c (t.val - 1) (Nat.lt_of_le_of_lt (Nat.sub_le _ _) t.isLt)).2.1 (outsAt0 (Ix := Ix) (U := U) (Lvl := Lvl) 𝒱₀ V c (t.val - 1) (Nat.lt_of_le_of_lt (Nat.sub_le _ _) t.isLt)).2.2, sout0_B_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (fun h => h2 ((hcond0_2 t).mp h)) (fun h => h3 ((hcond0_3 t).mp h)) (iblk V c 0 t) (iblk V c 1 t) (outsAt0 (Ix := Ix) (U := U) (Lvl := Lvl) 𝒱₀ V c (t.val - 1) (Nat.lt_of_le_of_lt (Nat.sub_le _ _) t.isLt)).2.1 (outsAt0 (Ix := Ix) (U := U) (Lvl := Lvl) 𝒱₀ V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans ((dif_neg h2).trans ((dif_neg h3).trans rfl)))

/-- `outsAt0` at a point of case C: that case's contents, over what the point before left. -/
theorem outsAt0_C (c : Dev nD) (t : Fin cfg0.N) (h0 : ¬t.val % 52 = 0) (h1 : ¬t.val < 24) (h2 : 24 ≤ t.val) (h3 : ¬t.val % 52 = 51) :
    outsAt0 (Ix := Ix) (U := U) (Lvl := Lvl) 𝒱₀ V c t.val t.isLt = (out0_C_2 (Ix := Ix) (U := U) (Lvl := Lvl) 𝒱₀ c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk V c 0 t) (iblk V c 1 t) (outsAt0 (Ix := Ix) (U := U) (Lvl := Lvl) 𝒱₀ V c (t.val - 1) (Nat.lt_of_le_of_lt (Nat.sub_le _ _) t.isLt)).2.1 (outsAt0 (Ix := Ix) (U := U) (Lvl := Lvl) 𝒱₀ V c (t.val - 1) (Nat.lt_of_le_of_lt (Nat.sub_le _ _) t.isLt)).2.2, sout0_C_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk V c 0 t) (iblk V c 1 t) (outsAt0 (Ix := Ix) (U := U) (Lvl := Lvl) 𝒱₀ V c (t.val - 1) (Nat.lt_of_le_of_lt (Nat.sub_le _ _) t.isLt)).2.1 (outsAt0 (Ix := Ix) (U := U) (Lvl := Lvl) 𝒱₀ V c (t.val - 1) (Nat.lt_of_le_of_lt (Nat.sub_le _ _) t.isLt)).2.2, sout0_C_1 (Ix := Ix) (U := U) (Lvl := Lvl) 𝒱₀ c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk V c 0 t) (iblk V c 1 t) (outsAt0 (Ix := Ix) (U := U) (Lvl := Lvl) 𝒱₀ V c (t.val - 1) (Nat.lt_of_le_of_lt (Nat.sub_le _ _) t.isLt)).2.1 (outsAt0 (Ix := Ix) (U := U) (Lvl := Lvl) 𝒱₀ V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans ((dif_pos h2).trans ((dif_neg h3).trans rfl)))

/-- `outsAt0` at a point of case D: that case's contents, over what the point before left. -/
theorem outsAt0_D (c : Dev nD) (t : Fin cfg0.N) (h0 : ¬t.val % 52 = 0) (h1 : ¬t.val < 24) (h2 : 24 ≤ t.val) (h3 : t.val % 52 = 51) :
    outsAt0 (Ix := Ix) (U := U) (Lvl := Lvl) 𝒱₀ V c t.val t.isLt = (out0_D_2 (Ix := Ix) (U := U) (Lvl := Lvl) 𝒱₀ c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk V c 0 t) (iblk V c 1 t) (outsAt0 (Ix := Ix) (U := U) (Lvl := Lvl) 𝒱₀ V c (t.val - 1) (Nat.lt_of_le_of_lt (Nat.sub_le _ _) t.isLt)).2.1 (outsAt0 (Ix := Ix) (U := U) (Lvl := Lvl) 𝒱₀ V c (t.val - 1) (Nat.lt_of_le_of_lt (Nat.sub_le _ _) t.isLt)).2.2, sout0_D_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk V c 0 t) (iblk V c 1 t) (outsAt0 (Ix := Ix) (U := U) (Lvl := Lvl) 𝒱₀ V c (t.val - 1) (Nat.lt_of_le_of_lt (Nat.sub_le _ _) t.isLt)).2.1 (outsAt0 (Ix := Ix) (U := U) (Lvl := Lvl) 𝒱₀ V c (t.val - 1) (Nat.lt_of_le_of_lt (Nat.sub_le _ _) t.isLt)).2.2, sout0_D_1 (Ix := Ix) (U := U) (Lvl := Lvl) 𝒱₀ c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk V c 0 t) (iblk V c 1 t) (outsAt0 (Ix := Ix) (U := U) (Lvl := Lvl) 𝒱₀ V c (t.val - 1) (Nat.lt_of_le_of_lt (Nat.sub_le _ _) t.isLt)).2.1 (outsAt0 (Ix := Ix) (U := U) (Lvl := Lvl) 𝒱₀ V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans ((dif_pos h2).trans ((dif_pos h3).trans rfl)))

/-- The region invariant before position `n` with a scratch the kernel CARRIES between points: before the first point the
    class's (the library's `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => (ΦK (F := F) (Ix := Ix) (U := U) (Lvl := Lvl) c)
  | n + 1, hn => iprop(iprop(owns (c : Thread nD τ) scM0_0 fullShare ((outsAt0 (Ix := Ix) (U := U) (Lvl := Lvl) 𝒱₀ V c n hn).2.1) ∗ owns (c : Thread nD τ) scM0_1 fullShare ((outsAt0 (Ix := Ix) (U := U) (Lvl := Lvl) 𝒱₀ V c n hn).2.2) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f)) ∗ (∃ r, prngReg c r))

theorem PhiS_zero (c : Dev nD) (n : ℕ) (h : n ≤ cfg0.N) (hz : n = 0) : PhiS (Ix := Ix) (U := U) (Lvl := Lvl) 𝒱₀ V c n h = (ΦK (F := F) (Ix := Ix) (U := U) (Lvl := Lvl) c) := by
  subst hz; rfl

/-- After point `n` (before point `n + 1`): the carried scratch at that point's contents. -/
theorem PhiS_succ (c : Dev nD) (n : ℕ) (hn : n < cfg0.N) :
    PhiS (Ix := Ix) (U := U) (Lvl := Lvl) 𝒱₀ V c (n + 1) hn = iprop(iprop(owns (c : Thread nD τ) scM0_0 fullShare ((outsAt0 (Ix := Ix) (U := U) (Lvl := Lvl) 𝒱₀ V c n hn).2.1) ∗ owns (c : Thread nD τ) scM0_1 fullShare ((outsAt0 (Ix := Ix) (U := U) (Lvl := Lvl) 𝒱₀ V c n hn).2.2) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f)) ∗ (∃ r, prngReg c r)) := rfl

/-- Before a point that is not the first: the carried scratch at what the point before left. -/
theorem PhiS_pos (c : Dev nD) (n : ℕ) (h : n ≤ cfg0.N) (hz : n ≠ 0) :
    PhiS (Ix := Ix) (U := U) (Lvl := Lvl) 𝒱₀ V c n h = iprop(iprop(owns (c : Thread nD τ) scM0_0 fullShare ((outsAt0 (Ix := Ix) (U := U) (Lvl := Lvl) 𝒱₀ V c (n - 1) (by omega)).2.1) ∗ owns (c : Thread nD τ) scM0_1 fullShare ((outsAt0 (Ix := Ix) (U := U) (Lvl := Lvl) 𝒱₀ V c (n - 1) (by omega)).2.2) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f)) ∗ (∃ r, prngReg c r)) := by
  cases n with
  | zero => exact absurd rfl hz
  | succ n => rfl

/-! ## The pipeline's proof data -/

/-- The proof data of pipeline 0 on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dat (c : Dev nD) : Dat τ (Elt F) Ix ℕ U Lvl cfg0 c where
  A w := V c (Pipeline.arrRef spec0 w)
  after w t := match w with
    | ⟨0, _⟩ => iblk V c 0 t
    | ⟨1, _⟩ => iblk V c 1 t
    | ⟨2, _⟩ => (outsAt0 (Ix := Ix) (U := U) (Lvl := Lvl) 𝒱₀ V c t.val t.isLt).1
  Φ t := PhiS (Ix := Ix) (U := U) (Lvl := Lvl) 𝒱₀ V c t.val (Nat.le_of_lt_succ t.isLt)
  q _ := fullShare
  owed _ := D c

variable (ι : Ix)

/-- The proof data's arrays are the region-entry contents `V`: the proof data's definition projected (`dsimp`). -/
theorem A_eq (c : Dev nD) (w : Fin cfg0.W) : (dat (Ix := Ix) (U := U) (Lvl := Lvl) 𝒱₀ V D c).A w = V c (Pipeline.arrRef spec0 w) := by
  dsimp only [dat]

/-- The invariant at a point's start (the proof data at `t.castSucc`), restated at `t.val`. -/
theorem PhiS_castSucc (c : Dev nD) (t : Fin cfg0.N) :
    (dat (Ix := Ix) (U := U) (Lvl := Lvl) 𝒱₀ V D c).Φ t.castSucc = PhiS (Ix := Ix) (U := U) (Lvl := Lvl) 𝒱₀ V c t.val (Nat.le_of_lt t.isLt) := by
  dsimp only [dat]; exact Pipeline.Dat.Φ_castSucc (PhiS (Ix := Ix) (U := U) (Lvl := Lvl) 𝒱₀ V c) t

/-- What the body leaves, window by window (the proof data's `match` reduced by `dsimp`). -/
theorem after0_0 (c : Dev nD) (t : Fin cfg0.N) : (dat (Ix := Ix) (U := U) (Lvl := Lvl) 𝒱₀ V D c).after 0 t = iblk V c 0 t := by dsimp only [dat]
theorem after0_1 (c : Dev nD) (t : Fin cfg0.N) : (dat (Ix := Ix) (U := U) (Lvl := Lvl) 𝒱₀ V D c).after 1 t = iblk V c 1 t := by dsimp only [dat]
theorem after0_2 (c : Dev nD) (t : Fin cfg0.N) : (dat (Ix := Ix) (U := U) (Lvl := Lvl) 𝒱₀ V D c).after 2 t = (outsAt0 (Ix := Ix) (U := U) (Lvl := Lvl) 𝒱₀ V c t.val t.isLt).1 := by dsimp only [dat]

/-- Each input's current staging buffer holds its block at every point, fetched there or not (`beforeK_W_of`). -/
theorem before0_0 (c : Dev nD) (t : Fin cfg0.N) (d) : (dat (Ix := Ix) (U := U) (Lvl := Lvl) 𝒱₀ V D c).before 0 t d = iblk V c 0 t :=
  before0_0_of V (dat (Ix := Ix) (U := U) (Lvl := Lvl) 𝒱₀ V D c) (A_eq 𝒱₀ V D c 0) (after0_0 𝒱₀ V D c) t d
theorem before0_1 (c : Dev nD) (t : Fin cfg0.N) (d) : (dat (Ix := Ix) (U := U) (Lvl := Lvl) 𝒱₀ V D c).before 1 t d = iblk V c 1 t :=
  before0_1_of V (dat (Ix := Ix) (U := U) (Lvl := Lvl) 𝒱₀ V D c) (A_eq 𝒱₀ V D c 1) (after0_1 𝒱₀ V D c) t d

/-! ## The body obligation, at a generic point -/

/-- What the body is called with at point `t` (the library's `BodyObligation`'s precondition, the windows one by one), -/
def bodyPre (c : Dev nD) (t : Fin cfg0.N) : sProp 𝕄 :=
  iprop((dat (Ix := Ix) (U := U) (Lvl := Lvl) 𝒱₀ V D c).Φ t.castSucc ∗ (dat (Ix := Ix) (U := U) (Lvl := Lvl) 𝒱₀ V D c).owesAt ι t.castSucc
    ∗ (∃ d, owns (c : Thread nD τ) (ms0_0 t) fullShare ((dat (Ix := Ix) (U := U) (Lvl := Lvl) 𝒱₀ V D c).before 0 t d))
    ∗ (∃ d, owns (c : Thread nD τ) (ms0_1 t) fullShare ((dat (Ix := Ix) (U := U) (Lvl := Lvl) 𝒱₀ V D c).before 1 t d))
    ∗ (∃ d, owns (c : Thread nD τ) (ms0_2 t) fullShare ((dat (Ix := Ix) (U := U) (Lvl := Lvl) 𝒱₀ V D c).before 2 t d)))

/-- and what it returns. -/
def bodyPost (c : Dev nD) (t : Fin cfg0.N) : sProp 𝕄 :=
  iprop((dat (Ix := Ix) (U := U) (Lvl := Lvl) 𝒱₀ V D c).Φ t.succ ∗ (dat (Ix := Ix) (U := U) (Lvl := Lvl) 𝒱₀ V D c).owesAt ι t.succ
    ∗ (dat (Ix := Ix) (U := U) (Lvl := Lvl) 𝒱₀ V D c).leavesExact 0 t
    ∗ (dat (Ix := Ix) (U := U) (Lvl := Lvl) 𝒱₀ V D c).leavesExact 1 t
    ∗ (dat (Ix := Ix) (U := U) (Lvl := Lvl) 𝒱₀ V D c).leavesExact 2 t)

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes `D c` throughout. -/
theorem sound_body (c : Dev nD) (t : Fin cfg0.N) :
    bodyPre (U := U) (Lvl := Lvl) 𝒱₀ V D ι c t ⊢ wp frame (wpE (defs₀ (F := F)) 𝒱₀ c none) Set.univ (bodyAt0 t) (fun _ => bodyPost (U := U) (Lvl := Lvl) 𝒱₀ V D ι c t) := by
  unfold bodyPre bodyPost bodyAt0
  simp only [before0_0, before0_1]
  rw [show (dat (Ix := Ix) (U := U) (Lvl := Lvl) 𝒱₀ V D c).owesAt ι t.succ = (dat (Ix := Ix) (U := U) (Lvl := Lvl) 𝒱₀ V D c).owesAt ι t.castSucc from rfl]
  rw [show (dat (Ix := Ix) (U := U) (Lvl := Lvl) 𝒱₀ V D c).Φ t.succ = PhiS (Ix := Ix) (U := U) (Lvl := Lvl) 𝒱₀ V c (t.val + 1) t.isLt from rfl, PhiS_succ (Ix := Ix) (U := U) (Lvl := Lvl) 𝒱₀ V c t.val t.isLt]
  have hN : t.val < 52 := lt_of_lt_of_eq t.isLt (show cfg0.N = 52 from N_0)
  by_cases h0 : t.val % 52 = 0
  · by_cases h1 : t.val < 24
    · by_cases h2 : 24 ≤ t.val
      · exfalso; omega
      · by_cases h3 : t.val % 52 = 51
        · exfalso; omega
        · rw [show (dat (Ix := Ix) (U := U) (Lvl := Lvl) 𝒱₀ V D c).leavesExact 0 t = owns (c : Thread nD τ) (ms0_0 t) fullShare ((dat (Ix := Ix) (U := U) (Lvl := Lvl) 𝒱₀ V D c).after 0 t) from by
      unfold Dat.leavesExact; rw [liveAt0_0 t], after0_0]
          rw [show (dat (Ix := Ix) (U := U) (Lvl := Lvl) 𝒱₀ V D c).leavesExact 1 t = owns (c : Thread nD τ) (ms0_1 t) fullShare ((dat (Ix := Ix) (U := U) (Lvl := Lvl) 𝒱₀ V D c).after 1 t) from by
      unfold Dat.leavesExact; rw [liveAt0_1 t], after0_1]
          rw [Dat.leavesExact_idle (dat (Ix := Ix) (U := U) (Lvl := Lvl) 𝒱₀ V D c) 2 t (idleAt0_2_A t ((hcond0_0 t).mpr h0) ((hcond0_1 t).mpr h1) (fun h => h2 ((hcond0_2 t).mp h)) (fun h => h3 ((hcond0_3 t).mp h))) (noFlush0_2_A t ((hcond0_0 t).mpr h0) ((hcond0_1 t).mpr h1) (fun h => h2 ((hcond0_2 t).mp h)) (fun h => h3 ((hcond0_3 t).mp h)))]
          by_cases hz : t.val = 0
          · rw [PhiS_castSucc 𝒱₀ V D c t, PhiS_zero (Ix := Ix) (U := U) (Lvl := Lvl) 𝒱₀ V c _ _ hz, PhiA0_eq]
            rw [outsAt0_A (Ix := Ix) (U := U) (Lvl := Lvl) 𝒱₀ V c t h0 h1 h2 h3]
            unfold sout0_A_0 sout0_A_1; (try dsimp only)
            iintro ⟨⟨⟨HS0, HS1, HR2, HR3, HR4, HR5, HR6, HR7, HR8, HR9, HR10, HR11, HR12, HR13, HR14, HR15⟩, Hg⟩, Ho, ⟨%d0, H0⟩, ⟨%d1, H1⟩, ⟨%d2, H2⟩⟩
            iapply ((kernelRun0_A (Ix := Ix) (U := U) (Lvl := Lvl) 𝒱₀ c (grid0.coords t) _ _ _ _ _ _ _ _ _ _ ((hcond0_0 t).mpr h0) ((hcond0_1 t).mpr h1) (fun h => h2 ((hcond0_2 t).mp h)) (fun h => h3 ((hcond0_3 t).mp h)) (iblk V c 0 t) (iblk V c 1 t)).2.2.2 _ Set.univ _)
            isplitl [H0]; · iexact H0
            isplitl [H1]; · iexact H1
            isplitl [H2]; · iexact H2
            isplitl [HS0]; · iexact HS0
            isplitl [HS1]; · iexact HS1
            iintro ⟨H0, H1, H2, ⟨%es0, HS0⟩, ⟨%es1, HS1⟩⟩
            isplitl [HS0 HS1 HR2 HR3 HR4 HR5 HR6 HR7 HR8 HR9 HR10 HR11 HR12 HR13 HR14 HR15 Hg]
            · isplitl [HS0 HS1 HR2 HR3 HR4 HR5 HR6 HR7 HR8 HR9 HR10 HR11 HR12 HR13 HR14 HR15]
              · isplitl [HS0]
                · unfold owns; iexists _; isplitr
                  swap; · iexact HS0
                  ipureintro; exact View.read_writes_of_cover _ _ _ _ _ (scover0_A_0 (Ix := Ix) (U := U) (Lvl := Lvl) 𝒱₀ c _ _ _ _ _ _ _ _ _ _ _ _ _ _ _ _ _)
                isplitl [HS1]
                · unfold owns; iexists _; isplitr
                  swap; · iexact HS1
                  ipureintro; exact View.read_writes_of_cover _ _ _ _ _ (scover0_A_1 (Ix := Ix) (U := U) (Lvl := Lvl) 𝒱₀ c _ _ _ _ _ _ _ _ _ _ _ _ _ _ _ _ _)
                isplitl [HR2]
                · iexact HR2
                isplitl [HR3]
                · iexact HR3
                isplitl [HR4]
                · iexact HR4
                isplitl [HR5]
                · iexact HR5
                isplitl [HR6]
                · iexact HR6
                isplitl [HR7]
                · iexact HR7
                isplitl [HR8]
                · iexact HR8
                isplitl [HR9]
                · iexact HR9
                isplitl [HR10]
                · iexact HR10
                isplitl [HR11]
                · iexact HR11
                isplitl [HR12]
                · iexact HR12
                isplitl [HR13]
                · iexact HR13
                isplitl [HR14]
                · iexact HR14
                iexact HR15
              iexact Hg
            isplitl [Ho]; · iexact Ho
            isplitl [H0]; · iexact H0
            isplitl [H1]; · iexact H1
            iexists _; iexact H2
          · exfalso; have hN : t.val < 52 := lt_of_lt_of_eq t.isLt (show cfg0.N = 52 from N_0); omega
    · exfalso; omega
  · by_cases h1 : t.val < 24
    · by_cases h2 : 24 ≤ t.val
      · exfalso; omega
      · by_cases h3 : t.val % 52 = 51
        · exfalso; omega
        · rw [show (dat (Ix := Ix) (U := U) (Lvl := Lvl) 𝒱₀ V D c).leavesExact 0 t = owns (c : Thread nD τ) (ms0_0 t) fullShare ((dat (Ix := Ix) (U := U) (Lvl := Lvl) 𝒱₀ V D c).after 0 t) from by
      unfold Dat.leavesExact; rw [liveAt0_0 t], after0_0]
          rw [show (dat (Ix := Ix) (U := U) (Lvl := Lvl) 𝒱₀ V D c).leavesExact 1 t = owns (c : Thread nD τ) (ms0_1 t) fullShare ((dat (Ix := Ix) (U := U) (Lvl := Lvl) 𝒱₀ V D c).after 1 t) from by
      unfold Dat.leavesExact; rw [liveAt0_1 t], after0_1]
          rw [Dat.leavesExact_idle (dat (Ix := Ix) (U := U) (Lvl := Lvl) 𝒱₀ V D c) 2 t (idleAt0_2_B t (fun h => h0 ((hcond0_0 t).mp h)) ((hcond0_1 t).mpr h1) (fun h => h2 ((hcond0_2 t).mp h)) (fun h => h3 ((hcond0_3 t).mp h))) (noFlush0_2_B t (fun h => h0 ((hcond0_0 t).mp h)) ((hcond0_1 t).mpr h1) (fun h => h2 ((hcond0_2 t).mp h)) (fun h => h3 ((hcond0_3 t).mp h)))]
          by_cases hz : t.val = 0
          · exfalso; have hN : t.val < 52 := lt_of_lt_of_eq t.isLt (show cfg0.N = 52 from N_0); omega
          · rw [PhiS_castSucc 𝒱₀ V D c t, PhiS_pos (Ix := Ix) (U := U) (Lvl := Lvl) 𝒱₀ V c _ _ hz]
            rw [outsAt0_B (Ix := Ix) (U := U) (Lvl := Lvl) 𝒱₀ V c t h0 h1 h2 h3]
            unfold sout0_B_0 sout0_B_1; (try dsimp only)
            iintro ⟨⟨⟨HS0, HS1, HR2, HR3, HR4, HR5, HR6, HR7, HR8, HR9, HR10, HR11, HR12, HR13, HR14, HR15⟩, Hg⟩, Ho, ⟨%d0, H0⟩, ⟨%d1, H1⟩, ⟨%d2, H2⟩⟩
            iapply ((kernelRun0_B (Ix := Ix) (U := U) (Lvl := Lvl) 𝒱₀ c (grid0.coords t) _ _ _ _ _ _ _ _ _ _ (fun h => h0 ((hcond0_0 t).mp h)) ((hcond0_1 t).mpr h1) (fun h => h2 ((hcond0_2 t).mp h)) (fun h => h3 ((hcond0_3 t).mp h)) (iblk V c 0 t) (iblk V c 1 t) _ _).2.2.2 _ Set.univ _)
            isplitl [H0]; · iexact H0
            isplitl [H1]; · iexact H1
            isplitl [H2]; · iexact H2
            isplitl [HS0]; · iexact HS0
            isplitl [HS1]; · iexact HS1
            iintro ⟨H0, H1, H2, ⟨%es0, HS0⟩, HS1⟩
            isplitl [HS0 HS1 HR2 HR3 HR4 HR5 HR6 HR7 HR8 HR9 HR10 HR11 HR12 HR13 HR14 HR15 Hg]
            · isplitl [HS0 HS1 HR2 HR3 HR4 HR5 HR6 HR7 HR8 HR9 HR10 HR11 HR12 HR13 HR14 HR15]
              · isplitl [HS0]
                · unfold owns; iexists _; isplitr
                  swap; · iexact HS0
                  ipureintro; exact View.read_writes_of_cover _ _ _ _ _ (scover0_B_0 (Ix := Ix) (U := U) (Lvl := Lvl) 𝒱₀ c _ _ _ _ _ _ _ _ _ _ _ _ _ _ _ _ _ _ _)
                isplitl [HS1]
                · iexact HS1
                isplitl [HR2]
                · iexact HR2
                isplitl [HR3]
                · iexact HR3
                isplitl [HR4]
                · iexact HR4
                isplitl [HR5]
                · iexact HR5
                isplitl [HR6]
                · iexact HR6
                isplitl [HR7]
                · iexact HR7
                isplitl [HR8]
                · iexact HR8
                isplitl [HR9]
                · iexact HR9
                isplitl [HR10]
                · iexact HR10
                isplitl [HR11]
                · iexact HR11
                isplitl [HR12]
                · iexact HR12
                isplitl [HR13]
                · iexact HR13
                isplitl [HR14]
                · iexact HR14
                iexact HR15
              iexact Hg
            isplitl [Ho]; · iexact Ho
            isplitl [H0]; · iexact H0
            isplitl [H1]; · iexact H1
            iexists _; iexact H2
    · by_cases h2 : 24 ≤ t.val
      · by_cases h3 : t.val % 52 = 51
        · rw [show (dat (Ix := Ix) (U := U) (Lvl := Lvl) 𝒱₀ V D c).leavesExact 0 t = owns (c : Thread nD τ) (ms0_0 t) fullShare ((dat (Ix := Ix) (U := U) (Lvl := Lvl) 𝒱₀ V D c).after 0 t) from by
      unfold Dat.leavesExact; rw [liveAt0_0 t], after0_0]
          rw [show (dat (Ix := Ix) (U := U) (Lvl := Lvl) 𝒱₀ V D c).leavesExact 1 t = owns (c : Thread nD τ) (ms0_1 t) fullShare ((dat (Ix := Ix) (U := U) (Lvl := Lvl) 𝒱₀ V D c).after 1 t) from by
      unfold Dat.leavesExact; rw [liveAt0_1 t], after0_1]
          rw [show (dat (Ix := Ix) (U := U) (Lvl := Lvl) 𝒱₀ V D c).leavesExact 2 t = owns (c : Thread nD τ) (ms0_2 t) fullShare ((dat (Ix := Ix) (U := U) (Lvl := Lvl) 𝒱₀ V D c).after 2 t) from by
      unfold Dat.leavesExact; rw [liveAt0_2_D t (fun h => h0 ((hcond0_0 t).mp h)) (fun h => h1 ((hcond0_1 t).mp h)) ((hcond0_2 t).mpr h2) ((hcond0_3 t).mpr h3)], after0_2]
          by_cases hz : t.val = 0
          · exfalso; have hN : t.val < 52 := lt_of_lt_of_eq t.isLt (show cfg0.N = 52 from N_0); omega
          · rw [PhiS_castSucc 𝒱₀ V D c t, PhiS_pos (Ix := Ix) (U := U) (Lvl := Lvl) 𝒱₀ V c _ _ hz]
            rw [outsAt0_D (Ix := Ix) (U := U) (Lvl := Lvl) 𝒱₀ V c t h0 h1 h2 h3]
            unfold out0_D_2 sout0_D_0 sout0_D_1; (try dsimp only)
            iintro ⟨⟨⟨HS0, HS1, HR2, HR3, HR4, HR5, HR6, HR7, HR8, HR9, HR10, HR11, HR12, HR13, HR14, HR15⟩, Hg⟩, Ho, ⟨%d0, H0⟩, ⟨%d1, H1⟩, ⟨%d2, H2⟩⟩
            iapply ((kernelRun0_D (Ix := Ix) (U := U) (Lvl := Lvl) 𝒱₀ c (grid0.coords t) _ _ _ _ _ _ _ _ _ _ (fun h => h0 ((hcond0_0 t).mp h)) (fun h => h1 ((hcond0_1 t).mp h)) ((hcond0_2 t).mpr h2) ((hcond0_3 t).mpr h3) (iblk V c 0 t) (iblk V c 1 t) _ _).2.2.2 Set.univ _)
            isplitl [H0]; · iexact H0
            isplitl [H1]; · iexact H1
            isplitl [H2]; · iexists _; iexact H2
            isplitl [HS0]; · iexact HS0
            isplitl [HS1]; · iexact HS1
            iintro ⟨H0, H1, ⟨%e2, H2⟩, HS0, ⟨%es1, HS1⟩⟩
            isplitl [HS0 HS1 HR2 HR3 HR4 HR5 HR6 HR7 HR8 HR9 HR10 HR11 HR12 HR13 HR14 HR15 Hg]
            · isplitl [HS0 HS1 HR2 HR3 HR4 HR5 HR6 HR7 HR8 HR9 HR10 HR11 HR12 HR13 HR14 HR15]
              · isplitl [HS0]
                · iexact HS0
                isplitl [HS1]
                · unfold owns; iexists _; isplitr
                  swap; · iexact HS1
                  ipureintro; exact View.read_writes_of_cover _ _ _ _ _ (scover0_D_1 (Ix := Ix) (U := U) (Lvl := Lvl) 𝒱₀ c _ _ _ _ _ _ _ _ _ _ _ _ _ _ _ _ _ _ _)
                isplitl [HR2]
                · iexact HR2
                isplitl [HR3]
                · iexact HR3
                isplitl [HR4]
                · iexact HR4
                isplitl [HR5]
                · iexact HR5
                isplitl [HR6]
                · iexact HR6
                isplitl [HR7]
                · iexact HR7
                isplitl [HR8]
                · iexact HR8
                isplitl [HR9]
                · iexact HR9
                isplitl [HR10]
                · iexact HR10
                isplitl [HR11]
                · iexact HR11
                isplitl [HR12]
                · iexact HR12
                isplitl [HR13]
                · iexact HR13
                isplitl [HR14]
                · iexact HR14
                iexact HR15
              iexact Hg
            isplitl [Ho]; · iexact Ho
            isplitl [H0]; · iexact H0
            isplitl [H1]; · iexact H1
            unfold owns; iexists _; isplitr
            swap; · iexact H2
            ipureintro; exact View.read_writes_of_cover _ _ _ _ _ (cover0_D_2 (Ix := Ix) (U := U) (Lvl := Lvl) 𝒱₀ c _ _ _ _ _ _ _ _ _ _ _ _ _ _ _ _ _ _ _)
        · rw [show (dat (Ix := Ix) (U := U) (Lvl := Lvl) 𝒱₀ V D c).leavesExact 0 t = owns (c : Thread nD τ) (ms0_0 t) fullShare ((dat (Ix := Ix) (U := U) (Lvl := Lvl) 𝒱₀ V D c).after 0 t) from by
      unfold Dat.leavesExact; rw [liveAt0_0 t], after0_0]
          rw [show (dat (Ix := Ix) (U := U) (Lvl := Lvl) 𝒱₀ V D c).leavesExact 1 t = owns (c : Thread nD τ) (ms0_1 t) fullShare ((dat (Ix := Ix) (U := U) (Lvl := Lvl) 𝒱₀ V D c).after 1 t) from by
      unfold Dat.leavesExact; rw [liveAt0_1 t], after0_1]
          rw [Dat.leavesExact_idle (dat (Ix := Ix) (U := U) (Lvl := Lvl) 𝒱₀ V D c) 2 t (idleAt0_2_C t (fun h => h0 ((hcond0_0 t).mp h)) (fun h => h1 ((hcond0_1 t).mp h)) ((hcond0_2 t).mpr h2) (fun h => h3 ((hcond0_3 t).mp h))) (noFlush0_2_C t (fun h => h0 ((hcond0_0 t).mp h)) (fun h => h1 ((hcond0_1 t).mp h)) ((hcond0_2 t).mpr h2) (fun h => h3 ((hcond0_3 t).mp h)))]
          by_cases hz : t.val = 0
          · exfalso; have hN : t.val < 52 := lt_of_lt_of_eq t.isLt (show cfg0.N = 52 from N_0); omega
          · rw [PhiS_castSucc 𝒱₀ V D c t, PhiS_pos (Ix := Ix) (U := U) (Lvl := Lvl) 𝒱₀ V c _ _ hz]
            rw [outsAt0_C (Ix := Ix) (U := U) (Lvl := Lvl) 𝒱₀ V c t h0 h1 h2 h3]
            unfold sout0_C_0 sout0_C_1; (try dsimp only)
            iintro ⟨⟨⟨HS0, HS1, HR2, HR3, HR4, HR5, HR6, HR7, HR8, HR9, HR10, HR11, HR12, HR13, HR14, HR15⟩, Hg⟩, Ho, ⟨%d0, H0⟩, ⟨%d1, H1⟩, ⟨%d2, H2⟩⟩
            iapply ((kernelRun0_C (Ix := Ix) (U := U) (Lvl := Lvl) 𝒱₀ c (grid0.coords t) _ _ _ _ _ _ _ _ _ _ (fun h => h0 ((hcond0_0 t).mp h)) (fun h => h1 ((hcond0_1 t).mp h)) ((hcond0_2 t).mpr h2) (fun h => h3 ((hcond0_3 t).mp h)) (iblk V c 0 t) (iblk V c 1 t) _ _).2.2.2 _ Set.univ _)
            isplitl [H0]; · iexact H0
            isplitl [H1]; · iexact H1
            isplitl [H2]; · iexact H2
            isplitl [HS0]; · iexact HS0
            isplitl [HS1]; · iexact HS1
            iintro ⟨H0, H1, H2, HS0, ⟨%es1, HS1⟩⟩
            isplitl [HS0 HS1 HR2 HR3 HR4 HR5 HR6 HR7 HR8 HR9 HR10 HR11 HR12 HR13 HR14 HR15 Hg]
            · isplitl [HS0 HS1 HR2 HR3 HR4 HR5 HR6 HR7 HR8 HR9 HR10 HR11 HR12 HR13 HR14 HR15]
              · isplitl [HS0]
                · iexact HS0
                isplitl [HS1]
                · unfold owns; iexists _; isplitr
                  swap; · iexact HS1
                  ipureintro; exact View.read_writes_of_cover _ _ _ _ _ (scover0_C_1 (Ix := Ix) (U := U) (Lvl := Lvl) 𝒱₀ c _ _ _ _ _ _ _ _ _ _ _ _ _ _ _ _ _ _ _)
                isplitl [HR2]
                · iexact HR2
                isplitl [HR3]
                · iexact HR3
                isplitl [HR4]
                · iexact HR4
                isplitl [HR5]
                · iexact HR5
                isplitl [HR6]
                · iexact HR6
                isplitl [HR7]
                · iexact HR7
                isplitl [HR8]
                · iexact HR8
                isplitl [HR9]
                · iexact HR9
                isplitl [HR10]
                · iexact HR10
                isplitl [HR11]
                · iexact HR11
                isplitl [HR12]
                · iexact HR12
                isplitl [HR13]
                · iexact HR13
                isplitl [HR14]
                · iexact HR14
                iexact HR15
              iexact Hg
            isplitl [Ho]; · iexact Ho
            isplitl [H0]; · iexact H0
            isplitl [H1]; · iexact H1
            iexists _; iexact H2
      · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (the library's `triple_restated`). -/
theorem body_obligation (c : Dev nD) : BodyObligation (dat (Ix := Ix) (U := U) (Lvl := Lvl) 𝒱₀ V D c) (defs₀ (F := F)) 𝒱₀ ι Set.univ := fun t => by
  rw [bigSep_W0, bigSep_W0, defs₀_row]
  exact triple_restated (sound_body (U := U) (Lvl := Lvl) 𝒱₀ V D ι c t) rfl .rfl fun _ => .rfl

/-- What the launch hands the region (`ΦA`) is the invariant before the first point. -/
theorem hin (c : Dev nD) : (ΦK (F := F) (Ix := Ix) (U := U) (Lvl := Lvl) c) ⊢ (dat (Ix := Ix) (U := U) (Lvl := Lvl) 𝒱₀ V D c).Φ 0 := by
  rw [show (dat (Ix := Ix) (U := U) (Lvl := Lvl) 𝒱₀ V D c).Φ 0 = PhiS (Ix := Ix) (U := U) (Lvl := Lvl) 𝒱₀ V c 0 (Nat.zero_le _) from rfl, PhiS_zero (Ix := Ix) (U := U) (Lvl := Lvl) 𝒱₀ V c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dat (Ix := Ix) (U := U) (Lvl := Lvl) 𝒱₀ V D c).Φ t ⊢ (ΦK (F := F) (Ix := Ix) (U := U) (Lvl := Lvl) c) := by
  rw [show (dat (Ix := Ix) (U := U) (Lvl := Lvl) 𝒱₀ V D c).Φ t = PhiS (Ix := Ix) (U := U) (Lvl := Lvl) 𝒱₀ V c t.val (Nat.le_of_lt_succ t.isLt) from rfl, PhiS_pos (Ix := Ix) (U := U) (Lvl := Lvl) 𝒱₀ V c _ _ ht, PhiA0_eq]
  iintro ⟨⟨HS0, HS1, HR2, HR3, HR4, HR5, HR6, HR7, HR8, HR9, HR10, HR11, HR12, HR13, HR14, HR15⟩, Hg⟩
  isplitl [HS0 HS1 HR2 HR3 HR4 HR5 HR6 HR7 HR8 HR9 HR10 HR11 HR12 HR13 HR14 HR15]
  · isplitl [HS0]
    · iexists _; iexact HS0
    isplitl [HS1]
    · iexists _; iexact HS1
    isplitl [HR2]
    · iexact HR2
    isplitl [HR3]
    · iexact HR3
    isplitl [HR4]
    · iexact HR4
    isplitl [HR5]
    · iexact HR5
    isplitl [HR6]
    · iexact HR6
    isplitl [HR7]
    · iexact HR7
    isplitl [HR8]
    · iexact HR8
    isplitl [HR9]
    · iexact HR9
    isplitl [HR10]
    · iexact HR10
    isplitl [HR11]
    · iexact HR11
    isplitl [HR12]
    · iexact HR12
    isplitl [HR13]
    · iexact HR13
    isplitl [HR14]
    · iexact HR14
    iexact HR15
  iexact Hg

/-- The same after the last point. -/
theorem hout (c : Dev nD) : (dat (Ix := Ix) (U := U) (Lvl := Lvl) 𝒱₀ V D c).Φ (Fin.last cfg0.N) ⊢ (ΦK (F := F) (Ix := Ix) (U := U) (Lvl := Lvl) c) :=
  Phi_out 𝒱₀ V D c _ (by rw [Fin.val_last]; have : cfg0.N = 52 := N_0; omega)

end Cert.KernelIdeal.Own.K0

end
-- ==== Proof.KernelIdeal.K1.lean ====
/- Custom call 1 of `KernelIdeal`: the kernel's run, the proof data and the body obligation, for any index type, level type,
   algebra, variants, entry contents and owed tally.
   -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Pipeline.TableIdle
public import Idealize.ShloMosaic.Lib.Tactic
public import Idealize.ShloMosaic.Lib.WordCmp
public import Idealize.ShloMosaic.Lib.Exec
public import Idealize.ShloMosaic.Lib.Pipeline.Kit

@[expose] public section

noncomputable section

namespace Cert.KernelIdeal.Own.K1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

variable (𝒱₀ : Variants) (V : (c : Dev nD) → (b : Ref sig .tc) → Buf (Elt F) ((c : Thread nD τ).loc b)) (D : Dev nD → CellTallies nD τ sig Ix)

/-- The region's invariant on core `c`: the library's `Pipeline.ΦA spec1 c` at any index and level type. -/
def ΦK (c : Dev nD) : sProp 𝕄 :=
  iprop(Pipeline.scopedRest (Ix := Ix) (Name := ℕ) (U := U) (Lvl := Lvl) (Val := Elt F) spec1 c ∗ ∃ r, prngReg c r)

/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): the library's
    `Dat.before_in_eq_fetched` (unfetched, the index has not moved), the window uncut and never idle. -/
theorem before1_0_of {c : Dev nD} (dat : Dat τ (Elt F) Ix ℕ U Lvl cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): the library's
    `Dat.before_in_eq_fetched` (unfetched, the index has not moved), the window uncut and never idle. -/
theorem before1_1_of {c : Dev nD} (dat : Dat τ (Elt F) Ix ℕ U Lvl cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The kernel body on any staging memrefs: a subtype the run finds -/

/-- One staging buffer of output window 2, through which its contents are stated (`View.read_writes_of_cover`: the
    choice does not matter). -/
abbrev VO1_2 : View sig .tc .vmem S512x4096 .fp8e4m3 := (Memref.whole cc1_stg2_0 : Memref sig .tc .vmem S512x4096 .fp8e4m3).view
/-- Each window's current staging memref at point `t`, spelled as the pipeline passes it (`bodyAt1`), and its wholeness. -/
abbrev ms1_0 (t : Fin cfg1.N) : Memref sig .tc .vmem S4x8x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x4096 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x4096 .fp8e4m3 := win1_2.stage (cfg1.slots t 2)
abbrev hs1_2 (t : Fin cfg1.N) : (ms1_2 t).IsWhole := hstage1_2 ((cfg1.slots t 2).cast nbuf1_2)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs; the pieces are
    the witness that run finds (assigned when `iexact` hands the buffer to the continuation). -/
noncomputable def kernelRun1_A (c : Dev nD) (i : grid1.Coords) (arg1 : Memref sig .tc .vmem S4x8x128 .f32) (harg1 : arg1.IsWhole) (arg2 : Memref sig .tc .vmem S512x4096 .f32) (harg2 : arg2.IsWhole) (arg3 : Memref sig .tc .vmem S512x4096 .fp8e4m3) (harg3 : arg3.IsWhole)
    (x0 : Vec F S4x8x128 .f32) (x1 : Vec F S512x4096 .f32) :
    { L2 : List (View.Piece (Elt F) S512x4096 .fp8e4m3) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) 𝒱₀ c none) E (cc1_quantise_w i arg1 harg1 arg2 harg2 arg3 harg3) K } := by
  refine ⟨?_, fun E K => ?run⟩
  case run =>
    simp only [cc1_quantise_w_eq_skeleton]; unfold cc1_quantise_w_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    iexists _; iexact H2

/-- The run's pieces for output 2 tile its block (1 store of `S512x4096`, checked by the kernel's evaluation: the library's `Piece.tiledL`, linear in the pieces, through a loop's `@[irreducible]` trip theorem too), so they cover it. -/
theorem cover1_A_2 (c : Dev nD) (i : grid1.Coords) (arg1 : Memref sig .tc .vmem S4x8x128 .f32) (harg1 : arg1.IsWhole) (arg2 : Memref sig .tc .vmem S512x4096 .f32) (harg2 : arg2.IsWhole) (arg3 : Memref sig .tc .vmem S512x4096 .fp8e4m3) (harg3 : arg3.IsWhole)
    (x0 : Vec F S4x8x128 .f32) (x1 : Vec F S512x4096 .f32) (y : S512x4096.Idx) :
    ∃ pc ∈ (kernelRun1_A (Ix := Ix) (U := U) (Lvl := Lvl) 𝒱₀ c i arg1 harg1 arg2 harg2 arg3 harg3 x0 x1).1, y ∈ pc.1.set :=
  View.cover_of_tiledL (kernelRun1_A (Ix := Ix) (U := U) (Lvl := Lvl) 𝒱₀ c i arg1 harg1 arg2 harg2 arg3 harg3 x0 x1).1 S512x4096.size (by sl_kernel_rfl) y

/-- What the run leaves in output 2's staging buffer: its pieces read back over junk. -/
def out1_A_2 (c : Dev nD) (i : grid1.Coords) (arg1 : Memref sig .tc .vmem S4x8x128 .f32) (harg1 : arg1.IsWhole) (arg2 : Memref sig .tc .vmem S512x4096 .f32) (harg2 : arg2.IsWhole) (arg3 : Memref sig .tc .vmem S512x4096 .fp8e4m3) (harg3 : arg3.IsWhole)
    (x0 : Vec F S4x8x128 .f32) (x1 : Vec F S512x4096 .f32) : Vec F S512x4096 .fp8e4m3 :=
  VO1_2.read (Elt F) (VO1_2.writes (Elt F) VO1_2.junk (kernelRun1_A (Ix := Ix) (U := U) (Lvl := Lvl) 𝒱₀ c i arg1 harg1 arg2 harg2 arg3 harg3 x0 x1).1)

/-! ## What the outputs hold after each point -/

/-- What the outputs' staging buffers hold after the body at point `t`: the run's contents at
    the point's memrefs and input blocks. -/
def outsAt1 (c : Dev nD) (t : Fin cfg1.N) : Vec F S512x4096 .fp8e4m3 :=
  out1_A_2 (Ix := Ix) (U := U) (Lvl := Lvl) 𝒱₀ c (grid1.coords t) (ms1_0 t) (hs1_0 t) (ms1_1 t) (hs1_1 t) (ms1_2 t) (hs1_2 t) (iblk V c 0 t) (iblk V c 1 t)

/-! ## The pipeline's proof data -/

/-- The proof data of pipeline 1 on core `c`: the arrays as the region finds them (`V`); after the body at
    point `t` each input's buffer at its block and the outputs' at `outsAt1`; the invariant the class's
    (the library's `ΦA`: the scoped rest and the generator register); the core owing `D c` throughout; full shares. -/
def dat (c : Dev nD) : Dat τ (Elt F) Ix ℕ U Lvl cfg1 c where
  A w := V c (Pipeline.arrRef spec1 w)
  after w t := match w with
    | ⟨0, _⟩ => iblk V c 0 t
    | ⟨1, _⟩ => iblk V c 1 t
    | ⟨2, _⟩ => (outsAt1 (Ix := Ix) (U := U) (Lvl := Lvl) 𝒱₀ V c t)
  Φ _ := ΦK (F := F) (Ix := Ix) (U := U) (Lvl := Lvl) c
  q _ := fullShare
  owed _ := D c

variable (ι : Ix)

/-- The proof data's arrays are the region-entry contents `V`: the proof data's definition projected (`dsimp`). -/
theorem A_eq (c : Dev nD) (w : Fin cfg1.W) : (dat (Ix := Ix) (U := U) (Lvl := Lvl) 𝒱₀ V D c).A w = V c (Pipeline.arrRef spec1 w) := by
  dsimp only [dat]

/-- What the body leaves, window by window (the proof data's `match` reduced by `dsimp`). -/
theorem after1_0 (c : Dev nD) (t : Fin cfg1.N) : (dat (Ix := Ix) (U := U) (Lvl := Lvl) 𝒱₀ V D c).after 0 t = iblk V c 0 t := by dsimp only [dat]
theorem after1_1 (c : Dev nD) (t : Fin cfg1.N) : (dat (Ix := Ix) (U := U) (Lvl := Lvl) 𝒱₀ V D c).after 1 t = iblk V c 1 t := by dsimp only [dat]
theorem after1_2 (c : Dev nD) (t : Fin cfg1.N) : (dat (Ix := Ix) (U := U) (Lvl := Lvl) 𝒱₀ V D c).after 2 t = (outsAt1 (Ix := Ix) (U := U) (Lvl := Lvl) 𝒱₀ V c t) := by dsimp only [dat]

/-- Each input's current staging buffer holds its block at every point, fetched there or not (`beforeK_W_of`). -/
theorem before1_0 (c : Dev nD) (t : Fin cfg1.N) (d) : (dat (Ix := Ix) (U := U) (Lvl := Lvl) 𝒱₀ V D c).before 0 t d = iblk V c 0 t :=
  before1_0_of V (dat (Ix := Ix) (U := U) (Lvl := Lvl) 𝒱₀ V D c) (A_eq 𝒱₀ V D c 0) (after1_0 𝒱₀ V D c) t d
theorem before1_1 (c : Dev nD) (t : Fin cfg1.N) (d) : (dat (Ix := Ix) (U := U) (Lvl := Lvl) 𝒱₀ V D c).before 1 t d = iblk V c 1 t :=
  before1_1_of V (dat (Ix := Ix) (U := U) (Lvl := Lvl) 𝒱₀ V D c) (A_eq 𝒱₀ V D c 1) (after1_1 𝒱₀ V D c) t d

/-! ## The body obligation, at a generic point -/

/-- What the body is called with at point `t` (the library's `BodyObligation`'s precondition, the windows one by one), -/
def bodyPre (c : Dev nD) (t : Fin cfg1.N) : sProp 𝕄 :=
  iprop((dat (Ix := Ix) (U := U) (Lvl := Lvl) 𝒱₀ V D c).Φ t.castSucc ∗ (dat (Ix := Ix) (U := U) (Lvl := Lvl) 𝒱₀ V D c).owesAt ι t.castSucc
    ∗ (∃ d, owns (c : Thread nD τ) (ms1_0 t) fullShare ((dat (Ix := Ix) (U := U) (Lvl := Lvl) 𝒱₀ V D c).before 0 t d))
    ∗ (∃ d, owns (c : Thread nD τ) (ms1_1 t) fullShare ((dat (Ix := Ix) (U := U) (Lvl := Lvl) 𝒱₀ V D c).before 1 t d))
    ∗ (∃ d, owns (c : Thread nD τ) (ms1_2 t) fullShare ((dat (Ix := Ix) (U := U) (Lvl := Lvl) 𝒱₀ V D c).before 2 t d)))

/-- and what it returns. -/
def bodyPost (c : Dev nD) (t : Fin cfg1.N) : sProp 𝕄 :=
  iprop((dat (Ix := Ix) (U := U) (Lvl := Lvl) 𝒱₀ V D c).Φ t.succ ∗ (dat (Ix := Ix) (U := U) (Lvl := Lvl) 𝒱₀ V D c).owesAt ι t.succ
    ∗ owns (c : Thread nD τ) (ms1_0 t) fullShare ((dat (Ix := Ix) (U := U) (Lvl := Lvl) 𝒱₀ V D c).after 0 t)
    ∗ owns (c : Thread nD τ) (ms1_1 t) fullShare ((dat (Ix := Ix) (U := U) (Lvl := Lvl) 𝒱₀ V D c).after 1 t)
    ∗ owns (c : Thread nD τ) (ms1_2 t) fullShare ((dat (Ix := Ix) (U := U) (Lvl := Lvl) 𝒱₀ V D c).after 2 t))

/-- The body at any point: the inputs' memrefs hold their blocks (`before1_W`); so the
    run applies; the invariant passes through unread; the core owes `D c` throughout. -/
theorem sound_body (c : Dev nD) (t : Fin cfg1.N) :
    bodyPre (U := U) (Lvl := Lvl) 𝒱₀ V D ι c t ⊢ wp frame (wpE (defs₀ (F := F)) 𝒱₀ c none) Set.univ (bodyAt1 t) (fun _ => bodyPost (U := U) (Lvl := Lvl) 𝒱₀ V D ι c t) := by
  unfold bodyPre bodyPost bodyAt1
  simp only [before1_0, before1_1]
  rw [show (dat (Ix := Ix) (U := U) (Lvl := Lvl) 𝒱₀ V D c).Φ t.succ = (dat (Ix := Ix) (U := U) (Lvl := Lvl) 𝒱₀ V D c).Φ t.castSucc from rfl,
    show (dat (Ix := Ix) (U := U) (Lvl := Lvl) 𝒱₀ V D c).owesAt ι t.succ = (dat (Ix := Ix) (U := U) (Lvl := Lvl) 𝒱₀ V D c).owesAt ι t.castSucc from rfl,
    after1_0, after1_1, after1_2]
  unfold outsAt1
  unfold out1_A_2
  iintro ⟨HΦ, Ho, ⟨%d0, H0⟩, ⟨%d1, H1⟩, ⟨%d2, H2⟩⟩
  iapply ((kernelRun1_A (Ix := Ix) (U := U) (Lvl := Lvl) 𝒱₀ c (grid1.coords t) _ _ _ _ _ _ (iblk V c 0 t) (iblk V c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (cover1_A_2 (Ix := Ix) (U := U) (Lvl := Lvl) 𝒱₀ c _ _ _ _ _ _ _ _ _)

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The library's body obligation, at every point: the body's triple restated (the library's `triple_restated`). -/
theorem body_obligation (c : Dev nD) : BodyObligation (dat (Ix := Ix) (U := U) (Lvl := Lvl) 𝒱₀ V D c) (defs₀ (F := F)) 𝒱₀ ι Set.univ := fun t => by
  rw [bigSep_W1, bigSep_W1, defs₀_row]
  exact triple_restated (sound_body (U := U) (Lvl := Lvl) 𝒱₀ V D ι c t) rfl .rfl fun _ => .rfl

end Cert.KernelIdeal.Own.K1

end
-- ==== Proof.KernelIdeal.K2Run.lean ====
/- Custom call 2 of `KernelIdeal`: the kernel's run, the proof data and the body obligation, for any index type, level type,
   algebra, variants, entry contents and owed tally.
   -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Pipeline.TableIdle
public import Idealize.ShloMosaic.Lib.Tactic
public import Idealize.ShloMosaic.Lib.WordCmp
public import Idealize.ShloMosaic.Lib.Exec
public import Idealize.ShloMosaic.Lib.Pipeline.Kit

@[expose] public section

noncomputable section

namespace Cert.KernelIdeal.Own.K2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

variable (𝒱₀ : Variants) (V : (c : Dev nD) → (b : Ref sig .tc) → Buf (Elt F) ((c : Thread nD τ).loc b)) (D : Dev nD → CellTallies nD τ sig Ix)

/-- The region's invariant on core `c`: the library's `Pipeline.ΦA spec2 c` at any index and level type. -/
def ΦK (c : Dev nD) : sProp 𝕄 :=
  iprop(Pipeline.scopedRest (Ix := Ix) (Name := ℕ) (U := U) (Lvl := Lvl) (Val := Elt F) spec2 c ∗ ∃ r, prngReg c r)

/-! ## The windows' blocks -/

/-- Window `w`'s block at point `t`, read off its array as the region finds it (`V`). -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): the library's
    `Dat.before_in_eq_fetched` (unfetched, the index has not moved), the window uncut and never idle. -/
theorem before2_0_of {c : Dev nD} (dat : Dat τ (Elt F) Ix ℕ U Lvl cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): the library's
    `Dat.before_in_eq_fetched` (unfetched, the index has not moved), the window uncut and never idle. -/
theorem before2_1_of {c : Dev nD} (dat : Dat τ (Elt F) Ix ℕ U Lvl cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): the library's
    `Dat.before_in_eq_fetched` (unfetched, the index has not moved), the window uncut and never idle. -/
theorem before2_2_of {c : Dev nD} (dat : Dat τ (Elt F) Ix ℕ U Lvl cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k2_h1`), from the grid coordinates (the skeleton's scalar
    chain substituted). -/
abbrev cond2_0 (i : grid2.Coords) : Prop := k2_cond1 i = 1#1
/-- It holds at the points ≡ 0 (mod 14) — by arithmetic of the point. -/
theorem hcond2_0 : ∀ t : Fin cfg2.N, cond2_0 (grid2.coords t) ↔ t.val % 14 = 0 :=
  (fun t => by
    have ht : t.val < 336 := Nat.lt_of_lt_of_eq t.isLt N_2
    have e0 : (grid2.coords t 0).val = t.val / 14 % 24 := Pipeline.Grid.coords_val t 0 (by decide) rfl
    have e1 : (grid2.coords t 1).val = t.val / 1 % 14 := Pipeline.Grid.coords_val t 1 (by decide) rfl
    simp only [cond2_0, k2_cond1, e0, e1]
    word_cmp
   : ∀ t : Fin grid2.N, cond2_0 (grid2.coords t) ↔ t.val % 14 = 0)

/-! ## Where the windows are idle (the printed configuration's table `Cfg.idle`) -/

/-- Window 0 is never idle (an input). -/
theorem liveAt2_0 : ∀ t : Fin cfg2.N, cfg2.idle 0 (grid2.coords t) = false := fun _ => rfl
/-- Window 1 is never idle (an input). -/
theorem liveAt2_1 : ∀ t : Fin cfg2.N, cfg2.idle 1 (grid2.coords t) = false := fun _ => rfl
/-- Window 2 is never idle (an input). -/
theorem liveAt2_2 : ∀ t : Fin cfg2.N, cfg2.idle 2 (grid2.coords t) = false := fun _ => rfl
/-- Window 3 is never idle (an output stored at every point, under no condition). -/
theorem liveAt2_3 : ∀ t : Fin cfg2.N, cfg2.idle 3 (grid2.coords t) = false := fun _ => rfl
/-- Whether output 4's buffer is FRESH at each position `1 ‥ N` — holds nothing the body stored since the region's entry or the
    last write-back (written back at the point before, or idle there and fresh before it) —, as a bitmask the classifier
    computed, bit `n` for position `n + 1`; position 0 is fresh. `freshTab2_4_step` checks it against the configuration's own
    step point by point and the library's `Cfg.fresh_tab` makes it `Cfg.fresh` (`fresh2_4_eq`). -/
def freshTab2_4 : ℕ → Bool
  | 0 => true
  | n + 1 => (0x800200080020008002000800200080020008002000800200080020008002000800200080020008002000 : ℕ).testBit n
theorem freshTab2_4_step : ∀ t : Fin cfg2.N,
    freshTab2_4 (t.val + 1) = ((cfg2.win 4).flush t || (cfg2.idle 4 (cfg2.grid.coords t) && freshTab2_4 t.val)) := by decide +kernel
theorem fresh2_4_eq (t : Fin cfg2.N) : cfg2.fresh 4 t.val = freshTab2_4 t.val :=
  Pipeline.Cfg.fresh_tab cfg2 4 freshTab2_4 rfl freshTab2_4_step t.val (Nat.le_of_lt t.isLt)
/-- At the points of case A the printed configuration (`Cfg.idle`) calls output 4 live: the case stores into it. -/
theorem liveAt2_4_A : ∀ t : Fin cfg2.N, cond2_0 (grid2.coords t) → cfg2.idle 4 (grid2.coords t) = false := by decide +kernel
/-- At the points of case B the printed configuration (`Cfg.idle`) calls output 4 idle: the case stores nothing into it. -/
theorem idleAt2_4_B : ∀ t : Fin cfg2.N, ¬cond2_0 (grid2.coords t) → cfg2.idle 4 (grid2.coords t) = true := by decide +kernel
/-- At the points of case B, which keeps output 4's prior contents (reads it before covering, or covers it in part), the
    window's buffer is not FRESH: something was stored into it since the region's entry or its last write-back, idle points
    between or not (the library's `Cfg.fresh`, by the table `freshTab2_4`). -/
theorem notFresh2_4_B : ∀ t : Fin cfg2.N, ¬cond2_0 (grid2.coords t) → cfg2.fresh 4 t.val = false := by
  intro t; rw [fresh2_4_eq t]; revert t; decide +kernel

/-! ## The kernel body on any staging memrefs: a subtype the run finds -/

/-- One staging buffer of output window 3, through which its contents are stated (`View.read_writes_of_cover`: the
    choice does not matter). -/
abbrev VO2_3 : View sig .tc .vmem S128x8x1024 .bf16 := (Memref.whole cc2_stg3_0 : Memref sig .tc .vmem S128x8x1024 .bf16).view
/-- One staging buffer of output window 4, through which its contents are stated (`View.read_writes_of_cover`: the
    choice does not matter). -/
abbrev VO2_4 : View sig .tc .vmem S1024x4096 .fp8e5m2 := (Memref.whole cc2_stg4_0 : Memref sig .tc .vmem S1024x4096 .fp8e5m2).view
/-- Each window's current staging memref at point `t`, spelled as the pipeline passes it (`bodyAt2`), and its wholeness. -/
abbrev ms2_0 (t : Fin cfg2.N) : Memref sig .tc .vmem S4x8x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x4096 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x4096 .fp8e4m3 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S128x8x1024 .bf16 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x4096 .fp8e5m2 := win2_4.stage (cfg2.slots t 4)
abbrev hs2_4 (t : Fin cfg2.N) : (ms2_4 t).IsWhole := hstage2_4 ((cfg2.slots t 4).cast nbuf2_4)

-- (the run's proof term is large: the definition's epilogue — `abstractNestedProofs` — walks it past the default budget)
set_option maxHeartbeats 1000000 in
/-- What the body's stores leave in each output's staging memref, as pieces (last first) IN CASE A (`scf.if` 0 taken: points 0, 14, … 322: 24 of 336), WITH the
    proof that on whole staging memrefs — the inputs' at their contents, the other outputs' at
    anything, the body runs to the continuation holding the inputs' as they were,
    each output's buffer with its pieces written: the printed functions are their skeletons
    (`Gen.*_eq_skeleton`), which `sl_exec` runs — each `scf.if` decided by the case's hypotheses `hc·`; the pieces are
    the witness that run finds (assigned when `iexact` hands the buffer to the continuation). -/
noncomputable def kernelRun2_A (c : Dev nD) (i : grid2.Coords) (arg2 : Memref sig .tc .vmem S4x8x128 .f32) (harg2 : arg2.IsWhole) (arg3 : Memref sig .tc .vmem S1024x4096 .bf16) (harg3 : arg3.IsWhole) (arg4 : Memref sig .tc .vmem S1024x4096 .fp8e4m3) (harg4 : arg4.IsWhole) (arg5 : Memref sig .tc .vmem S128x8x1024 .bf16) (harg5 : arg5.IsWhole) (arg6 : Memref sig .tc .vmem S1024x4096 .fp8e5m2) (harg6 : arg6.IsWhole) (hc0 : cond2_0 i)
    (x0 : Vec F S4x8x128 .f32) (x1 : Vec F S1024x4096 .bf16) (x2 : Vec F S1024x4096 .fp8e4m3) :
    Σ' (L3 : List (View.Piece (Elt F) S128x8x1024 .bf16)), { L4 : List (View.Piece (Elt F) S1024x4096 .fp8e5m2) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4)) -∗ K ⟨⟩))
          ⊢ wp frame (wpE (defs₀ (F := F)) 𝒱₀ c none) E (cc2_dgrad i arg2 harg2 arg3 harg3 arg4 harg4 arg5 harg5 arg6 harg6) K } := by
  refine ⟨?_, ?_, fun E K => ?run⟩
  case run =>
    simp only [cc2_dgrad_eq_skeleton]; unfold cc2_dgrad_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

/-- Case A's pieces for output 3 tile its block (1 store of `S128x8x1024`, checked by the kernel's evaluation: the library's `Piece.tiledL`, linear in the pieces, through a loop's `@[irreducible]` trip theorem too), so they cover it. -/
theorem cover2_A_3 (c : Dev nD) (i : grid2.Coords) (arg2 : Memref sig .tc .vmem S4x8x128 .f32) (harg2 : arg2.IsWhole) (arg3 : Memref sig .tc .vmem S1024x4096 .bf16) (harg3 : arg3.IsWhole) (arg4 : Memref sig .tc .vmem S1024x4096 .fp8e4m3) (harg4 : arg4.IsWhole) (arg5 : Memref sig .tc .vmem S128x8x1024 .bf16) (harg5 : arg5.IsWhole) (arg6 : Memref sig .tc .vmem S1024x4096 .fp8e5m2) (harg6 : arg6.IsWhole) (hc0 : cond2_0 i)
    (x0 : Vec F S4x8x128 .f32) (x1 : Vec F S1024x4096 .bf16) (x2 : Vec F S1024x4096 .fp8e4m3) (y : S128x8x1024.Idx) :
    ∃ pc ∈ (kernelRun2_A (Ix := Ix) (U := U) (Lvl := Lvl) 𝒱₀ c i arg2 harg2 arg3 harg3 arg4 harg4 arg5 harg5 arg6 harg6 hc0 x0 x1 x2).1, y ∈ pc.1.set :=
  View.cover_of_tiledL (kernelRun2_A (Ix := Ix) (U := U) (Lvl := Lvl) 𝒱₀ c i arg2 harg2 arg3 harg3 arg4 harg4 arg5 harg5 arg6 harg6 hc0 x0 x1 x2).1 S128x8x1024.size (by sl_kernel_rfl) y

/-- What case A leaves in output 3's staging buffer: its pieces read back over junk. -/
def out2_A_3 (c : Dev nD) (i : grid2.Coords) (arg2 : Memref sig .tc .vmem S4x8x128 .f32) (harg2 : arg2.IsWhole) (arg3 : Memref sig .tc .vmem S1024x4096 .bf16) (harg3 : arg3.IsWhole) (arg4 : Memref sig .tc .vmem S1024x4096 .fp8e4m3) (harg4 : arg4.IsWhole) (arg5 : Memref sig .tc .vmem S128x8x1024 .bf16) (harg5 : arg5.IsWhole) (arg6 : Memref sig .tc .vmem S1024x4096 .fp8e5m2) (harg6 : arg6.IsWhole) (hc0 : cond2_0 i)
    (x0 : Vec F S4x8x128 .f32) (x1 : Vec F S1024x4096 .bf16) (x2 : Vec F S1024x4096 .fp8e4m3) : Vec F S128x8x1024 .bf16 :=
  VO2_3.read (Elt F) (VO2_3.writes (Elt F) VO2_3.junk (kernelRun2_A (Ix := Ix) (U := U) (Lvl := Lvl) 𝒱₀ c i arg2 harg2 arg3 harg3 arg4 harg4 arg5 harg5 arg6 harg6 hc0 x0 x1 x2).1)

/-- Case A's pieces for output 4 tile its block (1 store of `S1024x4096`, checked by the kernel's evaluation: the library's `Piece.tiledL`, linear in the pieces, through a loop's `@[irreducible]` trip theorem too), so they cover it. -/
theorem cover2_A_4 (c : Dev nD) (i : grid2.Coords) (arg2 : Memref sig .tc .vmem S4x8x128 .f32) (harg2 : arg2.IsWhole) (arg3 : Memref sig .tc .vmem S1024x4096 .bf16) (harg3 : arg3.IsWhole) (arg4 : Memref sig .tc .vmem S1024x4096 .fp8e4m3) (harg4 : arg4.IsWhole) (arg5 : Memref sig .tc .vmem S128x8x1024 .bf16) (harg5 : arg5.IsWhole) (arg6 : Memref sig .tc .vmem S1024x4096 .fp8e5m2) (harg6 : arg6.IsWhole) (hc0 : cond2_0 i)
    (x0 : Vec F S4x8x128 .f32) (x1 : Vec F S1024x4096 .bf16) (x2 : Vec F S1024x4096 .fp8e4m3) (y : S1024x4096.Idx) :
    ∃ pc ∈ (kernelRun2_A (Ix := Ix) (U := U) (Lvl := Lvl) 𝒱₀ c i arg2 harg2 arg3 harg3 arg4 harg4 arg5 harg5 arg6 harg6 hc0 x0 x1 x2).2.1, y ∈ pc.1.set :=
  View.cover_of_tiledL (kernelRun2_A (Ix := Ix) (U := U) (Lvl := Lvl) 𝒱₀ c i arg2 harg2 arg3 harg3 arg4 harg4 arg5 harg5 arg6 harg6 hc0 x0 x1 x2).2.1 S1024x4096.size (by sl_kernel_rfl) y

/-- What case A leaves in output 4's staging buffer: its pieces read back over junk. -/
def out2_A_4 (c : Dev nD) (i : grid2.Coords) (arg2 : Memref sig .tc .vmem S4x8x128 .f32) (harg2 : arg2.IsWhole) (arg3 : Memref sig .tc .vmem S1024x4096 .bf16) (harg3 : arg3.IsWhole) (arg4 : Memref sig .tc .vmem S1024x4096 .fp8e4m3) (harg4 : arg4.IsWhole) (arg5 : Memref sig .tc .vmem S128x8x1024 .bf16) (harg5 : arg5.IsWhole) (arg6 : Memref sig .tc .vmem S1024x4096 .fp8e5m2) (harg6 : arg6.IsWhole) (hc0 : cond2_0 i)
    (x0 : Vec F S4x8x128 .f32) (x1 : Vec F S1024x4096 .bf16) (x2 : Vec F S1024x4096 .fp8e4m3) : Vec F S1024x4096 .fp8e5m2 :=
  VO2_4.read (Elt F) (VO2_4.writes (Elt F) VO2_4.junk (kernelRun2_A (Ix := Ix) (U := U) (Lvl := Lvl) 𝒱₀ c i arg2 harg2 arg3 harg3 arg4 harg4 arg5 harg5 arg6 harg6 hc0 x0 x1 x2).2.1)

-- (the run's proof term is large: the definition's epilogue — `abstractNestedProofs` — walks it past the default budget)
set_option maxHeartbeats 1000000 in
/-- What the body's stores leave in each output's staging memref, as pieces (last first) IN CASE B (`scf.if` 0 not taken: points 1, 2, … 335: 312 of 336), WITH the
    proof that on whole staging memrefs — the inputs' at their contents, the outputs it reads before covering (4) at their running contents `xo·`, the other outputs' at
    anything, the body runs to the continuation holding the inputs' as they were,
    each output's buffer with its pieces written: the printed functions are their skeletons
    (`Gen.*_eq_skeleton`), which `sl_exec` runs — each `scf.if` decided by the case's hypotheses `hc·`; the pieces are
    the witness that run finds (assigned when `iexact` hands the buffer to the continuation). -/
noncomputable def kernelRun2_B (c : Dev nD) (i : grid2.Coords) (arg2 : Memref sig .tc .vmem S4x8x128 .f32) (harg2 : arg2.IsWhole) (arg3 : Memref sig .tc .vmem S1024x4096 .bf16) (harg3 : arg3.IsWhole) (arg4 : Memref sig .tc .vmem S1024x4096 .fp8e4m3) (harg4 : arg4.IsWhole) (arg5 : Memref sig .tc .vmem S128x8x1024 .bf16) (harg5 : arg5.IsWhole) (arg6 : Memref sig .tc .vmem S1024x4096 .fp8e5m2) (harg6 : arg6.IsWhole) (hc0 : ¬cond2_0 i)
    (x0 : Vec F S4x8x128 .f32) (x1 : Vec F S1024x4096 .bf16) (x2 : Vec F S1024x4096 .fp8e4m3) (xo4 : Vec F S1024x4096 .fp8e5m2) :
    Σ' (L3 : List (View.Piece (Elt F) S128x8x1024 .bf16)), { L4 : List (View.Piece (Elt F) S1024x4096 .fp8e5m2) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xo4
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ owns (c : Thread nD τ) arg6 fullShare xo4) -∗ K ⟨⟩))
          ⊢ wp frame (wpE (defs₀ (F := F)) 𝒱₀ c none) E (cc2_dgrad i arg2 harg2 arg3 harg3 arg4 harg4 arg5 harg5 arg6 harg6) K } := by
  refine ⟨?_, [], fun E K => ?run⟩
  case run =>
    simp only [cc2_dgrad_eq_skeleton]; unfold cc2_dgrad_skel
    unfold owns
    iintro ⟨⟨%f0, %hf0, H0⟩, ⟨%f1, %hf1, H1⟩, ⟨%f2, %hf2, H2⟩, ⟨%d3, %f3, -, H3⟩, ⟨%f4, %hf4, H4⟩, Hk⟩
    obtain rfl := harg2.eq_unread hf0; obtain rfl := harg3.eq_unread hf1; obtain rfl := harg4.eq_unread hf2; obtain rfl := harg6.eq_unread hf4
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; isplitr; · ipureintro; exact harg6.read_unread _
    iexact H4

/-- Case B's pieces for output 3 tile its block (1 store of `S128x8x1024`, checked by the kernel's evaluation: the library's `Piece.tiledL`, linear in the pieces, through a loop's `@[irreducible]` trip theorem too), so they cover it. -/
theorem cover2_B_3 (c : Dev nD) (i : grid2.Coords) (arg2 : Memref sig .tc .vmem S4x8x128 .f32) (harg2 : arg2.IsWhole) (arg3 : Memref sig .tc .vmem S1024x4096 .bf16) (harg3 : arg3.IsWhole) (arg4 : Memref sig .tc .vmem S1024x4096 .fp8e4m3) (harg4 : arg4.IsWhole) (arg5 : Memref sig .tc .vmem S128x8x1024 .bf16) (harg5 : arg5.IsWhole) (arg6 : Memref sig .tc .vmem S1024x4096 .fp8e5m2) (harg6 : arg6.IsWhole) (hc0 : ¬cond2_0 i)
    (x0 : Vec F S4x8x128 .f32) (x1 : Vec F S1024x4096 .bf16) (x2 : Vec F S1024x4096 .fp8e4m3) (xo4 : Vec F S1024x4096 .fp8e5m2) (y : S128x8x1024.Idx) :
    ∃ pc ∈ (kernelRun2_B (Ix := Ix) (U := U) (Lvl := Lvl) 𝒱₀ c i arg2 harg2 arg3 harg3 arg4 harg4 arg5 harg5 arg6 harg6 hc0 x0 x1 x2 xo4).1, y ∈ pc.1.set :=
  View.cover_of_tiledL (kernelRun2_B (Ix := Ix) (U := U) (Lvl := Lvl) 𝒱₀ c i arg2 harg2 arg3 harg3 arg4 harg4 arg5 harg5 arg6 harg6 hc0 x0 x1 x2 xo4).1 S128x8x1024.size (by sl_kernel_rfl) y

/-- What case B leaves in output 3's staging buffer: its pieces read back over junk. -/
def out2_B_3 (c : Dev nD) (i : grid2.Coords) (arg2 : Memref sig .tc .vmem S4x8x128 .f32) (harg2 : arg2.IsWhole) (arg3 : Memref sig .tc .vmem S1024x4096 .bf16) (harg3 : arg3.IsWhole) (arg4 : Memref sig .tc .vmem S1024x4096 .fp8e4m3) (harg4 : arg4.IsWhole) (arg5 : Memref sig .tc .vmem S128x8x1024 .bf16) (harg5 : arg5.IsWhole) (arg6 : Memref sig .tc .vmem S1024x4096 .fp8e5m2) (harg6 : arg6.IsWhole) (hc0 : ¬cond2_0 i)
    (x0 : Vec F S4x8x128 .f32) (x1 : Vec F S1024x4096 .bf16) (x2 : Vec F S1024x4096 .fp8e4m3) (xo4 : Vec F S1024x4096 .fp8e5m2) : Vec F S128x8x1024 .bf16 :=
  VO2_3.read (Elt F) (VO2_3.writes (Elt F) VO2_3.junk (kernelRun2_B (Ix := Ix) (U := U) (Lvl := Lvl) 𝒱₀ c i arg2 harg2 arg3 harg3 arg4 harg4 arg5 harg5 arg6 harg6 hc0 x0 x1 x2 xo4).1)

/-- Case B stores nothing into output 4, a live window: its staging buffer holds what the point before left. -/
def out2_B_4 (c : Dev nD) (i : grid2.Coords) (arg2 : Memref sig .tc .vmem S4x8x128 .f32) (harg2 : arg2.IsWhole) (arg3 : Memref sig .tc .vmem S1024x4096 .bf16) (harg3 : arg3.IsWhole) (arg4 : Memref sig .tc .vmem S1024x4096 .fp8e4m3) (harg4 : arg4.IsWhole) (arg5 : Memref sig .tc .vmem S128x8x1024 .bf16) (harg5 : arg5.IsWhole) (arg6 : Memref sig .tc .vmem S1024x4096 .fp8e5m2) (harg6 : arg6.IsWhole) (hc0 : ¬cond2_0 i)
    (x0 : Vec F S4x8x128 .f32) (x1 : Vec F S1024x4096 .bf16) (x2 : Vec F S1024x4096 .fp8e4m3) (xo4 : Vec F S1024x4096 .fp8e5m2) : Vec F S1024x4096 .fp8e5m2 := xo4

end Cert.KernelIdeal.Own.K2

end
-- ==== Proof.KernelIdeal.K2.lean ====
/- Custom call 2 of `KernelIdeal`: the kernel's run, the proof data and the body obligation, for any index type, level type,
   algebra, variants, entry contents and owed tally.
   -/
module

public import proofs.«01_k».proof.Proof.Gen.KernelIdeal.Launch
public import proofs.«01_k».proof.Proof.KernelIdeal.K2Run
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Pipeline.TableIdle
public import Idealize.ShloMosaic.Lib.Tactic
public import Idealize.ShloMosaic.Lib.WordCmp
public import Idealize.ShloMosaic.Lib.Exec
public import Idealize.ShloMosaic.Lib.Pipeline.Kit

@[expose] public section

noncomputable section

namespace Cert.KernelIdeal.Own.K2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

variable (𝒱₀ : Variants) (V : (c : Dev nD) → (b : Ref sig .tc) → Buf (Elt F) ((c : Thread nD τ).loc b)) (D : Dev nD → CellTallies nD τ sig Ix)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before2_W_κ`); an output it leaves idle whose contents another case keeps stays
    what this leaves at `n - 1`, carried. An assignment of the conditions no point meets is no case (`False.elim`). -/
def outsAt2 (c : Dev nD) : (n : ℕ) → n < cfg2.N → Vec F S128x8x1024 .bf16 × Vec F S1024x4096 .fp8e5m2
  | 0, hn => (out2_A_3 (Ix := Ix) (U := U) (Lvl := Lvl) 𝒱₀ c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) ((hcond2_0 ⟨0, hn⟩).mpr (Nat.zero_mod _)) (iblk V c 0 ⟨0, hn⟩) (iblk V c 1 ⟨0, hn⟩) (iblk V c 2 ⟨0, hn⟩), out2_A_4 (Ix := Ix) (U := U) (Lvl := Lvl) 𝒱₀ c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) ((hcond2_0 ⟨0, hn⟩).mpr (Nat.zero_mod _)) (iblk V c 0 ⟨0, hn⟩) (iblk V c 1 ⟨0, hn⟩) (iblk V c 2 ⟨0, hn⟩))
  | n + 1, hn =>
    if h0 : (n + 1) % 14 = 0 then
      (out2_A_3 (Ix := Ix) (U := U) (Lvl := Lvl) 𝒱₀ c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) ((hcond2_0 ⟨n + 1, hn⟩).mpr h0) (iblk V c 0 ⟨n + 1, hn⟩) (iblk V c 1 ⟨n + 1, hn⟩) (iblk V c 2 ⟨n + 1, hn⟩), out2_A_4 (Ix := Ix) (U := U) (Lvl := Lvl) 𝒱₀ c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) ((hcond2_0 ⟨n + 1, hn⟩).mpr h0) (iblk V c 0 ⟨n + 1, hn⟩) (iblk V c 1 ⟨n + 1, hn⟩) (iblk V c 2 ⟨n + 1, hn⟩))
    else
      (out2_B_3 (Ix := Ix) (U := U) (Lvl := Lvl) 𝒱₀ c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (fun h => h0 ((hcond2_0 ⟨n + 1, hn⟩).mp h)) (iblk V c 0 ⟨n + 1, hn⟩) (iblk V c 1 ⟨n + 1, hn⟩) (iblk V c 2 ⟨n + 1, hn⟩) (outsAt2 c n (Nat.lt_of_succ_lt hn)).2, out2_B_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (fun h => h0 ((hcond2_0 ⟨n + 1, hn⟩).mp h)) (iblk V c 0 ⟨n + 1, hn⟩) (iblk V c 1 ⟨n + 1, hn⟩) (iblk V c 2 ⟨n + 1, hn⟩) (outsAt2 c n (Nat.lt_of_succ_lt hn)).2)

/-- `outsAt2` at a point of case A: that case's contents. -/
theorem outsAt2_A (c : Dev nD) (t : Fin cfg2.N) (h0 : t.val % 14 = 0) :
    outsAt2 (Ix := Ix) (U := U) (Lvl := Lvl) 𝒱₀ V c t.val t.isLt = (out2_A_3 (Ix := Ix) (U := U) (Lvl := Lvl) 𝒱₀ c (grid2.coords t) (ms2_0 t) (hs2_0 t) (ms2_1 t) (hs2_1 t) (ms2_2 t) (hs2_2 t) (ms2_3 t) (hs2_3 t) (ms2_4 t) (hs2_4 t) ((hcond2_0 t).mpr h0) (iblk V c 0 t) (iblk V c 1 t) (iblk V c 2 t), out2_A_4 (Ix := Ix) (U := U) (Lvl := Lvl) 𝒱₀ c (grid2.coords t) (ms2_0 t) (hs2_0 t) (ms2_1 t) (hs2_1 t) (ms2_2 t) (hs2_2 t) (ms2_3 t) (hs2_3 t) (ms2_4 t) (hs2_4 t) ((hcond2_0 t).mpr h0) (iblk V c 0 t) (iblk V c 1 t) (iblk V c 2 t)) := by
  obtain ⟨n, hn⟩ := t
  cases n with
  | zero => exact rfl
  | succ n => exact (dif_pos h0).trans rfl

/-- `outsAt2` at a point of case B: that case's contents, over what the point before left. -/
theorem outsAt2_B (c : Dev nD) (t : Fin cfg2.N) (h0 : ¬t.val % 14 = 0) :
    outsAt2 (Ix := Ix) (U := U) (Lvl := Lvl) 𝒱₀ V c t.val t.isLt = (out2_B_3 (Ix := Ix) (U := U) (Lvl := Lvl) 𝒱₀ c (grid2.coords t) (ms2_0 t) (hs2_0 t) (ms2_1 t) (hs2_1 t) (ms2_2 t) (hs2_2 t) (ms2_3 t) (hs2_3 t) (ms2_4 t) (hs2_4 t) (fun h => h0 ((hcond2_0 t).mp h)) (iblk V c 0 t) (iblk V c 1 t) (iblk V c 2 t) (outsAt2 (Ix := Ix) (U := U) (Lvl := Lvl) 𝒱₀ V c (t.val - 1) (Nat.lt_of_le_of_lt (Nat.sub_le _ _) t.isLt)).2, out2_B_4 c (grid2.coords t) (ms2_0 t) (hs2_0 t) (ms2_1 t) (hs2_1 t) (ms2_2 t) (hs2_2 t) (ms2_3 t) (hs2_3 t) (ms2_4 t) (hs2_4 t) (fun h => h0 ((hcond2_0 t).mp h)) (iblk V c 0 t) (iblk V c 1 t) (iblk V c 2 t) (outsAt2 (Ix := Ix) (U := U) (Lvl := Lvl) 𝒱₀ V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 2 on core `c`: the arrays as the region finds them (`V`); after the body at
    point `t` each input's buffer at its block and the outputs' at `outsAt2`; the invariant the class's
    (the library's `ΦA`: the scoped rest and the generator register); the core owing `D c` throughout; full shares. -/
def dat (c : Dev nD) : Dat τ (Elt F) Ix ℕ U Lvl cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => (outsAt2 (Ix := Ix) (U := U) (Lvl := Lvl) 𝒱₀ V c t.val t.isLt).1
    | ⟨4, _⟩ => (outsAt2 (Ix := Ix) (U := U) (Lvl := Lvl) 𝒱₀ V c t.val t.isLt).2
  Φ _ := ΦK (F := F) (Ix := Ix) (U := U) (Lvl := Lvl) c
  q _ := fullShare
  owed _ := D c

variable (ι : Ix)

/-- The proof data's arrays are the region-entry contents `V`: the proof data's definition projected (`dsimp`). -/
theorem A_eq (c : Dev nD) (w : Fin cfg2.W) : (dat (Ix := Ix) (U := U) (Lvl := Lvl) 𝒱₀ V D c).A w = V c (Pipeline.arrRef spec2 w) := by
  dsimp only [dat]

/-- What the body leaves, window by window (the proof data's `match` reduced by `dsimp`). -/
theorem after2_0 (c : Dev nD) (t : Fin cfg2.N) : (dat (Ix := Ix) (U := U) (Lvl := Lvl) 𝒱₀ V D c).after 0 t = iblk V c 0 t := by dsimp only [dat]
theorem after2_1 (c : Dev nD) (t : Fin cfg2.N) : (dat (Ix := Ix) (U := U) (Lvl := Lvl) 𝒱₀ V D c).after 1 t = iblk V c 1 t := by dsimp only [dat]
theorem after2_2 (c : Dev nD) (t : Fin cfg2.N) : (dat (Ix := Ix) (U := U) (Lvl := Lvl) 𝒱₀ V D c).after 2 t = iblk V c 2 t := by dsimp only [dat]
theorem after2_3 (c : Dev nD) (t : Fin cfg2.N) : (dat (Ix := Ix) (U := U) (Lvl := Lvl) 𝒱₀ V D c).after 3 t = (outsAt2 (Ix := Ix) (U := U) (Lvl := Lvl) 𝒱₀ V c t.val t.isLt).1 := by dsimp only [dat]
theorem after2_4 (c : Dev nD) (t : Fin cfg2.N) : (dat (Ix := Ix) (U := U) (Lvl := Lvl) 𝒱₀ V D c).after 4 t = (outsAt2 (Ix := Ix) (U := U) (Lvl := Lvl) 𝒱₀ V c t.val t.isLt).2 := by dsimp only [dat]

/-- Each input's current staging buffer holds its block at every point, fetched there or not (`beforeK_W_of`). -/
theorem before2_0 (c : Dev nD) (t : Fin cfg2.N) (d) : (dat (Ix := Ix) (U := U) (Lvl := Lvl) 𝒱₀ V D c).before 0 t d = iblk V c 0 t :=
  before2_0_of V (dat (Ix := Ix) (U := U) (Lvl := Lvl) 𝒱₀ V D c) (A_eq 𝒱₀ V D c 0) (after2_0 𝒱₀ V D c) t d
theorem before2_1 (c : Dev nD) (t : Fin cfg2.N) (d) : (dat (Ix := Ix) (U := U) (Lvl := Lvl) 𝒱₀ V D c).before 1 t d = iblk V c 1 t :=
  before2_1_of V (dat (Ix := Ix) (U := U) (Lvl := Lvl) 𝒱₀ V D c) (A_eq 𝒱₀ V D c 1) (after2_1 𝒱₀ V D c) t d
theorem before2_2 (c : Dev nD) (t : Fin cfg2.N) (d) : (dat (Ix := Ix) (U := U) (Lvl := Lvl) 𝒱₀ V D c).before 2 t d = iblk V c 2 t :=
  before2_2_of V (dat (Ix := Ix) (U := U) (Lvl := Lvl) 𝒱₀ V D c) (A_eq 𝒱₀ V D c 2) (after2_2 𝒱₀ V D c) t d

/-- Output 4's contents CARRY through the points that leave it idle: at such a point, its buffer not fresh, the proof data's
    `after` is the point before's (the case there stores nothing into the window and its term says so; a case that stores
    into it is not idle there by `liveAt2_4_κ`) — the hypothesis of the library's `Dat.before_out_traj`. -/
theorem hcarry2_4 (c : Dev nD) : ∀ (t : Fin cfg2.N) (_ : t.val ≠ 0), cfg2.idle 4 (grid2.coords t) = true → cfg2.fresh 4 t.val = false →
    (dat (Ix := Ix) (U := U) (Lvl := Lvl) 𝒱₀ V D c).after 4 t = (dat (Ix := Ix) (U := U) (Lvl := Lvl) 𝒱₀ V D c).after 4 ⟨t.val - 1, by omega⟩ := by
  intro t _ hi _
  have hN : t.val < 336 := lt_of_lt_of_eq t.isLt (show cfg2.N = 336 from N_2)
  rw [after2_4, after2_4]
  by_cases h0 : t.val % 14 = 0
  · rw [liveAt2_4_A t ((hcond2_0 t).mpr h0)] at hi
    exact absurd hi Bool.false_ne_true
  · rw [outsAt2_B (Ix := Ix) (U := U) (Lvl := Lvl) 𝒱₀ V c t h0]; rfl
/-- At a point of case B output 4's current staging buffer holds what the point before left: the buffer is not fresh
    there (`notFresh2_4_B`: stored into since the region's entry or the last write-back, carried through the points that
    leave it idle by `hcarry2_4`; the library's `Dat.before_out_traj`). -/
theorem before2_4_B (c : Dev nD) (t : Fin cfg2.N) (h0 : ¬t.val % 14 = 0) (d) :
    (dat (Ix := Ix) (U := U) (Lvl := Lvl) 𝒱₀ V D c).before 4 t d = (outsAt2 (Ix := Ix) (U := U) (Lvl := Lvl) 𝒱₀ V c (t.val - 1) (Nat.lt_of_le_of_lt (Nat.sub_le _ _) t.isLt)).2 := by
  rw [Dat.before_out_traj _ 4 rfl (fun _ _ => rfl) (hcarry2_4 𝒱₀ V D c) t.val t rfl d,
    if_neg (by rw [notFresh2_4_B t (fun h => h0 ((hcond2_0 t).mp h))]; exact Bool.false_ne_true)]
  dsimp only [dat]

/-- At a point of case B what output 4's buffer was found holding is what the obligation asks of it: the buffer as found where the
    block is not written back, and the proof data's contents, which case B leaves as the point before had them, where it is. -/
theorem leaves4_B (c : Dev nD) (t : Fin cfg2.N) (h0 : ¬t.val % 14 = 0) :
    owns (c : Thread nD τ) (ms2_4 t) fullShare (outsAt2 (Ix := Ix) (U := U) (Lvl := Lvl) 𝒱₀ V c (t.val - 1) (Nat.lt_of_le_of_lt (Nat.sub_le _ _) t.isLt)).2
      ⊢ ((dat (Ix := Ix) (U := U) (Lvl := Lvl) 𝒱₀ V D c).leavesExact 4 t : sProp 𝕄) := by
  unfold Dat.leavesExact
  rw [idleAt2_4_B t (fun h => h0 ((hcond2_0 t).mp h))]
  cases hf : (cfg2.win 4).flush t
  · simp only [before2_4_B 𝒱₀ V D c t h0]
    iintro H; iexists (outsAt2 (Ix := Ix) (U := U) (Lvl := Lvl) 𝒱₀ V c (t.val - 1) (Nat.lt_of_le_of_lt (Nat.sub_le _ _) t.isLt)).2; iexact H
  · simp only [after2_4]
    rw [outsAt2_B (Ix := Ix) (U := U) (Lvl := Lvl) 𝒱₀ V c t h0]
    exact .rfl

/-! ## The body obligation, at a generic point -/

/-- What the body is called with at point `t` (the library's `BodyObligation`'s precondition, the windows one by one), -/
def bodyPre (c : Dev nD) (t : Fin cfg2.N) : sProp 𝕄 :=
  iprop((dat (Ix := Ix) (U := U) (Lvl := Lvl) 𝒱₀ V D c).Φ t.castSucc ∗ (dat (Ix := Ix) (U := U) (Lvl := Lvl) 𝒱₀ V D c).owesAt ι t.castSucc
    ∗ (∃ d, owns (c : Thread nD τ) (ms2_0 t) fullShare ((dat (Ix := Ix) (U := U) (Lvl := Lvl) 𝒱₀ V D c).before 0 t d))
    ∗ (∃ d, owns (c : Thread nD τ) (ms2_1 t) fullShare ((dat (Ix := Ix) (U := U) (Lvl := Lvl) 𝒱₀ V D c).before 1 t d))
    ∗ (∃ d, owns (c : Thread nD τ) (ms2_2 t) fullShare ((dat (Ix := Ix) (U := U) (Lvl := Lvl) 𝒱₀ V D c).before 2 t d))
    ∗ (∃ d, owns (c : Thread nD τ) (ms2_3 t) fullShare ((dat (Ix := Ix) (U := U) (Lvl := Lvl) 𝒱₀ V D c).before 3 t d))
    ∗ (∃ d, owns (c : Thread nD τ) (ms2_4 t) fullShare ((dat (Ix := Ix) (U := U) (Lvl := Lvl) 𝒱₀ V D c).before 4 t d)))

/-- and what it returns. -/
def bodyPost (c : Dev nD) (t : Fin cfg2.N) : sProp 𝕄 :=
  iprop((dat (Ix := Ix) (U := U) (Lvl := Lvl) 𝒱₀ V D c).Φ t.succ ∗ (dat (Ix := Ix) (U := U) (Lvl := Lvl) 𝒱₀ V D c).owesAt ι t.succ
    ∗ (dat (Ix := Ix) (U := U) (Lvl := Lvl) 𝒱₀ V D c).leavesExact 0 t
    ∗ (dat (Ix := Ix) (U := U) (Lvl := Lvl) 𝒱₀ V D c).leavesExact 1 t
    ∗ (dat (Ix := Ix) (U := U) (Lvl := Lvl) 𝒱₀ V D c).leavesExact 2 t
    ∗ (dat (Ix := Ix) (U := U) (Lvl := Lvl) 𝒱₀ V D c).leavesExact 3 t
    ∗ (dat (Ix := Ix) (U := U) (Lvl := Lvl) 𝒱₀ V D c).leavesExact 4 t)

set_option maxHeartbeats 800000 in
/-- The body at any point: the inputs' memrefs hold their blocks (`before2_W`); the closed forms say which case the point is in (`by_cases`), an output the case reads before covering holds what the point before left (`before2_W_κ`); so the
    run applies; the invariant passes through unread; the core owes `D c` throughout. -/
theorem sound_body (c : Dev nD) (t : Fin cfg2.N) :
    bodyPre (U := U) (Lvl := Lvl) 𝒱₀ V D ι c t ⊢ wp frame (wpE (defs₀ (F := F)) 𝒱₀ c none) Set.univ (bodyAt2 t) (fun _ => bodyPost (U := U) (Lvl := Lvl) 𝒱₀ V D ι c t) := by
  unfold bodyPre bodyPost bodyAt2
  simp only [before2_0, before2_1, before2_2]
  rw [show (dat (Ix := Ix) (U := U) (Lvl := Lvl) 𝒱₀ V D c).Φ t.succ = (dat (Ix := Ix) (U := U) (Lvl := Lvl) 𝒱₀ V D c).Φ t.castSucc from rfl,
    show (dat (Ix := Ix) (U := U) (Lvl := Lvl) 𝒱₀ V D c).owesAt ι t.succ = (dat (Ix := Ix) (U := U) (Lvl := Lvl) 𝒱₀ V D c).owesAt ι t.castSucc from rfl]
  have hN : t.val < 336 := lt_of_lt_of_eq t.isLt (show cfg2.N = 336 from N_2)
  by_cases h0 : t.val % 14 = 0
  · rw [show (dat (Ix := Ix) (U := U) (Lvl := Lvl) 𝒱₀ V D c).leavesExact 0 t = owns (c : Thread nD τ) (ms2_0 t) fullShare ((dat (Ix := Ix) (U := U) (Lvl := Lvl) 𝒱₀ V D c).after 0 t) from by
      unfold Dat.leavesExact; rw [liveAt2_0 t], after2_0]
    rw [show (dat (Ix := Ix) (U := U) (Lvl := Lvl) 𝒱₀ V D c).leavesExact 1 t = owns (c : Thread nD τ) (ms2_1 t) fullShare ((dat (Ix := Ix) (U := U) (Lvl := Lvl) 𝒱₀ V D c).after 1 t) from by
      unfold Dat.leavesExact; rw [liveAt2_1 t], after2_1]
    rw [show (dat (Ix := Ix) (U := U) (Lvl := Lvl) 𝒱₀ V D c).leavesExact 2 t = owns (c : Thread nD τ) (ms2_2 t) fullShare ((dat (Ix := Ix) (U := U) (Lvl := Lvl) 𝒱₀ V D c).after 2 t) from by
      unfold Dat.leavesExact; rw [liveAt2_2 t], after2_2]
    rw [show (dat (Ix := Ix) (U := U) (Lvl := Lvl) 𝒱₀ V D c).leavesExact 3 t = owns (c : Thread nD τ) (ms2_3 t) fullShare ((dat (Ix := Ix) (U := U) (Lvl := Lvl) 𝒱₀ V D c).after 3 t) from by
      unfold Dat.leavesExact; rw [liveAt2_3 t], after2_3]
    rw [show (dat (Ix := Ix) (U := U) (Lvl := Lvl) 𝒱₀ V D c).leavesExact 4 t = owns (c : Thread nD τ) (ms2_4 t) fullShare ((dat (Ix := Ix) (U := U) (Lvl := Lvl) 𝒱₀ V D c).after 4 t) from by
      unfold Dat.leavesExact; rw [liveAt2_4_A t ((hcond2_0 t).mpr h0)], after2_4]
    rw [outsAt2_A (Ix := Ix) (U := U) (Lvl := Lvl) 𝒱₀ V c t h0]
    unfold out2_A_3 out2_A_4; (try dsimp only)
    iintro ⟨HΦ, Ho, ⟨%d0, H0⟩, ⟨%d1, H1⟩, ⟨%d2, H2⟩, ⟨%d3, H3⟩, ⟨%d4, H4⟩⟩
    iapply ((kernelRun2_A (Ix := Ix) (U := U) (Lvl := Lvl) 𝒱₀ c (grid2.coords t) _ _ _ _ _ _ _ _ _ _ ((hcond2_0 t).mpr h0) (iblk V c 0 t) (iblk V c 1 t) (iblk V c 2 t)).2.2 Set.univ _)
    isplitl [H0]; · iexact H0
    isplitl [H1]; · iexact H1
    isplitl [H2]; · iexact H2
    isplitl [H3]; · iexists _; iexact H3
    isplitl [H4]; · iexists _; iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover2_A_3 (Ix := Ix) (U := U) (Lvl := Lvl) 𝒱₀ c _ _ _ _ _ _ _ _ _ _ _ _ _ _ _)
    unfold owns; iexists _; isplitr
    swap; · iexact H4
    ipureintro; exact View.read_writes_of_cover _ _ _ _ _ (cover2_A_4 (Ix := Ix) (U := U) (Lvl := Lvl) 𝒱₀ c _ _ _ _ _ _ _ _ _ _ _ _ _ _ _)
  · rw [show (dat (Ix := Ix) (U := U) (Lvl := Lvl) 𝒱₀ V D c).leavesExact 0 t = owns (c : Thread nD τ) (ms2_0 t) fullShare ((dat (Ix := Ix) (U := U) (Lvl := Lvl) 𝒱₀ V D c).after 0 t) from by
      unfold Dat.leavesExact; rw [liveAt2_0 t], after2_0]
    rw [show (dat (Ix := Ix) (U := U) (Lvl := Lvl) 𝒱₀ V D c).leavesExact 1 t = owns (c : Thread nD τ) (ms2_1 t) fullShare ((dat (Ix := Ix) (U := U) (Lvl := Lvl) 𝒱₀ V D c).after 1 t) from by
      unfold Dat.leavesExact; rw [liveAt2_1 t], after2_1]
    rw [show (dat (Ix := Ix) (U := U) (Lvl := Lvl) 𝒱₀ V D c).leavesExact 2 t = owns (c : Thread nD τ) (ms2_2 t) fullShare ((dat (Ix := Ix) (U := U) (Lvl := Lvl) 𝒱₀ V D c).after 2 t) from by
      unfold Dat.leavesExact; rw [liveAt2_2 t], after2_2]
    rw [show (dat (Ix := Ix) (U := U) (Lvl := Lvl) 𝒱₀ V D c).leavesExact 3 t = owns (c : Thread nD τ) (ms2_3 t) fullShare ((dat (Ix := Ix) (U := U) (Lvl := Lvl) 𝒱₀ V D c).after 3 t) from by
      unfold Dat.leavesExact; rw [liveAt2_3 t], after2_3]
    rw [outsAt2_B (Ix := Ix) (U := U) (Lvl := Lvl) 𝒱₀ V c t h0]
    simp only [before2_4_B 𝒱₀ V D c t h0]
    unfold out2_B_3; (try dsimp only)
    iintro ⟨HΦ, Ho, ⟨%d0, H0⟩, ⟨%d1, H1⟩, ⟨%d2, H2⟩, ⟨%d3, H3⟩, ⟨%d4, H4⟩⟩
    iapply ((kernelRun2_B (Ix := Ix) (U := U) (Lvl := Lvl) 𝒱₀ c (grid2.coords t) _ _ _ _ _ _ _ _ _ _ (fun h => h0 ((hcond2_0 t).mp h)) (iblk V c 0 t) (iblk V c 1 t) (iblk V c 2 t) _).2.2 Set.univ _)
    isplitl [H0]; · iexact H0
    isplitl [H1]; · iexact H1
    isplitl [H2]; · iexact H2
    isplitl [H3]; · iexists _; iexact H3
    isplitl [H4]; · iexact H4
    iintro ⟨H0, H1, H2, ⟨%e3, H3⟩, H4⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover2_B_3 (Ix := Ix) (U := U) (Lvl := Lvl) 𝒱₀ c _ _ _ _ _ _ _ _ _ _ _ _ _ _ _ _)
    iapply (leaves4_B 𝒱₀ V D c t h0); iexact H4

/-- The body table's row at point `t`'s slots is the body as `bodyAt2` spells it. -/
theorem defs₀_row (t : Fin cfg2.N) :
    defs₀ (F := F) .tc cfg2.body (cfg2.bodyArgs t (cfg2.slots t)) = bodyAt2 t := by
  unfold defs₀; rw [Defs.onTc_tc]

/-- The library's body obligation, at every point: the body's triple restated (the library's `triple_restated`). -/
theorem body_obligation (c : Dev nD) : BodyObligation (dat (Ix := Ix) (U := U) (Lvl := Lvl) 𝒱₀ V D c) (defs₀ (F := F)) 𝒱₀ ι Set.univ := fun t => by
  rw [bigSep_W2, bigSep_W2, defs₀_row]
  exact triple_restated (sound_body (U := U) (Lvl := Lvl) 𝒱₀ V D ι c t) rfl .rfl fun _ => .rfl

end Cert.KernelIdeal.Own.K2

end
-- ==== Proof.KernelIdeal.RegionsD.lean ====
/- `frame_condD`: what `Gen.frame_cond` of `proofs.«01_k».proof.Proof.Gen.KernelIdeal` concludes, from its hypotheses less the records of 3 kernel regions
   (custom calls 0, 1, 2). Each record is built here from the kernel's run, stated for any entry contents and tally
   (`K0`, `K1`, `K2`), over its own arrays (the library's `RegionSeg.ofHeld`), entered from the frame's valuation before the
   region and left at the one after.
   In a record's place the theorem takes the tally that the core owes while the region runs, with its level cut (`DK`, `bK`, `hcutK`);
   that the rest states around the region are the core's random-number register (`prngReg`), that `owes` and a remainder (`ErK`, `hEinK`,
   `hEoutK`); and that the frame's unknown for each output array is what the kernel's proof data leave there (`houtK_w`). K is the region's
   number and w the output window's.
   -/
module

public import proofs.«01_k».proof.Proof.Gen.KernelIdeal.Regions
public import proofs.«01_k».proof.Proof.KernelIdeal.K0
public import proofs.«01_k».proof.Proof.KernelIdeal.K1
public import proofs.«01_k».proof.Proof.KernelIdeal.K2
public import Idealize.ShloMosaic.Lib.Pipeline.RegionArrays

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

/-! ## The supplied regions' arrays and entry contents -/

/-- Each window's array of region 0 (custom call 0), as a device buffer, is in the region's array set. -/
theorem arr0_mem (w : Fin cfg0.W) : (Proc.devRef .tc (Pipeline.arrRef spec0 w) : DevRef τ sig) ∈ Pipeline.arrRefs (τ := τ) spec0 :=
  Finset.mem_map_of_mem _ (Finset.mem_image_of_mem _ (Finset.mem_univ w))
/-- They are among the held buffers: unscoped. -/
theorem arr0_S : Pipeline.arrRefs (τ := τ) spec0 ⊆ Pipeline.ucRefs τ sig :=
  Pipeline.arrRefs_sub_ucRefs spec0 (by decide)
/-- Region 0's entry contents: the valuation before item 1, at the TensorCore's references. -/
abbrev Ve0 (m : (ℓ : Loc nD τ sig) → Buf (Elt F) ℓ) (c : Dev nD) (b : Ref sig .tc) : Buf (Elt F) ((c : Thread nD τ).loc b) := V1 m c (Proc.devRef .tc b)

theorem V2_at_main_v1 (m : (ℓ : Loc nD τ sig) → Buf (Elt F) ℓ) (outs : Outs (F := F)) (c : Dev nD) : V2 m outs c (Proc.devRef .tc main_v1) = outs 2 main_v1 c := by
  simp only [V2, Function.update_self]

/-- Across region 0 every held buffer but its arrays keeps its contents: the frame has it change its output arrays alone. -/
theorem rest0_eq (m : (ℓ : Loc nD τ sig) → Buf (Elt F) ℓ) (outs : Outs (F := F)) (c : Dev nD) : ∀ b ∈ (Pipeline.ucRefs τ sig) \ Pipeline.arrRefs (τ := τ) spec0, V2 m outs c b = V1 m c b := fun b hb => by
  have hn : b ∉ Pipeline.arrRefs (τ := τ) spec0 := (Finset.mem_sdiff.mp hb).2
  have h_main_v1 : b ≠ Proc.devRef .tc main_v1 := by rintro rfl; exact hn (by first | exact arr0_mem 2 | decide)
  simp only [V2, Function.update_of_ne h_main_v1]

/-- Each window's array of region 1 (custom call 1), as a device buffer, is in the region's array set. -/
theorem arr1_mem (w : Fin cfg1.W) : (Proc.devRef .tc (Pipeline.arrRef spec1 w) : DevRef τ sig) ∈ Pipeline.arrRefs (τ := τ) spec1 :=
  Finset.mem_map_of_mem _ (Finset.mem_image_of_mem _ (Finset.mem_univ w))
/-- They are among the held buffers: unscoped. -/
theorem arr1_S : Pipeline.arrRefs (τ := τ) spec1 ⊆ Pipeline.ucRefs τ sig :=
  Pipeline.arrRefs_sub_ucRefs spec1 (by decide)
/-- Region 1's entry contents: the valuation before item 2, at the TensorCore's references. -/
abbrev Ve1 (m : (ℓ : Loc nD τ sig) → Buf (Elt F) ℓ) (outs : Outs (F := F)) (c : Dev nD) (b : Ref sig .tc) : Buf (Elt F) ((c : Thread nD τ).loc b) := V2 m outs c (Proc.devRef .tc b)

theorem V3_at_main_v2 (m : (ℓ : Loc nD τ sig) → Buf (Elt F) ℓ) (outs : Outs (F := F)) (c : Dev nD) : V3 m outs c (Proc.devRef .tc main_v2) = outs 3 main_v2 c := by
  simp only [V3, Function.update_self]

/-- Across region 1 every held buffer but its arrays keeps its contents: the frame has it change its output arrays alone. -/
theorem rest1_eq (m : (ℓ : Loc nD τ sig) → Buf (Elt F) ℓ) (outs : Outs (F := F)) (c : Dev nD) : ∀ b ∈ (Pipeline.ucRefs τ sig) \ Pipeline.arrRefs (τ := τ) spec1, V3 m outs c b = V2 m outs c b := fun b hb => by
  have hn : b ∉ Pipeline.arrRefs (τ := τ) spec1 := (Finset.mem_sdiff.mp hb).2
  have h_main_v2 : b ≠ Proc.devRef .tc main_v2 := by rintro rfl; exact hn (by first | exact arr1_mem 2 | decide)
  simp only [V3, Function.update_of_ne h_main_v2]

/-- Each window's array of region 2 (custom call 2), as a device buffer, is in the region's array set. -/
theorem arr2_mem (w : Fin cfg2.W) : (Proc.devRef .tc (Pipeline.arrRef spec2 w) : DevRef τ sig) ∈ Pipeline.arrRefs (τ := τ) spec2 :=
  Finset.mem_map_of_mem _ (Finset.mem_image_of_mem _ (Finset.mem_univ w))
/-- They are among the held buffers: unscoped. -/
theorem arr2_S : Pipeline.arrRefs (τ := τ) spec2 ⊆ Pipeline.ucRefs τ sig :=
  Pipeline.arrRefs_sub_ucRefs spec2 (by decide)
/-- Region 2's entry contents: the valuation before item 3, at the TensorCore's references. -/
abbrev Ve2 (m : (ℓ : Loc nD τ sig) → Buf (Elt F) ℓ) (outs : Outs (F := F)) (c : Dev nD) (b : Ref sig .tc) : Buf (Elt F) ((c : Thread nD τ).loc b) := V3 m outs c (Proc.devRef .tc b)

theorem V4_at_main_v3_0 (m : (ℓ : Loc nD τ sig) → Buf (Elt F) ℓ) (outs : Outs (F := F)) (c : Dev nD) : V4 m outs c (Proc.devRef .tc main_v3_0) = outs 4 main_v3_0 c := by
  simp only [V4, Function.update_of_ne (StableHlo.devRef_ne_of_ne (by decide : (main_v3_0 : Ref sig .tc) ≠ main_v3_1)), Function.update_self]

theorem V4_at_main_v3_1 (m : (ℓ : Loc nD τ sig) → Buf (Elt F) ℓ) (outs : Outs (F := F)) (c : Dev nD) : V4 m outs c (Proc.devRef .tc main_v3_1) = outs 4 main_v3_1 c := by
  simp only [V4, Function.update_self]

/-- Across region 2 every held buffer but its arrays keeps its contents: the frame has it change its output arrays alone. -/
theorem rest2_eq (m : (ℓ : Loc nD τ sig) → Buf (Elt F) ℓ) (outs : Outs (F := F)) (c : Dev nD) : ∀ b ∈ (Pipeline.ucRefs τ sig) \ Pipeline.arrRefs (τ := τ) spec2, V4 m outs c b = V3 m outs c b := fun b hb => by
  have hn : b ∉ Pipeline.arrRefs (τ := τ) spec2 := (Finset.mem_sdiff.mp hb).2
  have h_main_v3_0 : b ≠ Proc.devRef .tc main_v3_0 := by rintro rfl; exact hn (by first | exact arr2_mem 3 | decide)
  have h_main_v3_1 : b ≠ Proc.devRef .tc main_v3_1 := by rintro rfl; exact hn (by first | exact arr2_mem 4 | decide)
  simp only [V4, Function.update_of_ne h_main_v3_0, Function.update_of_ne h_main_v3_1]

section

variable {Ix : Type} [DecidableEq Ix] {U : Type} [URA U] {Lvl : Type} [Preorder Lvl]

/-- The proof-data family: a supplied pipeline's entry is the kernel's generated `dat`, entered from `VeK` while the core owes `DK`. -/
def pdatsD (m : (ℓ : Loc nD τ sig) → Buf (Elt F) ℓ) (outs : Outs (F := F)) (𝒱₀ : Variants) (D0 : Dev nD → CellTallies nD τ sig Ix) (D1 : Dev nD → CellTallies nD τ sig Ix) (D2 : Dev nD → CellTallies nD τ sig Ix) :
    (p : Fin 3) → (c : Dev nD) → Dat τ (Elt F) Ix ℕ U Lvl (cfgs p) c
  | ⟨0, _⟩ => fun c => K0.dat 𝒱₀ (Ve0 m) D0 c
  | ⟨1, _⟩ => fun c => K1.dat 𝒱₀ (Ve1 m outs) D1 c
  | ⟨2, _⟩ => fun c => K2.dat 𝒱₀ (Ve2 m outs) D2 c
  | ⟨_ + 3, h⟩ => absurd h (Nat.not_lt.2 (Nat.le_add_left _ _))

/-! ## The supplied regions' records and entailments -/

-- a library definition stated over `pin pcs a p` unifies with the pinned configuration only when unification may unfold plain
-- definitions in a metavariable's type
set_option backward.isDefEq.respectTransparency.types false in
/-- Region 0 (custom call 0, item 1) from the kernel's run: its arrays held at `V1` in and at `V2` out. Every other held
    buffer, at `V1`, and `Er c` ride; the random-number register goes in and comes out; the core owes `D0 c`. -/
def R0D (m : (ℓ : Loc nD τ sig) → Buf (Elt F) ℓ) (outs : Outs (F := F)) (𝒱₀ : Variants) (L : GSem nD τ sig → Finset Ix) (lv : GSem nD τ sig → Ix → Lvl) (ι : Ix) (D0 : Dev nD → CellTallies nD τ sig Ix) (D1 : Dev nD → CellTallies nD τ sig Ix) (D2 : Dev nD → CellTallies nD τ sig Ix)
    (b : Dev nD → Lvl) (hcut : Pipeline.LevelCut (pcfgs (F := F)) adm ι L lv 0 D0 b) (Er : Dev nD → sProp (MT nD τ sig Ix (Elt F) ℕ U Lvl))
    (hout0_2 : ∀ c : Dev nD, outs 2 main_v1 c = ((pdatsD (U := U) (Lvl := Lvl) m outs 𝒱₀ D0 D1 D2) 0 c).arrAt 2 cfg0.N) :
    RegionSeg (pcfgs (F := F)) adm (pdatsD (U := U) (Lvl := Lvl) m outs 𝒱₀ D0 D1 D2) ι defs₀ 𝒱₀ L lv 0 :=
  Pipeline.RegionSeg.ofHeld (pcfgs (F := F)) adm (pdatsD (U := U) (Lvl := Lvl) m outs 𝒱₀ D0 D1 D2) ι defs₀ 𝒱₀ L lv 0 D0
    (fun c => iprop(∃ r, prngReg c r)) (fun c => iprop(∃ r, prngReg c r))
    launch0.toP rfl
    (fun c => (K0.body_obligation (U := U) (Lvl := Lvl) 𝒱₀ (Ve0 m) D0 ι c).loose) (fun _ _ => rfl) (fun _ => rfl)
    (fun c => ((pdatsD (U := U) (Lvl := Lvl) m outs 𝒱₀ D0 D1 D2) 0 c).share_full fun _ => rfl) (fun c => K0.hin (U := U) (Lvl := Lvl) 𝒱₀ (Ve0 m) D0 c) (fun c => K0.hout (U := U) (Lvl := Lvl) 𝒱₀ (Ve0 m) D0 c) b hcut
    (fun c => iprop(StableHlo.held (c : Thread nD τ) ((Pipeline.ucRefs τ sig) \ Pipeline.arrRefs (τ := τ) spec0) (V1 m c) ∗ Er c))
    (V1 m) (V2 m outs) (fun _ _ => rfl)
    (fun c => fun | 0 => (((pdatsD (U := U) (Lvl := Lvl) m outs 𝒱₀ D0 D1 D2) 0 c).arrAt_in 0 rfl _).trans ((K0.A_eq (U := U) (Lvl := Lvl) 𝒱₀ (Ve0 m) D0 c 0).trans (V2_of m outs c (Pipeline.arrRef spec0 0) (by decide)).symm) | 1 => (((pdatsD (U := U) (Lvl := Lvl) m outs 𝒱₀ D0 D1 D2) 0 c).arrAt_in 1 rfl _).trans ((K0.A_eq (U := U) (Lvl := Lvl) 𝒱₀ (Ve0 m) D0 c 1).trans (V2_of m outs c (Pipeline.arrRef spec0 1) (by decide)).symm) | 2 => (hout0_2 c).symm.trans (V2_at_main_v1 m outs c).symm | ⟨_ + 3, h⟩ => absurd h (Nat.not_lt.2 (Nat.le_add_left _ _)))

/-- Region 0's entry entailment: the held buffers at `V1` split at its arrays, and the rest state `E 0` sorted (`hEin`). -/
theorem hpre0D (m : (ℓ : Loc nD τ sig) → Buf (Elt F) ℓ) (outs : Outs (F := F)) (𝒱₀ : Variants) (L : GSem nD τ sig → Finset Ix) (lv : GSem nD τ sig → Ix → Lvl) (ι : Ix) (D0 : Dev nD → CellTallies nD τ sig Ix) (D1 : Dev nD → CellTallies nD τ sig Ix) (D2 : Dev nD → CellTallies nD τ sig Ix)
    (b : Dev nD → Lvl) (hcut : Pipeline.LevelCut (pcfgs (F := F)) adm ι L lv 0 D0 b)
    (E : Fin 4 → Dev nD → sProp (MT nD τ sig Ix (Elt F) ℕ U Lvl)) (Er : Dev nD → sProp (MT nD τ sig Ix (Elt F) ℕ U Lvl))
    (hEin : ∀ c : Dev nD, E 0 c ⊢ iprop((∃ r, prngReg c r) ∗ (∃ W, owes (c : Thread nD τ) (D0 c) W) ∗ Er c))
    (hout0_2 : ∀ c : Dev nD, outs 2 main_v1 c = ((pdatsD (U := U) (Lvl := Lvl) m outs 𝒱₀ D0 D1 D2) 0 c).arrAt 2 cfg0.N) (c : Dev nD) :
    iprop(StableHlo.held (c : Thread nD τ) (Pipeline.ucRefs τ sig) (V1 m c) ∗ E 0 c) ⊢ (R0D m outs 𝒱₀ L lv ι D0 D1 D2 b hcut Er hout0_2).pre c := by
  show _ ⊢ iprop(StableHlo.held (c : Thread nD τ) (Pipeline.arrRefs (τ := τ) spec0) (V1 m c) ∗ (∃ r, prngReg c r)
    ∗ (StableHlo.held (c : Thread nD τ) ((Pipeline.ucRefs τ sig) \ Pipeline.arrRefs (τ := τ) spec0) (V1 m c) ∗ Er c) ∗ ∃ W, owes (c : Thread nD τ) (D0 c) W)
  rw [StableHlo.held_sub_split (c : Thread nD τ) arr0_S (V1 m c)]
  iintro ⟨⟨Ha, Hr⟩, HE⟩
  ihave HE' := (hEin c) $$ HE
  icases HE' with ⟨Hp, HO, Hx⟩
  isplitl [Ha]; · iexact Ha
  isplitl [Hp]; · iexact Hp
  isplitl [Hr Hx]; · isplitl [Hr] <;> iassumption
  iexact HO

/-- Region 0's exit entailment: its arrays at `V2` rejoined with the other held buffers, unchanged (`rest0_eq`), and the rest state
    `E 1` made (`hEout`). -/
theorem hpost0D (m : (ℓ : Loc nD τ sig) → Buf (Elt F) ℓ) (outs : Outs (F := F)) (𝒱₀ : Variants) (L : GSem nD τ sig → Finset Ix) (lv : GSem nD τ sig → Ix → Lvl) (ι : Ix) (D0 : Dev nD → CellTallies nD τ sig Ix) (D1 : Dev nD → CellTallies nD τ sig Ix) (D2 : Dev nD → CellTallies nD τ sig Ix)
    (b : Dev nD → Lvl) (hcut : Pipeline.LevelCut (pcfgs (F := F)) adm ι L lv 0 D0 b)
    (E : Fin 4 → Dev nD → sProp (MT nD τ sig Ix (Elt F) ℕ U Lvl)) (Er : Dev nD → sProp (MT nD τ sig Ix (Elt F) ℕ U Lvl))
    (hEout : ∀ c : Dev nD, iprop((∃ r, prngReg c r) ∗ (∃ W, owes (c : Thread nD τ) (D0 c) W) ∗ Er c) ⊢ E 1 c)
    (hout0_2 : ∀ c : Dev nD, outs 2 main_v1 c = ((pdatsD (U := U) (Lvl := Lvl) m outs 𝒱₀ D0 D1 D2) 0 c).arrAt 2 cfg0.N) (c : Dev nD) :
    (R0D m outs 𝒱₀ L lv ι D0 D1 D2 b hcut Er hout0_2).post c ⊢ iprop(StableHlo.held (c : Thread nD τ) (Pipeline.ucRefs τ sig) (V2 m outs c) ∗ E 1 c) := by
  show iprop(StableHlo.held (c : Thread nD τ) (Pipeline.arrRefs (τ := τ) spec0) (V2 m outs c) ∗ (∃ r, prngReg c r)
    ∗ (StableHlo.held (c : Thread nD τ) ((Pipeline.ucRefs τ sig) \ Pipeline.arrRefs (τ := τ) spec0) (V1 m c) ∗ Er c) ∗ ∃ W, owes (c : Thread nD τ) (D0 c) W) ⊢ _
  rw [StableHlo.held_sub_split (c : Thread nD τ) arr0_S (V2 m outs c),
    StableHlo.held_congr (c : Thread nD τ) (S := (Pipeline.ucRefs τ sig) \ Pipeline.arrRefs (τ := τ) spec0) (rest0_eq m outs c)]
  iintro ⟨Ha, Hp, ⟨Hr, Hx⟩, HO⟩
  isplitl [Ha Hr]; · isplitl [Ha] <;> iassumption
  iapply (hEout c)
  isplitl [Hp]; · iexact Hp
  isplitl [HO]; · iexact HO
  iexact Hx

-- a library definition stated over `pin pcs a p` unifies with the pinned configuration only when unification may unfold plain
-- definitions in a metavariable's type
set_option backward.isDefEq.respectTransparency.types false in
/-- Region 1 (custom call 1, item 2) from the kernel's run: its arrays held at `V2` in and at `V3` out. Every other held
    buffer, at `V2`, and `Er c` ride; the random-number register goes in and comes out; the core owes `D1 c`. -/
def R1D (m : (ℓ : Loc nD τ sig) → Buf (Elt F) ℓ) (outs : Outs (F := F)) (𝒱₀ : Variants) (L : GSem nD τ sig → Finset Ix) (lv : GSem nD τ sig → Ix → Lvl) (ι : Ix) (D0 : Dev nD → CellTallies nD τ sig Ix) (D1 : Dev nD → CellTallies nD τ sig Ix) (D2 : Dev nD → CellTallies nD τ sig Ix)
    (b : Dev nD → Lvl) (hcut : Pipeline.LevelCut (pcfgs (F := F)) adm ι L lv 1 D1 b) (Er : Dev nD → sProp (MT nD τ sig Ix (Elt F) ℕ U Lvl))
    (hout1_2 : ∀ c : Dev nD, outs 3 main_v2 c = ((pdatsD (U := U) (Lvl := Lvl) m outs 𝒱₀ D0 D1 D2) 1 c).arrAt 2 cfg1.N) :
    RegionSeg (pcfgs (F := F)) adm (pdatsD (U := U) (Lvl := Lvl) m outs 𝒱₀ D0 D1 D2) ι defs₀ 𝒱₀ L lv 1 :=
  Pipeline.RegionSeg.ofHeld (pcfgs (F := F)) adm (pdatsD (U := U) (Lvl := Lvl) m outs 𝒱₀ D0 D1 D2) ι defs₀ 𝒱₀ L lv 1 D1
    (fun c => iprop(∃ r, prngReg c r)) (fun c => iprop(∃ r, prngReg c r))
    launch1.toP rfl
    (fun c => (K1.body_obligation (U := U) (Lvl := Lvl) 𝒱₀ (Ve1 m outs) D1 ι c).loose) (fun _ _ => rfl) (fun _ => rfl)
    (fun c => ((pdatsD (U := U) (Lvl := Lvl) m outs 𝒱₀ D0 D1 D2) 1 c).share_full fun _ => rfl) (fun _ => .rfl) (fun _ => .rfl) b hcut
    (fun c => iprop(StableHlo.held (c : Thread nD τ) ((Pipeline.ucRefs τ sig) \ Pipeline.arrRefs (τ := τ) spec1) (V2 m outs c) ∗ Er c))
    (V2 m outs) (V3 m outs) (fun _ _ => rfl)
    (fun c => fun | 0 => (((pdatsD (U := U) (Lvl := Lvl) m outs 𝒱₀ D0 D1 D2) 1 c).arrAt_in 0 rfl _).trans ((K1.A_eq (U := U) (Lvl := Lvl) 𝒱₀ (Ve1 m outs) D1 c 0).trans (V3_of m outs c (Pipeline.arrRef spec1 0) (by decide)).symm) | 1 => (((pdatsD (U := U) (Lvl := Lvl) m outs 𝒱₀ D0 D1 D2) 1 c).arrAt_in 1 rfl _).trans ((K1.A_eq (U := U) (Lvl := Lvl) 𝒱₀ (Ve1 m outs) D1 c 1).trans (V3_of m outs c (Pipeline.arrRef spec1 1) (by decide)).symm) | 2 => (hout1_2 c).symm.trans (V3_at_main_v2 m outs c).symm | ⟨_ + 3, h⟩ => absurd h (Nat.not_lt.2 (Nat.le_add_left _ _)))

/-- Region 1's entry entailment: the held buffers at `V2` split at its arrays, and the rest state `E 1` sorted (`hEin`). -/
theorem hpre1D (m : (ℓ : Loc nD τ sig) → Buf (Elt F) ℓ) (outs : Outs (F := F)) (𝒱₀ : Variants) (L : GSem nD τ sig → Finset Ix) (lv : GSem nD τ sig → Ix → Lvl) (ι : Ix) (D0 : Dev nD → CellTallies nD τ sig Ix) (D1 : Dev nD → CellTallies nD τ sig Ix) (D2 : Dev nD → CellTallies nD τ sig Ix)
    (b : Dev nD → Lvl) (hcut : Pipeline.LevelCut (pcfgs (F := F)) adm ι L lv 1 D1 b)
    (E : Fin 4 → Dev nD → sProp (MT nD τ sig Ix (Elt F) ℕ U Lvl)) (Er : Dev nD → sProp (MT nD τ sig Ix (Elt F) ℕ U Lvl))
    (hEin : ∀ c : Dev nD, E 1 c ⊢ iprop((∃ r, prngReg c r) ∗ (∃ W, owes (c : Thread nD τ) (D1 c) W) ∗ Er c))
    (hout1_2 : ∀ c : Dev nD, outs 3 main_v2 c = ((pdatsD (U := U) (Lvl := Lvl) m outs 𝒱₀ D0 D1 D2) 1 c).arrAt 2 cfg1.N) (c : Dev nD) :
    iprop(StableHlo.held (c : Thread nD τ) (Pipeline.ucRefs τ sig) (V2 m outs c) ∗ E 1 c) ⊢ (R1D m outs 𝒱₀ L lv ι D0 D1 D2 b hcut Er hout1_2).pre c := by
  show _ ⊢ iprop(StableHlo.held (c : Thread nD τ) (Pipeline.arrRefs (τ := τ) spec1) (V2 m outs c) ∗ (∃ r, prngReg c r)
    ∗ (StableHlo.held (c : Thread nD τ) ((Pipeline.ucRefs τ sig) \ Pipeline.arrRefs (τ := τ) spec1) (V2 m outs c) ∗ Er c) ∗ ∃ W, owes (c : Thread nD τ) (D1 c) W)
  rw [StableHlo.held_sub_split (c : Thread nD τ) arr1_S (V2 m outs c)]
  iintro ⟨⟨Ha, Hr⟩, HE⟩
  ihave HE' := (hEin c) $$ HE
  icases HE' with ⟨Hp, HO, Hx⟩
  isplitl [Ha]; · iexact Ha
  isplitl [Hp]; · iexact Hp
  isplitl [Hr Hx]; · isplitl [Hr] <;> iassumption
  iexact HO

/-- Region 1's exit entailment: its arrays at `V3` rejoined with the other held buffers, unchanged (`rest1_eq`), and the rest state
    `E 2` made (`hEout`). -/
theorem hpost1D (m : (ℓ : Loc nD τ sig) → Buf (Elt F) ℓ) (outs : Outs (F := F)) (𝒱₀ : Variants) (L : GSem nD τ sig → Finset Ix) (lv : GSem nD τ sig → Ix → Lvl) (ι : Ix) (D0 : Dev nD → CellTallies nD τ sig Ix) (D1 : Dev nD → CellTallies nD τ sig Ix) (D2 : Dev nD → CellTallies nD τ sig Ix)
    (b : Dev nD → Lvl) (hcut : Pipeline.LevelCut (pcfgs (F := F)) adm ι L lv 1 D1 b)
    (E : Fin 4 → Dev nD → sProp (MT nD τ sig Ix (Elt F) ℕ U Lvl)) (Er : Dev nD → sProp (MT nD τ sig Ix (Elt F) ℕ U Lvl))
    (hEout : ∀ c : Dev nD, iprop((∃ r, prngReg c r) ∗ (∃ W, owes (c : Thread nD τ) (D1 c) W) ∗ Er c) ⊢ E 2 c)
    (hout1_2 : ∀ c : Dev nD, outs 3 main_v2 c = ((pdatsD (U := U) (Lvl := Lvl) m outs 𝒱₀ D0 D1 D2) 1 c).arrAt 2 cfg1.N) (c : Dev nD) :
    (R1D m outs 𝒱₀ L lv ι D0 D1 D2 b hcut Er hout1_2).post c ⊢ iprop(StableHlo.held (c : Thread nD τ) (Pipeline.ucRefs τ sig) (V3 m outs c) ∗ E 2 c) := by
  show iprop(StableHlo.held (c : Thread nD τ) (Pipeline.arrRefs (τ := τ) spec1) (V3 m outs c) ∗ (∃ r, prngReg c r)
    ∗ (StableHlo.held (c : Thread nD τ) ((Pipeline.ucRefs τ sig) \ Pipeline.arrRefs (τ := τ) spec1) (V2 m outs c) ∗ Er c) ∗ ∃ W, owes (c : Thread nD τ) (D1 c) W) ⊢ _
  rw [StableHlo.held_sub_split (c : Thread nD τ) arr1_S (V3 m outs c),
    StableHlo.held_congr (c : Thread nD τ) (S := (Pipeline.ucRefs τ sig) \ Pipeline.arrRefs (τ := τ) spec1) (rest1_eq m outs c)]
  iintro ⟨Ha, Hp, ⟨Hr, Hx⟩, HO⟩
  isplitl [Ha Hr]; · isplitl [Ha] <;> iassumption
  iapply (hEout c)
  isplitl [Hp]; · iexact Hp
  isplitl [HO]; · iexact HO
  iexact Hx

-- a library definition stated over `pin pcs a p` unifies with the pinned configuration only when unification may unfold plain
-- definitions in a metavariable's type
set_option backward.isDefEq.respectTransparency.types false in
/-- Region 2 (custom call 2, item 3) from the kernel's run: its arrays held at `V3` in and at `V4` out. Every other held
    buffer, at `V3`, and `Er c` ride; the random-number register goes in and comes out; the core owes `D2 c`. -/
def R2D (m : (ℓ : Loc nD τ sig) → Buf (Elt F) ℓ) (outs : Outs (F := F)) (𝒱₀ : Variants) (L : GSem nD τ sig → Finset Ix) (lv : GSem nD τ sig → Ix → Lvl) (ι : Ix) (D0 : Dev nD → CellTallies nD τ sig Ix) (D1 : Dev nD → CellTallies nD τ sig Ix) (D2 : Dev nD → CellTallies nD τ sig Ix)
    (b : Dev nD → Lvl) (hcut : Pipeline.LevelCut (pcfgs (F := F)) adm ι L lv 2 D2 b) (Er : Dev nD → sProp (MT nD τ sig Ix (Elt F) ℕ U Lvl))
    (hout2_3 : ∀ c : Dev nD, outs 4 main_v3_0 c = ((pdatsD (U := U) (Lvl := Lvl) m outs 𝒱₀ D0 D1 D2) 2 c).arrAt 3 cfg2.N) (hout2_4 : ∀ c : Dev nD, outs 4 main_v3_1 c = ((pdatsD (U := U) (Lvl := Lvl) m outs 𝒱₀ D0 D1 D2) 2 c).arrAt 4 cfg2.N) :
    RegionSeg (pcfgs (F := F)) adm (pdatsD (U := U) (Lvl := Lvl) m outs 𝒱₀ D0 D1 D2) ι defs₀ 𝒱₀ L lv 2 :=
  Pipeline.RegionSeg.ofHeld (pcfgs (F := F)) adm (pdatsD (U := U) (Lvl := Lvl) m outs 𝒱₀ D0 D1 D2) ι defs₀ 𝒱₀ L lv 2 D2
    (fun c => iprop(∃ r, prngReg c r)) (fun c => iprop(∃ r, prngReg c r))
    launch2.toP rfl
    (fun c => (K2.body_obligation (U := U) (Lvl := Lvl) 𝒱₀ (Ve2 m outs) D2 ι c).loose) (fun _ _ => rfl) (fun _ => rfl)
    (fun c => ((pdatsD (U := U) (Lvl := Lvl) m outs 𝒱₀ D0 D1 D2) 2 c).share_full fun _ => rfl) (fun _ => .rfl) (fun _ => .rfl) b hcut
    (fun c => iprop(StableHlo.held (c : Thread nD τ) ((Pipeline.ucRefs τ sig) \ Pipeline.arrRefs (τ := τ) spec2) (V3 m outs c) ∗ Er c))
    (V3 m outs) (V4 m outs) (fun _ _ => rfl)
    (fun c => fun | 0 => (((pdatsD (U := U) (Lvl := Lvl) m outs 𝒱₀ D0 D1 D2) 2 c).arrAt_in 0 rfl _).trans ((K2.A_eq (U := U) (Lvl := Lvl) 𝒱₀ (Ve2 m outs) D2 c 0).trans (V4_of m outs c (Pipeline.arrRef spec2 0) (by decide)).symm) | 1 => (((pdatsD (U := U) (Lvl := Lvl) m outs 𝒱₀ D0 D1 D2) 2 c).arrAt_in 1 rfl _).trans ((K2.A_eq (U := U) (Lvl := Lvl) 𝒱₀ (Ve2 m outs) D2 c 1).trans (V4_of m outs c (Pipeline.arrRef spec2 1) (by decide)).symm) | 2 => (((pdatsD (U := U) (Lvl := Lvl) m outs 𝒱₀ D0 D1 D2) 2 c).arrAt_in 2 rfl _).trans ((K2.A_eq (U := U) (Lvl := Lvl) 𝒱₀ (Ve2 m outs) D2 c 2).trans (V4_of m outs c (Pipeline.arrRef spec2 2) (by decide)).symm) | 3 => (hout2_3 c).symm.trans (V4_at_main_v3_0 m outs c).symm | 4 => (hout2_4 c).symm.trans (V4_at_main_v3_1 m outs c).symm | ⟨_ + 5, h⟩ => absurd h (Nat.not_lt.2 (Nat.le_add_left _ _)))

/-- Region 2's entry entailment: the held buffers at `V3` split at its arrays, and the rest state `E 2` sorted (`hEin`). -/
theorem hpre2D (m : (ℓ : Loc nD τ sig) → Buf (Elt F) ℓ) (outs : Outs (F := F)) (𝒱₀ : Variants) (L : GSem nD τ sig → Finset Ix) (lv : GSem nD τ sig → Ix → Lvl) (ι : Ix) (D0 : Dev nD → CellTallies nD τ sig Ix) (D1 : Dev nD → CellTallies nD τ sig Ix) (D2 : Dev nD → CellTallies nD τ sig Ix)
    (b : Dev nD → Lvl) (hcut : Pipeline.LevelCut (pcfgs (F := F)) adm ι L lv 2 D2 b)
    (E : Fin 4 → Dev nD → sProp (MT nD τ sig Ix (Elt F) ℕ U Lvl)) (Er : Dev nD → sProp (MT nD τ sig Ix (Elt F) ℕ U Lvl))
    (hEin : ∀ c : Dev nD, E 2 c ⊢ iprop((∃ r, prngReg c r) ∗ (∃ W, owes (c : Thread nD τ) (D2 c) W) ∗ Er c))
    (hout2_3 : ∀ c : Dev nD, outs 4 main_v3_0 c = ((pdatsD (U := U) (Lvl := Lvl) m outs 𝒱₀ D0 D1 D2) 2 c).arrAt 3 cfg2.N) (hout2_4 : ∀ c : Dev nD, outs 4 main_v3_1 c = ((pdatsD (U := U) (Lvl := Lvl) m outs 𝒱₀ D0 D1 D2) 2 c).arrAt 4 cfg2.N) (c : Dev nD) :
    iprop(StableHlo.held (c : Thread nD τ) (Pipeline.ucRefs τ sig) (V3 m outs c) ∗ E 2 c) ⊢ (R2D m outs 𝒱₀ L lv ι D0 D1 D2 b hcut Er hout2_3 hout2_4).pre c := by
  show _ ⊢ iprop(StableHlo.held (c : Thread nD τ) (Pipeline.arrRefs (τ := τ) spec2) (V3 m outs c) ∗ (∃ r, prngReg c r)
    ∗ (StableHlo.held (c : Thread nD τ) ((Pipeline.ucRefs τ sig) \ Pipeline.arrRefs (τ := τ) spec2) (V3 m outs c) ∗ Er c) ∗ ∃ W, owes (c : Thread nD τ) (D2 c) W)
  rw [StableHlo.held_sub_split (c : Thread nD τ) arr2_S (V3 m outs c)]
  iintro ⟨⟨Ha, Hr⟩, HE⟩
  ihave HE' := (hEin c) $$ HE
  icases HE' with ⟨Hp, HO, Hx⟩
  isplitl [Ha]; · iexact Ha
  isplitl [Hp]; · iexact Hp
  isplitl [Hr Hx]; · isplitl [Hr] <;> iassumption
  iexact HO

/-- Region 2's exit entailment: its arrays at `V4` rejoined with the other held buffers, unchanged (`rest2_eq`), and the rest state
    `E 3` made (`hEout`). -/
theorem hpost2D (m : (ℓ : Loc nD τ sig) → Buf (Elt F) ℓ) (outs : Outs (F := F)) (𝒱₀ : Variants) (L : GSem nD τ sig → Finset Ix) (lv : GSem nD τ sig → Ix → Lvl) (ι : Ix) (D0 : Dev nD → CellTallies nD τ sig Ix) (D1 : Dev nD → CellTallies nD τ sig Ix) (D2 : Dev nD → CellTallies nD τ sig Ix)
    (b : Dev nD → Lvl) (hcut : Pipeline.LevelCut (pcfgs (F := F)) adm ι L lv 2 D2 b)
    (E : Fin 4 → Dev nD → sProp (MT nD τ sig Ix (Elt F) ℕ U Lvl)) (Er : Dev nD → sProp (MT nD τ sig Ix (Elt F) ℕ U Lvl))
    (hEout : ∀ c : Dev nD, iprop((∃ r, prngReg c r) ∗ (∃ W, owes (c : Thread nD τ) (D2 c) W) ∗ Er c) ⊢ E 3 c)
    (hout2_3 : ∀ c : Dev nD, outs 4 main_v3_0 c = ((pdatsD (U := U) (Lvl := Lvl) m outs 𝒱₀ D0 D1 D2) 2 c).arrAt 3 cfg2.N) (hout2_4 : ∀ c : Dev nD, outs 4 main_v3_1 c = ((pdatsD (U := U) (Lvl := Lvl) m outs 𝒱₀ D0 D1 D2) 2 c).arrAt 4 cfg2.N) (c : Dev nD) :
    (R2D m outs 𝒱₀ L lv ι D0 D1 D2 b hcut Er hout2_3 hout2_4).post c ⊢ iprop(StableHlo.held (c : Thread nD τ) (Pipeline.ucRefs τ sig) (V4 m outs c) ∗ E 3 c) := by
  show iprop(StableHlo.held (c : Thread nD τ) (Pipeline.arrRefs (τ := τ) spec2) (V4 m outs c) ∗ (∃ r, prngReg c r)
    ∗ (StableHlo.held (c : Thread nD τ) ((Pipeline.ucRefs τ sig) \ Pipeline.arrRefs (τ := τ) spec2) (V3 m outs c) ∗ Er c) ∗ ∃ W, owes (c : Thread nD τ) (D2 c) W) ⊢ _
  rw [StableHlo.held_sub_split (c : Thread nD τ) arr2_S (V4 m outs c),
    StableHlo.held_congr (c : Thread nD τ) (S := (Pipeline.ucRefs τ sig) \ Pipeline.arrRefs (τ := τ) spec2) (rest2_eq m outs c)]
  iintro ⟨Ha, Hp, ⟨Hr, Hx⟩, HO⟩
  isplitl [Ha Hr]; · isplitl [Ha] <;> iassumption
  iapply (hEout c)
  isplitl [Hp]; · iexact Hp
  isplitl [HO]; · iexact HO
  iexact Hx

end

/-! ## The frame, those records supplied -/

set_option backward.isDefEq.respectTransparency.types false in
/-- `Gen.frame_cond`'s conclusion from its hypotheses less the records of custom calls 0, 1, 2; the module's header says what stands in
    their place. -/
theorem frame_condD (m : (ℓ : Loc nD τ sig) → Buf (Elt F) ℓ) {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (D0 : Dev nD → CellTallies nD τ sig Ix) (D1 : Dev nD → CellTallies nD τ sig Ix) (D2 : Dev nD → CellTallies nD τ sig Ix)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    -- region 0 (custom call 0), its record supplied
    (b0 : Dev nD → Lvl) (hcut0 : Pipeline.LevelCut (pcfgs (F := F)) adm ι L lv 0 D0 b0) (Er0 : Dev nD → sProp (MT nD τ sig Ix (Elt F) ℕ U Lvl))
    (hEin0 : ∀ c : Dev nD, E 0 c ⊢ iprop((∃ r, prngReg c r) ∗ (∃ W, owes (c : Thread nD τ) (D0 c) W) ∗ Er0 c))
    (hEout0 : ∀ c : Dev nD, iprop((∃ r, prngReg c r) ∗ (∃ W, owes (c : Thread nD τ) (D0 c) W) ∗ Er0 c) ⊢ E 1 c)
    (hout0_2 : ∀ c : Dev nD, outs 2 main_v1 c = ((pdatsD (U := U) (Lvl := Lvl) m outs 𝒱₀ D0 D1 D2) 0 c).arrAt 2 cfg0.N)
    -- region 1 (custom call 1), its record supplied
    (b1 : Dev nD → Lvl) (hcut1 : Pipeline.LevelCut (pcfgs (F := F)) adm ι L lv 1 D1 b1) (Er1 : Dev nD → sProp (MT nD τ sig Ix (Elt F) ℕ U Lvl))
    (hEin1 : ∀ c : Dev nD, E 1 c ⊢ iprop((∃ r, prngReg c r) ∗ (∃ W, owes (c : Thread nD τ) (D1 c) W) ∗ Er1 c))
    (hEout1 : ∀ c : Dev nD, iprop((∃ r, prngReg c r) ∗ (∃ W, owes (c : Thread nD τ) (D1 c) W) ∗ Er1 c) ⊢ E 2 c)
    (hout1_2 : ∀ c : Dev nD, outs 3 main_v2 c = ((pdatsD (U := U) (Lvl := Lvl) m outs 𝒱₀ D0 D1 D2) 1 c).arrAt 2 cfg1.N)
    -- region 2 (custom call 2), its record supplied
    (b2 : Dev nD → Lvl) (hcut2 : Pipeline.LevelCut (pcfgs (F := F)) adm ι L lv 2 D2 b2) (Er2 : Dev nD → sProp (MT nD τ sig Ix (Elt F) ℕ U Lvl))
    (hEin2 : ∀ c : Dev nD, E 2 c ⊢ iprop((∃ r, prngReg c r) ∗ (∃ W, owes (c : Thread nD τ) (D2 c) W) ∗ Er2 c))
    (hEout2 : ∀ c : Dev nD, iprop((∃ r, prngReg c r) ∗ (∃ W, owes (c : Thread nD τ) (D2 c) W) ∗ Er2 c) ⊢ E 3 c)
    (hout2_3 : ∀ c : Dev nD, outs 4 main_v3_0 c = ((pdatsD (U := U) (Lvl := Lvl) m outs 𝒱₀ D0 D1 D2) 2 c).arrAt 3 cfg2.N) (hout2_4 : ∀ c : Dev nD, outs 4 main_v3_1 c = ((pdatsD (U := U) (Lvl := Lvl) m outs 𝒱₀ D0 D1 D2) 2 c).arrAt 4 cfg2.N) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  frame_cond m EP ι 𝒱₀ L lv hL ρ outs (pdatsD (U := U) (Lvl := Lvl) m outs 𝒱₀ D0 D1 D2) O₀ G u₀ hu₀ E hE0 hE3
    (R0D m outs 𝒱₀ L lv ι D0 D1 D2 b0 hcut0 Er0 hout0_2)
      (hpre0D m outs 𝒱₀ L lv ι D0 D1 D2 b0 hcut0 E Er0 hEin0 hout0_2)
      (hpost0D m outs 𝒱₀ L lv ι D0 D1 D2 b0 hcut0 E Er0 hEout0 hout0_2)
    (R1D m outs 𝒱₀ L lv ι D0 D1 D2 b1 hcut1 Er1 hout1_2)
      (hpre1D m outs 𝒱₀ L lv ι D0 D1 D2 b1 hcut1 E Er1 hEin1 hout1_2)
      (hpost1D m outs 𝒱₀ L lv ι D0 D1 D2 b1 hcut1 E Er1 hEout1 hout1_2)
    (R2D m outs 𝒱₀ L lv ι D0 D1 D2 b2 hcut2 Er2 hout2_3 hout2_4)
      (hpre2D m outs 𝒱₀ L lv ι D0 D1 D2 b2 hcut2 E Er2 hEin2 hout2_3 hout2_4)
      (hpost2D m outs 𝒱₀ L lv ι D0 D1 D2 b2 hcut2 E Er2 hEout2 hout2_3 hout2_4)

end Cert.KernelIdeal.Own

end
-- ==== Proof.KernelIdeal.Run.lean ====
/- The run of the whole program, for any float values: from any memory with zero counters, every execution ends with
   every unscoped buffer at the valuation `V5` of its operations and calls, each call's output arrays at what its
   proof data leave there, and with every semaphore counter at zero. -/
module

public import proofs.«01_k».proof.Proof.KernelIdeal.RegionsD

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

/-! ## What the three calls leave in their arrays -/

abbrev UK : Type := URounds (GSem nD τ sig) Unit
local notation "𝕄" => MT nD τ sig Unit (Elt F) ℕ UK ℕ

/-- No core owes another anything. -/
abbrev DZ : Dev nD → CellTallies nD τ sig Unit := fun _ => 0
/-- Each core's own counters may be waited on; one level. -/
def LK : GSem nD τ sig → Finset Unit := fun g => if g.1.2 = .tc then {()} else ∅
def lvK : GSem nD τ sig → Unit → ℕ := fun _ _ => 0

variable (m : (ℓ : Loc nD τ sig) → Buf (Elt F) ℓ) (ρ : Dev nD → PrngReg)

/-- The scales' array after the first call. -/
def x1 (c : Dev nD) : Buf (Elt F) ((c : Thread nD τ).loc main_v1) :=
  (K0.dat (Ix := Unit) (U := UK) (Lvl := ℕ) Variants.none (Ve0 m) DZ c).arrAt 2 cfg0.N
def o1 : Outs (F := F) := fun _ r c =>
  Function.update (fun r : Ref sig .tc => m ((c : Thread nD τ).loc r)) main_v1 (x1 m c) r
/-- The codes of `w` after the second call. -/
def x2 (c : Dev nD) : Buf (Elt F) ((c : Thread nD τ).loc main_v2) :=
  (K1.dat (Ix := Unit) (U := UK) (Lvl := ℕ) Variants.none (Ve1 m (o1 m)) DZ c).arrAt 2 cfg1.N
def o2 : Outs (F := F) := fun k r c => Function.update (fun r : Ref sig .tc => o1 m k r c) main_v2 (x2 m c) r
/-- The products after the third call. -/
def x3 (c : Dev nD) : Buf (Elt F) ((c : Thread nD τ).loc main_v3_0) :=
  (K2.dat (Ix := Unit) (U := UK) (Lvl := ℕ) Variants.none (Ve2 m (o2 m)) DZ c).arrAt 3 cfg2.N
/-- The codes of `dy` after the third call. -/
def x4 (c : Dev nD) : Buf (Elt F) ((c : Thread nD τ).loc main_v3_1) :=
  (K2.dat (Ix := Unit) (U := UK) (Lvl := ℕ) Variants.none (Ve2 m (o2 m)) DZ c).arrAt 4 cfg2.N
def oK : Outs (F := F) := fun k r c =>
  Function.update (Function.update (fun r : Ref sig .tc => o2 m k r c) main_v3_0 (x3 m c)) main_v3_1 (x4 m c) r

theorem o1_v1 (k : ℕ) (c : Dev nD) : o1 m k main_v1 c = x1 m c := by
  unfold o1; exact Function.update_self ..
theorem o2_v1 (k : ℕ) (c : Dev nD) : o2 m k main_v1 c = x1 m c := by
  unfold o2; rw [Function.update_of_ne (by decide)]; exact o1_v1 m k c
theorem o2_v2 (k : ℕ) (c : Dev nD) : o2 m k main_v2 c = x2 m c := by
  unfold o2; exact Function.update_self ..
theorem oK_v1 (k : ℕ) (c : Dev nD) : oK m k main_v1 c = x1 m c := by
  unfold oK; rw [Function.update_of_ne (by decide), Function.update_of_ne (by decide)]; exact o2_v1 m k c
theorem oK_v2 (k : ℕ) (c : Dev nD) : oK m k main_v2 c = x2 m c := by
  unfold oK; rw [Function.update_of_ne (by decide), Function.update_of_ne (by decide)]; exact o2_v2 m k c
theorem oK_v3_0 (k : ℕ) (c : Dev nD) : oK m k main_v3_0 c = x3 m c := by
  unfold oK; rw [Function.update_of_ne (by decide)]; exact Function.update_self ..
theorem oK_v3_1 (k : ℕ) (c : Dev nD) : oK m k main_v3_1 c = x4 m c := by
  unfold oK; exact Function.update_self ..

theorem V2_oK (c : Dev nD) : V2 m (oK m) c = V2 m (o1 m) c := by
  show Function.update _ _ _ = Function.update _ _ _
  rw [oK_v1, o1_v1]
theorem V2_o2 (c : Dev nD) : V2 m (o2 m) c = V2 m (o1 m) c := by
  show Function.update _ _ _ = Function.update _ _ _
  rw [o2_v1, o1_v1]
theorem V3_oK (c : Dev nD) : V3 m (oK m) c = V3 m (o2 m) c := by
  show Function.update (V2 m (oK m) c) _ _ = Function.update (V2 m (o2 m) c) _ _
  rw [oK_v2, o2_v2, V2_oK, V2_o2]
theorem Ve1_oK : Ve1 m (oK m) = Ve1 m (o1 m) := funext fun c => funext fun b => congrFun (V2_oK m c) _
theorem Ve2_oK : Ve2 m (oK m) = Ve2 m (o2 m) := funext fun c => funext fun b => congrFun (V3_oK m c) _

/-! ## The run -/

/-- What rides beside the held buffers between the items: the random-number register, and nothing owed. -/
def EK (_ : Fin 4) (c : Dev nD) : sProp 𝕄 := iprop((∃ r, prngReg c r) ∗ (∃ W, owes (c : Thread nD τ) (0 : CellTallies nD τ sig Unit) W) ∗ emp)

theorem LK_of_not_tc (g : GSem nD τ sig) (h : g.1.2 ≠ .tc) : LK g = ∅ := if_neg h

theorem cutK (p : Fin 3) : Pipeline.LevelCut (pcfgs (F := F)) adm () LK lvK p DZ (fun _ => 0) where
  hι c w s := by
    show () ∈ (if (Proc.tc : Proc τ) = .tc then ({()} : Finset Unit) else ∅)
    rw [if_pos rfl]; exact Finset.mem_singleton_self _
  hιb _ _ _ := le_refl _
  hD _ _ _ h := absurd h (lt_irrefl _)

/-- The proof data of the three calls. -/
abbrev pdK : (p : Fin 3) → (c : Dev nD) → Dat τ (Elt F) Unit ℕ UK ℕ (cfgs p) c := pdatsD m (oK m) Variants.none DZ DZ DZ

theorem out0 (c : Dev nD) : oK m 2 main_v1 c = (pdK m 0 c).arrAt 2 cfg0.N := oK_v1 m 2 c
theorem out1 (c : Dev nD) : oK m 3 main_v2 c = (pdK m 1 c).arrAt 2 cfg1.N := by
  rw [oK_v2]
  show x2 m c = (K1.dat (Ix := Unit) (U := UK) (Lvl := ℕ) Variants.none (Ve1 m (oK m)) DZ c).arrAt 2 cfg1.N
  rw [Ve1_oK]; rfl
theorem out2_3 (c : Dev nD) : oK m 4 main_v3_0 c = (pdK m 2 c).arrAt 3 cfg2.N := by
  rw [oK_v3_0]
  show x3 m c = (K2.dat (Ix := Unit) (U := UK) (Lvl := ℕ) Variants.none (Ve2 m (oK m)) DZ c).arrAt 3 cfg2.N
  rw [Ve2_oK]; rfl
theorem out2_4 (c : Dev nD) : oK m 4 main_v3_1 c = (pdK m 2 c).arrAt 4 cfg2.N := by
  rw [oK_v3_1]
  show x4 m c = (K2.dat (Ix := Unit) (U := UK) (Lvl := ℕ) Variants.none (Ve2 m (oK m)) DZ c).arrAt 4 cfg2.N
  rw [Ve2_oK]; rfl

def R0 : RegionSeg (pcfgs (F := F)) adm (pdK m) () defs₀ Variants.none LK lvK 0 :=
  R0D m (oK m) Variants.none LK lvK () DZ DZ DZ (fun _ => 0) (cutK 0) (fun _ => iprop(emp)) (out0 m)
def R1 : RegionSeg (pcfgs (F := F)) adm (pdK m) () defs₀ Variants.none LK lvK 1 :=
  R1D m (oK m) Variants.none LK lvK () DZ DZ DZ (fun _ => 0) (cutK 1) (fun _ => iprop(emp)) (out1 m)
def R2 : RegionSeg (pcfgs (F := F)) adm (pdK m) () defs₀ Variants.none LK lvK 2 :=
  R2D m (oK m) Variants.none LK lvK () DZ DZ DZ (fun _ => 0) (cutK 2) (fun _ => iprop(emp)) (out2_3 m) (out2_4 m)

theorem hinitK : iprop((bigSep Finset.univ fun c : Dev nD => iprop(unscopedSems0 c ∗ owes (c : Thread nD τ) (DZ c) ∅ ∗ Pipeline.launchCred DZ c ∗ prngReg c (ρ c) ∗ emp)) ∗ levAts LK lvK)
      ⊢ (|={Set.univ}=> bigSep Finset.univ (EK (F := F) 0) : sProp 𝕄) := by
  refine Pipeline.initEach LK lvK fun c => ?_
  unfold EK
  iintro ⟨⟨-, HO, -, Hp, -⟩, -⟩
  imodintro
  isplitl [Hp]; · iexists _; iexact Hp
  isplitl [HO]; · iexists ∅; iexact HO
  iempintro

set_option backward.isDefEq.respectTransparency.types false in
/-- Every execution of the whole program ends, with every unscoped buffer at `V5` and every counter at zero. -/
theorem run : θ_run defs (onTc (τ := τ) (main (F := F))) ⟨m, fun _ => 0, ρ⟩ (fun r => (∀ c : Dev nD,
      ∀ b ∈ Pipeline.ucRefs τ sig, r.2.mem ((c : Thread nD τ).1, b) = V5 m (oK m) c b) ∧ r.2.sem = fun _ => 0) := by
  refine Pipeline.θ_run_regions_kit_dev_sems (pcfgs (F := F)) adm (pdK m) () cellOf_inj (emb₁ (A := UK)) defs₀ Variants.none LK lvK m ρ main
    (segs m (oK m) Variants.none LK lvK (EK (F := F)) () (pdK m) (R0 m) (R1 m) (R2 m))
    (fun c Q => by
      rewrite [main_chain c, Seg.run_eq_chain,
        show (segs m (oK m) Variants.none LK lvK (EK (F := F)) () (pdK m) (R0 m) (R1 m) (R2 m) c).map Seg.prog = [
          StableHlo.seq hostOps0,
          Prog.lift (.customCall (Pipeline.entry 0) ()),
          Prog.lift (.customCall (Pipeline.entry 1) ()),
          Prog.lift (.customCall (Pipeline.entry 2) ()),
          StableHlo.seq hostOps3 ] from rfl]
      dsimp (config := { failIfUnchanged := false }) only
      exact .rfl)
    (fun c => by simp only [segs, Seg.pipes_host, Seg.pipes_region, Seg.pipes_nil]; decide) DZ LK_of_not_tc
    (fun _ => iprop(emp)) (initOf (Pipeline.cells cfgs cellOf_inj) (Pipeline.launchToks cfgs cellOf_inj))
    (by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ EK (F := F) 0 c))
    (Tₙ := fun c => StableHlo.held (c : Thread nD τ) (Pipeline.ucRefs τ sig) (V5 m (oK m) c))
    (hch := fun c => ⟨.rfl,
      hpre0D m (oK m) Variants.none LK lvK () DZ DZ DZ (fun _ => 0) (cutK 0) (EK (F := F)) (fun _ => iprop(emp)) (fun _ => .rfl) (out0 m) c,
      (hpost0D m (oK m) Variants.none LK lvK () DZ DZ DZ (fun _ => 0) (cutK 0) (EK (F := F)) (fun _ => iprop(emp)) (fun _ => .rfl) (out0 m) c).trans
        (hpre1D m (oK m) Variants.none LK lvK () DZ DZ DZ (fun _ => 0) (cutK 1) (EK (F := F)) (fun _ => iprop(emp)) (fun _ => .rfl) (out1 m) c),
      (hpost1D m (oK m) Variants.none LK lvK () DZ DZ DZ (fun _ => 0) (cutK 1) (EK (F := F)) (fun _ => iprop(emp)) (fun _ => .rfl) (out1 m) c).trans
        (hpre2D m (oK m) Variants.none LK lvK () DZ DZ DZ (fun _ => 0) (cutK 2) (EK (F := F)) (fun _ => iprop(emp)) (fun _ => .rfl) (out2_3 m) (out2_4 m) c),
      hpost2D m (oK m) Variants.none LK lvK () DZ DZ DZ (fun _ => 0) (cutK 2) (EK (F := F)) (fun _ => iprop(emp)) (fun _ => .rfl) (out2_3 m) (out2_4 m) c,
      sep_mono .rfl (by unfold EK; iintro ⟨-, HO, -⟩; iexact HO)⟩)
    (hinit := ?_) (QY := fun c s => ∀ b ∈ Pipeline.ucRefs τ sig, s.mem ((c : Thread nD τ).1, b) = V5 m (oK m) c b)
    (hfin := fun c s' => ?_) (hQ := fun _ h hz => ⟨h, funext fun g => hz g (.inr (regions_no_unscoped g.2))⟩)
  · have hsplit : (bigSep Finset.univ fun c : Dev nD => iprop(unscopedBufs c (fun b => m ((c.tc : Thread nD τ).loc b)) ∗ unscopedSems0 c
          ∗ owes (c.tc : Thread nD τ) (DZ c) ∅ ∗ Pipeline.launchCred DZ c ∗ prngReg c (ρ c) ∗ emp))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (DZ c) ∅ ∗ Pipeline.launchCred DZ c ∗ prngReg c (ρ c) ∗ emp))
            : sProp 𝕄) := by
      rw [← bigSep_sep']
      exact bigSep_mono fun c _ => by rw [← Pipeline.unscopedBufs_held (Ix := Unit) (Name := ℕ) (U := UK) (Lvl := ℕ) c (V0 m c)]; exact BI.Entails.refl _
    iintro ⟨H, Hla⟩
    ihave H' := hsplit $$ H
    icases H' with ⟨Hh, Hr⟩
    imod (hinitK (F := F) ρ) $$ [Hr Hla] with HE
    · isplitl [Hr]; · iexact Hr
      iexact Hla
    imodintro
    rw [bigSep_sep']
    isplitl [Hh]; · iexact Hh
    iexact HE
  · unfold StableHlo.held
    iintro ⟨Hh, HSI⟩
    ihave Hr := (pointsTo_read_all (Pipeline.ucRefs τ sig) (fun b => ((c : Thread nD τ).1, b)) (V5 m (oK m) c) s') $$ [Hh HSI]
    · isplitl [Hh] <;> iassumption
    icases Hr with ⟨%h, HSI⟩
    imodintro
    isplitr
    · ipureintro
      exact h
    · iexact HSI

/-- The frame: the run ends with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c =>
    ⟨(h.1 c (Proc.devRef .tc main_arg0) (Finset.mem_filter.mpr ⟨StableHlo.devRef_mem_tcRefs main_arg0, by decide⟩)).trans (V5_main_arg0 m (oK m) c),
     (h.1 c (Proc.devRef .tc main_arg1) (Finset.mem_filter.mpr ⟨StableHlo.devRef_mem_tcRefs main_arg1, by decide⟩)).trans (V5_main_arg1 m (oK m) c)⟩, h.2⟩) (run m ρ)

end Cert.KernelIdeal.Own

end
-- ==== Proof.Value.Pure.lean ====
/- The two ways of writing the power-of-two scale agree over the extended reals: the exponent found by bisecting the
   exponent field (the kernel) is the exponent read off the logarithm (the reference). -/
module

public import Idealize.ShloMosaic.Lib.IdealHost
public import Idealize.ShloMosaic.Lib.ValueIdx

@[expose] public section

set_option maxRecDepth 16384

noncomputable section

namespace Cert.Val

open Idealize.ShloMosaic

/-- The value of the f32 whose exponent field is the word `f`. -/
def fv (f : BitVec 32) : EReal := (FloatOps.ofBits .f32 (IntOp.shli .vector f 23#32) : Ideal .f32)

/-- One bisection step on the exponent field. -/
def stepE (x : EReal) (f d : BitVec 32) : BitVec 32 :=
  Scalar.select (FloatOps.cmpf (F := Ideal) (φ := .f32) .oge x (fv (IntOp.addi f d))) (IntOp.addi f d) f

/-- The exponent field of `x`, eight bisection steps. -/
def fieldE (x : EReal) : BitVec 32 :=
  stepE x (stepE x (stepE x (stepE x (stepE x (stepE x (stepE x (stepE x 0#32 128#32) 64#32) 32#32) 16#32) 8#32) 4#32) 2#32) 1#32

/-- The exponent the kernel settles on, for the greatest absolute value `a` scaled to `x`. -/
def expE (a x : EReal) : BitVec 32 :=
  Scalar.select (FloatOps.cmpf (F := Ideal) (φ := .f32) .oeq a (FloatOps.ofBits .f32 0x00000000#32 : Ideal .f32)) 0#32
    (Scalar.select (IntOp.andi (FloatOps.cmpf (F := Ideal) (φ := .f32) .ogt x (FloatOps.ofBits .f32 0x00000000#32 : Ideal .f32))
        (FloatOps.cmpf (F := Ideal) (φ := .f32) .olt x (FloatOps.ofBits .f32 0x7F800000#32 : Ideal .f32)))
      (IntOp.minsi (IntOp.subi (fieldE x) 126#32) 126#32) 0#32)

/-- The kernel's scale and its inverse. -/
def kScale (a x : EReal) : EReal := fv (IntOp.addi (expE a x) 127#32)
def kInv (a x : EReal) : EReal := fv (IntOp.addi (IntOp.subi 0#32 (expE a x)) 127#32)

/-- The f32 two. -/
def two32 : EReal := (FloatOps.ofBits .f32 0x40000000#32 : Ideal .f32)

/-- The exponent the reference settles on. -/
def rExp (a x : EReal) : EReal :=
  Scalar.select (IntOp.ori (FloatOps.cmpf (F := Ideal) (φ := .f32) .oeq a (FloatOps.ofBits .f32 0x00000000#32 : Ideal .f32))
      (FloatOps.cmpf (F := Ideal) (φ := .f32) .oeq a (FloatOps.ofBits .f32 0x7F800000#32 : Ideal .f32)))
    (FloatOps.ofBits .f32 0x00000000#32 : Ideal .f32)
    (min (FloatOps.ofBits .f32 0x42FC0000#32 : Ideal .f32) (max (FloatOps.ofBits .f32 0xC2FC0000#32 : Ideal .f32)
      (Ideal.liftRound Int.floor (Ideal.div (Ideal.log x) (Ideal.log two32)) + (FloatOps.ofBits .f32 0x3F800000#32 : Ideal .f32))))

/-- The reference's scale and its inverse. -/
def rScale (a x : EReal) : EReal := Ideal.pow two32 (rExp a x)
def rInv (a x : EReal) : EReal := Ideal.pow two32 (-(rExp a x))

/-! ## Bit patterns -/

theorem field_bits : ∀ k : Fin 256,
    ((IntOp.shli .vector (BitVec.ofNat 32 k.val) 23#32).extractLsb' 31 1 == 1#1) = false
    ∧ ((IntOp.shli .vector (BitVec.ofNat 32 k.val) 23#32).extractLsb' 23 8).toNat = k.val
    ∧ ((IntOp.shli .vector (BitVec.ofNat 32 k.val) 23#32).extractLsb' 0 23).toNat = 0 := by decide +kernel

theorem fv_zero : fv 0#32 = 0 := by
  have h := field_bits 0
  unfold fv; rw [Ideal.ofBits_def]; unfold Ideal.ofBits Ideal.ieee
  simp only [show (0#32 : BitVec 32) = BitVec.ofNat 32 ((0 : Fin 256)).val from rfl, h]
  norm_num

theorem fv_top : fv 255#32 = ⊤ := by
  have h := field_bits 255
  unfold fv; rw [Ideal.ofBits_def]; unfold Ideal.ofBits Ideal.ieee
  simp only [show (255#32 : BitVec 32) = BitVec.ofNat 32 ((255 : Fin 256)).val from rfl, h]
  norm_num

theorem fv_mid (k : ℕ) (h1 : 1 ≤ k) (h2 : k ≤ 254) : fv (BitVec.ofNat 32 k) = (((2 : ℝ) ^ ((k : ℤ) - 127) : ℝ) : EReal) := by
  have h := field_bits ⟨k, by omega⟩
  simp only at h
  unfold fv; rw [Ideal.ofBits_def]; unfold Ideal.ofBits Ideal.ieee
  simp only [h]
  rw [if_neg (by norm_num; omega), if_neg (by omega)]
  congr 1
  have : (8388608 : ℝ) = (2 : ℝ) ^ (23 : ℤ) := by norm_num
  push_cast
  simp only [Bool.false_eq_true, if_false, one_mul, add_zero]
  rw [this, ← zpow_add₀ (by norm_num : (2 : ℝ) ≠ 0)]
  congr 1; ring

theorem bits_zero : (FloatOps.ofBits .f32 0x00000000#32 : Ideal .f32) = (0 : EReal) := Ideal.ofBits_zero_f32
theorem bits_top : (FloatOps.ofBits .f32 0x7F800000#32 : Ideal .f32) = (⊤ : EReal) := fv_top
theorem bits_two : two32 = ((2 : ℝ) : EReal) := by
  have := fv_mid 128 (by norm_num) (by norm_num)
  unfold two32
  rw [show (FloatOps.ofBits .f32 0x40000000#32 : Ideal .f32) = fv (BitVec.ofNat 32 128) from rfl, this]; norm_num
theorem bits_one : (FloatOps.ofBits .f32 0x3F800000#32 : Ideal .f32) = ((1 : ℝ) : EReal) := by
  have := fv_mid 127 (by norm_num) (by norm_num)
  rw [show (FloatOps.ofBits .f32 0x3F800000#32 : Ideal .f32) = fv (BitVec.ofNat 32 127) from rfl, this]; norm_num
theorem bits_126 : (FloatOps.ofBits .f32 0x42FC0000#32 : Ideal .f32) = ((126 : ℝ) : EReal) := by
  rw [Ideal.ofBits_def]; unfold Ideal.ofBits Ideal.ieee
  simp only [show (BitVec.extractLsb' 23 8 (0x42FC0000#32)).toNat = 133 by decide, show (BitVec.extractLsb' 0 23 (0x42FC0000#32)).toNat = 8126464 by decide,
    show (BitVec.extractLsb' (8 + 23) 1 (0x42FC0000#32) == 1#1) = false by decide]
  norm_num
theorem bits_n126 : (FloatOps.ofBits .f32 0xC2FC0000#32 : Ideal .f32) = ((-126 : ℝ) : EReal) := by
  rw [Ideal.ofBits_def]; unfold Ideal.ofBits Ideal.ieee
  simp only [show (BitVec.extractLsb' 23 8 (0xC2FC0000#32)).toNat = 133 by decide, show (BitVec.extractLsb' 0 23 (0xC2FC0000#32)).toNat = 8126464 by decide,
    show (BitVec.extractLsb' (8 + 23) 1 (0xC2FC0000#32) == 1#1) = true by decide]
  norm_num

/-- The two reciprocals of the fp8 maxima, 1/57344 and 1/448 rounded to f32. -/
def cDy : EReal := (FloatOps.ofBits .f32 0x37924925#32 : Ideal .f32)
def cW : EReal := (FloatOps.ofBits .f32 0x3B124925#32 : Ideal .f32)

theorem cDy_pos : ∃ r : ℝ, 0 < r ∧ cDy = (r : EReal) := by
  unfold cDy
  rw [Ideal.ofBits_def]; unfold Ideal.ofBits Ideal.ieee
  simp only [show (BitVec.extractLsb' 23 8 (0x37924925#32)).toNat = 111 by decide, show (BitVec.extractLsb' 0 23 (0x37924925#32)).toNat = 1198373 by decide,
    show (BitVec.extractLsb' (8 + 23) 1 (0x37924925#32) == 1#1) = false by decide]
  norm_num
theorem cW_pos : ∃ r : ℝ, 0 < r ∧ cW = (r : EReal) := by
  unfold cW
  rw [Ideal.ofBits_def]; unfold Ideal.ofBits Ideal.ieee
  simp only [show (BitVec.extractLsb' 23 8 (0x3B124925#32)).toNat = 118 by decide, show (BitVec.extractLsb' 0 23 (0x3B124925#32)).toNat = 1198373 by decide,
    show (BitVec.extractLsb' (8 + 23) 1 (0x3B124925#32) == 1#1) = false by decide]
  norm_num

/-! ## The bisection -/

/-- The field's value as a function of the natural number: zero at zero, infinite from 255 on. -/
theorem step_spec (x : EReal) (f d : ℕ) (hd : f + 2 * d ≤ 256) (hd1 : 1 ≤ d) (hlo : fv (BitVec.ofNat 32 f) ≤ x)
    (hhi : f + 2 * d = 256 ∨ x < fv (BitVec.ofNat 32 (f + 2 * d))) :
    ∃ g : ℕ, stepE x (BitVec.ofNat 32 f) (BitVec.ofNat 32 d) = BitVec.ofNat 32 g ∧ g + d ≤ 256 ∧ fv (BitVec.ofNat 32 g) ≤ x
      ∧ (g + d = 256 ∨ x < fv (BitVec.ofNat 32 (g + d))) := by
  have hadd : IntOp.addi (BitVec.ofNat 32 f) (BitVec.ofNat 32 d) = BitVec.ofNat 32 (f + d) := by
    unfold IntOp.addi; rw [BitVec.ofNat_add]
  unfold stepE Scalar.select
  rw [hadd]
  by_cases h : fv (BitVec.ofNat 32 (f + d)) ≤ x
  · refine ⟨f + d, ?_, by omega, h, ?_⟩
    · rw [if_pos]
      rw [Ideal.cmpf_def]; simp [Ideal.cmp, h]
    · rwa [show f + d + d = f + 2 * d by ring]
  · refine ⟨f, ?_, by omega, hlo, .inr (not_le.mp h)⟩
    rw [if_neg]
    rw [Ideal.cmpf_def]; simp [Ideal.cmp, h]

theorem field_spec (x : EReal) (hx : 0 ≤ x) :
    ∃ g : ℕ, fieldE x = BitVec.ofNat 32 g ∧ g ≤ 255 ∧ fv (BitVec.ofNat 32 g) ≤ x ∧ (g = 255 ∨ x < fv (BitVec.ofNat 32 (g + 1))) := by
  obtain ⟨g1, e1, b1, l1, u1⟩ := step_spec x 0 128 (by norm_num) (by norm_num) (by rw [show BitVec.ofNat 32 0 = 0#32 from rfl, fv_zero]; exact hx) (.inl (by norm_num))
  obtain ⟨g2, e2, b2, l2, u2⟩ := step_spec x g1 64 (by omega) (by norm_num) l1 u1
  obtain ⟨g3, e3, b3, l3, u3⟩ := step_spec x g2 32 (by omega) (by norm_num) l2 u2
  obtain ⟨g4, e4, b4, l4, u4⟩ := step_spec x g3 16 (by omega) (by norm_num) l3 u3
  obtain ⟨g5, e5, b5, l5, u5⟩ := step_spec x g4 8 (by omega) (by norm_num) l4 u4
  obtain ⟨g6, e6, b6, l6, u6⟩ := step_spec x g5 4 (by omega) (by norm_num) l5 u5
  obtain ⟨g7, e7, b7, l7, u7⟩ := step_spec x g6 2 (by omega) (by norm_num) l6 u6
  obtain ⟨g8, e8, b8, l8, u8⟩ := step_spec x g7 1 (by omega) (by norm_num) l7 u7
  refine ⟨g8, ?_, by omega, l8, ?_⟩
  · unfold fieldE
    rw [← e8, ← e7, ← e6, ← e5, ← e4, ← e3, ← e2, ← e1]
  · rcases u8 with h | h
    · left; omega
    · exact .inr h

/-- The clamped exponent word, for each field. -/
theorem word_spec : ∀ g : Fin 255, ∃ k : Fin 253,
    IntOp.addi (IntOp.minsi (IntOp.subi (BitVec.ofNat 32 g.val) 126#32) 126#32) 127#32 = BitVec.ofNat 32 (k.val + 1)
    ∧ IntOp.addi (IntOp.subi 0#32 (IntOp.minsi (IntOp.subi (BitVec.ofNat 32 g.val) 126#32) 126#32)) 127#32 = BitVec.ofNat 32 (253 - k.val)
    ∧ k.val = min g.val 252 := by decide +kernel

/-- On a positive real the logarithm's floor, clamped, is the field's exponent, clamped. -/
theorem floor_spec (r : ℝ) (hr : 0 < r) (g : ℕ) (hg : g ≤ 254) (hlo : fv (BitVec.ofNat 32 g) ≤ (r : EReal))
    (hhi : (r : EReal) < fv (BitVec.ofNat 32 (g + 1))) :
    min (126 : ℤ) (max (-126) (⌊Real.log r / Real.log 2⌋ + 1)) = ((min g 252 : ℕ) : ℤ) - 126 := by
  have h2 : (0 : ℝ) < Real.log 2 := Real.log_pos (by norm_num)
  have key : ∀ z : ℤ, (2 : ℝ) ^ z ≤ r → z ≤ ⌊Real.log r / Real.log 2⌋ := by
    intro z hz
    rw [Int.le_floor, le_div_iff₀ h2]
    have := Real.log_le_log (by positivity) hz
    rwa [Real.log_zpow] at this
  have key' : ∀ z : ℤ, r < (2 : ℝ) ^ z → ⌊Real.log r / Real.log 2⌋ < z := by
    intro z hz
    rw [Int.floor_lt, div_lt_iff₀ h2]
    have := Real.log_lt_log hr hz
    rwa [Real.log_zpow] at this
  have lo : 1 ≤ g → (g : ℤ) - 127 ≤ ⌊Real.log r / Real.log 2⌋ := fun h1 => key _ (by
    rw [fv_mid g h1 hg] at hlo; exact_mod_cast hlo)
  have hi : g ≤ 253 → ⌊Real.log r / Real.log 2⌋ < (g : ℤ) - 126 := fun h1 => key' _ (by
    rw [fv_mid (g + 1) (by omega) (by omega)] at hhi
    have := EReal.coe_lt_coe_iff.mp hhi
    rwa [show (((g + 1 : ℕ) : ℤ) - 127) = (g : ℤ) - 126 by push_cast; ring] at this)
  generalize ⌊Real.log r / Real.log 2⌋ = q at lo hi
  rcases Nat.eq_zero_or_pos g with h0 | h0
  · subst h0; have := hi (by norm_num); simp at this ⊢; omega
  · have := lo h0
    rcases Nat.lt_or_ge 253 g with h3 | h3
    · have : g = 254 := by omega
      subst this; simp at *; omega
    · have := hi h3; omega

theorem pow_two_int (z : ℤ) : Ideal.pow ((2 : ℝ) : EReal) (((z : ℝ)) : EReal) = (((2 : ℝ) ^ z : ℝ) : EReal) := by
  show ((Real.rpow 2 (z : ℝ) : ℝ) : EReal) = _
  rw [show Real.rpow 2 (z : ℝ) = (2 : ℝ) ^ (z : ℝ) from rfl, Real.rpow_intCast]

/-- The two scales, and the two inverse scales, agree. -/
theorem scale_eq (a : EReal) (ha : 0 ≤ a) (c : ℝ) (hc : 0 < c) :
    kScale a (a * (c : EReal)) = rScale a (a * (c : EReal)) ∧ kInv a (a * (c : EReal)) = rInv a (a * (c : EReal)) := by
  have one : fv (IntOp.addi 0#32 127#32) = 1 := by
    have := fv_mid 127 (by norm_num) (by norm_num)
    rw [show IntOp.addi 0#32 127#32 = BitVec.ofNat 32 127 from rfl, this]; norm_num
  have one' : fv (IntOp.addi (IntOp.subi 0#32 0#32) 127#32) = 1 := one
  have pz : Ideal.pow two32 0 = 1 := by
    rw [bits_two]; have := pow_two_int 0; simpa using this
  have pz' : Ideal.pow two32 (-0) = 1 := by rw [neg_zero]; exact pz
  unfold kScale kInv rScale rInv
  suffices h : (expE a (a * (c : EReal)) = 0#32 ∧ rExp a (a * (c : EReal)) = 0) ∨
      (∃ k : Fin 253, IntOp.addi (expE a (a * (c : EReal))) 127#32 = BitVec.ofNat 32 (k.val + 1)
        ∧ IntOp.addi (IntOp.subi 0#32 (expE a (a * (c : EReal)))) 127#32 = BitVec.ofNat 32 (253 - k.val)
        ∧ rExp a (a * (c : EReal)) = ((((k.val : ℤ) - 126 : ℤ) : ℝ) : EReal)) by
    rcases h with ⟨h1, h2⟩ | ⟨k, h1, h2, h3⟩
    · rw [h1, h2]; exact ⟨one.trans pz.symm, one'.trans pz'.symm⟩
    · have hk := k.isLt
      rw [h1, h2, h3, bits_two, fv_mid _ (by omega) (by omega), fv_mid _ (by omega) (by omega)]
      refine ⟨?_, ?_⟩
      · rw [pow_two_int]; congr 2; push_cast; ring
      · rw [← EReal.coe_neg, ← Int.cast_neg, pow_two_int]; congr 2
        rw [Nat.cast_sub (by omega)]; push_cast; ring
  by_cases h0 : a = 0
  · left
    unfold expE rExp Scalar.select IntOp.ori
    simp only [Ideal.cmpf_def, bits_zero, Ideal.cmp]
    subst h0
    have hb : ∀ b : Bool, (1#1 ||| BitVec.ofBool b) = 1#1 := by decide
    refine ⟨by simp, ?_⟩
    rw [decide_eq_true rfl, show BitVec.ofBool true = 1#1 from rfl, hb]
    exact if_pos rfl
  by_cases ht : a = ⊤
  · left
    subst ht
    rw [EReal.top_mul_coe_of_pos hc]
    unfold expE rExp Scalar.select IntOp.ori IntOp.andi
    simp only [Ideal.cmpf_def, bits_zero, bits_top, Ideal.cmp]
    simp
  right
  obtain ⟨r, rfl⟩ : ∃ r : ℝ, a = (r : EReal) := by
    induction a with
    | bot => simp at ha
    | top => exact absurd rfl ht
    | coe r => exact ⟨r, rfl⟩
  have hr : 0 < r := lt_of_le_of_ne (by exact_mod_cast ha) (fun h => h0 (by rw [← h]; rfl))
  have hx : 0 < r * c := mul_pos hr hc
  rw [← EReal.coe_mul]
  obtain ⟨g, eg, bg, lg, ug⟩ := field_spec ((r * c : ℝ) : EReal) (by exact_mod_cast hx.le)
  have hg : g ≤ 254 := by
    by_contra h
    have : g = 255 := by omega
    subst this
    rw [show BitVec.ofNat 32 255 = 255#32 from rfl, fv_top] at lg
    exact absurd (top_le_iff.mp lg) (EReal.coe_ne_top _)
  have ug' : ((r * c : ℝ) : EReal) < fv (BitVec.ofNat 32 (g + 1)) := ug.resolve_left (by omega)
  have hf := floor_spec (r * c) hx g hg lg ug'
  obtain ⟨k, hk1, hk2, hk3⟩ := word_spec ⟨g, by omega⟩
  have hE : expE (r : EReal) ((r * c : ℝ) : EReal) = IntOp.minsi (IntOp.subi (BitVec.ofNat 32 g) 126#32) 126#32 := by
    unfold expE
    rw [eg]
    unfold Scalar.select IntOp.andi
    simp only [Ideal.cmpf_def, bits_zero, bits_top, Ideal.cmp]
    have e1 : ((r : EReal) = 0) = False := by simp [h0]
    have e2 : ((0 : EReal) < ((r * c : ℝ) : EReal)) = True := by simp only [eq_iff_iff, iff_true]; exact_mod_cast hx
    have e3 : (((r * c : ℝ) : EReal) < ⊤) = True := by simp only [eq_iff_iff, iff_true]; exact EReal.coe_lt_top _
    simp only [e1, e2, e3]
    simp
  refine ⟨k, by rw [hE]; exact hk1, by rw [hE]; exact hk2, ?_⟩
  unfold rExp
  have e1 : ((r : EReal) = 0) = False := by simp [h0]
  have e2 : ((r : EReal) = ⊤) = False := by simp
  unfold Scalar.select IntOp.ori
  simp only [Ideal.cmpf_def, bits_zero, bits_top, bits_126, bits_n126, bits_one, bits_two, Ideal.cmp, e1, e2]
  rw [if_neg (by simp)]
  have l1 : Ideal.log ((r * c : ℝ) : EReal) = ((Real.log (r * c) : ℝ) : EReal) := by
    show (if r * c ≤ 0 then (⊥ : EReal) else _) = _
    rw [if_neg (not_le.mpr hx)]
  have l2 : Ideal.log ((2 : ℝ) : EReal) = ((Real.log 2 : ℝ) : EReal) := by
    show (if (2 : ℝ) ≤ 0 then (⊥ : EReal) else _) = _
    rw [if_neg (by norm_num)]
  have l3 : Ideal.div ((Real.log (r * c) : ℝ) : EReal) ((Real.log 2 : ℝ) : EReal) = ((Real.log (r * c) / Real.log 2 : ℝ) : EReal) := by
    unfold Ideal.div
    have : Real.log 2 ≠ 0 := (Real.log_pos (by norm_num)).ne'
    rw [if_neg (by exact_mod_cast this), ← EReal.coe_inv, ← EReal.coe_mul, div_eq_mul_inv]
  rw [l1, l2, l3]
  have l4 : Ideal.liftRound Int.floor ((Real.log (r * c) / Real.log 2 : ℝ) : EReal) = (((⌊Real.log (r * c) / Real.log 2⌋ : ℤ) : ℝ) : EReal) := rfl
  rw [l4, ← EReal.coe_add]
  have hf' := congrArg (fun z : ℤ => ((z : ℝ) : EReal)) hf
  rw [hk3, ← hf']
  push_cast
  rfl

end Cert.Val

end
-- ==== Proof.Value.Body0.lean ====
/- What the body of the first kernel leaves in its scratch and in its result, case by case, at any float type. -/
module

public import proofs.«01_k».proof.Proof.KernelIdeal.K0
public import Idealize.ShloMosaic.Lib.Pipeline.Value
public import Idealize.ShloMosaic.Lib.Tactic

@[expose] public section

set_option maxRecDepth 16384

noncomputable section

namespace Cert.KernelIdeal.Own.K0

open Cert.KernelIdeal Cert.KernelIdeal.Gen
open Idealize.ShloMosaic Idealize.ShloMosaic.TcCoe Idealize.ShloMosaic.Tactic
open Idealize.SL Idealize.SL.RA Idealize.SL.Sem

variable {F : FTy → Type} [FloatOps F]
variable {Ix : Type} [DecidableEq Ix] {U : Type} [URA U] {Lvl : Type} [Preorder Lvl]
variable (𝒱₀ : Variants)

theorem hz2 : (![0, 0] : Fin 2 → Nat) = fun _ => 0 := funext fun a => by fin_cases a <;> rfl

/-- The first point: the dy accumulator is reset, then takes in the block. -/
theorem sout_A_0 (c : Dev nD) (i : grid0.Coords) (arg1 : Memref sig .tc .vmem S1024x4096 .bf16) (harg1 : arg1.IsWhole) (arg2 : Memref sig .tc .vmem S512x4096 .f32) (harg2 : arg2.IsWhole) (arg3 : Memref sig .tc .vmem S4x8x128 .f32) (harg3 : arg3.IsWhole) (arg4 : Memref sig .tc .vmem S8x4096 .bf16) (harg4 : arg4.IsWhole) (arg5 : Memref sig .tc .vmem S8x4096 .f32) (harg5 : arg5.IsWhole) (hc0 : cond0_0 i) (hc1 : cond0_1 i) (hc2 : ¬cond0_2 i) (hc3 : ¬cond0_3 i) (x0 : Vec F S1024x4096 .bf16) (x1 : Vec F S512x4096 .f32) :
    sout0_A_0 (Ix := Ix) (U := U) (Lvl := Lvl) 𝒱₀ c i arg1 harg1 arg2 harg2 arg3 harg3 arg4 harg4 arg5 harg5 hc0 hc1 hc2 hc3 x0 x1 = k0_pay3 k0_pay1 x0 := by
  unfold sout0_A_0
  rw [View.read_writes_eq_canon _ _ _ (scover0_A_0 (Ix := Ix) (U := U) (Lvl := Lvl) 𝒱₀ c i arg1 harg1 arg2 harg2 arg3 harg3 arg4 harg4 arg5 harg5 hc0 hc1 hc2 hc3 x0 x1)]
  unfold kernelRun0_A
  dsimp only
  sl_unfold_words
  first
    | rw [View.canon_cons_unit_zero (S := S8x4096) hz2, View.readCov_unit_zero (S := S8x4096) _ hz2]
    | rw [View.canon_cons_unit_zero (S := S8x4096) hz2]
    | rw [View.canon_unit_zero (S := S8x4096) hz2]
  simp only [View.readAt_eq_ld, harg1.read_unread, harg2.read_unread, harg4.read_unread, harg5.read_unread, View.ld_unit_zero (S := S8x4096) hz2,
    View.ld_unit_zero (S := S1024x4096) hz2, View.ld_unit_zero (S := S512x4096) hz2]

/-- The first point: the w accumulator is reset. -/
theorem sout_A_1 (c : Dev nD) (i : grid0.Coords) (arg1 : Memref sig .tc .vmem S1024x4096 .bf16) (harg1 : arg1.IsWhole) (arg2 : Memref sig .tc .vmem S512x4096 .f32) (harg2 : arg2.IsWhole) (arg3 : Memref sig .tc .vmem S4x8x128 .f32) (harg3 : arg3.IsWhole) (arg4 : Memref sig .tc .vmem S8x4096 .bf16) (harg4 : arg4.IsWhole) (arg5 : Memref sig .tc .vmem S8x4096 .f32) (harg5 : arg5.IsWhole) (hc0 : cond0_0 i) (hc1 : cond0_1 i) (hc2 : ¬cond0_2 i) (hc3 : ¬cond0_3 i) (x0 : Vec F S1024x4096 .bf16) (x1 : Vec F S512x4096 .f32) :
    sout0_A_1 (Ix := Ix) (U := U) (Lvl := Lvl) 𝒱₀ c i arg1 harg1 arg2 harg2 arg3 harg3 arg4 harg4 arg5 harg5 hc0 hc1 hc2 hc3 x0 x1 = k0_pay2 := by
  unfold sout0_A_1
  rw [View.read_writes_eq_canon _ _ _ (scover0_A_1 (Ix := Ix) (U := U) (Lvl := Lvl) 𝒱₀ c i arg1 harg1 arg2 harg2 arg3 harg3 arg4 harg4 arg5 harg5 hc0 hc1 hc2 hc3 x0 x1)]
  unfold kernelRun0_A
  dsimp only
  sl_unfold_words
  first
    | rw [View.canon_cons_unit_zero (S := S8x4096) hz2, View.readCov_unit_zero (S := S8x4096) _ hz2]
    | rw [View.canon_cons_unit_zero (S := S8x4096) hz2]
    | rw [View.canon_unit_zero (S := S8x4096) hz2]

/-- A dy point: the dy accumulator takes in the block. -/
theorem sout_B_0 (c : Dev nD) (i : grid0.Coords) (arg1 : Memref sig .tc .vmem S1024x4096 .bf16) (harg1 : arg1.IsWhole) (arg2 : Memref sig .tc .vmem S512x4096 .f32) (harg2 : arg2.IsWhole) (arg3 : Memref sig .tc .vmem S4x8x128 .f32) (harg3 : arg3.IsWhole) (arg4 : Memref sig .tc .vmem S8x4096 .bf16) (harg4 : arg4.IsWhole) (arg5 : Memref sig .tc .vmem S8x4096 .f32) (harg5 : arg5.IsWhole) (hc0 : ¬cond0_0 i) (hc1 : cond0_1 i) (hc2 : ¬cond0_2 i) (hc3 : ¬cond0_3 i) (x0 : Vec F S1024x4096 .bf16) (x1 : Vec F S512x4096 .f32) (xs0 : Vec F S8x4096 .bf16) (xs1 : Vec F S8x4096 .f32) :
    sout0_B_0 (Ix := Ix) (U := U) (Lvl := Lvl) 𝒱₀ c i arg1 harg1 arg2 harg2 arg3 harg3 arg4 harg4 arg5 harg5 hc0 hc1 hc2 hc3 x0 x1 xs0 xs1 = k0_pay3 xs0 x0 := by
  unfold sout0_B_0
  rw [View.read_writes_eq_canon _ _ _ (scover0_B_0 (Ix := Ix) (U := U) (Lvl := Lvl) 𝒱₀ c i arg1 harg1 arg2 harg2 arg3 harg3 arg4 harg4 arg5 harg5 hc0 hc1 hc2 hc3 x0 x1 xs0 xs1)]
  unfold kernelRun0_B
  dsimp only
  sl_unfold_words
  first
    | rw [View.canon_cons_unit_zero (S := S8x4096) hz2, View.readCov_unit_zero (S := S8x4096) _ hz2]
    | rw [View.canon_cons_unit_zero (S := S8x4096) hz2]
    | rw [View.canon_unit_zero (S := S8x4096) hz2]
  simp only [View.readAt_eq_ld, harg1.read_unread, harg2.read_unread, harg4.read_unread, harg5.read_unread, View.ld_unit_zero (S := S8x4096) hz2,
    View.ld_unit_zero (S := S1024x4096) hz2, View.ld_unit_zero (S := S512x4096) hz2]

/-- A w point: the w accumulator takes in the block. -/
theorem sout_C_1 (c : Dev nD) (i : grid0.Coords) (arg1 : Memref sig .tc .vmem S1024x4096 .bf16) (harg1 : arg1.IsWhole) (arg2 : Memref sig .tc .vmem S512x4096 .f32) (harg2 : arg2.IsWhole) (arg3 : Memref sig .tc .vmem S4x8x128 .f32) (harg3 : arg3.IsWhole) (arg4 : Memref sig .tc .vmem S8x4096 .bf16) (harg4 : arg4.IsWhole) (arg5 : Memref sig .tc .vmem S8x4096 .f32) (harg5 : arg5.IsWhole) (hc0 : ¬cond0_0 i) (hc1 : ¬cond0_1 i) (hc2 : cond0_2 i) (hc3 : ¬cond0_3 i) (x0 : Vec F S1024x4096 .bf16) (x1 : Vec F S512x4096 .f32) (xs0 : Vec F S8x4096 .bf16) (xs1 : Vec F S8x4096 .f32) :
    sout0_C_1 (Ix := Ix) (U := U) (Lvl := Lvl) 𝒱₀ c i arg1 harg1 arg2 harg2 arg3 harg3 arg4 harg4 arg5 harg5 hc0 hc1 hc2 hc3 x0 x1 xs0 xs1 = k0_pay4 xs1 x1 := by
  unfold sout0_C_1
  rw [View.read_writes_eq_canon _ _ _ (scover0_C_1 (Ix := Ix) (U := U) (Lvl := Lvl) 𝒱₀ c i arg1 harg1 arg2 harg2 arg3 harg3 arg4 harg4 arg5 harg5 hc0 hc1 hc2 hc3 x0 x1 xs0 xs1)]
  unfold kernelRun0_C
  dsimp only
  sl_unfold_words
  first
    | rw [View.canon_cons_unit_zero (S := S8x4096) hz2, View.readCov_unit_zero (S := S8x4096) _ hz2]
    | rw [View.canon_cons_unit_zero (S := S8x4096) hz2]
    | rw [View.canon_unit_zero (S := S8x4096) hz2]
  simp only [View.readAt_eq_ld, harg1.read_unread, harg2.read_unread, harg4.read_unread, harg5.read_unread, View.ld_unit_zero (S := S8x4096) hz2,
    View.ld_unit_zero (S := S1024x4096) hz2, View.ld_unit_zero (S := S512x4096) hz2]

/-- The last point: the w accumulator takes in the block. -/
theorem sout_D_1 (c : Dev nD) (i : grid0.Coords) (arg1 : Memref sig .tc .vmem S1024x4096 .bf16) (harg1 : arg1.IsWhole) (arg2 : Memref sig .tc .vmem S512x4096 .f32) (harg2 : arg2.IsWhole) (arg3 : Memref sig .tc .vmem S4x8x128 .f32) (harg3 : arg3.IsWhole) (arg4 : Memref sig .tc .vmem S8x4096 .bf16) (harg4 : arg4.IsWhole) (arg5 : Memref sig .tc .vmem S8x4096 .f32) (harg5 : arg5.IsWhole) (hc0 : ¬cond0_0 i) (hc1 : ¬cond0_1 i) (hc2 : cond0_2 i) (hc3 : cond0_3 i) (x0 : Vec F S1024x4096 .bf16) (x1 : Vec F S512x4096 .f32) (xs0 : Vec F S8x4096 .bf16) (xs1 : Vec F S8x4096 .f32) :
    sout0_D_1 (Ix := Ix) (U := U) (Lvl := Lvl) 𝒱₀ c i arg1 harg1 arg2 harg2 arg3 harg3 arg4 harg4 arg5 harg5 hc0 hc1 hc2 hc3 x0 x1 xs0 xs1 = k0_pay4 xs1 x1 := by
  unfold sout0_D_1
  rw [View.read_writes_eq_canon _ _ _ (scover0_D_1 (Ix := Ix) (U := U) (Lvl := Lvl) 𝒱₀ c i arg1 harg1 arg2 harg2 arg3 harg3 arg4 harg4 arg5 harg5 hc0 hc1 hc2 hc3 x0 x1 xs0 xs1)]
  unfold kernelRun0_D
  dsimp only
  sl_unfold_words
  first
    | rw [View.canon_cons_unit_zero (S := S8x4096) hz2, View.readCov_unit_zero (S := S8x4096) _ hz2]
    | rw [View.canon_cons_unit_zero (S := S8x4096) hz2]
    | rw [View.canon_unit_zero (S := S8x4096) hz2]
  simp only [View.readAt_eq_ld, harg1.read_unread, harg2.read_unread, harg4.read_unread, harg5.read_unread, View.ld_unit_zero (S := S8x4096) hz2,
    View.ld_unit_zero (S := S1024x4096) hz2, View.ld_unit_zero (S := S512x4096) hz2]

/-- The four arrays of the last point's result, over what the two accumulators hold. -/
def scalesRow (d : Vec F S8x4096 .bf16) (w : Vec F S8x4096 .f32) : Nat → FVec F S8x128 .f32
  | 0 => k0_pay15 (k0_pay9 d) (k0_pay11 d) (k0_pay13 (k0_pay11 d) (k0_pay12 d))
  | 1 => k0_pay16 (k0_pay9 d) (k0_pay11 d) (k0_pay13 (k0_pay11 d) (k0_pay12 d))
  | 2 => k0_pay23 (k0_pay10 w) (k0_pay17 (k0_pay10 w)) (k0_pay20 (k0_pay17 (k0_pay10 w)) (k0_pay18 (k0_pay10 w)) (k0_pay19 (k0_pay10 w)) 23#32)
      (k0_pay21 (k0_pay17 (k0_pay10 w)) (k0_pay18 (k0_pay10 w)) (k0_pay19 (k0_pay10 w)) 23#32) 23#32
  | _ => k0_pay24 (k0_pay10 w) (k0_pay17 (k0_pay10 w)) (k0_pay20 (k0_pay17 (k0_pay10 w)) (k0_pay18 (k0_pay10 w)) (k0_pay19 (k0_pay10 w)) 23#32)
      (k0_pay21 (k0_pay17 (k0_pay10 w)) (k0_pay18 (k0_pay10 w)) (k0_pay19 (k0_pay10 w)) 23#32) 23#32

/-- A row of the result cast to one leading unit axis and read at an index is the row. -/
theorem row_apply (v : FVec F S8x128 .f32) (x : S1x8x128.Idx) :
    shapeCast S1x8x128 v shapeCasts_S8x128_S1x8x128 x = v (fun a : Fin 2 => x a.succ) :=
  shapeCast_addUnit_apply (![8, 128]) v shapeCasts_S8x128_S1x8x128 x

/-- The last point's result at an index: the row the first coordinate names. -/
theorem out_D (c : Dev nD) (i : grid0.Coords) (arg1 : Memref sig .tc .vmem S1024x4096 .bf16) (harg1 : arg1.IsWhole) (arg2 : Memref sig .tc .vmem S512x4096 .f32) (harg2 : arg2.IsWhole) (arg3 : Memref sig .tc .vmem S4x8x128 .f32) (harg3 : arg3.IsWhole) (arg4 : Memref sig .tc .vmem S8x4096 .bf16) (harg4 : arg4.IsWhole) (arg5 : Memref sig .tc .vmem S8x4096 .f32) (harg5 : arg5.IsWhole) (hc0 : ¬cond0_0 i) (hc1 : ¬cond0_1 i) (hc2 : cond0_2 i) (hc3 : cond0_3 i) (x0 : Vec F S1024x4096 .bf16) (x1 : Vec F S512x4096 .f32) (xs0 : Vec F S8x4096 .bf16) (xs1 : Vec F S8x4096 .f32) (y : S4x8x128.Idx) :
    out0_D_2 (Ix := Ix) (U := U) (Lvl := Lvl) 𝒱₀ c i arg1 harg1 arg2 harg2 arg3 harg3 arg4 harg4 arg5 harg5 hc0 hc1 hc2 hc3 x0 x1 xs0 xs1 y = scalesRow xs0 (k0_pay4 xs1 x1) (y 0).val (fun a : Fin 2 => y a.succ) := by
  unfold out0_D_2
  have hc := cover0_D_2 (Ix := Ix) (U := U) (Lvl := Lvl) 𝒱₀ c i arg1 harg1 arg2 harg2 arg3 harg3 arg4 harg4 arg5 harg5 hc0 hc1 hc2 hc3 x0 x1 xs0 xs1
  rw [View.read_writes_eq_canon _ _ _ hc]
  have hy := hc y
  revert hy
  unfold kernelRun0_D
  dsimp only
  sl_unfold_words
  simp only [View.readAt_eq_ld, harg1.read_unread, harg2.read_unread, harg4.read_unread, harg5.read_unread, View.ld_unit_zero (S := S8x4096) hz2,
    View.ld_unit_zero (S := S1024x4096) hz2, View.ld_unit_zero (S := S512x4096) hz2, View.readCov_unit_zero (S := S8x4096) _ hz2]
  intro hy
  refine View.canon_apply_of_pieces (fun y : S4x8x128.Idx => (scalesRow xs0 (k0_pay4 xs1 x1) (y 0).val (fun a : Fin 2 => y a.succ) : Elt F .f32)) _ ?_ y hy
  clear hy hc y
  intro p hp x
  have hx : ∀ x : S1x8x128.Idx, (x 0).val = 0 := fun x => by have := (x 0).isLt; simpa using this
  have aux : ∀ (n : Nat) (hn : n < 4) (inb : ∀ a, (![n, 0, 0] : Fin 3 → Nat) a + (![1, 8, 128] : Fin 3 → Nat) a ≤ S4x8x128.size a) (x : S1x8x128.Idx) (v : FVec F S8x128 .f32),
      v = scalesRow xs0 (k0_pay4 xs1 x1) n →
      (shapeCast S1x8x128 v shapeCasts_S8x128_S1x8x128 x : Elt F .f32)
        = scalesRow xs0 (k0_pay4 xs1 x1) ((Rect.unit (s := S4x8x128) ![n, 0, 0] ![1, 8, 128] inb).emb x 0).val
            (fun a => (Rect.unit (s := S4x8x128) ![n, 0, 0] ![1, 8, 128] inb).emb x a.succ) := by
    intro n hn inb x v hv
    rw [row_apply, hv]
    have e0 : ((Rect.unit (s := S4x8x128) ![n, 0, 0] ![1, 8, 128] inb).emb x 0).val = n := by
      show n + 1 * (x 0).val = n
      rw [hx x]; omega
    have e1 : (fun a : Fin 2 => (Rect.unit (s := S4x8x128) ![n, 0, 0] ![1, 8, 128] inb).emb x a.succ) = fun a : Fin 2 => x a.succ := by
      funext a; apply Fin.ext
      match a with
      | ⟨0, _⟩ => show 0 + 1 * (x 1).val = (x 1).val; omega
      | ⟨1, _⟩ => show 0 + 1 * (x 2).val = (x 2).val; omega
    rw [e0, e1]
  simp only [List.mem_cons, List.not_mem_nil, or_false] at hp
  rcases hp with rfl | rfl | rfl | rfl
  · exact aux 3 (by decide) inb_S4x8x128_S1x8x128_3_0_0 x _ rfl
  · exact aux 2 (by decide) inb_S4x8x128_S1x8x128_2_0_0 x _ rfl
  · exact aux 1 (by decide) inb_S4x8x128_S1x8x128_1_0_0 x _ rfl
  · exact aux 0 (by decide) inb_S4x8x128_S1x8x128_0_0_0 x _ rfl

end Cert.KernelIdeal.Own.K0

end
-- ==== Proof.Value.Scale0.lean ====
/- The four rows of scales the first kernel stores, over the extended reals: the kernel's scale and inverse scale of the two
   accumulators' greatest elements. -/
module

public import proofs.«01_k».proof.Proof.Value.Pure
public import proofs.«01_k».proof.Proof.Value.Body0

@[expose] public section

set_option maxRecDepth 16384

noncomputable section

namespace Cert.Val

open Cert.KernelIdeal Cert.KernelIdeal.Gen
open Idealize.ShloMosaic
open Cert.KernelIdeal.Own (K0.scalesRow)

/-- The greatest element of the dy accumulator, and of the w accumulator. -/
def topD (d : Vec Ideal S8x4096 .bf16) : EReal := k0_pay9 (F := Ideal) d (fun a => ⟨0, by fin_cases a <;> decide⟩)
def topW (w : Vec Ideal S8x4096 .f32) : EReal := k0_pay10 (F := Ideal) w (fun a => ⟨0, by fin_cases a <;> decide⟩)

theorem pay9_at (d : Vec Ideal S8x4096 .bf16) (j : S8x128.Idx) : k0_pay9 (F := Ideal) d j = topD d := rfl
theorem pay10_at (w : Vec Ideal S8x4096 .f32) (j : S8x128.Idx) : k0_pay10 (F := Ideal) w j = topW w := rfl
theorem pay11_at (d : Vec Ideal S8x4096 .bf16) (j : S8x128.Idx) : k0_pay11 (F := Ideal) d j = topD d * cDy := rfl
theorem pay17_at (v : FVec Ideal S8x128 .f32) (j : S8x128.Idx) : k0_pay17 (F := Ideal) v j = v j * cW := rfl

/-- One bisection step on every lane. -/
def stepV (x : FVec Ideal S8x128 .f32) (f : IVec S8x128 32) (d : BitVec 32) : IVec S8x128 32 :=
  select (cmpf .oge x (bitcastToFloat .f32 (shli (addi f (broadcast S8x128 d)) (broadcast S8x128 23#32)))) (addi f (broadcast S8x128 d)) f

theorem stepV_at (x : FVec Ideal S8x128 .f32) (f : IVec S8x128 32) (d : BitVec 32) (j : S8x128.Idx) :
    stepV x f d j = stepE (x j) (f j) d := rfl

theorem pay12_eq (d : Vec Ideal S8x4096 .bf16) :
    k0_pay12 (F := Ideal) d = stepV (k0_pay11 (F := Ideal) d) (stepV (k0_pay11 (F := Ideal) d) (stepV (k0_pay11 (F := Ideal) d) (broadcast S8x128 0#32) 128#32) 64#32) 32#32 := rfl

theorem pay13_eq (x : FVec Ideal S8x128 .f32) (f : IVec S8x128 32) :
    k0_pay13 (F := Ideal) x f = stepV x (stepV x (stepV x (stepV x (stepV x f 16#32) 8#32) 4#32) 2#32) 1#32 := rfl

theorem pay12_at (d : Vec Ideal S8x4096 .bf16) (j : S8x128.Idx) :
    k0_pay12 (F := Ideal) d j = stepE (k0_pay11 (F := Ideal) d j) (stepE (k0_pay11 (F := Ideal) d j) (stepE (k0_pay11 (F := Ideal) d j) 0#32 128#32) 64#32) 32#32 := by
  rw [pay12_eq]; simp only [stepV_at]; rfl

theorem pay13_at (x : FVec Ideal S8x128 .f32) (f : IVec S8x128 32) (j : S8x128.Idx) :
    k0_pay13 (F := Ideal) x f j = stepE (x j) (stepE (x j) (stepE (x j) (stepE (x j) (stepE (x j) (f j) 16#32) 8#32) 4#32) 2#32) 1#32 := by
  rw [pay13_eq]; simp only [stepV_at]

/-- The dy exponent word. -/
theorem pay14_at (a x : FVec Ideal S8x128 .f32) (f : IVec S8x128 32) (j : S8x128.Idx) (h : f j = fieldE (x j)) :
    k0_pay14 (F := Ideal) a x f j = expE (a j) (x j) := by
  unfold expE; rw [← h]; rfl

theorem pay15_at (a x : FVec Ideal S8x128 .f32) (f : IVec S8x128 32) (j : S8x128.Idx) (h : f j = fieldE (x j)) :
    k0_pay15 (F := Ideal) a x f j = kScale (a j) (x j) := by
  unfold kScale; rw [← pay14_at a x f j h]; rfl

theorem pay16_at (a x : FVec Ideal S8x128 .f32) (f : IVec S8x128 32) (j : S8x128.Idx) (h : f j = fieldE (x j)) :
    k0_pay16 (F := Ideal) a x f j = kInv (a j) (x j) := by
  unfold kInv; rw [← pay14_at a x f j h]; rfl

theorem pay18_eq (w : FVec Ideal S8x128 .f32) :
    k0_pay18 (F := Ideal) w = stepV (k0_pay17 (F := Ideal) w) (broadcast S8x128 0#32) 128#32 := rfl

theorem pay20_eq (x : FVec Ideal S8x128 .f32) (f : IVec S8x128 32) :
    k0_pay20 (F := Ideal) x f (addi f (broadcast S8x128 64#32)) 23#32 = stepV x (stepV x (stepV x (stepV x (stepV x f 64#32) 32#32) 16#32) 8#32) 4#32 := rfl

/-- The exponent, on every lane, from the field. -/
def expV (a x : FVec Ideal S8x128 .f32) (f : IVec S8x128 32) : IVec S8x128 32 :=
  select (cmpf .oeq a (broadcast S8x128 (Scalar.ofBits .f32 0x00000000#32))) (broadcast S8x128 0#32)
    (select (andi (cmpf .ogt x (broadcast S8x128 (Scalar.ofBits .f32 0x00000000#32))) (cmpf .olt x (broadcast S8x128 (Scalar.ofBits .f32 0x7F800000#32))))
      (minsi (subi f (broadcast S8x128 126#32)) (broadcast S8x128 126#32)) (broadcast S8x128 0#32))

theorem expV_at (a x : FVec Ideal S8x128 .f32) (f : IVec S8x128 32) (j : S8x128.Idx) (h : f j = fieldE (x j)) :
    expV a x f j = expE (a j) (x j) := by
  unfold expE; rw [← h]; rfl

theorem pay22_eq (a x : FVec Ideal S8x128 .f32) (f : IVec S8x128 32) :
    k0_pay22 (F := Ideal) a x f (addi f (broadcast S8x128 2#32)) 23#32 = expV a x (stepV x (stepV x f 2#32) 1#32) := rfl

/-- The scales the first kernel stores, by row. -/
def kRow (a b : EReal) : Nat → EReal
  | 0 => kScale a (a * cDy)
  | 1 => kInv a (a * cDy)
  | 2 => kScale b (b * cW)
  | _ => kInv b (b * cW)

theorem scalesRow_at (d : Vec Ideal S8x4096 .bf16) (w : Vec Ideal S8x4096 .f32) (n : Nat) (j : S8x128.Idx) :
    K0.scalesRow (F := Ideal) d w n j = kRow (topD d) (topW w) n := by
  have hD : k0_pay13 (F := Ideal) (k0_pay11 (F := Ideal) d) (k0_pay12 (F := Ideal) d) j = fieldE (k0_pay11 (F := Ideal) d j) := by
    rw [pay13_at, pay12_at]; rfl
  have h22 : k0_pay22 (F := Ideal) (k0_pay10 (F := Ideal) w) (k0_pay17 (F := Ideal) (k0_pay10 (F := Ideal) w))
      (k0_pay20 (F := Ideal) (k0_pay17 (F := Ideal) (k0_pay10 (F := Ideal) w)) (k0_pay18 (F := Ideal) (k0_pay10 (F := Ideal) w)) (k0_pay19 (F := Ideal) (k0_pay10 (F := Ideal) w)) 23#32)
      (k0_pay21 (F := Ideal) (k0_pay17 (F := Ideal) (k0_pay10 (F := Ideal) w)) (k0_pay18 (F := Ideal) (k0_pay10 (F := Ideal) w)) (k0_pay19 (F := Ideal) (k0_pay10 (F := Ideal) w)) 23#32) 23#32 j
      = expE (topW w) (topW w * cW) := by
    unfold k0_pay21 k0_pay19
    dsimp only
    rw [pay22_eq, pay20_eq, pay18_eq, expV_at]
    · rfl
    · simp only [stepV_at]; rfl
  match n with
  | 0 => exact pay15_at _ _ _ j hD
  | 1 => exact pay16_at _ _ _ j hD
  | 2 => exact congrArg (fun e => fv (IntOp.addi e 127#32)) h22
  | n + 3 => exact congrArg (fun e => fv (IntOp.addi (IntOp.subi 0#32 e) 127#32)) h22

end Cert.Val

end
-- ==== Proof.Value.Max.lean ====
/- Maxima over the extended reals, by their upper bounds: a reduction by maximum is below `z` exactly when every element it
   takes in is. -/
module

public import proofs.«01_k».proof.Proof.Value.Scale0

@[expose] public section

set_option maxRecDepth 16384

noncomputable section

namespace Cert.Val

open Cert.KernelIdeal Cert.KernelIdeal.Gen
open Idealize.ShloMosaic

theorem foldl_max_le {ι : Type} (f : ι → EReal) (z : EReal) : ∀ (l : List ι) (init : EReal),
    l.foldl (fun r n => max r (f n)) init ≤ z ↔ init ≤ z ∧ ∀ n ∈ l, f n ≤ z
  | [], init => by simp
  | a :: l, init => by
    rw [List.foldl_cons, foldl_max_le f z l]
    simp only [max_le_iff, List.mem_cons, forall_eq_or_imp, and_assoc]

/-- The bits of −∞ in each format a reduction prints at. -/
theorem ninf_f32 : (FloatOps.ofBits .f32 0xFF800000#32 : Ideal .f32) = (⊥ : EReal) := by
  rw [Ideal.ofBits_def]; unfold Ideal.ofBits Ideal.ieee
  simp only [show (BitVec.extractLsb' 23 8 (0xFF800000#32)).toNat = 255 by decide, show (BitVec.extractLsb' 0 23 (0xFF800000#32)).toNat = 0 by decide,
    show (BitVec.extractLsb' (8 + 23) 1 (0xFF800000#32) == 1#1) = true by decide]
  norm_num
theorem ninf_bf16 : (FloatOps.ofBits .bf16 0xFF80#16 : Ideal .bf16) = (⊥ : EReal) := by
  rw [Ideal.ofBits_def]; unfold Ideal.ofBits Ideal.ieee
  simp only [show (BitVec.extractLsb' 7 8 (0xFF80#16)).toNat = 255 by decide, show (BitVec.extractLsb' 0 7 (0xFF80#16)).toNat = 0 by decide,
    show (BitVec.extractLsb' (8 + 7) 1 (0xFF80#16) == 1#1) = true by decide]
  norm_num

theorem reduceFold_le {s t : Shape} {axes : List (Fin s.rank)} (h : s.Reduces axes t) (x : s.Idx → EReal) (init : EReal) (j : t.Idx) (z : EReal) :
    reduceFold h (max : EReal → EReal → EReal) init x j ≤ z ↔ init ≤ z ∧ ∀ i, h.drop i = j → x i ≤ z := by
  unfold reduceFold
  rw [foldl_max_le (fun n => x (s.rowMajor.symm n)) z]
  refine and_congr_right fun _ => ⟨fun H i hi => ?_, fun H n hn => ?_⟩
  · have := H (s.rowMajor i) (by simp [hi])
    simpa using this
  · simp only [List.mem_filter, List.mem_finRange, true_and, decide_eq_true_eq] at hn
    exact H _ hn

theorem multi_le {s t : Shape} {φ : FTy} {axes : List (Fin s.rank)} (x : FVec Ideal s φ) (b : BitVec φ.bits) (h : s.Reduces axes t)
    (hφ : FKind.Formats φ) (hb : b = FKind.maximumf.neutral φ hφ) (h0 : (FloatOps.ofBits φ b : Ideal φ) = (⊥ : EReal)) (j : t.Idx) (z : EReal) :
    (multiReduction .maximumf axes t x b h hφ hb j : EReal) ≤ z ↔ ∀ i, h.drop i = j → (x i : EReal) ≤ z := by
  have e : multiReduction .maximumf axes t x b h hφ hb j = reduceFold h (max : EReal → EReal → EReal) (FloatOps.ofBits φ b : Ideal φ) x j := rfl
  rw [e, reduceFold_le, h0]; simp

theorem hostReduce_le {s t u : Shape} {φ : FTy} {axes : List (Fin s.rank)} (x : FVec Ideal s φ) (b : BitVec φ.bits) (h : s.ReducesTo axes t)
    (hu : 0 < u.numel) (h0 : (FloatOps.ofBits φ b : Ideal φ) = (⊥ : EReal)) (j : t.Idx) (z : EReal) :
    ((Host.reduce (FloatOps.maximumf (F := Ideal) (φ := φ)) x (constant (F := Ideal) u φ b : FVec Ideal u φ) h hu : FVec Ideal t φ) j : EReal) ≤ z ↔ ∀ i, h.drop i = j → (x i : EReal) ≤ z := by
  have e : ((Host.reduce (FloatOps.maximumf (F := Ideal) (φ := φ)) x (constant (F := Ideal) u φ b : FVec Ideal u φ) h hu : FVec Ideal t φ) j : EReal)
      = ((List.finRange s.numel).filter fun n => h.drop (s.rowMajor.symm n) = j).foldl (fun r n => max r (x (s.rowMajor.symm n) : EReal)) (FloatOps.ofBits φ b : Ideal φ) := rfl
  rw [e, foldl_max_le (fun n => (x (s.rowMajor.symm n) : EReal)) z, h0]
  refine ⟨fun H i hi => ?_, fun H => ⟨bot_le, fun n hn => ?_⟩⟩
  · have := H.2 (s.rowMajor i) (by simp [hi])
    simpa using this
  · simp only [List.mem_filter, List.mem_finRange, true_and, decide_eq_true_eq] at hn
    exact H _ hn

/-- A bound on every element of a reshaped array is a bound on every element of the array. -/
theorem shapeCast_forall {s t : Shape} (x : s.Idx → EReal) (h : s.ShapeCasts t) (z : EReal) :
    (∀ j, shapeCast t x h j ≤ z) ↔ ∀ i, x i ≤ z := by
  unfold shapeCast
  refine ⟨fun H i => ?_, fun H j => H _⟩
  have := H ((Shape.reshapeEquiv h).symm i)
  simpa using this

/-- The absolute value. -/
def ab (x : EReal) : EReal := max x (-x)

theorem ab_nonneg (x : EReal) : 0 ≤ ab x := by
  unfold ab
  rcases le_total 0 x with h | h
  · exact le_max_of_le_left h
  · exact le_max_of_le_right (by rw [← neg_zero]; exact EReal.neg_le_neg_iff.mpr h)

theorem eq_of_le_iff {a b : EReal} (h : ∀ z, a ≤ z ↔ b ≤ z) : a = b := le_antisymm ((h b).mpr le_rfl) ((h a).mp le_rfl)

theorem S1_sub (i j : S1.Idx) : i = j := funext fun a => by
  apply Fin.ext; have h1 := (i a).isLt; have h2 := (j a).isLt
  match a with
  | ⟨0, _⟩ =>
    have h1 : (i ⟨0, by decide⟩).val < 1 := (i _).isLt
    have h2 : (j ⟨0, by decide⟩).val < 1 := (j _).isLt
    omega

theorem topD_le (d : Vec Ideal S8x4096 .bf16) (z : EReal) : topD d ≤ z ↔ ∀ i, (d i : EReal) ≤ z := by
  unfold topD k0_pay9
  dsimp only [broadcast, extractAt]
  refine (multi_le _ _ _ _ _ ninf_f32 _ z).trans ⟨fun H i => ?_, fun H i _ => H _⟩
  have := H ((Shape.reshapeEquiv shapeCasts_S8x4096_S1x8x4096).symm i) (S1_sub _ _)
  unfold shapeCast at this
  rw [Equiv.apply_symm_apply] at this
  exact this

theorem topW_le (d : Vec Ideal S8x4096 .f32) (z : EReal) : topW d ≤ z ↔ ∀ i, (d i : EReal) ≤ z := by
  unfold topW k0_pay10
  dsimp only [broadcast, extractAt]
  refine (multi_le _ _ _ _ _ ninf_f32 _ z).trans ⟨fun H i => ?_, fun H i _ => H _⟩
  have := H ((Shape.reshapeEquiv shapeCasts_S8x4096_S1x8x4096).symm i) (S1_sub _ _)
  unfold shapeCast at this
  rw [Equiv.apply_symm_apply] at this
  exact this

theorem pay3_le (d : Vec Ideal S8x4096 .bf16) (b : Vec Ideal S1024x4096 .bf16) (z : EReal) :
    (∀ i, (k0_pay3 (F := Ideal) d b i : EReal) ≤ z) ↔ (∀ i, (d i : EReal) ≤ z) ∧ ∀ k, ab (b k) ≤ z := by
  unfold k0_pay3
  dsimp only
  rw [shapeCast_self b]
  refine (shapeCast_forall _ _ z).trans ?_
  have key := shapeCast_forall (fun k => ab (b k)) shapeCasts_S1024x4096_S128x8x4096 z
  refine ⟨fun H => ⟨fun i => (max_le_iff.mp (H i)).1, key.mp fun k => ?_⟩, fun H i => max_le (H.1 i) ?_⟩
  · exact (multi_le _ _ _ _ _ ninf_bf16 _ z).mp (max_le_iff.mp (H (reduces_S128x8x4096_S8x4096.drop k))).2 k rfl
  · exact (multi_le _ _ _ _ _ ninf_bf16 _ z).mpr fun k _ => key.mpr H.2 k

theorem pay4_le (d : Vec Ideal S8x4096 .f32) (b : Vec Ideal S512x4096 .f32) (z : EReal) :
    (∀ i, (k0_pay4 (F := Ideal) d b i : EReal) ≤ z) ↔ (∀ i, (d i : EReal) ≤ z) ∧ ∀ k, ab (b k) ≤ z := by
  unfold k0_pay4
  dsimp only
  refine (shapeCast_forall _ _ z).trans ?_
  have key := shapeCast_forall (fun k => ab (b k)) shapeCasts_S512x4096_S64x8x4096 z
  refine ⟨fun H => ⟨fun i => (max_le_iff.mp (H i)).1, key.mp fun k => ?_⟩, fun H i => max_le (H.1 i) ?_⟩
  · exact (multi_le _ _ _ _ _ ninf_f32 _ z).mp (max_le_iff.mp (H (reduces_S64x8x4096_S8x4096.drop k))).2 k rfl
  · exact (multi_le _ _ _ _ _ ninf_f32 _ z).mpr fun k _ => key.mpr H.2 k

end Cert.Val

end
-- ==== Proof.Value.Acc0.lean ====
/- The first kernel's two accumulators over the extended reals: after the last point their greatest elements are the greatest
   absolute values of its two operands, so its result holds the kernel's scales of those. -/
module

public import proofs.«01_k».proof.Proof.Value.Max

@[expose] public section

set_option maxRecDepth 16384

noncomputable section

namespace Cert.Val

open Cert.KernelIdeal Cert.KernelIdeal.Gen
open Idealize.ShloMosaic Idealize.ShloMosaic.TcCoe
open Idealize.SL Idealize.SL.RA Idealize.SL.Sem
open Cert.KernelIdeal.Own

variable {Ix : Type} [DecidableEq Ix] {U : Type} [URA U] {Lvl : Type} [Preorder Lvl]
variable (𝒱₀ : Variants) (V : (c : Dev nD) → (b : Ref sig .tc) → Buf (Elt Ideal) ((c : Thread nD τ).loc b)) (c : Dev nD)

/-- What the staging buffer and the accumulators hold after point `n`. -/
abbrev outs (n : ℕ) (hn : n < cfg0.N) : Vec Ideal S4x8x128 .f32 × Vec Ideal S8x4096 .bf16 × Vec Ideal S8x4096 .f32 :=
  K0.outsAt0 (Ix := Ix) (U := U) (Lvl := Lvl) 𝒱₀ V c n hn

theorem pay1_le (z : EReal) : (∀ i, (k0_pay1 (F := Ideal) i : EReal) ≤ z) ↔ 0 ≤ z := by
  have e : ∀ i, (k0_pay1 (F := Ideal) i : EReal) = 0 := fun i => Ideal.ofBits_zero_bf16
  simp only [e]; exact ⟨fun H => H (fun a => ⟨0, by fin_cases a <;> decide⟩), fun H _ => H⟩
theorem pay2_le (z : EReal) : (∀ i, (k0_pay2 (F := Ideal) i : EReal) ≤ z) ↔ 0 ≤ z := by
  have e : ∀ i, (k0_pay2 (F := Ideal) i : EReal) = 0 := fun i => Ideal.ofBits_zero_f32
  simp only [e]; exact ⟨fun H => H (fun a => ⟨0, by fin_cases a <;> decide⟩), fun H _ => H⟩

/-- The dy accumulator over the dy points. -/
theorem accD_le (z : EReal) : ∀ (n : ℕ) (hn : n < cfg0.N), n < 24 →
    ((∀ i, ((outs (Ix := Ix) (U := U) (Lvl := Lvl) 𝒱₀ V c n hn).2.1 i : EReal) ≤ z)
      ↔ 0 ≤ z ∧ ∀ (t : Fin cfg0.N), t.val ≤ n → ∀ k, ab (K0.iblk V c 0 t k) ≤ z)
  | 0, hn, _ => by
    have h := K0.outsAt0_A (Ix := Ix) (U := U) (Lvl := Lvl) 𝒱₀ V c ⟨0, hn⟩ rfl (by dsimp only; omega) (by dsimp only; omega) (by dsimp only; omega)
    unfold outs
    rw [h]; dsimp only
    rw [K0.sout_A_0, pay3_le, pay1_le]
    refine and_congr_right fun _ => ⟨fun H t ht => ?_, fun H => H ⟨0, hn⟩ (le_refl _)⟩
    obtain rfl : t = ⟨0, hn⟩ := Fin.ext (Nat.le_zero.mp ht)
    exact H
  | n + 1, hn, h24 => by
    have h := K0.outsAt0_B (Ix := Ix) (U := U) (Lvl := Lvl) 𝒱₀ V c ⟨n + 1, hn⟩ (by dsimp only; omega) (by dsimp only; omega) (by dsimp only; omega) (by dsimp only; omega)
    unfold outs
    rw [h]; dsimp only
    rw [K0.sout_B_0, pay3_le]
    have ih := accD_le z n (Nat.lt_of_succ_lt hn) (by omega)
    unfold outs at ih
    simp only [Nat.add_sub_cancel]
    rw [ih, and_assoc]
    refine and_congr_right fun _ => ⟨fun H t ht => ?_, fun H => ⟨fun t ht => H t (by omega), H ⟨n + 1, hn⟩ (le_refl _)⟩⟩
    rcases Nat.lt_or_ge n t.val with h | h
    · obtain rfl : t = ⟨n + 1, hn⟩ := Fin.ext (by dsimp only; omega)
      exact H.2
    · exact H.1 t h

/-- The w accumulator over the dy points. -/
theorem accW_zero : ∀ (n : ℕ) (hn : n < cfg0.N), n < 24 → (outs (Ix := Ix) (U := U) (Lvl := Lvl) 𝒱₀ V c n hn).2.2 = k0_pay2 (F := Ideal)
  | 0, hn, _ => by
    have h := K0.outsAt0_A (Ix := Ix) (U := U) (Lvl := Lvl) 𝒱₀ V c ⟨0, hn⟩ rfl (by dsimp only; omega) (by dsimp only; omega) (by dsimp only; omega)
    unfold outs
    rw [h]; dsimp only
    rw [K0.sout_A_1]
  | n + 1, hn, h24 => by
    have h := K0.outsAt0_B (Ix := Ix) (U := U) (Lvl := Lvl) 𝒱₀ V c ⟨n + 1, hn⟩ (by dsimp only; omega) (by dsimp only; omega) (by dsimp only; omega) (by dsimp only; omega)
    unfold outs
    rw [h]; dsimp only
    exact accW_zero n (Nat.lt_of_succ_lt hn) (by omega)

/-- Over the w points before the last the dy accumulator keeps its contents, and the w accumulator takes in the blocks. -/
theorem acc_W (z : EReal) (m : ℕ) (hm : m < cfg0.N) (hm23 : m = 23) : ∀ (n : ℕ) (hn : n < cfg0.N), 23 ≤ n → n < 51 →
    ((outs (Ix := Ix) (U := U) (Lvl := Lvl) 𝒱₀ V c n hn).2.1 = (outs (Ix := Ix) (U := U) (Lvl := Lvl) 𝒱₀ V c m hm).2.1)
    ∧ ((∀ i, ((outs (Ix := Ix) (U := U) (Lvl := Lvl) 𝒱₀ V c n hn).2.2 i : EReal) ≤ z)
      ↔ 0 ≤ z ∧ ∀ (t : Fin cfg0.N), 24 ≤ t.val → t.val ≤ n → ∀ k, ab (K0.iblk V c 1 t k) ≤ z)
  | 0, hn, h23, _ => by omega
  | n + 1, hn, h23, h51 => by
    rcases Nat.lt_or_ge n 23 with h | h
    · obtain rfl : m = n + 1 := by omega
      refine ⟨rfl, ?_⟩
      rw [accW_zero (Ix := Ix) (U := U) (Lvl := Lvl) 𝒱₀ V c (n + 1) hn (by omega), pay2_le]
      exact ⟨fun H => ⟨H, fun t h1 h2 => by omega⟩, fun H => H.1⟩
    · have hh := K0.outsAt0_C (Ix := Ix) (U := U) (Lvl := Lvl) 𝒱₀ V c ⟨n + 1, hn⟩ (by dsimp only; omega) (by dsimp only; omega) (by dsimp only; omega) (by dsimp only; omega)
      have ih := acc_W z m hm hm23 n (Nat.lt_of_succ_lt hn) h (by omega)
      unfold outs at ih ⊢
      rw [hh]; dsimp only
      refine ⟨ih.1, ?_⟩
      rw [K0.sout_C_1, pay4_le]
      simp only [Nat.add_sub_cancel]
      rw [ih.2, and_assoc]
      refine and_congr_right fun _ => ⟨fun H t h1 h2 => ?_, fun H => ⟨fun t h1 h2 => H t h1 (by omega), H ⟨n + 1, hn⟩ (by dsimp only; omega) (le_refl _)⟩⟩
      rcases Nat.lt_or_ge n t.val with h | h
      · obtain rfl : t = ⟨n + 1, hn⟩ := Fin.ext (by dsimp only; omega)
        exact H.2
      · exact H.1 t h1 h

/-- The result's staging buffer after the last point. -/
theorem outs_last (A B : EReal)
    (hA : ∀ z, A ≤ z ↔ 0 ≤ z ∧ ∀ (t : Fin cfg0.N), t.val < 24 → ∀ k, ab (K0.iblk V c 0 t k) ≤ z)
    (hB : ∀ z, B ≤ z ↔ 0 ≤ z ∧ ∀ (t : Fin cfg0.N), 24 ≤ t.val → ∀ k, ab (K0.iblk V c 1 t k) ≤ z)
    (t : Fin cfg0.N) (ht : t.val % 52 = 51) (y : S4x8x128.Idx) :
    (outs (Ix := Ix) (U := U) (Lvl := Lvl) 𝒱₀ V c t.val t.isLt).1 y = kRow A B (y 0).val := by
  have hN : cfg0.N = 52 := N_0
  have htl := t.isLt
  have h51 : t.val = 51 := by omega
  have h := K0.outsAt0_D (Ix := Ix) (U := U) (Lvl := Lvl) 𝒱₀ V c t (by omega) (by omega) (by omega) ht
  unfold outs
  rw [h]; dsimp only
  rw [K0.out_D]
  refine (scalesRow_at _ _ _ _).trans ?_
  have e50 : t.val - 1 = 50 := by omega
  have acc := fun z => acc_W (Ix := Ix) (U := U) (Lvl := Lvl) 𝒱₀ V c z 23 (by omega) rfl (t.val - 1) (by omega) (by omega) (by omega)
  unfold outs at acc
  refine congrArg₂ (fun a b => kRow a b (y 0).val) ?_ ?_
  · refine eq_of_le_iff fun z => ?_
    rw [topD_le, (acc z).1, hA]
    have := accD_le (Ix := Ix) (U := U) (Lvl := Lvl) 𝒱₀ V c z 23 (by omega) (by omega)
    unfold outs at this
    rw [this]
    exact and_congr_right fun _ => ⟨fun H t ht => H t (by omega), fun H t ht => H t (by omega)⟩
  · refine eq_of_le_iff fun z => ?_
    rw [topW_le, pay4_le, (acc z).2, hB, and_assoc]
    refine and_congr_right fun _ => ⟨fun H t' h1 => ?_, fun H => ⟨fun t h1 _ => H t h1, H t (by omega)⟩⟩
    have := t'.isLt
    rcases Nat.lt_or_ge t'.val 51 with h | h
    · exact H.1 t' h1 (by omega)
    · obtain rfl : t' = t := Fin.ext (by omega)
      exact H.2

end Cert.Val

end
-- ==== Proof.Value.Blocks.lean ====
/- Where each block of each window of the three kernels lies in its array, at any float type. -/
module

public import proofs.«01_k».proof.Proof.KernelIdeal.K0
public import proofs.«01_k».proof.Proof.KernelIdeal.K1
public import proofs.«01_k».proof.Proof.KernelIdeal.K2
public import Idealize.ShloMosaic.Lib.Pipeline.Value

@[expose] public section

set_option maxRecDepth 16384

noncomputable section

namespace Cert.Val

open Cert.KernelIdeal Cert.KernelIdeal.Gen
open Idealize.ShloMosaic Idealize.ShloMosaic.TcCoe
open Idealize.SL Idealize.SL.RA Idealize.SL.Sem
open Cert.KernelIdeal.Own

variable {F : FTy → Type} [FloatOps F]
variable (V : (c : Dev nD) → (b : Ref sig .tc) → Buf (Elt F) ((c : Thread nD τ).loc b)) (c : Dev nD)

/-! ## The index maps -/

theorem ix0_0 : ∀ t : Fin grid0.N, win0_0.index t 0 = min t.val 23 ∧ win0_0.index t 1 = 0 := by decide +kernel
theorem ix0_1 : ∀ t : Fin grid0.N, win0_1.index t 0 = t.val - 24 ∧ win0_1.index t 1 = 0 := by decide +kernel
theorem ix0_2 : ∀ t : Fin grid0.N, win0_2.index t 0 = 0 ∧ win0_2.index t 1 = 0 ∧ win0_2.index t 2 = 0 := by decide +kernel
theorem ix1_0 : ∀ t : Fin grid1.N, win1_0.index t 0 = 0 ∧ win1_0.index t 1 = 0 ∧ win1_0.index t 2 = 0 := by decide +kernel
theorem ix1_1 : ∀ t : Fin grid1.N, win1_1.index t 0 = t.val ∧ win1_1.index t 1 = 0 := by decide +kernel
theorem ix1_2 : ∀ t : Fin grid1.N, win1_2.index t 0 = t.val ∧ win1_2.index t 1 = 0 := by decide +kernel
theorem ix2_0 : ∀ t : Fin grid2.N, win2_0.index t 0 = 0 ∧ win2_0.index t 1 = 0 ∧ win2_0.index t 2 = 0 := by decide +kernel
theorem ix2_1 : ∀ t : Fin grid2.N, win2_1.index t 0 = t.val / 14 ∧ win2_1.index t 1 = 0 := by decide +kernel
theorem ix2_2 : ∀ t : Fin grid2.N, win2_2.index t 0 = t.val % 14 ∧ win2_2.index t 1 = 0 := by decide +kernel
theorem ix2_3 : ∀ t : Fin grid2.N, win2_3.index t 0 = t.val / 14 ∧ win2_3.index t 1 = 0 ∧ win2_3.index t 2 = t.val % 14 := by decide +kernel
theorem ix2_4 : ∀ t : Fin grid2.N, win2_4.index t 0 = t.val / 14 ∧ win2_4.index t 1 = 0 := by decide +kernel

/-! ## The input blocks, entry by entry -/

theorem iblk0_0 (t : Fin cfg0.N) (k : S1024x4096.Idx) (p : S24576x4096.Idx) (h0 : (p 0).val = min t.val 23 * 1024 + (k 0).val) (h1 : (p 1).val = (k 1).val) :
    (K0.iblk V c 0 t k : Elt F .bf16) = V c main_v0 p := by
  unfold K0.iblk
  rw [View.read_apply]
  show V c main_v0 _ = V c main_v0 p
  congr 1; funext a; apply Fin.ext
  match a with
  | ⟨0, _⟩ => show win0_0.index t 0 * 1024 + 1 * (k 0).val = (p 0).val; rw [(ix0_0 t).1, h0]; omega
  | ⟨1, _⟩ => show win0_0.index t 1 * 4096 + 1 * (k 1).val = (p 1).val; rw [(ix0_0 t).2, h1]; omega

theorem iblk0_1 (t : Fin cfg0.N) (k : S512x4096.Idx) (p : S14336x4096.Idx) (h0 : (p 0).val = (t.val - 24) * 512 + (k 0).val) (h1 : (p 1).val = (k 1).val) :
    (K0.iblk V c 1 t k : Elt F .f32) = V c main_arg1 p := by
  unfold K0.iblk
  rw [View.read_apply]
  show V c main_arg1 _ = V c main_arg1 p
  congr 1; funext a; apply Fin.ext
  match a with
  | ⟨0, _⟩ => show win0_1.index t 0 * 512 + 1 * (k 0).val = (p 0).val; rw [(ix0_1 t).1, h0]; omega
  | ⟨1, _⟩ => show win0_1.index t 1 * 4096 + 1 * (k 1).val = (p 1).val; rw [(ix0_1 t).2, h1]; omega

theorem iblk1_0 (t : Fin cfg1.N) (p : S4x8x128.Idx) : (K1.iblk V c 0 t p : Elt F .f32) = V c main_v1 p := by
  unfold K1.iblk
  rw [View.read_apply]
  show V c main_v1 _ = V c main_v1 p
  congr 1; funext a; apply Fin.ext
  match a with
  | ⟨0, _⟩ => show win1_0.index t 0 * 4 + 1 * (p 0).val = (p 0).val; rw [(ix1_0 t).1]; omega
  | ⟨1, _⟩ => show win1_0.index t 1 * 8 + 1 * (p 1).val = (p 1).val; rw [(ix1_0 t).2.1]; omega
  | ⟨2, _⟩ => show win1_0.index t 2 * 128 + 1 * (p 2).val = (p 2).val; rw [(ix1_0 t).2.2]; omega

theorem iblk1_1 (t : Fin cfg1.N) (k : S512x4096.Idx) (p : S14336x4096.Idx) (h0 : (p 0).val = t.val * 512 + (k 0).val) (h1 : (p 1).val = (k 1).val) :
    (K1.iblk V c 1 t k : Elt F .f32) = V c main_arg1 p := by
  unfold K1.iblk
  rw [View.read_apply]
  show V c main_arg1 _ = V c main_arg1 p
  congr 1; funext a; apply Fin.ext
  match a with
  | ⟨0, _⟩ => show win1_1.index t 0 * 512 + 1 * (k 0).val = (p 0).val; rw [(ix1_1 t).1, h0]; omega
  | ⟨1, _⟩ => show win1_1.index t 1 * 4096 + 1 * (k 1).val = (p 1).val; rw [(ix1_1 t).2, h1]; omega

theorem iblk2_0 (t : Fin cfg2.N) (p : S4x8x128.Idx) : (K2.iblk V c 0 t p : Elt F .f32) = V c main_v1 p := by
  unfold K2.iblk
  rw [View.read_apply]
  show V c main_v1 _ = V c main_v1 p
  congr 1; funext a; apply Fin.ext
  match a with
  | ⟨0, _⟩ => show win2_0.index t 0 * 4 + 1 * (p 0).val = (p 0).val; rw [(ix2_0 t).1]; omega
  | ⟨1, _⟩ => show win2_0.index t 1 * 8 + 1 * (p 1).val = (p 1).val; rw [(ix2_0 t).2.1]; omega
  | ⟨2, _⟩ => show win2_0.index t 2 * 128 + 1 * (p 2).val = (p 2).val; rw [(ix2_0 t).2.2]; omega

theorem iblk2_1 (t : Fin cfg2.N) (k : S1024x4096.Idx) (p : S24576x4096.Idx) (h0 : (p 0).val = t.val / 14 * 1024 + (k 0).val) (h1 : (p 1).val = (k 1).val) :
    (K2.iblk V c 1 t k : Elt F .bf16) = V c main_v0 p := by
  unfold K2.iblk
  rw [View.read_apply]
  show V c main_v0 _ = V c main_v0 p
  congr 1; funext a; apply Fin.ext
  match a with
  | ⟨0, _⟩ => show win2_1.index t 0 * 1024 + 1 * (k 0).val = (p 0).val; rw [(ix2_1 t).1, h0]; omega
  | ⟨1, _⟩ => show win2_1.index t 1 * 4096 + 1 * (k 1).val = (p 1).val; rw [(ix2_1 t).2, h1]; omega

theorem iblk2_2 (t : Fin cfg2.N) (k : S1024x4096.Idx) (p : S14336x4096.Idx) (h0 : (p 0).val = t.val % 14 * 1024 + (k 0).val) (h1 : (p 1).val = (k 1).val) :
    (K2.iblk V c 2 t k : Elt F .fp8e4m3) = V c main_v2 p := by
  unfold K2.iblk
  rw [View.read_apply]
  show V c main_v2 _ = V c main_v2 p
  congr 1; funext a; apply Fin.ext
  match a with
  | ⟨0, _⟩ => show win2_2.index t 0 * 1024 + 1 * (k 0).val = (p 0).val; rw [(ix2_2 t).1, h0]; omega
  | ⟨1, _⟩ => show win2_2.index t 1 * 4096 + 1 * (k 1).val = (p 1).val; rw [(ix2_2 t).2, h1]; omega

/-! ## Where the output blocks lie -/

theorem mem0_2 (t : Fin cfg0.N) (i : S4x8x128.Idx) : i ∈ ((cfg0.win 2).blk t).view.set := by
  show i ∈ ((View.whole main_v1).slice (win0_2.rect t)).set
  rw [View.set_slice_whole, Rect.mem_set_unit]
  intro a
  have h := ix0_2 t
  match a with
  | ⟨0, _⟩ =>
    have := (i 0).isLt
    show win0_2.index t 0 * 4 ≤ (i 0 : Nat) ∧ (i 0 : Nat) < win0_2.index t 0 * 4 + 4; rw [h.1]; exact ⟨by omega, by simpa using this⟩
  | ⟨1, _⟩ =>
    have := (i 1).isLt
    show win0_2.index t 1 * 8 ≤ (i 1 : Nat) ∧ (i 1 : Nat) < win0_2.index t 1 * 8 + 8; rw [h.2.1]; exact ⟨by omega, by simpa using this⟩
  | ⟨2, _⟩ =>
    have := (i 2).isLt
    show win0_2.index t 2 * 128 ≤ (i 2 : Nat) ∧ (i 2 : Nat) < win0_2.index t 2 * 128 + 128; rw [h.2.2]; exact ⟨by omega, by simpa using this⟩

theorem mem1_2 (t : Fin cfg1.N) (i : S14336x4096.Idx) (hi : t.val = (i 0).val / 512) : i ∈ ((cfg1.win 2).blk t).view.set := by
  show i ∈ ((View.whole main_v2).slice (win1_2.rect t)).set
  rw [View.set_slice_whole, Rect.mem_set_unit]
  intro a
  have h := ix1_2 t
  match a with
  | ⟨0, _⟩ =>
    show win1_2.index t 0 * 512 ≤ (i 0 : Nat) ∧ (i 0 : Nat) < win1_2.index t 0 * 512 + 512; rw [h.1, hi]; omega
  | ⟨1, _⟩ =>
    have := (i 1).isLt
    show win1_2.index t 1 * 4096 ≤ (i 1 : Nat) ∧ (i 1 : Nat) < win1_2.index t 1 * 4096 + 4096; rw [h.2]; exact ⟨by omega, by simpa using this⟩

theorem mem2_4 (t : Fin cfg2.N) (i : S24576x4096.Idx) (hi : t.val / 14 = (i 0).val / 1024) : i ∈ ((cfg2.win 4).blk t).view.set := by
  show i ∈ ((View.whole main_v3_1).slice (win2_4.rect t)).set
  rw [View.set_slice_whole, Rect.mem_set_unit]
  intro a
  have h := ix2_4 t
  match a with
  | ⟨0, _⟩ =>
    show win2_4.index t 0 * 1024 ≤ (i 0 : Nat) ∧ (i 0 : Nat) < win2_4.index t 0 * 1024 + 1024; rw [h.1, hi]; omega
  | ⟨1, _⟩ =>
    have := (i 1).isLt
    show win2_4.index t 1 * 4096 ≤ (i 1 : Nat) ∧ (i 1 : Nat) < win2_4.index t 1 * 4096 + 4096; rw [h.2]; exact ⟨by omega, by simpa using this⟩

theorem mem2_3 (t : Fin cfg2.N) (i : S3072x8x14336.Idx) (hi : t.val / 14 = (i 0).val / 128) (hj : t.val % 14 = (i 2).val / 1024) :
    i ∈ ((cfg2.win 3).blk t).view.set := by
  show i ∈ ((View.whole main_v3_0).slice (win2_3.rect t)).set
  rw [View.set_slice_whole, Rect.mem_set_unit]
  intro a
  have h := ix2_3 t
  match a with
  | ⟨0, _⟩ =>
    show win2_3.index t 0 * 128 ≤ (i 0 : Nat) ∧ (i 0 : Nat) < win2_3.index t 0 * 128 + 128; rw [h.1, hi]; omega
  | ⟨1, _⟩ =>
    have := (i 1).isLt
    show win2_3.index t 1 * 8 ≤ (i 1 : Nat) ∧ (i 1 : Nat) < win2_3.index t 1 * 8 + 8; rw [h.2.1]; exact ⟨by omega, by simpa using this⟩
  | ⟨2, _⟩ =>
    show win2_3.index t 2 * 1024 ≤ (i 2 : Nat) ∧ (i 2 : Nat) < win2_3.index t 2 * 1024 + 1024; rw [h.2.2, hj]; omega

end Cert.Val

end
-- ==== Proof.Value.Final0.lean ====
/- What the first kernel leaves in its result over the extended reals: in every row one scale, of the greatest absolute
   value of one of the two operands. -/
module

public import proofs.«01_k».proof.Proof.Value.Acc0
public import proofs.«01_k».proof.Proof.Value.Blocks

@[expose] public section

set_option maxRecDepth 16384

noncomputable section

namespace Cert.Val

open Cert.KernelIdeal Cert.KernelIdeal.Gen
open Idealize.ShloMosaic Idealize.ShloMosaic.TcCoe
open Idealize.SL Idealize.SL.RA Idealize.SL.Sem
open Cert.KernelIdeal.Own

/-- The greatest absolute value of an array. -/
def absMax {s : Shape} (x : s.Idx → EReal) : EReal := ⨆ i, ab (x i)

theorem absMax_le {s : Shape} (x : s.Idx → EReal) (z : EReal) : absMax x ≤ z ↔ ∀ i, ab (x i) ≤ z := iSup_le_iff

theorem absMax_nonneg {s : Shape} (x : s.Idx → EReal) (i : s.Idx) : 0 ≤ absMax x :=
  (ab_nonneg (x i)).trans ((absMax_le x _).mp le_rfl i)

theorem absMax_shapeCast {s t : Shape} (x : s.Idx → EReal) (h : s.ShapeCasts t) : absMax (shapeCast t x h) = absMax x :=
  eq_of_le_iff fun z => by
    rw [absMax_le, absMax_le]
    exact shapeCast_forall (fun i => ab (x i)) h z

variable {Ix : Type} [DecidableEq Ix] {U : Type} [URA U] {Lvl : Type} [Preorder Lvl]
variable (𝒱₀ : Variants) (V : (c : Dev nD) → (b : Ref sig .tc) → Buf (Elt Ideal) ((c : Thread nD τ).loc b)) (D : Dev nD → CellTallies nD τ sig Ix) (c : Dev nD)

theorem topOf_dy (z : EReal) : absMax (s := S24576x4096) (V c main_v0) ≤ z ↔ 0 ≤ z ∧ ∀ (t : Fin cfg0.N), t.val < 24 → ∀ k, ab (K0.iblk V c 0 t k) ≤ z := by
  have hN : cfg0.N = 52 := N_0
  rw [absMax_le]
  constructor
  · refine fun H => ⟨(ab_nonneg _).trans (H (ValueIdx.ix2 (0 : Fin 24576) (0 : Fin 4096))), fun t ht k => ?_⟩
    have k0 : ((k : S1024x4096.Idx) 0).val < 1024 := ((k : S1024x4096.Idx) 0).isLt
    have k1 : ((k : S1024x4096.Idx) 1).val < 4096 := ((k : S1024x4096.Idx) 1).isLt
    exact (le_of_eq (congrArg ab (iblk0_0 V c t k (ValueIdx.ix2 (⟨min t.val 23 * 1024 + ((k : S1024x4096.Idx) 0).val, by omega⟩ : Fin 24576) (⟨((k : S1024x4096.Idx) 1).val, k1⟩ : Fin 4096)) rfl rfl))).trans (H _)
  · refine fun H i => ?_
    have i0 : ((i : S24576x4096.Idx) 0).val < 24576 := ((i : S24576x4096.Idx) 0).isLt
    have i1 : ((i : S24576x4096.Idx) 1).val < 4096 := ((i : S24576x4096.Idx) 1).isLt
    refine (le_of_eq (congrArg ab (iblk0_0 V c ⟨((i : S24576x4096.Idx) 0).val / 1024, by omega⟩
      (ValueIdx.ix2 (⟨((i : S24576x4096.Idx) 0).val % 1024, by omega⟩ : Fin 1024) (⟨((i : S24576x4096.Idx) 1).val, i1⟩ : Fin 4096)) i ?_ rfl).symm)).trans (H.2 _ ?_ _)
    · show ((i : S24576x4096.Idx) 0).val = min (((i : S24576x4096.Idx) 0).val / 1024) 23 * 1024 + ((i : S24576x4096.Idx) 0).val % 1024
      omega
    · dsimp only; omega

theorem topOf_w (z : EReal) : absMax (s := S14336x4096) (V c main_arg1) ≤ z ↔ 0 ≤ z ∧ ∀ (t : Fin cfg0.N), 24 ≤ t.val → ∀ k, ab (K0.iblk V c 1 t k) ≤ z := by
  have hN : cfg0.N = 52 := N_0
  rw [absMax_le]
  constructor
  · refine fun H => ⟨(ab_nonneg _).trans (H (ValueIdx.ix2 (0 : Fin 14336) (0 : Fin 4096))), fun t ht k => ?_⟩
    have htl := t.isLt
    have k0 : ((k : S512x4096.Idx) 0).val < 512 := ((k : S512x4096.Idx) 0).isLt
    have k1 : ((k : S512x4096.Idx) 1).val < 4096 := ((k : S512x4096.Idx) 1).isLt
    exact (le_of_eq (congrArg ab (iblk0_1 V c t k (ValueIdx.ix2 (⟨(t.val - 24) * 512 + ((k : S512x4096.Idx) 0).val, by omega⟩ : Fin 14336) (⟨((k : S512x4096.Idx) 1).val, k1⟩ : Fin 4096)) rfl rfl))).trans (H _)
  · refine fun H i => ?_
    have i0 : ((i : S14336x4096.Idx) 0).val < 14336 := ((i : S14336x4096.Idx) 0).isLt
    have i1 : ((i : S14336x4096.Idx) 1).val < 4096 := ((i : S14336x4096.Idx) 1).isLt
    refine (le_of_eq (congrArg ab (iblk0_1 V c ⟨((i : S14336x4096.Idx) 0).val / 512 + 24, by omega⟩
      (ValueIdx.ix2 (⟨((i : S14336x4096.Idx) 0).val % 512, by omega⟩ : Fin 512) (⟨((i : S14336x4096.Idx) 1).val, i1⟩ : Fin 4096)) i ?_ rfl).symm)).trans (H.2 _ ?_ _)
    · show ((i : S14336x4096.Idx) 0).val = (((i : S14336x4096.Idx) 0).val / 512 + 24 - 24) * 512 + ((i : S14336x4096.Idx) 0).val % 512
      omega
    · dsimp only; omega

/-- The four rows of scales. -/
abbrev scales : Buf (Elt Ideal) ((c : Thread nD τ).loc main_v1) := fun y =>
  kRow (absMax (s := S24576x4096) (V c main_v0)) (absMax (s := S14336x4096) (V c main_arg1)) ((y : S4x8x128.Idx) 0).val

theorem flushed0 (t : Fin cfg0.N) (hf : (cfg0.win 2).flush t = true) :
    (K0.dat (Ix := Ix) (U := U) (Lvl := Lvl) 𝒱₀ V D c).flushed 2 t = ((cfg0.win 2).blk t).view.read (Elt Ideal) (scales V c) := by
  have ht := (flush0_2 t).mp hf
  show (cfg0.win 2).cut (grid0.coords t) ((K0.dat (Ix := Ix) (U := U) (Lvl := Lvl) 𝒱₀ V D c).after 2 t) = _
  rw [K0.after0_2]
  funext j
  rw [View.read_apply]
  refine (outs_last (Ix := Ix) (U := U) (Lvl := Lvl) 𝒱₀ V c _ _ (topOf_dy V c) (topOf_w V c) t ht (j : S4x8x128.Idx)).trans ?_
  refine congrArg (kRow _ _) ?_
  show (j 0).val = win0_2.index t 0 * 4 + 1 * (j 0).val
  rw [(Cert.Val.ix0_2 t).1]; omega

theorem final0 : (K0.dat (Ix := Ix) (U := U) (Lvl := Lvl) 𝒱₀ V D c).arrAt 2 cfg0.N = scales V c :=
  (K0.dat (Ix := Ix) (U := U) (Lvl := Lvl) 𝒱₀ V D c).arrAt_eq_of_cover 2 (scales V c) (flushed0 𝒱₀ V D c) fun i => by
    have hN : cfg0.N = 52 := N_0
    exact ⟨⟨51, by omega⟩, (flush0_2 _).mpr (by dsimp only), mem0_2 _ i⟩

end Cert.Val

end
-- ==== Proof.Value.Spec.lean ====
/- The arithmetic of the results over the extended reals, entry by entry: the codes, the products, and what the blocks of the
   second and the third kernel hold of them. -/
module

public import proofs.«01_k».proof.Proof.Gen.KernelIdeal.Skeleton
public import Idealize.ShloMosaic.Lib.MatmulPlain
public import Idealize.ShloMosaic.Lib.Pipeline.Value

@[expose] public section

set_option maxRecDepth 16384

noncomputable section

namespace Cert.Val

open Cert.KernelIdeal Cert.KernelIdeal.Gen
open Idealize.ShloMosaic Idealize.ShloMosaic.ValueIdx

/-- A code of `dy`: the product with the inverse scale, clipped to ±57344. -/
def cd (x s : EReal) : EReal :=
  min (FloatOps.ofBits .f32 0x47600000#32 : Ideal .f32) (max (FloatOps.ofBits .f32 0xC7600000#32 : Ideal .f32) (x * s))
/-- A code of `w`: the product with the inverse scale, clipped to ±448. -/
def cw (x s : EReal) : EReal :=
  min (FloatOps.ofBits .f32 0x43E00000#32 : Ideal .f32) (max (FloatOps.ofBits .f32 0xC3E00000#32 : Ideal .f32) (x * s))

/-- An array of one element has one index. -/
theorem one_idx {s : Shape} (h : ∀ a, s.size a = 1) (i j : s.Idx) : i = j := funext fun a => Fin.ext (by
  have h1 := (i a).isLt; have h2 := (j a).isLt; have := h a; omega)
theorem S111 (a : Fin S1x1x1.rank) : S1x1x1.size a = 1 := by fin_cases a <;> rfl
theorem S11 (a : Fin S1x1.rank) : S1x1.size a = 1 := by fin_cases a <;> rfl

/-- `x[r, ·] · y[q, ·]`. -/
def dotRow {R Q : ℕ} (x : (⟨2, ![R, 4096]⟩ : Shape).Idx → EReal) (y : (⟨2, ![Q, 4096]⟩ : Shape).Idx → EReal) (r : Fin R) (q : Fin Q) : EReal :=
  (FloatOps.ofBits .f32 0x00000000#32 : Ideal .f32) + ∑ k : Fin 4096, x (ix2 r k) * y (ix2 q k)

theorem k1_pay1_at (v0 : Vec Ideal S1x1x1 .f32) (v2 : Vec Ideal S512x4096 .f32) (j : S512x4096.Idx) (i : S1x1x1.Idx) :
    (k1_pay1 (F := Ideal) v0 v2 j : EReal) = cw (v2 j) (v0 i) := by
  obtain ⟨i', h⟩ : ∃ i', (k1_pay1 (F := Ideal) v0 v2 j : EReal) = cw (v2 j) (v0 i') := ⟨_, rfl⟩
  rw [h, one_idx S111 i' i]

theorem k2_pay1_at (v0 : Vec Ideal S1x1x1 .f32) (v2 : Vec Ideal S1024x4096 .bf16) (j : S1024x4096.Idx) (i : S1x1x1.Idx) :
    (k2_pay1 (F := Ideal) v0 v2 j : EReal) = cd (v2 j) (v0 i) := by
  unfold k2_pay1
  rw [shapeCast_self v2]
  obtain ⟨i', h⟩ : ∃ i', (_ : EReal) = cd (v2 j) (v0 i') := ⟨_, rfl⟩
  exact h.trans (by rw [one_idx S111 i' i])

theorem k2_pay2_at (dq : Vec Ideal S1024x4096 .fp8e5m2) (wq : Vec Ideal S1024x4096 .fp8e4m3) (s t : Vec Ideal S1x1x1 .f32)
    (j : S128x8x1024.Idx) (i : S1x1x1.Idx) (r : Fin 1024) (hr : r.val = (j 0).val * 8 + (j 1).val)
    (q : Fin 1024) (hq : q.val = (j 2).val) :
    (k2_pay2 (F := Ideal) dq wq s t j : EReal) = dotRow (R := 1024) (Q := 1024) dq wq r q * (s i * t i) := by
  unfold k2_pay2
  rw [shapeCast_self dq, shapeCast_self wq]
  have e : Shape.reshapeEquiv shapeCasts_S1024x1024_S128x8x1024 j = ix2 r q :=
    Shape.reshapeEquiv_eq_of_rowMajor _ (by
      have h2 := Shape.rowMajor_val_two (d := ![1024, 1024]) (ix2 r q)
      have h3 := Shape.rowMajor_val_three (d := ![128, 8, 1024]) j
      refine h2.trans (Eq.trans ?_ h3.symm)
      show r.val * 1024 + q.val = ((j 0).val * 8 + (j 1).val) * 1024 + (j 2).val
      rw [hr, hq])
  obtain ⟨i1, i2, h⟩ : ∃ i1 i2, ((truncf .bf16 (shapeCast S128x8x1024 (mulf (matmul dot_S1024x4096_S1024x4096_S1024x1024_1_1_0_0_n_n none dq wq (constant (F := Ideal) S1024x1024 .f32 0x00000000#32))
      (broadcastTo S1024x1024 (mulf (shapeCast S1x1 s shapeCasts_S1x1x1_S1x1) (shapeCast S1x1 t shapeCasts_S1x1x1_S1x1)) broadcasts_S1x1_S1024x1024)) shapeCasts_S1024x1024_S128x8x1024) bitsLt_bf16_f32 : FVec Ideal S128x8x1024 .bf16) j : EReal)
      = (FloatOps.matmul (DotDims.transposedRhs 1024 4096 1024) none dq wq (constant (F := Ideal) S1024x1024 .f32 0x00000000#32) (Shape.reshapeEquiv shapeCasts_S1024x1024_S128x8x1024 j) : EReal) * (s i1 * t i2) := ⟨_, _, rfl⟩
  refine h.trans ?_
  rw [one_idx S111 i1 i, one_idx S111 i2 i, e, Ideal.matmul_transposedRhs_apply]
  rfl

end Cert.Val

end
-- ==== Proof.Value.Body12.lean ====
/- What the bodies of the second and the third kernel leave in their results, at any float type. -/
module

public import proofs.«01_k».proof.Proof.KernelIdeal.K1
public import proofs.«01_k».proof.Proof.KernelIdeal.K2
public import Idealize.ShloMosaic.Lib.Pipeline.Value
public import Idealize.ShloMosaic.Lib.Tactic

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.Sem

variable {F : FTy → Type} [FloatOps F]
variable {Ix : Type} [DecidableEq Ix] {U : Type} [URA U] {Lvl : Type} [Preorder Lvl]
variable (𝒱₀ : Variants)

theorem hzz2 : (![0, 0] : Fin 2 → Nat) = fun _ => 0 := funext fun a => by fin_cases a <;> rfl
theorem hzz3 : (![0, 0, 0] : Fin 3 → Nat) = fun _ => 0 := funext fun a => by fin_cases a <;> rfl

/-- The second kernel's block: the codes of the block of `w`. -/
theorem K1.out_eq (c : Dev nD) (i : grid1.Coords) (arg1 : Memref sig .tc .vmem S4x8x128 .f32) (harg1 : arg1.IsWhole) (arg2 : Memref sig .tc .vmem S512x4096 .f32) (harg2 : arg2.IsWhole) (arg3 : Memref sig .tc .vmem S512x4096 .fp8e4m3) (harg3 : arg3.IsWhole) (x0 : Vec F S4x8x128 .f32) (x1 : Vec F S512x4096 .f32) :
    K1.out1_A_2 (Ix := Ix) (U := U) (Lvl := Lvl) 𝒱₀ c i arg1 harg1 arg2 harg2 arg3 harg3 x0 x1 = k1_pay1 (View.ld x0 (Rect.unit (s := S4x8x128) ![3, 0, 0] S1x1x1.size inb_S4x8x128_S1x1x1_3_0_0)) x1 := by
  unfold K1.out1_A_2
  rw [View.read_writes_eq_canon _ _ _ (K1.cover1_A_2 (Ix := Ix) (U := U) (Lvl := Lvl) 𝒱₀ c i arg1 harg1 arg2 harg2 arg3 harg3 x0 x1)]
  unfold K1.kernelRun1_A
  dsimp only
  sl_unfold_words
  first
    | rw [View.canon_cons_unit_zero (S := S512x4096) hzz2]
    | rw [View.canon_unit_zero (S := S512x4096) hzz2]
  simp only [View.readAt_eq_ld, harg1.read_unread, harg2.read_unread, View.ld_unit_zero (S := S512x4096) hzz2]

/-- The third kernel where it makes the codes of a block of `dy`. -/
theorem K2.out_A_4 (c : Dev nD) (i : grid2.Coords) (arg2 : Memref sig .tc .vmem S4x8x128 .f32) (harg2 : arg2.IsWhole) (arg3 : Memref sig .tc .vmem S1024x4096 .bf16) (harg3 : arg3.IsWhole) (arg4 : Memref sig .tc .vmem S1024x4096 .fp8e4m3) (harg4 : arg4.IsWhole) (arg5 : Memref sig .tc .vmem S128x8x1024 .bf16) (harg5 : arg5.IsWhole) (arg6 : Memref sig .tc .vmem S1024x4096 .fp8e5m2) (harg6 : arg6.IsWhole) (hc0 : cond2_0 i) (x0 : Vec F S4x8x128 .f32) (x1 : Vec F S1024x4096 .bf16) (x2 : Vec F S1024x4096 .fp8e4m3) :
    K2.out2_A_4 (Ix := Ix) (U := U) (Lvl := Lvl) 𝒱₀ c i arg2 harg2 arg3 harg3 arg4 harg4 arg5 harg5 arg6 harg6 hc0 x0 x1 x2 = k2_pay1 (View.ld x0 (Rect.unit (s := S4x8x128) ![1, 0, 0] S1x1x1.size inb_S4x8x128_S1x1x1_1_0_0)) x1 := by
  unfold K2.out2_A_4
  rw [View.read_writes_eq_canon _ _ _ (K2.cover2_A_4 (Ix := Ix) (U := U) (Lvl := Lvl) 𝒱₀ c i arg2 harg2 arg3 harg3 arg4 harg4 arg5 harg5 arg6 harg6 hc0 x0 x1 x2)]
  unfold K2.kernelRun2_A
  dsimp only
  sl_unfold_words
  first
    | rw [View.canon_cons_unit_zero (S := S1024x4096) hzz2]
    | rw [View.canon_unit_zero (S := S1024x4096) hzz2]
  simp only [View.readAt_eq_ld, harg2.read_unread, harg3.read_unread, View.ld_unit_zero (S := S1024x4096) hzz2, View.readCov_unit_zero (S := S1024x4096) _ hzz2]

/-- Its product there. -/
theorem K2.out_A_3 (c : Dev nD) (i : grid2.Coords) (arg2 : Memref sig .tc .vmem S4x8x128 .f32) (harg2 : arg2.IsWhole) (arg3 : Memref sig .tc .vmem S1024x4096 .bf16) (harg3 : arg3.IsWhole) (arg4 : Memref sig .tc .vmem S1024x4096 .fp8e4m3) (harg4 : arg4.IsWhole) (arg5 : Memref sig .tc .vmem S128x8x1024 .bf16) (harg5 : arg5.IsWhole) (arg6 : Memref sig .tc .vmem S1024x4096 .fp8e5m2) (harg6 : arg6.IsWhole) (hc0 : cond2_0 i) (x0 : Vec F S4x8x128 .f32) (x1 : Vec F S1024x4096 .bf16) (x2 : Vec F S1024x4096 .fp8e4m3) :
    K2.out2_A_3 (Ix := Ix) (U := U) (Lvl := Lvl) 𝒱₀ c i arg2 harg2 arg3 harg3 arg4 harg4 arg5 harg5 arg6 harg6 hc0 x0 x1 x2 = k2_pay2 (k2_pay1 (View.ld x0 (Rect.unit (s := S4x8x128) ![1, 0, 0] S1x1x1.size inb_S4x8x128_S1x1x1_1_0_0)) x1) x2 (View.ld x0 (Rect.unit (s := S4x8x128) ![0, 0, 0] S1x1x1.size inb_S4x8x128_S1x1x1_0_0_0)) (View.ld x0 (Rect.unit (s := S4x8x128) ![2, 0, 0] S1x1x1.size inb_S4x8x128_S1x1x1_2_0_0)) := by
  unfold K2.out2_A_3
  rw [View.read_writes_eq_canon _ _ _ (K2.cover2_A_3 (Ix := Ix) (U := U) (Lvl := Lvl) 𝒱₀ c i arg2 harg2 arg3 harg3 arg4 harg4 arg5 harg5 arg6 harg6 hc0 x0 x1 x2)]
  unfold K2.kernelRun2_A
  dsimp only
  sl_unfold_words
  first
    | rw [View.canon_cons_unit_zero (S := S128x8x1024) hzz3]
    | rw [View.canon_unit_zero (S := S128x8x1024) hzz3]
  simp only [View.readAt_eq_ld, harg2.read_unread, harg3.read_unread, harg4.read_unread, View.ld_unit_zero (S := S1024x4096) hzz2, View.readCov_unit_zero (S := S1024x4096) _ hzz2]

/-- Its product elsewhere, over the codes it finds. -/
theorem K2.out_B_3 (c : Dev nD) (i : grid2.Coords) (arg2 : Memref sig .tc .vmem S4x8x128 .f32) (harg2 : arg2.IsWhole) (arg3 : Memref sig .tc .vmem S1024x4096 .bf16) (harg3 : arg3.IsWhole) (arg4 : Memref sig .tc .vmem S1024x4096 .fp8e4m3) (harg4 : arg4.IsWhole) (arg5 : Memref sig .tc .vmem S128x8x1024 .bf16) (harg5 : arg5.IsWhole) (arg6 : Memref sig .tc .vmem S1024x4096 .fp8e5m2) (harg6 : arg6.IsWhole) (hc0 : ¬cond2_0 i) (x0 : Vec F S4x8x128 .f32) (x1 : Vec F S1024x4096 .bf16) (x2 : Vec F S1024x4096 .fp8e4m3) (xo4 : Vec F S1024x4096 .fp8e5m2) :
    K2.out2_B_3 (Ix := Ix) (U := U) (Lvl := Lvl) 𝒱₀ c i arg2 harg2 arg3 harg3 arg4 harg4 arg5 harg5 arg6 harg6 hc0 x0 x1 x2 xo4 = k2_pay2 xo4 x2 (View.ld x0 (Rect.unit (s := S4x8x128) ![0, 0, 0] S1x1x1.size inb_S4x8x128_S1x1x1_0_0_0)) (View.ld x0 (Rect.unit (s := S4x8x128) ![2, 0, 0] S1x1x1.size inb_S4x8x128_S1x1x1_2_0_0)) := by
  unfold K2.out2_B_3
  rw [View.read_writes_eq_canon _ _ _ (K2.cover2_B_3 (Ix := Ix) (U := U) (Lvl := Lvl) 𝒱₀ c i arg2 harg2 arg3 harg3 arg4 harg4 arg5 harg5 arg6 harg6 hc0 x0 x1 x2 xo4)]
  unfold K2.kernelRun2_B
  dsimp only
  sl_unfold_words
  first
    | rw [View.canon_cons_unit_zero (S := S128x8x1024) hzz3]
    | rw [View.canon_unit_zero (S := S128x8x1024) hzz3]
  simp only [View.readAt_eq_ld, harg2.read_unread, harg3.read_unread, harg4.read_unread, harg6.read_unread, View.ld_unit_zero (S := S1024x4096) hzz2, View.readCov_unit_zero (S := S1024x4096) _ hzz2]

end Cert.KernelIdeal.Own

end
-- ==== Proof.Value.Region12.lean ====
/- What the second and the third kernel leave in their result arrays over the extended reals, entry by entry. -/
module

public import proofs.«01_k».proof.Proof.Value.Blocks
public import proofs.«01_k».proof.Proof.Value.Spec
public import proofs.«01_k».proof.Proof.Value.Body12

@[expose] public section

set_option maxRecDepth 16384

noncomputable section

namespace Cert.Val

open Cert.KernelIdeal Cert.KernelIdeal.Gen
open Idealize.ShloMosaic Idealize.ShloMosaic.TcCoe
open Idealize.SL Idealize.SL.RA Idealize.SL.Sem
open Cert.KernelIdeal.Own
open Idealize.ShloMosaic.ValueIdx (ix2 ix3)

variable {Ix : Type} [DecidableEq Ix] {U : Type} [URA U] {Lvl : Type} [Preorder Lvl]
variable (𝒱₀ : Variants) (V : (c : Dev nD) → (b : Ref sig .tc) → Buf (Elt Ideal) ((c : Thread nD τ).loc b)) (D : Dev nD → CellTallies nD τ sig Ix) (c : Dev nD)

/-- The first element of row `n` of the scales. -/
def row (n : Fin 4) : S4x8x128.Idx := ix3 n (0 : Fin 8) (0 : Fin 128)
/-- The one index of an array of one element. -/
def one3 : S1x1x1.Idx := ix3 (0 : Fin 1) (0 : Fin 1) (0 : Fin 1)

theorem ld_row (x : Vec Ideal S4x8x128 .f32) (n : Fin 4) (inb : ∀ a, (![n.val, 0, 0] : Fin 3 → ℕ) a + S1x1x1.size a ≤ S4x8x128.size a) :
    View.ld x (Rect.unit (s := S4x8x128) ![n.val, 0, 0] S1x1x1.size inb) one3 = x (row n) := by
  show x _ = x _
  congr 1; funext a; apply Fin.ext
  match a with
  | ⟨0, _⟩ => rfl
  | ⟨1, _⟩ => rfl
  | ⟨2, _⟩ => rfl

/-! ## The second kernel -/

/-- The codes of `w`. -/
abbrev wCodes : Buf (Elt Ideal) ((c : Thread nD τ).loc main_v2) := fun p => cw (V c main_arg1 p) (V c main_v1 (row 3))

theorem flushed1 (t : Fin cfg1.N) (hf : (cfg1.win 2).flush t = true) :
    (K1.dat (Ix := Ix) (U := U) (Lvl := Lvl) 𝒱₀ V D c).flushed 2 t = ((cfg1.win 2).blk t).view.read (Elt Ideal) (wCodes V c) := by
  show (cfg1.win 2).cut (grid1.coords t) ((K1.dat (Ix := Ix) (U := U) (Lvl := Lvl) 𝒱₀ V D c).after 2 t) = _
  rw [K1.after1_2]
  funext j
  rw [View.read_apply]
  show (K1.outsAt1 (Ix := Ix) (U := U) (Lvl := Lvl) 𝒱₀ V c t (j : S512x4096.Idx) : EReal) = _
  unfold K1.outsAt1
  rw [K1.out_eq, k1_pay1_at _ _ _ one3]
  have e3 := ld_row (K1.iblk V c 0 t) 3 inb_S4x8x128_S1x1x1_3_0_0
  refine (congrArg (cw _) (e3.trans (iblk1_0 V c t (row 3)))).trans ?_
  refine congrArg (fun x => cw x _) (iblk1_1 V c t j _ ?_ ?_)
  · show win1_2.index t 0 * 512 + 1 * (j 0).val = _; rw [(ix1_2 t).1]; omega
  · show win1_2.index t 1 * 4096 + 1 * (j 1).val = _; rw [(ix1_2 t).2]; omega

theorem final1 : (K1.dat (Ix := Ix) (U := U) (Lvl := Lvl) 𝒱₀ V D c).arrAt 2 cfg1.N = wCodes V c :=
  (K1.dat (Ix := Ix) (U := U) (Lvl := Lvl) 𝒱₀ V D c).arrAt_eq_of_cover 2 (wCodes V c) (flushed1 𝒱₀ V D c) fun i => by
    have hN : cfg1.N = 28 := N_1
    have h0 : ((i : S14336x4096.Idx) 0).val < 14336 := ((i : S14336x4096.Idx) 0).isLt
    exact ⟨⟨((i : S14336x4096.Idx) 0).val / 512, by omega⟩, flush1_2 _, mem1_2 _ i rfl⟩

/-! ## The third kernel -/

/-- The codes of `dy`. -/
abbrev dCodes : Buf (Elt Ideal) ((c : Thread nD τ).loc main_v3_1) := fun p => cd (V c main_v0 p) (V c main_v1 (row 1))

theorem codes_at : ∀ (n : ℕ) (hn : n < cfg2.N) (k : S1024x4096.Idx) (p : S24576x4096.Idx), (p 0).val = n / 14 * 1024 + (k 0).val → (p 1).val = (k 1).val →
    ((K2.outsAt2 (Ix := Ix) (U := U) (Lvl := Lvl) 𝒱₀ V c n hn).2 k : EReal) = dCodes V c p := by
  intro n
  induction n with
  | zero =>
    intro hn k p h0 h1
    have h := K2.outsAt2_A (Ix := Ix) (U := U) (Lvl := Lvl) 𝒱₀ V c ⟨0, hn⟩ rfl
    rw [h]; dsimp only
    rw [K2.out_A_4, k2_pay1_at _ _ _ one3]
    have e := ld_row (K2.iblk V c 0 ⟨0, hn⟩) 1 inb_S4x8x128_S1x1x1_1_0_0
    refine (congrArg (cd _) (e.trans (iblk2_0 V c ⟨0, hn⟩ (row 1)))).trans ?_
    exact congrArg (fun x => cd x _) (iblk2_1 V c ⟨0, hn⟩ k p h0 h1)
  | succ n ih =>
    intro hn k p h0 h1
    by_cases hc : (n + 1) % 14 = 0
    · have h := K2.outsAt2_A (Ix := Ix) (U := U) (Lvl := Lvl) 𝒱₀ V c ⟨n + 1, hn⟩ hc
      rw [h]; dsimp only
      rw [K2.out_A_4, k2_pay1_at _ _ _ one3]
      have e := ld_row (K2.iblk V c 0 ⟨n + 1, hn⟩) 1 inb_S4x8x128_S1x1x1_1_0_0
      refine (congrArg (cd _) (e.trans (iblk2_0 V c ⟨n + 1, hn⟩ (row 1)))).trans ?_
      exact congrArg (fun x => cd x _) (iblk2_1 V c ⟨n + 1, hn⟩ k p h0 h1)
    · have h := K2.outsAt2_B (Ix := Ix) (U := U) (Lvl := Lvl) 𝒱₀ V c ⟨n + 1, hn⟩ hc
      rw [h]; dsimp only
      unfold K2.out2_B_4
      exact ih (Nat.lt_of_succ_lt hn) k p (by rw [h0]; omega) h1

theorem flushed2_4 (t : Fin cfg2.N) (hf : (cfg2.win 4).flush t = true) :
    (K2.dat (Ix := Ix) (U := U) (Lvl := Lvl) 𝒱₀ V D c).flushed 4 t = ((cfg2.win 4).blk t).view.read (Elt Ideal) (dCodes V c) := by
  show (cfg2.win 4).cut (grid2.coords t) ((K2.dat (Ix := Ix) (U := U) (Lvl := Lvl) 𝒱₀ V D c).after 4 t) = _
  rw [K2.after2_4]
  funext j
  rw [View.read_apply]
  refine codes_at 𝒱₀ V c t.val t.isLt j _ ?_ ?_
  · show win2_4.index t 0 * 1024 + 1 * (j 0).val = _; rw [(Cert.Val.ix2_4 t).1]; omega
  · show win2_4.index t 1 * 4096 + 1 * (j 1).val = _; rw [(Cert.Val.ix2_4 t).2]; omega

theorem final2_4 : (K2.dat (Ix := Ix) (U := U) (Lvl := Lvl) 𝒱₀ V D c).arrAt 4 cfg2.N = dCodes V c :=
  (K2.dat (Ix := Ix) (U := U) (Lvl := Lvl) 𝒱₀ V D c).arrAt_eq_of_cover 4 (dCodes V c) (flushed2_4 𝒱₀ V D c) fun i => by
    have hN : cfg2.N = 336 := N_2
    have h0 : ((i : S24576x4096.Idx) 0).val < 24576 := ((i : S24576x4096.Idx) 0).isLt
    exact ⟨⟨((i : S24576x4096.Idx) 0).val / 1024 * 14 + 13, by omega⟩, (flush2_4 _).mpr (by dsimp only; omega), mem2_4 _ i (by dsimp only; omega)⟩

/-- The product a point leaves, over the codes it leaves. -/
theorem prod_eq (t : Fin cfg2.N) : (K2.outsAt2 (Ix := Ix) (U := U) (Lvl := Lvl) 𝒱₀ V c t.val t.isLt).1
    = k2_pay2 (F := Ideal) (K2.outsAt2 (Ix := Ix) (U := U) (Lvl := Lvl) 𝒱₀ V c t.val t.isLt).2 (K2.iblk V c 2 t)
      (View.ld (K2.iblk V c 0 t) (Rect.unit (s := S4x8x128) ![0, 0, 0] S1x1x1.size inb_S4x8x128_S1x1x1_0_0_0))
      (View.ld (K2.iblk V c 0 t) (Rect.unit (s := S4x8x128) ![2, 0, 0] S1x1x1.size inb_S4x8x128_S1x1x1_2_0_0)) := by
  by_cases hc : t.val % 14 = 0
  · rw [K2.outsAt2_A (Ix := Ix) (U := U) (Lvl := Lvl) 𝒱₀ V c t hc]
    dsimp only
    rw [K2.out_A_3, K2.out_A_4]
    rfl
  · rw [K2.outsAt2_B (Ix := Ix) (U := U) (Lvl := Lvl) 𝒱₀ V c t hc]
    dsimp only
    unfold K2.out2_B_4
    rw [K2.out_B_3]
    rfl

/-- The product of two scales. -/
abbrev mulE (a b : EReal) : EReal := a * b

/-- The products: row `8a + b` of the codes of `dy` with row `q` of those of `w`, scaled back. -/
abbrev prods : Buf (Elt Ideal) ((c : Thread nD τ).loc main_v3_0) := fun p =>
  dotRow (R := 24576) (Q := 14336) (dCodes V c) (V c main_v2) ⟨((p : S3072x8x14336.Idx) 0).val * 8 + ((p : S3072x8x14336.Idx) 1).val, by
    have h0 : ((p : S3072x8x14336.Idx) 0).val < 3072 := ((p : S3072x8x14336.Idx) 0).isLt
    have h1 : ((p : S3072x8x14336.Idx) 1).val < 8 := ((p : S3072x8x14336.Idx) 1).isLt
    omega⟩ ((p : S3072x8x14336.Idx) 2)
    * mulE (V c main_v1 (row 0)) (V c main_v1 (row 2))

theorem flushed2_3 (t : Fin cfg2.N) (hf : (cfg2.win 3).flush t = true) :
    (K2.dat (Ix := Ix) (U := U) (Lvl := Lvl) 𝒱₀ V D c).flushed 3 t = ((cfg2.win 3).blk t).view.read (Elt Ideal) (prods V c) := by
  show (cfg2.win 3).cut (grid2.coords t) ((K2.dat (Ix := Ix) (U := U) (Lvl := Lvl) 𝒱₀ V D c).after 3 t) = _
  rw [K2.after2_3]
  funext j
  rw [View.read_apply]
  have hj0 : ((j : S128x8x1024.Idx) 0).val < 128 := ((j : S128x8x1024.Idx) 0).isLt
  have hj1 : ((j : S128x8x1024.Idx) 1).val < 8 := ((j : S128x8x1024.Idx) 1).isLt
  have hj2 : ((j : S128x8x1024.Idx) 2).val < 1024 := ((j : S128x8x1024.Idx) 2).isLt
  show ((K2.outsAt2 (Ix := Ix) (U := U) (Lvl := Lvl) 𝒱₀ V c t.val t.isLt).1 (j : S128x8x1024.Idx) : EReal) = _
  rw [prod_eq]
  refine (k2_pay2_at _ _ _ _ (j : S128x8x1024.Idx) one3 ⟨((j : S128x8x1024.Idx) 0).val * 8 + ((j : S128x8x1024.Idx) 1).val, by omega⟩ rfl ⟨((j : S128x8x1024.Idx) 2).val, hj2⟩ rfl).trans ?_
  have e0 := (ld_row (K2.iblk V c 0 t) 0 inb_S4x8x128_S1x1x1_0_0_0).trans (iblk2_0 V c t (row 0))
  have e2 := (ld_row (K2.iblk V c 0 t) 2 inb_S4x8x128_S1x1x1_2_0_0).trans (iblk2_0 V c t (row 2))
  refine congrArg₂ (· * ·) ?_ (congrArg₂ (· * ·) e0 e2)
  unfold dotRow
  refine congrArg ((FloatOps.ofBits .f32 0x00000000#32 : Ideal .f32) + ·) (Finset.sum_congr rfl fun k _ => congrArg₂ (· * ·) ?_ ?_)
  · refine codes_at 𝒱₀ V c t.val t.isLt _ _ ?_ rfl
    show (win2_3.index t 0 * 128 + 1 * (j 0).val) * 8 + (win2_3.index t 1 * 8 + 1 * (j 1).val) = t.val / 14 * 1024 + ((j 0).val * 8 + (j 1).val)
    rw [(Cert.Val.ix2_3 t).1, (Cert.Val.ix2_3 t).2.1]; omega
  · refine iblk2_2 V c t _ _ ?_ rfl
    show win2_3.index t 2 * 1024 + 1 * (j 2).val = t.val % 14 * 1024 + (j 2).val
    rw [(Cert.Val.ix2_3 t).2.2]; omega

theorem final2_3 : (K2.dat (Ix := Ix) (U := U) (Lvl := Lvl) 𝒱₀ V D c).arrAt 3 cfg2.N = prods V c :=
  (K2.dat (Ix := Ix) (U := U) (Lvl := Lvl) 𝒱₀ V D c).arrAt_eq_of_cover 3 (prods V c) (flushed2_3 𝒱₀ V D c) fun i => by
    have hN : cfg2.N = 336 := N_2
    have h0 : ((i : S3072x8x14336.Idx) 0).val < 3072 := ((i : S3072x8x14336.Idx) 0).isLt
    have h2 : ((i : S3072x8x14336.Idx) 2).val < 14336 := ((i : S3072x8x14336.Idx) 2).isLt
    exact ⟨⟨((i : S3072x8x14336.Idx) 0).val / 128 * 14 + ((i : S3072x8x14336.Idx) 2).val / 1024, by omega⟩, flush2_3 _,
      mem2_3 _ i (by dsimp only; omega) (by dsimp only; omega)⟩

end Cert.Val

end
-- ==== Proof.Value.RefHost.lean ====
/- The reference's host values at the entry of its kernel call, over the extended reals: the two scales, the two inverse
   scales and the product of the scales. -/
module

public import proofs.«01_k».proof.Proof.Gen.ReferenceIdeal.Frame
public import proofs.«01_k».proof.Proof.Value.Final0
public import Idealize.ShloMosaic.Lib.Claim

@[expose] public section

set_option maxRecDepth 16384

noncomputable section

namespace Cert.Val.Ref

open Cert.ReferenceIdeal Cert.ReferenceIdeal.Gen
open Idealize.ShloMosaic Idealize.ShloMosaic.TcCoe
open Idealize.SL Idealize.SL.RA Idealize.SL.Sem
open Cert.Val

variable (m : (ℓ : Loc nD τ sig) → Buf (Elt Ideal) ℓ) (c : Dev nD)

/-- The greatest absolute value, as the reference's host code writes it. -/
def redD (x : Vec Ideal S8x3072x4096 .bf16) : FVec Ideal S_ .f32 :=
  Host.reduce (FloatOps.maximumf (F := Ideal) (φ := .f32)) (Host.absf (extf .f32 x bitsLt_bf16_f32 : FVec Ideal S8x3072x4096 .f32)) (constant (F := Ideal) S_ .f32 0xFF800000#32 : FVec Ideal S_ .f32) reducesTo_S8x3072x4096_S_d0_1_2 h_S_
def redW (x : Vec Ideal S14336x4096 .f32) : FVec Ideal S_ .f32 :=
  Host.reduce (FloatOps.maximumf (F := Ideal) (φ := .f32)) (Host.absf x) (constant (F := Ideal) S_ .f32 0xFF800000#32 : FVec Ideal S_ .f32) reducesTo_S14336x4096_S_d0_1 h_S_

theorem redD_at (x : Vec Ideal S8x3072x4096 .bf16) (j : S_.Idx) : (redD x j : EReal) = absMax (s := S8x3072x4096) x :=
  eq_of_le_iff fun z => by
    unfold redD
    refine (hostReduce_le _ _ _ _ ninf_f32 j z).trans ?_
    rw [absMax_le]
    exact ⟨fun H i => H i (funext fun a => absurd a.isLt (Nat.not_lt_zero _)), fun H i _ => H i⟩
theorem redW_at (x : Vec Ideal S14336x4096 .f32) (j : S_.Idx) : (redW x j : EReal) = absMax (s := S14336x4096) x :=
  eq_of_le_iff fun z => by
    unfold redW
    refine (hostReduce_le _ _ _ _ ninf_f32 j z).trans ?_
    rw [absMax_le]
    exact ⟨fun H i => H i (funext fun a => absurd a.isLt (Nat.not_lt_zero _)), fun H i _ => H i⟩

/-- The exponent of a scale before it is clipped. -/
def lg (b : BitVec 32) (a : FVec Ideal S_ .f32) : FVec Ideal S_ .f32 :=
  addf (Host.floor (Host.divf (Host.log (mulf a (constant S_ .f32 b))) (Host.log (constant S_ .f32 0x40000000#32)))) (constant S_ .f32 0x3F800000#32)

/-- Whether the greatest absolute value is zero or infinite. -/
def odd (a : FVec Ideal S_ .f32) : IVec S_ 1 :=
  ori (cmpf .oeq a (constant S_ .f32 0x00000000#32)) (cmpf .oeq a (constant S_ .f32 0x7F800000#32))

/-- The exponent of a scale. -/
def expo (b : BitVec 32) (a : FVec Ideal S_ .f32) : FVec Ideal S_ .f32 :=
  select (odd a) (constant S_ .f32 0x00000000#32) (minimumf (constant S_ .f32 0x42FC0000#32) (maximumf (constant S_ .f32 0xC2FC0000#32) (lg b a)))

theorem expo_at (b : BitVec 32) (a : FVec Ideal S_ .f32) (j : S_.Idx) :
    (expo b a j : EReal) = rExp (a j) ((a j : EReal) * (FloatOps.ofBits .f32 b : Ideal .f32)) := rfl

/-- Two to a power. -/
def two (e : FVec Ideal S_ .f32) : FVec Ideal S_ .f32 := Host.powf (constant S_ .f32 0x40000000#32) e
theorem two_at (e : FVec Ideal S_ .f32) (j : S_.Idx) : (two e j : EReal) = Ideal.pow two32 (e j) := rfl

/-! ## One line of host operations at a time -/

section
variable (σ : Valuation τ sig (Elt Ideal))

theorem H0_v2 : StableHlo.after hostOps0 σ (Proc.devRef .tc main_v2) = redD (σ (Proc.devRef .tc main_arg0)) := by
  unfold hostOps0
  simp only [StableHlo.after_cons, StableHlo.after_nil]
  after_results_simp
  rfl

theorem H0_v8 : StableHlo.after hostOps0 σ (Proc.devRef .tc main_v8) = lg 0x37924925#32 (redD (σ (Proc.devRef .tc main_arg0))) := by
  unfold hostOps0
  simp only [StableHlo.after_cons, StableHlo.after_nil]
  after_results_simp
  rfl

theorem H0_cst_3 : StableHlo.after hostOps0 σ (Proc.devRef .tc main_cst_3) = (constant (F := Ideal) S_ .f32 0xC2FC0000#32 : FVec Ideal S_ .f32) := by
  unfold hostOps0
  simp only [StableHlo.after_cons, StableHlo.after_nil]
  after_results_simp

theorem H0_cst_4 : StableHlo.after hostOps0 σ (Proc.devRef .tc main_cst_4) = (constant (F := Ideal) S_ .f32 0x42FC0000#32 : FVec Ideal S_ .f32) := by
  unfold hostOps0
  simp only [StableHlo.after_cons, StableHlo.after_nil]
  after_results_simp

theorem H0_arg1 : StableHlo.after hostOps0 σ (Proc.devRef .tc main_arg1) = (σ (Proc.devRef .tc main_arg1)) := by
  unfold hostOps0
  simp only [StableHlo.after_cons, StableHlo.after_nil]
  after_results_simp

theorem H1_v9 : StableHlo.after hostOps0_1 σ (Proc.devRef .tc main_v9) = (minimumf (F := Ideal) (s := S_) (φ := .f32) (σ (Proc.devRef .tc main_cst_4)) (maximumf (F := Ideal) (s := S_) (φ := .f32) (σ (Proc.devRef .tc main_cst_3)) (σ (Proc.devRef .tc main_v8))) : FVec Ideal S_ .f32) := by
  unfold hostOps0_1
  simp only [StableHlo.after_cons, StableHlo.after_nil]
  after_results_simp
  rfl

theorem H1_v2 : StableHlo.after hostOps0_1 σ (Proc.devRef .tc main_v2) = (σ (Proc.devRef .tc main_v2)) := by
  unfold hostOps0_1
  simp only [StableHlo.after_cons, StableHlo.after_nil]
  after_results_simp

theorem H1_arg1 : StableHlo.after hostOps0_1 σ (Proc.devRef .tc main_arg1) = (σ (Proc.devRef .tc main_arg1)) := by
  unfold hostOps0_1
  simp only [StableHlo.after_cons, StableHlo.after_nil]
  after_results_simp

theorem H2_v12 : StableHlo.after hostOps0_2 σ (Proc.devRef .tc main_v12) = odd (σ (Proc.devRef .tc main_v2)) := by
  unfold hostOps0_2
  simp only [StableHlo.after_cons, StableHlo.after_nil]
  after_results_simp
  rfl

theorem H2_cst_7 : StableHlo.after hostOps0_2 σ (Proc.devRef .tc main_cst_7) = (constant (F := Ideal) S_ .f32 0x00000000#32 : FVec Ideal S_ .f32) := by
  unfold hostOps0_2
  simp only [StableHlo.after_cons, StableHlo.after_nil]
  after_results_simp

theorem H2_v9 : StableHlo.after hostOps0_2 σ (Proc.devRef .tc main_v9) = (σ (Proc.devRef .tc main_v9)) := by
  unfold hostOps0_2
  simp only [StableHlo.after_cons, StableHlo.after_nil]
  after_results_simp

theorem H2_arg1 : StableHlo.after hostOps0_2 σ (Proc.devRef .tc main_arg1) = (σ (Proc.devRef .tc main_arg1)) := by
  unfold hostOps0_2
  simp only [StableHlo.after_cons, StableHlo.after_nil]
  after_results_simp

theorem H3_v13 : StableHlo.after hostOps0_3 σ (Proc.devRef .tc main_v13) = (select (s := S_) (σ (Proc.devRef .tc main_v12)) (σ (Proc.devRef .tc main_cst_7)) (σ (Proc.devRef .tc main_v9)) : FVec Ideal S_ .f32) := by
  unfold hostOps0_3
  simp only [StableHlo.after_cons, StableHlo.after_nil]
  after_results_simp
  rfl

theorem H3_arg1 : StableHlo.after hostOps0_3 σ (Proc.devRef .tc main_arg1) = (σ (Proc.devRef .tc main_arg1)) := by
  unfold hostOps0_3
  simp only [StableHlo.after_cons, StableHlo.after_nil]
  after_results_simp

theorem H4_v14 : StableHlo.after hostOps0_4 σ (Proc.devRef .tc main_v14) = two (σ (Proc.devRef .tc main_v13)) := by
  unfold hostOps0_4
  simp only [StableHlo.after_cons, StableHlo.after_nil]
  after_results_simp
  rfl

theorem H4_v16 : StableHlo.after hostOps0_4 σ (Proc.devRef .tc main_v16) = two (Host.negf (F := Ideal) (s := S_) (φ := .f32) (σ (Proc.devRef .tc main_v13))) := by
  unfold hostOps0_4
  simp only [StableHlo.after_cons, StableHlo.after_nil]
  after_results_simp
  rfl

theorem H4_v18 : StableHlo.after hostOps0_4 σ (Proc.devRef .tc main_v18) = redW (σ (Proc.devRef .tc main_arg1)) := by
  unfold hostOps0_4
  simp only [StableHlo.after_cons, StableHlo.after_nil]
  after_results_simp
  rfl

theorem H4_v24 : StableHlo.after hostOps0_4 σ (Proc.devRef .tc main_v24) = lg 0x3B124925#32 (redW (σ (Proc.devRef .tc main_arg1))) := by
  unfold hostOps0_4
  simp only [StableHlo.after_cons, StableHlo.after_nil]
  after_results_simp
  rfl

theorem H4_cst_14 : StableHlo.after hostOps0_4 σ (Proc.devRef .tc main_cst_14) = (constant (F := Ideal) S_ .f32 0xC2FC0000#32 : FVec Ideal S_ .f32) := by
  unfold hostOps0_4
  simp only [StableHlo.after_cons, StableHlo.after_nil]
  after_results_simp

theorem H4_cst_15 : StableHlo.after hostOps0_4 σ (Proc.devRef .tc main_cst_15) = (constant (F := Ideal) S_ .f32 0x42FC0000#32 : FVec Ideal S_ .f32) := by
  unfold hostOps0_4
  simp only [StableHlo.after_cons, StableHlo.after_nil]
  after_results_simp

theorem H5_v25 : StableHlo.after hostOps0_5 σ (Proc.devRef .tc main_v25) = (minimumf (F := Ideal) (s := S_) (φ := .f32) (σ (Proc.devRef .tc main_cst_15)) (maximumf (F := Ideal) (s := S_) (φ := .f32) (σ (Proc.devRef .tc main_cst_14)) (σ (Proc.devRef .tc main_v24))) : FVec Ideal S_ .f32) := by
  unfold hostOps0_5
  simp only [StableHlo.after_cons, StableHlo.after_nil]
  after_results_simp
  rfl

theorem H5_v18 : StableHlo.after hostOps0_5 σ (Proc.devRef .tc main_v18) = (σ (Proc.devRef .tc main_v18)) := by
  unfold hostOps0_5
  simp only [StableHlo.after_cons, StableHlo.after_nil]
  after_results_simp

theorem H5_v14 : StableHlo.after hostOps0_5 σ (Proc.devRef .tc main_v14) = (σ (Proc.devRef .tc main_v14)) := by
  unfold hostOps0_5
  simp only [StableHlo.after_cons, StableHlo.after_nil]
  after_results_simp

theorem H5_v16 : StableHlo.after hostOps0_5 σ (Proc.devRef .tc main_v16) = (σ (Proc.devRef .tc main_v16)) := by
  unfold hostOps0_5
  simp only [StableHlo.after_cons, StableHlo.after_nil]
  after_results_simp

theorem H6_v28 : StableHlo.after hostOps0_6 σ (Proc.devRef .tc main_v28) = odd (σ (Proc.devRef .tc main_v18)) := by
  unfold hostOps0_6
  simp only [StableHlo.after_cons, StableHlo.after_nil]
  after_results_simp
  rfl

theorem H6_cst_18 : StableHlo.after hostOps0_6 σ (Proc.devRef .tc main_cst_18) = (constant (F := Ideal) S_ .f32 0x00000000#32 : FVec Ideal S_ .f32) := by
  unfold hostOps0_6
  simp only [StableHlo.after_cons, StableHlo.after_nil]
  after_results_simp

theorem H6_v25 : StableHlo.after hostOps0_6 σ (Proc.devRef .tc main_v25) = (σ (Proc.devRef .tc main_v25)) := by
  unfold hostOps0_6
  simp only [StableHlo.after_cons, StableHlo.after_nil]
  after_results_simp

theorem H6_v14 : StableHlo.after hostOps0_6 σ (Proc.devRef .tc main_v14) = (σ (Proc.devRef .tc main_v14)) := by
  unfold hostOps0_6
  simp only [StableHlo.after_cons, StableHlo.after_nil]
  after_results_simp

theorem H6_v16 : StableHlo.after hostOps0_6 σ (Proc.devRef .tc main_v16) = (σ (Proc.devRef .tc main_v16)) := by
  unfold hostOps0_6
  simp only [StableHlo.after_cons, StableHlo.after_nil]
  after_results_simp

theorem H7_v29 : StableHlo.after hostOps0_7 σ (Proc.devRef .tc main_v29) = (select (s := S_) (σ (Proc.devRef .tc main_v28)) (σ (Proc.devRef .tc main_cst_18)) (σ (Proc.devRef .tc main_v25)) : FVec Ideal S_ .f32) := by
  unfold hostOps0_7
  simp only [StableHlo.after_cons, StableHlo.after_nil]
  after_results_simp
  rfl

theorem H7_v14 : StableHlo.after hostOps0_7 σ (Proc.devRef .tc main_v14) = (σ (Proc.devRef .tc main_v14)) := by
  unfold hostOps0_7
  simp only [StableHlo.after_cons, StableHlo.after_nil]
  after_results_simp

theorem H7_v16 : StableHlo.after hostOps0_7 σ (Proc.devRef .tc main_v16) = (σ (Proc.devRef .tc main_v16)) := by
  unfold hostOps0_7
  simp only [StableHlo.after_cons, StableHlo.after_nil]
  after_results_simp

theorem H8_v30 : StableHlo.after hostOps0_8 σ (Proc.devRef .tc main_v30) = two (σ (Proc.devRef .tc main_v29)) := by
  unfold hostOps0_8
  simp only [StableHlo.after_cons, StableHlo.after_nil]
  after_results_simp
  rfl

theorem H8_v14 : StableHlo.after hostOps0_8 σ (Proc.devRef .tc main_v14) = (σ (Proc.devRef .tc main_v14)) := by
  unfold hostOps0_8
  simp only [StableHlo.after_cons, StableHlo.after_nil]
  after_results_simp

theorem H8_v33 : StableHlo.after hostOps0_8 σ (Proc.devRef .tc main_v33) = (shapeCast S1x1 (α := EReal) (σ (Proc.devRef .tc main_v16)) shapeCasts_S_S1x1) := by
  unfold hostOps0_8
  simp only [StableHlo.after_cons, StableHlo.after_nil]
  after_results_simp
  rfl

theorem H8_v34 : StableHlo.after hostOps0_8 σ (Proc.devRef .tc main_v34) = (shapeCast S1x1 (two (Host.negf (F := Ideal) (s := S_) (φ := .f32) (σ (Proc.devRef .tc main_v29)))) shapeCasts_S_S1x1) := by
  unfold hostOps0_8
  simp only [StableHlo.after_cons, StableHlo.after_nil]
  after_results_simp
  rfl

theorem H8_v36 : StableHlo.after hostOps0_8 σ (Proc.devRef .tc main_v36) = (shapeCast S1x1 (mulf (F := Ideal) (s := S_) (φ := .f32) (σ (Proc.devRef .tc main_v14)) (two (σ (Proc.devRef .tc main_v29)))) shapeCasts_S_S1x1) := by
  unfold hostOps0_8
  simp only [StableHlo.after_cons, StableHlo.after_nil]
  after_results_simp
  rfl

end

/-! ## The values at the entry of the call -/

theorem V_eq (b : Ref sig .tc) : V m c b = StableHlo.after hostOps0_8 (StableHlo.after hostOps0_7 (StableHlo.after hostOps0_6 (StableHlo.after hostOps0_5
    (StableHlo.after hostOps0_4 (StableHlo.after hostOps0_3 (StableHlo.after hostOps0_2 (StableHlo.after hostOps0_1 (StableHlo.after hostOps0 (fun b => m (c, b))))))))))
    (Proc.devRef .tc b) := by
  unfold V
  simp only [List.flatten_cons, List.flatten_nil, List.append_nil, StableHlo.after_append]

/-- The two exponents. -/
abbrev eD : FVec Ideal S_ .f32 := expo 0x37924925#32 (redD (m ((c : Thread nD τ).loc main_arg0)))
abbrev eW : FVec Ideal S_ .f32 := expo 0x3B124925#32 (redW (m ((c : Thread nD τ).loc main_arg1)))

theorem V_v14 : V m c main_v14 = two (eD m c) := by
  rw [V_eq, H8_v14, H7_v14, H6_v14, H5_v14, H4_v14, H3_v13, H2_v12, H2_cst_7, H2_v9, H1_v9, H1_v2, H0_v2, H0_v8, H0_cst_3, H0_cst_4]
  rfl
theorem V_v30 : V m c main_v30 = two (eW m c) := by
  rw [V_eq, H8_v30, H7_v29, H6_v28, H6_cst_18, H6_v25, H5_v25, H5_v18, H4_v18, H4_v24, H4_cst_14, H4_cst_15, H3_arg1, H2_arg1, H1_arg1, H0_arg1]
  rfl
theorem V_v33 : V m c main_v33 = shapeCast S1x1 (two (Host.negf (eD m c))) shapeCasts_S_S1x1 := by
  rw [V_eq, H8_v33, H7_v16, H6_v16, H5_v16, H4_v16, H3_v13, H2_v12, H2_cst_7, H2_v9, H1_v9, H1_v2, H0_v2, H0_v8, H0_cst_3, H0_cst_4]
  rfl
theorem V_v34 : V m c main_v34 = shapeCast S1x1 (two (Host.negf (eW m c))) shapeCasts_S_S1x1 := by
  rw [V_eq, H8_v34, H7_v29, H6_v28, H6_cst_18, H6_v25, H5_v25, H5_v18, H4_v18, H4_v24, H4_cst_14, H4_cst_15, H3_arg1, H2_arg1, H1_arg1, H0_arg1]
  rfl
theorem V_v36 : V m c main_v36 = shapeCast S1x1 (mulf (two (eD m c)) (two (eW m c))) shapeCasts_S_S1x1 := by
  rw [V_eq, H8_v36, H7_v29, H6_v28, H6_cst_18, H6_v25, H5_v25, H5_v18, H4_v18, H4_v24, H4_cst_14, H4_cst_15, H3_arg1, H2_arg1, H1_arg1, H0_arg1,
    H7_v14, H6_v14, H5_v14, H4_v14, H3_v13, H2_v12, H2_cst_7, H2_v9, H1_v9, H1_v2, H0_v2, H0_v8, H0_cst_3, H0_cst_4]
  rfl

/-- The scales and the inverse scales of the two arguments. -/
def sD (x : S8x3072x4096.Idx → EReal) : EReal := rScale (absMax x) (absMax x * cDy)
def iD (x : S8x3072x4096.Idx → EReal) : EReal := rInv (absMax x) (absMax x * cDy)
def sW (x : S14336x4096.Idx → EReal) : EReal := rScale (absMax x) (absMax x * cW)
def iW (x : S14336x4096.Idx → EReal) : EReal := rInv (absMax x) (absMax x * cW)

theorem eD_at (j : S_.Idx) : (eD m c j : EReal) = rExp (absMax (s := S8x3072x4096) (m ((c : Thread nD τ).loc main_arg0))) (absMax (s := S8x3072x4096) (m ((c : Thread nD τ).loc main_arg0)) * cDy) := by
  unfold eD; rw [expo_at, redD_at]; rfl
theorem eW_at (j : S_.Idx) : (eW m c j : EReal) = rExp (absMax (s := S14336x4096) (m ((c : Thread nD τ).loc main_arg1))) (absMax (s := S14336x4096) (m ((c : Thread nD τ).loc main_arg1)) * cW) := by
  unfold eW; rw [expo_at, redW_at]; rfl

theorem v14_at (j : S_.Idx) : (V m c main_v14 j : EReal) = sD (m ((c : Thread nD τ).loc main_arg0)) := by
  rw [V_v14]; exact (two_at _ j).trans (congrArg (Ideal.pow two32) (eD_at m c j))
theorem v30_at (j : S_.Idx) : (V m c main_v30 j : EReal) = sW (m ((c : Thread nD τ).loc main_arg1)) := by
  rw [V_v30]; exact (two_at _ j).trans (congrArg (Ideal.pow two32) (eW_at m c j))
theorem castNeg (e : FVec Ideal S_ .f32) (j : S1x1.Idx) :
    ∃ i, (shapeCast S1x1 (two (Host.negf e)) shapeCasts_S_S1x1 j : EReal) = Ideal.pow two32 (-(e i : EReal)) := ⟨_, rfl⟩
theorem castMul (e f : FVec Ideal S_ .f32) (j : S1x1.Idx) :
    ∃ i, (shapeCast S1x1 (mulf (two e) (two f)) shapeCasts_S_S1x1 j : EReal) = Ideal.pow two32 (e i) * Ideal.pow two32 (f i) := ⟨_, rfl⟩
theorem v33_at (j : S1x1.Idx) : (V m c main_v33 j : EReal) = iD (m ((c : Thread nD τ).loc main_arg0)) := by
  obtain ⟨i, h⟩ := castNeg (eD m c) j
  rw [V_v33, h, eD_at]; rfl
theorem v34_at (j : S1x1.Idx) : (V m c main_v34 j : EReal) = iW (m ((c : Thread nD τ).loc main_arg1)) := by
  obtain ⟨i, h⟩ := castNeg (eW m c) j
  rw [V_v34, h, eW_at]; rfl
theorem v36_at (j : S1x1.Idx) : (V m c main_v36 j : EReal) = sD (m ((c : Thread nD τ).loc main_arg0)) * sW (m ((c : Thread nD τ).loc main_arg1)) := by
  obtain ⟨i, h⟩ := castMul (eD m c) (eW m c) j
  rw [V_v36, h, eD_at, eW_at]; rfl

end Cert.Val.Ref

end
-- ==== Proof.Value.RefPay.lean ====
/- The reference's results over the extended reals, in closed form: the codes of the two arguments, and the products of
   their rows scaled back. -/
module

public import proofs.«01_k».proof.Proof.Value.RefHost
public import proofs.«01_k».proof.Proof.Gen.ReferenceIdeal.Points
public import proofs.«01_k».proof.Proof.Value.Spec

@[expose] public section

set_option maxRecDepth 16384

noncomputable section

namespace Cert.Val.Ref

open Cert.ReferenceIdeal Cert.ReferenceIdeal.Gen
open Idealize.ShloMosaic Idealize.ShloMosaic.TcCoe
open Idealize.SL Idealize.SL.RA Idealize.SL.Sem
open Idealize.ShloMosaic.ValueIdx (ix2 ix3)
open Cert.Val

/-! ## The results -/

/-- The codes of `w`. -/
def wq (w : S14336x4096.Idx → EReal) : S14336x4096.Idx → EReal := fun p => cw (w p) (iW w)
/-- The codes of `dy`. -/
def dyq (x : S8x3072x4096.Idx → EReal) : S8x3072x4096.Idx → EReal := fun p => cd (x p) (iD x)

/-- Row `(b, s)` of `x` with row `q` of `y`. -/
def dot3 (x : S8x3072x4096.Idx → EReal) (y : S14336x4096.Idx → EReal) (b : Fin 8) (s : Fin 3072) (q : Fin 14336) : EReal :=
  (FloatOps.ofBits .f32 0x00000000#32 : Ideal .f32) + ∑ k : Fin 4096, x (ix3 b s k) * y (ix2 q k)
/-- The products of the codes' rows, scaled back. -/
def dx (x : S8x3072x4096.Idx → EReal) (w : S14336x4096.Idx → EReal) : S8x3072x14336.Idx → EReal := fun p =>
  dot3 (dyq x) (wq w) (p 0) (p 1) (p 2) * (sD x * sW w)

/-! ## The kernel's payloads -/

theorem pay1_at (v0 : Vec Ideal S8x3072x4096 .bf16) (v2 : Vec Ideal S1x1 .f32) (j : S8x3072x4096.Idx) (i : S1x1.Idx) :
    (k0_pay1 (F := Ideal) v0 v2 j : EReal) = cd (v0 j) (v2 i) := by
  obtain ⟨i', h⟩ : ∃ i', (k0_pay1 (F := Ideal) v0 v2 j : EReal) = cd (v0 j) (v2 i') := ⟨_, rfl⟩
  rw [h, one_idx S11 i' i]

theorem pay2_at (v12 : Vec Ideal S14336x4096 .f32) (v13 : Vec Ideal S1x1 .f32) (j : S14336x4096.Idx) (i : S1x1.Idx) :
    (k0_pay2 (F := Ideal) v12 v13 j : EReal) = cw (v12 j) (v13 i) := by
  obtain ⟨i', h⟩ : ∃ i', (k0_pay2 (F := Ideal) v12 v13 j : EReal) = cw (v12 j) (v13 i') := ⟨_, rfl⟩
  rw [h, one_idx S11 i' i]

/-- The dimension numbers of the product. -/
abbrev dD : DotDims S8x3072x4096 S14336x4096 S8x3072x14336 := dot_S8x3072x4096_S14336x4096_S8x3072x14336_2_1_01_0_n_n
theorem dD_rank : dD.contr.rank = 1 := rfl
theorem dD_size : dD.contr.size ⟨0, by rw [dD_rank]; exact Nat.one_pos⟩ = 4096 := rfl
/-- The product's contraction index as its one coordinate. -/
def dDContr : dD.contr.Idx ≃ Fin 4096 := ValueIdx.contrEquiv1 _ 4096 dD_rank dD_size

theorem matmul_at (a : FVec Ideal S8x3072x4096 .fp8e5m2) (b : FVec Ideal S14336x4096 .fp8e4m3) (acc : FVec Ideal S8x3072x14336 .f32)
    (p : Fin 8) (s : Fin 3072) (q : Fin 14336) :
    (FloatOps.matmul dD none a b acc (ix3 p s q) : EReal) = acc (ix3 p s q) + ∑ k : Fin 4096, (a (ix3 p s k) : EReal) * b (ix2 q k) := by
  rw [Ideal.matmul_apply, ← Equiv.sum_comp dDContr.symm]
  refine congrArg (acc (ix3 p s q) + ·) (Finset.sum_congr rfl fun k _ => ?_)
  have hk := ValueIdx.contrEquiv1_symm_val _ 4096 dD_rank dD_size k
  have el : dD.lhsIdx (ix3 p s q) (dDContr.symm k) = ix3 p s k := by
    funext a; apply Fin.ext
    match a with
    | ⟨0, _⟩ => rfl
    | ⟨1, _⟩ => rfl
    | ⟨2, _⟩ => exact hk
  have er : dD.rhsIdx (ix3 p s q) (dDContr.symm k) = ix2 q k := by
    funext a; apply Fin.ext
    match a with
    | ⟨0, _⟩ => rfl
    | ⟨1, _⟩ => exact hk
  rw [el, er]

theorem pay3_at (v0 : Vec Ideal S8x3072x4096 .bf16) (v2 : Vec Ideal S1x1 .f32) (v12 : Vec Ideal S14336x4096 .f32) (v13 v23 : Vec Ideal S1x1 .f32)
    (p : Fin 8) (s : Fin 3072) (q : Fin 14336) (i : S1x1.Idx) :
    (k0_pay3 (F := Ideal) v0 v2 v12 v13 v23 (ix3 p s q) : EReal)
      = dot3 (k0_pay1 (F := Ideal) v0 v2) (k0_pay2 (F := Ideal) v12 v13) p s q * v23 i := by
  unfold k0_pay3
  generalize k0_pay1 (F := Ideal) v0 v2 = a
  generalize k0_pay2 (F := Ideal) v12 v13 = b
  obtain ⟨i1, h⟩ : ∃ i1, ((truncf .bf16 (mulf (matmul dD none a b (constant (F := Ideal) S8x3072x14336 .f32 0x00000000#32))
      (broadcastTo S8x3072x14336 (shapeCast S1x1x1 (shapeCast S1x1 v23 shapeCasts_S1x1_S1x1) shapeCasts_S1x1_S1x1x1) broadcasts_S1x1x1_S8x3072x14336)) bitsLt_bf16_f32
        : FVec Ideal S8x3072x14336 .bf16) (ix3 p s q) : EReal)
      = (FloatOps.matmul dD none a b (constant (F := Ideal) S8x3072x14336 .f32 0x00000000#32) (ix3 p s q) : EReal) * v23 i1 := ⟨_, rfl⟩
  refine h.trans ?_
  rw [one_idx S11 i1 i, matmul_at]
  rfl

/-! ## The whole-array blocks -/

section
variable {F : FTy → Type} [FloatOps F]

theorem blk_0 (t : Fin cfg0.N) (f : main_arg0.ty.Contents (Elt F)) : ((cfg0.win 0).blk t).view.read (Elt F) f = f := by
  have hz' : (fun a => win0_0.index t a * main_arg0.ty.shape.size a) = fun _ => 0 := by obtain rfl := fin_N0 t; funext a; fin_cases a <;> decide
  exact Memref.read_access_unit_zero (Elt F) main_arg0 hz' (fun a => by rw [congrFun hz' a]; simp) f
theorem blk_1 (t : Fin cfg0.N) (f : main_arg1.ty.Contents (Elt F)) : ((cfg0.win 1).blk t).view.read (Elt F) f = f := by
  have hz' : (fun a => win0_1.index t a * main_arg1.ty.shape.size a) = fun _ => 0 := by obtain rfl := fin_N0 t; funext a; fin_cases a <;> decide
  exact Memref.read_access_unit_zero (Elt F) main_arg1 hz' (fun a => by rw [congrFun hz' a]; simp) f
theorem blk_2 (t : Fin cfg0.N) (f : main_v33.ty.Contents (Elt F)) : ((cfg0.win 2).blk t).view.read (Elt F) f = f := by
  have hz' : (fun a => win0_2.index t a * main_v33.ty.shape.size a) = fun _ => 0 := by obtain rfl := fin_N0 t; funext a; fin_cases a <;> decide
  exact Memref.read_access_unit_zero (Elt F) main_v33 hz' (fun a => by rw [congrFun hz' a]; simp) f
theorem blk_3 (t : Fin cfg0.N) (f : main_v34.ty.Contents (Elt F)) : ((cfg0.win 3).blk t).view.read (Elt F) f = f := by
  have hz' : (fun a => win0_3.index t a * main_v34.ty.shape.size a) = fun _ => 0 := by obtain rfl := fin_N0 t; funext a; fin_cases a <;> decide
  exact Memref.read_access_unit_zero (Elt F) main_v34 hz' (fun a => by rw [congrFun hz' a]; simp) f
theorem blk_4 (t : Fin cfg0.N) (f : main_v36.ty.Contents (Elt F)) : ((cfg0.win 4).blk t).view.read (Elt F) f = f := by
  have hz' : (fun a => win0_4.index t a * main_v36.ty.shape.size a) = fun _ => 0 := by obtain rfl := fin_N0 t; funext a; fin_cases a <;> decide
  exact Memref.read_access_unit_zero (Elt F) main_v36 hz' (fun a => by rw [congrFun hz' a]; simp) f
theorem blk_5 (t : Fin cfg0.N) (f : main_v37_0.ty.Contents (Elt F)) : ((cfg0.win 5).blk t).view.read (Elt F) f = f := by
  have hz' : (fun a => win0_5.index t a * main_v37_0.ty.shape.size a) = fun _ => 0 := by obtain rfl := fin_N0 t; funext a; fin_cases a <;> decide
  exact Memref.read_access_unit_zero (Elt F) main_v37_0 hz' (fun a => by rw [congrFun hz' a]; simp) f
theorem blk_6 (t : Fin cfg0.N) (f : main_v37_1.ty.Contents (Elt F)) : ((cfg0.win 6).blk t).view.read (Elt F) f = f := by
  have hz' : (fun a => win0_6.index t a * main_v37_1.ty.shape.size a) = fun _ => 0 := by obtain rfl := fin_N0 t; funext a; fin_cases a <;> decide
  exact Memref.read_access_unit_zero (Elt F) main_v37_1 hz' (fun a => by rw [congrFun hz' a]; simp) f
theorem blk_7 (t : Fin cfg0.N) (f : main_v37_2.ty.Contents (Elt F)) : ((cfg0.win 7).blk t).view.read (Elt F) f = f := by
  have hz' : (fun a => win0_7.index t a * main_v37_2.ty.shape.size a) = fun _ => 0 := by obtain rfl := fin_N0 t; funext a; fin_cases a <;> decide
  exact Memref.read_access_unit_zero (Elt F) main_v37_2 hz' (fun a => by rw [congrFun hz' a]; simp) f

theorem hz3 : (![0, 0, 0] : Fin 3 → Nat) = fun _ => 0 := funext fun a => by fin_cases a <;> rfl
theorem hz2 : (![0, 0] : Fin 2 → Nat) = fun _ => 0 := funext fun a => by fin_cases a <;> rfl

theorem out5_eq (x0 : Vec F S8x3072x4096 .bf16) (x1 : Vec F S14336x4096 .f32) (x2 x3 x4 : Vec F S1x1 .f32) :
    out0_5 x0 x1 x2 x3 x4 = k0_pay3 x0 x2 x1 x3 x4 := by
  unfold out0_5
  rw [View.canon_unit_zero (S := S8x3072x14336) hz3]
  simp only [View.ld_unit_zero (S := S8x3072x4096) hz3, View.ld_unit_zero (S := S1x1) hz2, View.ld_unit_zero (S := S14336x4096) hz2]
theorem out6_eq (x0 : Vec F S8x3072x4096 .bf16) (x1 : Vec F S14336x4096 .f32) (x2 x3 x4 : Vec F S1x1 .f32) :
    out0_6 x0 x1 x2 x3 x4 = k0_pay1 x0 x2 := by
  unfold out0_6
  rw [View.canon_unit_zero (S := S8x3072x4096) hz3]
  simp only [View.ld_unit_zero (S := S8x3072x4096) hz3, View.ld_unit_zero (S := S1x1) hz2]
theorem out7_eq (x0 : Vec F S8x3072x4096 .bf16) (x1 : Vec F S14336x4096 .f32) (x2 x3 x4 : Vec F S1x1 .f32) :
    out0_7 x0 x1 x2 x3 x4 = k0_pay2 x1 x3 := by
  unfold out0_7
  rw [View.canon_unit_zero (S := S14336x4096) hz2]
  simp only [View.ld_unit_zero (S := S1x1) hz2, View.ld_unit_zero (S := S14336x4096) hz2]

theorem mem_5 (t : Fin cfg0.N) (i : main_v37_0.ty.shape.Idx) : i ∈ ((cfg0.win 5).blk t).view.set := by
  show i ∈ ((View.whole main_v37_0).slice (win0_5.rect t)).set
  rw [View.set_slice_whole, Rect.mem_set_unit]
  obtain rfl := fin_N0 t
  intro a
  have h0 : ((i : S8x3072x14336.Idx) 0).val < 8 := ((i : S8x3072x14336.Idx) 0).isLt
  have h1 : ((i : S8x3072x14336.Idx) 1).val < 3072 := ((i : S8x3072x14336.Idx) 1).isLt
  have h2 : ((i : S8x3072x14336.Idx) 2).val < 14336 := ((i : S8x3072x14336.Idx) 2).isLt
  match a with
  | ⟨0, _⟩ => show win0_5.index t0_0 0 * 8 ≤ ((i : S8x3072x14336.Idx) 0).val ∧ ((i : S8x3072x14336.Idx) 0).val < win0_5.index t0_0 0 * 8 + 8; rw [show win0_5.index t0_0 0 = 0 from by decide +kernel]; omega
  | ⟨1, _⟩ => show win0_5.index t0_0 1 * 3072 ≤ ((i : S8x3072x14336.Idx) 1).val ∧ ((i : S8x3072x14336.Idx) 1).val < win0_5.index t0_0 1 * 3072 + 3072; rw [show win0_5.index t0_0 1 = 0 from by decide +kernel]; omega
  | ⟨2, _⟩ => show win0_5.index t0_0 2 * 14336 ≤ ((i : S8x3072x14336.Idx) 2).val ∧ ((i : S8x3072x14336.Idx) 2).val < win0_5.index t0_0 2 * 14336 + 14336; rw [show win0_5.index t0_0 2 = 0 from by decide +kernel]; omega
theorem mem_6 (t : Fin cfg0.N) (i : main_v37_1.ty.shape.Idx) : i ∈ ((cfg0.win 6).blk t).view.set := by
  show i ∈ ((View.whole main_v37_1).slice (win0_6.rect t)).set
  rw [View.set_slice_whole, Rect.mem_set_unit]
  obtain rfl := fin_N0 t
  intro a
  have h0 : ((i : S8x3072x4096.Idx) 0).val < 8 := ((i : S8x3072x4096.Idx) 0).isLt
  have h1 : ((i : S8x3072x4096.Idx) 1).val < 3072 := ((i : S8x3072x4096.Idx) 1).isLt
  have h2 : ((i : S8x3072x4096.Idx) 2).val < 4096 := ((i : S8x3072x4096.Idx) 2).isLt
  match a with
  | ⟨0, _⟩ => show win0_6.index t0_0 0 * 8 ≤ ((i : S8x3072x4096.Idx) 0).val ∧ ((i : S8x3072x4096.Idx) 0).val < win0_6.index t0_0 0 * 8 + 8; rw [show win0_6.index t0_0 0 = 0 from by decide +kernel]; omega
  | ⟨1, _⟩ => show win0_6.index t0_0 1 * 3072 ≤ ((i : S8x3072x4096.Idx) 1).val ∧ ((i : S8x3072x4096.Idx) 1).val < win0_6.index t0_0 1 * 3072 + 3072; rw [show win0_6.index t0_0 1 = 0 from by decide +kernel]; omega
  | ⟨2, _⟩ => show win0_6.index t0_0 2 * 4096 ≤ ((i : S8x3072x4096.Idx) 2).val ∧ ((i : S8x3072x4096.Idx) 2).val < win0_6.index t0_0 2 * 4096 + 4096; rw [show win0_6.index t0_0 2 = 0 from by decide +kernel]; omega
theorem mem_7 (t : Fin cfg0.N) (i : main_v37_2.ty.shape.Idx) : i ∈ ((cfg0.win 7).blk t).view.set := by
  show i ∈ ((View.whole main_v37_2).slice (win0_7.rect t)).set
  rw [View.set_slice_whole, Rect.mem_set_unit]
  obtain rfl := fin_N0 t
  intro a
  have h0 : ((i : S14336x4096.Idx) 0).val < 14336 := ((i : S14336x4096.Idx) 0).isLt
  have h1 : ((i : S14336x4096.Idx) 1).val < 4096 := ((i : S14336x4096.Idx) 1).isLt
  match a with
  | ⟨0, _⟩ => show win0_7.index t0_0 0 * 14336 ≤ ((i : S14336x4096.Idx) 0).val ∧ ((i : S14336x4096.Idx) 0).val < win0_7.index t0_0 0 * 14336 + 14336; rw [show win0_7.index t0_0 0 = 0 from by decide +kernel]; omega
  | ⟨1, _⟩ => show win0_7.index t0_0 1 * 4096 ≤ ((i : S14336x4096.Idx) 1).val ∧ ((i : S14336x4096.Idx) 1).val < win0_7.index t0_0 1 * 4096 + 4096; rw [show win0_7.index t0_0 1 = 0 from by decide +kernel]; omega
end

/-! ## The result arrays -/

variable (m : (ℓ : Loc nD τ sig) → Buf (Elt Ideal) ℓ) (c : Dev nD)

/-- The two arguments. -/
abbrev A0 : S8x3072x4096.Idx → EReal := m ((c : Thread nD τ).loc main_arg0)
abbrev A1 : S14336x4096.Idx → EReal := m ((c : Thread nD τ).loc main_arg1)

theorem iblk_0 (t : Fin cfg0.N) : iblk m c 0 t = m ((c : Thread nD τ).loc main_arg0) := (blk_0 t _).trans (V_main_arg0 m c)
theorem iblk_1 (t : Fin cfg0.N) : iblk m c 1 t = m ((c : Thread nD τ).loc main_arg1) := (blk_1 t _).trans (V_main_arg1 m c)
theorem iblk_2 (t : Fin cfg0.N) : iblk m c 2 t = V m c main_v33 := blk_2 t _
theorem iblk_3 (t : Fin cfg0.N) : iblk m c 3 t = V m c main_v34 := blk_3 t _
theorem iblk_4 (t : Fin cfg0.N) : iblk m c 4 t = V m c main_v36 := blk_4 t _

/-- The one index of a matrix of one element. -/
def one2 : S1x1.Idx := ix2 (0 : Fin 1) (0 : Fin 1)

theorem pay1_eq : k0_pay1 (F := Ideal) (m ((c : Thread nD τ).loc main_arg0)) (V m c main_v33) = dyq (A0 m c) := funext fun j => by
  rw [pay1_at _ _ j one2, v33_at]; rfl
theorem pay2_eq : k0_pay2 (F := Ideal) (m ((c : Thread nD τ).loc main_arg1)) (V m c main_v34) = wq (A1 m c) := funext fun j => by
  rw [pay2_at _ _ j one2, v34_at]; rfl
theorem pay3_eq : k0_pay3 (F := Ideal) (m ((c : Thread nD τ).loc main_arg0)) (V m c main_v33) (m ((c : Thread nD τ).loc main_arg1)) (V m c main_v34) (V m c main_v36)
    = dx (A0 m c) (A1 m c) := funext fun j => by
  obtain ⟨p, s, q, rfl⟩ : ∃ (p : Fin 8) (s : Fin 3072) (q : Fin 14336), j = ix3 p s q := ⟨j 0, j 1, j 2, funext fun a => by
    match a with
    | ⟨0, _⟩ => rfl
    | ⟨1, _⟩ => rfl
    | ⟨2, _⟩ => rfl⟩
  rw [pay3_at _ _ _ _ _ p s q one2, v36_at, pay1_eq, pay2_eq]; rfl

theorem final5 : (dats m 0 c).arrAt 5 cfg0.N = dx (A0 m c) (A1 m c) :=
  (dats m 0 c).arrAt_eq_of_cover 5 (dx (A0 m c) (A1 m c)) (fun t _ => by
    show (cfg0.win 5).cut (grid0.coords t) ((dats m 0 c).after 5 t) = _
    rw [after0_5, out5_eq, iblk_0, iblk_1, iblk_2, iblk_3, iblk_4, pay3_eq]
    exact (blk_5 (F := Ideal) t _).symm) fun i => ⟨t0_0, flush0_5 _, mem_5 t0_0 i⟩
theorem final6 : (dats m 0 c).arrAt 6 cfg0.N = dyq (A0 m c) :=
  (dats m 0 c).arrAt_eq_of_cover 6 (dyq (A0 m c)) (fun t _ => by
    show (cfg0.win 6).cut (grid0.coords t) ((dats m 0 c).after 6 t) = _
    rw [after0_6, out6_eq, iblk_0, iblk_2, pay1_eq]
    exact (blk_6 (F := Ideal) t _).symm) fun i => ⟨t0_0, flush0_6 _, mem_6 t0_0 i⟩
theorem final7 : (dats m 0 c).arrAt 7 cfg0.N = wq (A1 m c) :=
  (dats m 0 c).arrAt_eq_of_cover 7 (wq (A1 m c)) (fun t _ => by
    show (cfg0.win 7).cut (grid0.coords t) ((dats m 0 c).after 7 t) = _
    rw [after0_7, out7_eq, iblk_1, iblk_3, pay2_eq]
    exact (blk_7 (F := Ideal) t _).symm) fun i => ⟨t0_0, flush0_7 _, mem_7 t0_0 i⟩

end Cert.Val.Ref

end
-- ==== Proof.Value.KerResults.lean ====
/- The kernel's five results over the extended reals, in the reference's closed form. -/
module

public import proofs.«01_k».proof.Proof.Value.Final0
public import proofs.«01_k».proof.Proof.Value.Region12
public import proofs.«01_k».proof.Proof.Value.RefPay
public import proofs.«01_k».proof.Proof.KernelIdeal.Run

@[expose] public section

set_option maxRecDepth 16384

noncomputable section

namespace Cert.Val

open Cert.KernelIdeal Cert.KernelIdeal.Gen
open Idealize.ShloMosaic Idealize.ShloMosaic.TcCoe
open Idealize.SL Idealize.SL.RA Idealize.SL.Sem
open Cert.KernelIdeal.Own
open Idealize.ShloMosaic.ValueIdx (ix2 ix3)

variable (m : (ℓ : Loc nD τ sig) → Buf (Elt Ideal) ℓ) (c : Dev nD)

/-- The two arguments. -/
abbrev B0 : S8x3072x4096.Idx → EReal := m ((c : Thread nD τ).loc main_arg0)
abbrev B1 : S14336x4096.Idx → EReal := m ((c : Thread nD τ).loc main_arg1)

/-! ## What the host operations compute -/

section Host
variable (σ : Valuation τ sig (Elt Ideal))

theorem G0_v0 : StableHlo.after hostOps0 σ (Proc.devRef .tc main_v0)
    = shapeCast S24576x4096 (α := EReal) (σ (Proc.devRef .tc main_arg0)) shapeCasts_S8x3072x4096_S24576x4096 := by
  unfold hostOps0
  simp only [StableHlo.after_cons, StableHlo.after_nil]
  after_results_simp
  rfl
theorem G0_arg1 : StableHlo.after hostOps0 σ (Proc.devRef .tc main_arg1) = σ (Proc.devRef .tc main_arg1) := by
  unfold hostOps0
  simp only [StableHlo.after_cons, StableHlo.after_nil]
  after_results_simp
theorem G3_v4 : StableHlo.after hostOps3 σ (Proc.devRef .tc main_v4)
    = shapeCast S8x3072x14336 (α := EReal) (σ (Proc.devRef .tc main_v3_0)) shapeCasts_S3072x8x14336_S8x3072x14336 := by
  unfold hostOps3
  simp only [StableHlo.after_cons, StableHlo.after_nil]
  after_results_simp
  rfl
theorem G3_v5 : StableHlo.after hostOps3 σ (Proc.devRef .tc main_v5)
    = shapeCast S8x3072x4096 (α := EReal) (σ (Proc.devRef .tc main_v3_1)) shapeCasts_S24576x4096_S8x3072x4096 := by
  unfold hostOps3
  simp only [StableHlo.after_cons, StableHlo.after_nil]
  after_results_simp
  rfl
theorem G3_v7 : StableHlo.after hostOps3 σ (Proc.devRef .tc main_v7)
    = shapeCast S_ (α := EReal) (extractStridedSlice S1x1x1 ![0, 0, 0] (σ (Proc.devRef .tc main_v1)) slices_S4x8x128_S1x1x1_0_0_0) shapeCasts_S1x1x1_S_ := by
  unfold hostOps3
  simp only [StableHlo.after_cons, StableHlo.after_nil]
  after_results_simp
  rfl
theorem G3_v9 : StableHlo.after hostOps3 σ (Proc.devRef .tc main_v9)
    = shapeCast S_ (α := EReal) (extractStridedSlice S1x1x1 ![2, 0, 0] (σ (Proc.devRef .tc main_v1)) slices_S4x8x128_S1x1x1_2_0_0) shapeCasts_S1x1x1_S_ := by
  unfold hostOps3
  simp only [StableHlo.after_cons, StableHlo.after_nil]
  after_results_simp
  rfl
end Host

/-- The element a slice of one element of the scales holds. -/
theorem slice_at (f : S4x8x128.Idx → EReal) (g : Nat → EReal) (hf : ∀ y, f y = g (y 0).val) (n : Nat)
    (e : S4x8x128.Slices ![n, 0, 0] S1x1x1) (hc : S1x1x1.ShapeCasts S_) (j : S_.Idx) :
    shapeCast S_ (extractStridedSlice S1x1x1 ![n, 0, 0] f e) hc j = g n := by
  show f _ = g n
  rw [hf]
  congr 1
  have h : (Shape.reshapeEquiv (s := S1x1x1) (s' := S_) hc j 0).val < 1 := (Shape.reshapeEquiv (s := S1x1x1) (s' := S_) hc j 0).isLt
  show n + (Shape.reshapeEquiv (s := S1x1x1) (s' := S_) hc j 0).val = n
  omega

/-! ## What each kernel call starts from -/

theorem Ve0_v0 : Ve0 m c main_v0 = shapeCast S24576x4096 (B0 m c) shapeCasts_S8x3072x4096_S24576x4096 := G0_v0 _
theorem Ve0_arg1 : Ve0 m c main_arg1 = B1 m c := G0_arg1 _
theorem Ve1_v1 (outs : Outs (F := Ideal)) (h : outs 2 main_v1 c = x1 m c) : Ve1 m outs c main_v1 = x1 m c := (V2_at_main_v1 m outs c).trans h
theorem Ve1_arg1 (outs : Outs (F := Ideal)) : Ve1 m outs c main_arg1 = B1 m c := (V2_of m outs c main_arg1 (by decide)).trans (Ve0_arg1 m c)
theorem Ve2_v1 : Ve2 m (o2 m) c main_v1 = x1 m c := (V3_of m (o2 m) c main_v1 (by decide)).trans (Ve1_v1 m c (o2 m) (o2_v1 m 2 c))
theorem Ve2_v0 : Ve2 m (o2 m) c main_v0 = shapeCast S24576x4096 (B0 m c) shapeCasts_S8x3072x4096_S24576x4096 :=
  (V3_of m (o2 m) c main_v0 (by decide)).trans ((V2_of m (o2 m) c main_v0 (by decide)).trans (Ve0_v0 m c))
theorem Ve2_v2 : Ve2 m (o2 m) c main_v2 = x2 m c := (V3_at_main_v2 m (o2 m) c).trans (o2_v2 m 3 c)

/-! ## The scales -/

theorem x1_at (y : S4x8x128.Idx) : (x1 m c y : EReal) = kRow (absMax (B0 m c)) (absMax (B1 m c)) (y 0).val := by
  have h : (x1 m c y : EReal) = scales (Ve0 m) c y := congrFun (final0 (Ix := Unit) (U := UK) (Lvl := ℕ) Variants.none (Ve0 m) DZ c) y
  rw [h]
  show kRow (absMax (s := S24576x4096) (Ve0 m c main_v0)) (absMax (s := S14336x4096) (Ve0 m c main_arg1)) (y 0).val = _
  rw [Ve0_v0, Ve0_arg1, absMax_shapeCast]

theorem absB0 : 0 ≤ absMax (B0 m c) := absMax_nonneg _ (ix3 (0 : Fin 8) (0 : Fin 3072) (0 : Fin 4096))
theorem absB1 : 0 ≤ absMax (B1 m c) := absMax_nonneg _ (ix2 (0 : Fin 14336) (0 : Fin 4096))

theorem kRow_0 : kRow (absMax (B0 m c)) (absMax (B1 m c)) 0 = Ref.sD (B0 m c) := by
  obtain ⟨r, hr, e⟩ := cDy_pos
  show kScale _ (_ * cDy) = rScale _ (_ * cDy)
  rw [e]; exact (scale_eq _ (absB0 m c) r hr).1
theorem kRow_1 : kRow (absMax (B0 m c)) (absMax (B1 m c)) 1 = Ref.iD (B0 m c) := by
  obtain ⟨r, hr, e⟩ := cDy_pos
  show kInv _ (_ * cDy) = rInv _ (_ * cDy)
  rw [e]; exact (scale_eq _ (absB0 m c) r hr).2
theorem kRow_2 : kRow (absMax (B0 m c)) (absMax (B1 m c)) 2 = Ref.sW (B1 m c) := by
  obtain ⟨r, hr, e⟩ := cW_pos
  show kScale _ (_ * cW) = rScale _ (_ * cW)
  rw [e]; exact (scale_eq _ (absB1 m c) r hr).1
theorem kRow_3 : kRow (absMax (B0 m c)) (absMax (B1 m c)) 3 = Ref.iW (B1 m c) := by
  obtain ⟨r, hr, e⟩ := cW_pos
  show kInv _ (_ * cW) = rInv _ (_ * cW)
  rw [e]; exact (scale_eq _ (absB1 m c) r hr).2

/-! ## The codes -/

/-- The codes of `dy`, by rows. -/
def dq (x : S8x3072x4096.Idx → EReal) : S24576x4096.Idx → EReal := shapeCast S24576x4096 (Ref.dyq x) shapeCasts_S8x3072x4096_S24576x4096

theorem x2_eq : x2 m c = Ref.wq (B1 m c) := by
  have h : x2 m c = wCodes (Ve1 m (o1 m)) c := final1 (Ix := Unit) (U := UK) (Lvl := ℕ) Variants.none (Ve1 m (o1 m)) DZ c
  rw [h]
  funext p
  show cw (Ve1 m (o1 m) c main_arg1 p) (Ve1 m (o1 m) c main_v1 (row 3)) = cw (B1 m c p) (Ref.iW (B1 m c))
  rw [Ve1_arg1, Ve1_v1 m c (o1 m) (o1_v1 m 2 c), x1_at]
  exact congrArg (cw _) (kRow_3 m c)

theorem dCodes_eq : dCodes (Ve2 m (o2 m)) c = dq (B0 m c) := by
  funext p
  show cd (Ve2 m (o2 m) c main_v0 p) (Ve2 m (o2 m) c main_v1 (row 1)) = cd (shapeCast S24576x4096 (B0 m c) shapeCasts_S8x3072x4096_S24576x4096 p) (Ref.iD (B0 m c))
  rw [Ve2_v0, Ve2_v1, x1_at]
  exact congrArg (cd _) (kRow_1 m c)

theorem x4_eq : x4 m c = dq (B0 m c) :=
  (final2_4 (Ix := Unit) (U := UK) (Lvl := ℕ) Variants.none (Ve2 m (o2 m)) DZ c).trans (dCodes_eq m c)

/-! ## The product -/

/-- The row of `dy` that an index of the kernel's product names. -/
def rowK (p : S3072x8x14336.Idx) : Fin 24576 := ⟨(p 0).val * 8 + (p 1).val, by
  have h0 : (p 0).val < 3072 := (p 0).isLt
  have h1 : (p 1).val < 8 := (p 1).isLt
  omega⟩

theorem x3_at (p : S3072x8x14336.Idx) : (x3 m c p : EReal)
    = dotRow (R := 24576) (Q := 14336) (dq (B0 m c)) (Ref.wq (B1 m c)) (rowK p) (p 2) * (Ref.sD (B0 m c) * Ref.sW (B1 m c)) := by
  have h : (x3 m c p : EReal) = prods (Ve2 m (o2 m)) c p := congrFun (final2_3 (Ix := Unit) (U := UK) (Lvl := ℕ) Variants.none (Ve2 m (o2 m)) DZ c) p
  rw [h]
  show dotRow (R := 24576) (Q := 14336) (dCodes (Ve2 m (o2 m)) c) (Ve2 m (o2 m) c main_v2) (rowK p) (p 2)
    * mulE (Ve2 m (o2 m) c main_v1 (row 0)) (Ve2 m (o2 m) c main_v1 (row 2)) = _
  rw [dCodes_eq, Ve2_v2, x2_eq, Ve2_v1]
  exact congrArg₂ (fun a b : EReal => dotRow (R := 24576) (Q := 14336) (dq (B0 m c)) (Ref.wq (B1 m c)) (rowK p) (p 2) * mulE a b)
    ((x1_at m c (row 0)).trans (kRow_0 m c)) ((x1_at m c (row 2)).trans (kRow_2 m c))

/-- The row of `dy` that batch `b` and position `s` name. -/
def rowOf (b : Fin 8) (s : Fin 3072) : Fin 24576 := ⟨b.val * 3072 + s.val, by omega⟩

/-- Reading the product's rows under the other shape. -/
theorem cast_rows (f : S3072x8x14336.Idx → EReal) (G : Fin 24576 → Fin 14336 → EReal) (hf : ∀ p, f p = G (rowK p) (p 2)) (j : S8x3072x14336.Idx) :
    shapeCast S8x3072x14336 f shapeCasts_S3072x8x14336_S8x3072x14336 j = G (rowOf (j 0) (j 1)) (j 2) := by
  show f (Shape.reshapeEquiv (s := S3072x8x14336) (s' := S8x3072x14336) shapeCasts_S3072x8x14336_S8x3072x14336 j) = _
  rw [hf]
  have e := Shape.rowMajor_reshapeEquiv (s := S3072x8x14336) (s' := S8x3072x14336) shapeCasts_S3072x8x14336_S8x3072x14336 j
  generalize Shape.reshapeEquiv (s := S3072x8x14336) (s' := S8x3072x14336) shapeCasts_S3072x8x14336_S8x3072x14336 j = k at e
  have ek := Shape.rowMajor_val_three (d := ![3072, 8, 14336]) k
  have ej := Shape.rowMajor_val_three (d := ![8, 3072, 14336]) j
  have e' : ((k 0).val * 8 + (k 1).val) * 14336 + (k 2).val = ((j 0).val * 3072 + (j 1).val) * 14336 + (j 2).val := ek.symm.trans (e.trans ej)
  have k2 : (k 2).val < 14336 := (k 2).isLt
  have j2 : (j 2).val < 14336 := (j 2).isLt
  have h1 : rowK k = rowOf (j 0) (j 1) := Fin.ext (by show (k 0).val * 8 + (k 1).val = (j 0).val * 3072 + (j 1).val; omega)
  have h2 : (k 2 : Fin 14336) = j 2 := Fin.ext (by omega)
  exact congrArg₂ G h1 h2

/-- A code of `dy` found by its row is the code at its batch and position. -/
theorem dq_row (x : S8x3072x4096.Idx → EReal) (b : Fin 8) (s : Fin 3072) (k : Fin 4096) : dq x (ix2 (rowOf b s) k) = Ref.dyq x (ix3 b s k) := by
  have e : Shape.reshapeEquiv (s := S8x3072x4096) (s' := S24576x4096) shapeCasts_S8x3072x4096_S24576x4096 (ix2 (rowOf b s) k) = ix3 b s k :=
    Shape.reshapeEquiv_eq_of_rowMajor _ (by
      have h2 := Shape.rowMajor_val_two (d := ![24576, 4096]) (ix2 (rowOf b s) k)
      have h3 := Shape.rowMajor_val_three (d := ![8, 3072, 4096]) (ix3 b s k)
      exact h3.trans h2.symm)
  exact congrArg (Ref.dyq x) e

theorem dotRow_dq (x : S8x3072x4096.Idx → EReal) (y : S14336x4096.Idx → EReal) (b : Fin 8) (s : Fin 3072) (q : Fin 14336) :
    dotRow (R := 24576) (Q := 14336) (dq x) y (rowOf b s) q = Ref.dot3 (Ref.dyq x) y b s q := by
  unfold dotRow Ref.dot3
  exact congrArg (_ + ·) (Finset.sum_congr rfl fun k _ => congrArg (· * y (ix2 q k)) (dq_row x b s k))

/-- The codes of `dy` by rows, put back under their own shape. -/
theorem dq_back (x : S8x3072x4096.Idx → EReal) : shapeCast S8x3072x4096 (dq x) shapeCasts_S24576x4096_S8x3072x4096 = Ref.dyq x := by
  funext j
  show Ref.dyq x (Shape.reshapeEquiv (s := S8x3072x4096) (s' := S24576x4096) shapeCasts_S8x3072x4096_S24576x4096
    (Shape.reshapeEquiv (s := S24576x4096) (s' := S8x3072x4096) shapeCasts_S24576x4096_S8x3072x4096 j)) = _
  rw [Shape.reshapeEquiv_reshapeEquiv, Shape.reshapeEquiv_self]

/-! ## The results -/

theorem res_v2 : V5 m (oK m) c main_v2 = Ref.wq (B1 m c) :=
  (V5_of m (oK m) c main_v2 (by decide)).trans <| (V4_of m (oK m) c main_v2 (by decide)).trans <|
    (V3_at_main_v2 m (oK m) c).trans <| (oK_v2 m 3 c).trans (x2_eq m c)

theorem V4_v1 : V4 m (oK m) c main_v1 = x1 m c :=
  (V4_of m (oK m) c main_v1 (by decide)).trans <| (V3_of m (oK m) c main_v1 (by decide)).trans <|
    (V2_at_main_v1 m (oK m) c).trans (oK_v1 m 2 c)

theorem res_v7 : V5 m (oK m) c main_v7 = fun _ => Ref.sD (B0 m c) := by
  refine (G3_v7 (V4 m (oK m) c)).trans (funext fun j => ?_)
  rw [V4_v1]
  exact (slice_at _ _ (x1_at m c) 0 _ _ j).trans (kRow_0 m c)

theorem res_v9 : V5 m (oK m) c main_v9 = fun _ => Ref.sW (B1 m c) := by
  refine (G3_v9 (V4 m (oK m) c)).trans (funext fun j => ?_)
  rw [V4_v1]
  exact (slice_at _ _ (x1_at m c) 2 _ _ j).trans (kRow_2 m c)

theorem res_v5 : V5 m (oK m) c main_v5 = Ref.dyq (B0 m c) := by
  refine (G3_v5 (V4 m (oK m) c)).trans ?_
  rw [V4_at_main_v3_1, oK_v3_1, x4_eq]
  exact dq_back _

theorem res_v4 : V5 m (oK m) c main_v4 = Ref.dx (B0 m c) (B1 m c) := by
  refine (G3_v4 (V4 m (oK m) c)).trans (funext fun j => ?_)
  rw [V4_at_main_v3_0, oK_v3_0]
  refine (cast_rows (x3 m c) (fun r q => dotRow (R := 24576) (Q := 14336) (dq (B0 m c)) (Ref.wq (B1 m c)) r q * (Ref.sD (B0 m c) * Ref.sW (B1 m c))) (x3_at m c) j).trans ?_
  exact congrArg (· * (Ref.sD (B0 m c) * Ref.sW (B1 m c))) (dotRow_dq (B0 m c) (Ref.wq (B1 m c)) (j 0) (j 1) (j 2))

end Cert.Val

end
-- ==== Proof.Value.Results.lean ====
/- The kernel and the reference over the extended reals end with equal results. -/
module

public import proofs.«01_k».proof.Defs
public import proofs.«01_k».proof.Proof.Value.KerResults

@[expose] public section

set_option maxRecDepth 16384

noncomputable section

namespace Cert.Val

open Idealize.ShloMosaic Idealize.ShloMosaic.TcCoe
open Idealize.SL Idealize.SL.RA Idealize.SL.Sem

section Kernel
open Cert.KernelIdeal Cert.KernelIdeal.Gen Cert.KernelIdeal.Own
variable (m : (ℓ : Loc nD τ sig) → Buf (Elt Ideal) ℓ) (ρ : Dev nD → PrngReg)

/-- The kernel ends with the closed forms of its arguments. -/
theorem kernel_run : θ_run defs (onTc (τ := τ) (main (F := Ideal))) ⟨m, fun _ => 0, ρ⟩ (fun r => ∀ c : Dev nD,
      r.2.mem ((c.tc : Thread nD τ).loc main_v4) = Ref.dx (B0 m c) (B1 m c)
      ∧ r.2.mem ((c.tc : Thread nD τ).loc main_v5) = Ref.dyq (B0 m c)
      ∧ r.2.mem ((c.tc : Thread nD τ).loc main_v7) = (fun _ => Ref.sD (B0 m c))
      ∧ r.2.mem ((c.tc : Thread nD τ).loc main_v2) = Ref.wq (B1 m c)
      ∧ r.2.mem ((c.tc : Thread nD τ).loc main_v9) = (fun _ => Ref.sW (B1 m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h.1 c (Proc.devRef .tc main_v4) (Finset.mem_filter.mpr ⟨StableHlo.devRef_mem_tcRefs main_v4, by decide⟩)).trans (res_v4 m c),
     (h.1 c (Proc.devRef .tc main_v5) (Finset.mem_filter.mpr ⟨StableHlo.devRef_mem_tcRefs main_v5, by decide⟩)).trans (res_v5 m c),
     (h.1 c (Proc.devRef .tc main_v7) (Finset.mem_filter.mpr ⟨StableHlo.devRef_mem_tcRefs main_v7, by decide⟩)).trans (res_v7 m c),
     (h.1 c (Proc.devRef .tc main_v2) (Finset.mem_filter.mpr ⟨StableHlo.devRef_mem_tcRefs main_v2, by decide⟩)).trans (res_v2 m c),
     (h.1 c (Proc.devRef .tc main_v9) (Finset.mem_filter.mpr ⟨StableHlo.devRef_mem_tcRefs main_v9, by decide⟩)).trans (res_v9 m c),
     (h.1 c (Proc.devRef .tc main_arg0) (Finset.mem_filter.mpr ⟨StableHlo.devRef_mem_tcRefs main_arg0, by decide⟩)).trans (V5_main_arg0 m (oK m) c),
     (h.1 c (Proc.devRef .tc main_arg1) (Finset.mem_filter.mpr ⟨StableHlo.devRef_mem_tcRefs main_arg1, by decide⟩)).trans (V5_main_arg1 m (oK m) c)⟩) (run m ρ)
end Kernel

section Reference
open Cert.ReferenceIdeal Cert.ReferenceIdeal.Gen
variable (m : (ℓ : Loc nD τ sig) → Buf (Elt Ideal) ℓ) (ρ : Dev nD → PrngReg)

/-- The reference ends with the same closed forms of its arguments. -/
theorem reference_run : θ_run defs (onTc (τ := τ) (main (F := Ideal))) ⟨m, fun _ => 0, ρ⟩ (fun r => ∀ c : Dev nD,
      r.2.mem ((c.tc : Thread nD τ).loc main_v37_0) = Ref.dx (Ref.A0 m c) (Ref.A1 m c)
      ∧ r.2.mem ((c.tc : Thread nD τ).loc main_v37_1) = Ref.dyq (Ref.A0 m c)
      ∧ r.2.mem ((c.tc : Thread nD τ).loc main_v14) = (fun _ => Ref.sD (Ref.A0 m c))
      ∧ r.2.mem ((c.tc : Thread nD τ).loc main_v37_2) = Ref.wq (Ref.A1 m c)
      ∧ r.2.mem ((c.tc : Thread nD τ).loc main_v30) = (fun _ => Ref.sW (Ref.A1 m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).1 5).trans (Ref.final5 m c),
     ((h c).1 6).trans (Ref.final6 m c),
     ((h c).2 main_v14 (by decide)).trans (funext fun j => Ref.v14_at m c j),
     ((h c).1 7).trans (Ref.final7 m c),
     ((h c).2 main_v30 (by decide)).trans (funext fun j => Ref.v30_at m c j),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c)))⟩) (run_main m ρ)
end Reference

theorem algebraic [hKernelIdeal : Cert.KernelIdeal.Facts] [hReferenceIdeal : Cert.ReferenceIdeal.Facts] :
    Cert.algebraic_KernelIdeal_ReferenceIdeal (hKernelIdeal := hKernelIdeal) (hReferenceIdeal := hReferenceIdeal) :=
  fun m g m' g' _ hargs =>
    ⟨fun c => Ref.dx (B0 m c) (B1 m c), fun c => Ref.dyq (B0 m c), fun c _ => Ref.sD (B0 m c), fun c => Ref.wq (B1 m c), fun c _ => Ref.sW (B1 m c),
      kernel_run m g,
      (θ_run _ _ _).mono (fun r h c => by
        have e0 : Ref.A0 m' c = B0 m c := (hargs c).1
        have e1 : Ref.A1 m' c = B1 m c := (hargs c).2
        have hc := h c
        rw [e0, e1] at hc
        exact hc) (reference_run m' g')⟩

end Cert.Val

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal.Frame
public import proofs.«01_k».proof.Proof.Kernel.Run
public import proofs.«01_k».proof.Proof.KernelIdeal.Run
public import proofs.«01_k».proof.Proof.Value.Results
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    fun m ρ _ => Cert.Kernel.Own.frame m ρ, fun m ρ _ => Cert.KernelIdeal.Own.frame m ρ,
    fun m ρ _ => Cert.ReferenceIdeal.Gen.frame m ρ, trivial,
    Cert.Val.algebraic (hKernelIdeal := Cert.KernelIdeal.Gen.facts) (hReferenceIdeal := Cert.ReferenceIdeal.Gen.facts)⟩

end Cert.Proof

end
